-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_inputs_finite [hPre_router_inputs_finite : Cert.Pre_router_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs_finite [hPre_router_inputs_finite : Cert.Pre_router_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Fnet (m : (ℓ : Loc Cert.Fnet.nD Cert.Fnet.τ Cert.Fnet.sig) → Buf (Elt Bits) ℓ) : Prop :=
  True

def Pre_FnetIdeal (m : (ℓ : Loc Cert.FnetIdeal.nD Cert.FnetIdeal.τ Cert.FnetIdeal.sig) → Buf (Elt Ideal) ℓ) : Prop :=
  True

def Pre_FnetRefIdeal (m : (ℓ : Loc Cert.FnetRefIdeal.nD Cert.FnetRefIdeal.τ Cert.FnetRefIdeal.sig) → Buf (Elt Ideal) ℓ) : Prop :=
  True

def Pre_FnetCtx (m : (ℓ : Loc Cert.FnetCtx.nD Cert.FnetCtx.τ Cert.FnetCtx.sig) → Buf (Elt Bits) ℓ) : Prop :=
  True

def Pre_FnetCtxIdeal (m : (ℓ : Loc Cert.FnetCtxIdeal.nD Cert.FnetCtxIdeal.τ Cert.FnetCtxIdeal.sig) → Buf (Elt Ideal) ℓ) : Prop :=
  True

def Pre_FnetCtxRefIdeal (m : (ℓ : Loc Cert.FnetCtxRefIdeal.nD Cert.FnetCtxRefIdeal.τ Cert.FnetCtxRefIdeal.sig) → Buf (Elt Ideal) ℓ) : Prop :=
  True

def Pre_HyenaFirst (m : (ℓ : Loc Cert.HyenaFirst.nD Cert.HyenaFirst.τ Cert.HyenaFirst.sig) → Buf (Elt Bits) ℓ) : Prop :=
  True

def Pre_HyenaFirstIdeal (m : (ℓ : Loc Cert.HyenaFirstIdeal.nD Cert.HyenaFirstIdeal.τ Cert.HyenaFirstIdeal.sig) → Buf (Elt Ideal) ℓ) : Prop :=
  True

def Pre_HyenaFirstRefIdeal (m : (ℓ : Loc Cert.HyenaFirstRefIdeal.nD Cert.HyenaFirstRefIdeal.τ Cert.HyenaFirstRefIdeal.sig) → Buf (Elt Ideal) ℓ) : Prop :=
  True

def Pre_HyenaSecond (m : (ℓ : Loc Cert.HyenaSecond.nD Cert.HyenaSecond.τ Cert.HyenaSecond.sig) → Buf (Elt Bits) ℓ) : Prop :=
  True

def Pre_HyenaSecondIdeal (m : (ℓ : Loc Cert.HyenaSecondIdeal.nD Cert.HyenaSecondIdeal.τ Cert.HyenaSecondIdeal.sig) → Buf (Elt Ideal) ℓ) : Prop :=
  True

def Pre_HyenaSecondRefIdeal (m : (ℓ : Loc Cert.HyenaSecondRefIdeal.nD Cert.HyenaSecondRefIdeal.τ Cert.HyenaSecondRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_router_inputs_finite [hKernelIdeal : Cert.KernelIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_router_inputs_finite [hReferenceIdeal : Cert.ReferenceIdeal.Facts] [hPre_router_inputs_finite : Cert.Pre_router_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_Fnet [hFnet : Cert.Fnet.Facts] : Prop :=
  ∀ (m : (ℓ : Loc Cert.Fnet.nD Cert.Fnet.τ Cert.Fnet.sig) → Buf (Elt Bits) ℓ) (g : Dev Cert.Fnet.nD → PrngReg), Pre_Fnet m →
    θ_run (Cert.Fnet.defs (F := Bits)) (onTc (τ := Cert.Fnet.τ) (Cert.Fnet.main (F := Bits))) ⟨m, fun _ => 0, g⟩ (fun r => (∀ c : Dev Cert.Fnet.nD,
      r.2.mem ((c.tc : Thread Cert.Fnet.nD Cert.Fnet.τ).loc Cert.Fnet.main_arg0) = m ((c.tc : Thread Cert.Fnet.nD Cert.Fnet.τ).loc Cert.Fnet.main_arg0))
      ∧ r.2.sem = fun _ => 0)

def quiescent_FnetIdeal [hFnetIdeal : Cert.FnetIdeal.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0))
      ∧ r.2.sem = fun _ => 0)

def quiescent_FnetRefIdeal [hFnetRefIdeal : Cert.FnetRefIdeal.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0))
      ∧ r.2.sem = fun _ => 0)

def quiescent_FnetCtx [hFnetCtx : Cert.FnetCtx.Facts] : Prop :=
  ∀ (m : (ℓ : Loc Cert.FnetCtx.nD Cert.FnetCtx.τ Cert.FnetCtx.sig) → Buf (Elt Bits) ℓ) (g : Dev Cert.FnetCtx.nD → PrngReg), Pre_FnetCtx m →
    θ_run (Cert.FnetCtx.defs (F := Bits)) (onTc (τ := Cert.FnetCtx.τ) (Cert.FnetCtx.main (F := Bits))) ⟨m, fun _ => 0, g⟩ (fun r => (∀ c : Dev Cert.FnetCtx.nD,
      r.2.mem ((c.tc : Thread Cert.FnetCtx.nD Cert.FnetCtx.τ).loc Cert.FnetCtx.main_arg0) = m ((c.tc : Thread Cert.FnetCtx.nD Cert.FnetCtx.τ).loc Cert.FnetCtx.main_arg0)
      ∧ r.2.mem ((c.tc : Thread Cert.FnetCtx.nD Cert.FnetCtx.τ).loc Cert.FnetCtx.main_arg1) = m ((c.tc : Thread Cert.FnetCtx.nD Cert.FnetCtx.τ).loc Cert.FnetCtx.main_arg1))
      ∧ r.2.sem = fun _ => 0)

def quiescent_FnetCtxIdeal [hFnetCtxIdeal : Cert.FnetCtxIdeal.Facts] : Prop :=
  ∀ (m : (ℓ : Loc Cert.FnetCtxIdeal.nD Cert.FnetCtxIdeal.τ Cert.FnetCtxIdeal.sig) → Buf (Elt Ideal) ℓ) (g : Dev Cert.FnetCtxIdeal.nD → PrngReg), Pre_FnetCtxIdeal m →
    θ_run (Cert.FnetCtxIdeal.defs (F := Ideal)) (onTc (τ := Cert.FnetCtxIdeal.τ) (Cert.FnetCtxIdeal.main (F := Ideal))) ⟨m, fun _ => 0, g⟩ (fun r => (∀ c : Dev Cert.FnetCtxIdeal.nD,
      r.2.mem ((c.tc : Thread Cert.FnetCtxIdeal.nD Cert.FnetCtxIdeal.τ).loc Cert.FnetCtxIdeal.main_arg0) = m ((c.tc : Thread Cert.FnetCtxIdeal.nD Cert.FnetCtxIdeal.τ).loc Cert.FnetCtxIdeal.main_arg0)
      ∧ r.2.mem ((c.tc : Thread Cert.FnetCtxIdeal.nD Cert.FnetCtxIdeal.τ).loc Cert.FnetCtxIdeal.main_arg1) = m ((c.tc : Thread Cert.FnetCtxIdeal.nD Cert.FnetCtxIdeal.τ).loc Cert.FnetCtxIdeal.main_arg1))
      ∧ r.2.sem = fun _ => 0)

def quiescent_FnetCtxRefIdeal [hFnetCtxRefIdeal : Cert.FnetCtxRefIdeal.Facts] : Prop :=
  ∀ (m : (ℓ : Loc Cert.FnetCtxRefIdeal.nD Cert.FnetCtxRefIdeal.τ Cert.FnetCtxRefIdeal.sig) → Buf (Elt Ideal) ℓ) (g : Dev Cert.FnetCtxRefIdeal.nD → PrngReg), Pre_FnetCtxRefIdeal m →
    θ_run (Cert.FnetCtxRefIdeal.defs (F := Ideal)) (onTc (τ := Cert.FnetCtxRefIdeal.τ) (Cert.FnetCtxRefIdeal.main (F := Ideal))) ⟨m, fun _ => 0, g⟩ (fun r => (∀ c : Dev Cert.FnetCtxRefIdeal.nD,
      r.2.mem ((c.tc : Thread Cert.FnetCtxRefIdeal.nD Cert.FnetCtxRefIdeal.τ).loc Cert.FnetCtxRefIdeal.main_arg0) = m ((c.tc : Thread Cert.FnetCtxRefIdeal.nD Cert.FnetCtxRefIdeal.τ).loc Cert.FnetCtxRefIdeal.main_arg0)
      ∧ r.2.mem ((c.tc : Thread Cert.FnetCtxRefIdeal.nD Cert.FnetCtxRefIdeal.τ).loc Cert.FnetCtxRefIdeal.main_arg1) = m ((c.tc : Thread Cert.FnetCtxRefIdeal.nD Cert.FnetCtxRefIdeal.τ).loc Cert.FnetCtxRefIdeal.main_arg1))
      ∧ r.2.sem = fun _ => 0)

def quiescent_HyenaFirst [hHyenaFirst : Cert.HyenaFirst.Facts] : Prop :=
  ∀ (m : (ℓ : Loc Cert.HyenaFirst.nD Cert.HyenaFirst.τ Cert.HyenaFirst.sig) → Buf (Elt Bits) ℓ) (g : Dev Cert.HyenaFirst.nD → PrngReg), Pre_HyenaFirst m →
    θ_run (Cert.HyenaFirst.defs (F := Bits)) (onTc (τ := Cert.HyenaFirst.τ) (Cert.HyenaFirst.main (F := Bits))) ⟨m, fun _ => 0, g⟩ (fun r => (∀ c : Dev Cert.HyenaFirst.nD,
      r.2.mem ((c.tc : Thread Cert.HyenaFirst.nD Cert.HyenaFirst.τ).loc Cert.HyenaFirst.main_arg0) = m ((c.tc : Thread Cert.HyenaFirst.nD Cert.HyenaFirst.τ).loc Cert.HyenaFirst.main_arg0)
      ∧ r.2.mem ((c.tc : Thread Cert.HyenaFirst.nD Cert.HyenaFirst.τ).loc Cert.HyenaFirst.main_arg1) = m ((c.tc : Thread Cert.HyenaFirst.nD Cert.HyenaFirst.τ).loc Cert.HyenaFirst.main_arg1)
      ∧ r.2.mem ((c.tc : Thread Cert.HyenaFirst.nD Cert.HyenaFirst.τ).loc Cert.HyenaFirst.main_arg2) = m ((c.tc : Thread Cert.HyenaFirst.nD Cert.HyenaFirst.τ).loc Cert.HyenaFirst.main_arg2)
      ∧ r.2.mem ((c.tc : Thread Cert.HyenaFirst.nD Cert.HyenaFirst.τ).loc Cert.HyenaFirst.main_arg3) = m ((c.tc : Thread Cert.HyenaFirst.nD Cert.HyenaFirst.τ).loc Cert.HyenaFirst.main_arg3)
      ∧ r.2.mem ((c.tc : Thread Cert.HyenaFirst.nD Cert.HyenaFirst.τ).loc Cert.HyenaFirst.main_arg4) = m ((c.tc : Thread Cert.HyenaFirst.nD Cert.HyenaFirst.τ).loc Cert.HyenaFirst.main_arg4)
      ∧ r.2.mem ((c.tc : Thread Cert.HyenaFirst.nD Cert.HyenaFirst.τ).loc Cert.HyenaFirst.main_arg5) = m ((c.tc : Thread Cert.HyenaFirst.nD Cert.HyenaFirst.τ).loc Cert.HyenaFirst.main_arg5))
      ∧ r.2.sem = fun _ => 0)

def quiescent_HyenaFirstIdeal [hHyenaFirstIdeal : Cert.HyenaFirstIdeal.Facts] : Prop :=
  ∀ (m : (ℓ : Loc Cert.HyenaFirstIdeal.nD Cert.HyenaFirstIdeal.τ Cert.HyenaFirstIdeal.sig) → Buf (Elt Ideal) ℓ) (g : Dev Cert.HyenaFirstIdeal.nD → PrngReg), Pre_HyenaFirstIdeal m →
    θ_run (Cert.HyenaFirstIdeal.defs (F := Ideal)) (onTc (τ := Cert.HyenaFirstIdeal.τ) (Cert.HyenaFirstIdeal.main (F := Ideal))) ⟨m, fun _ => 0, g⟩ (fun r => (∀ c : Dev Cert.HyenaFirstIdeal.nD,
      r.2.mem ((c.tc : Thread Cert.HyenaFirstIdeal.nD Cert.HyenaFirstIdeal.τ).loc Cert.HyenaFirstIdeal.main_arg0) = m ((c.tc : Thread Cert.HyenaFirstIdeal.nD Cert.HyenaFirstIdeal.τ).loc Cert.HyenaFirstIdeal.main_arg0)
      ∧ r.2.mem ((c.tc : Thread Cert.HyenaFirstIdeal.nD Cert.HyenaFirstIdeal.τ).loc Cert.HyenaFirstIdeal.main_arg1) = m ((c.tc : Thread Cert.HyenaFirstIdeal.nD Cert.HyenaFirstIdeal.τ).loc Cert.HyenaFirstIdeal.main_arg1)
      ∧ r.2.mem ((c.tc : Thread Cert.HyenaFirstIdeal.nD Cert.HyenaFirstIdeal.τ).loc Cert.HyenaFirstIdeal.main_arg2) = m ((c.tc : Thread Cert.HyenaFirstIdeal.nD Cert.HyenaFirstIdeal.τ).loc Cert.HyenaFirstIdeal.main_arg2)
      ∧ r.2.mem ((c.tc : Thread Cert.HyenaFirstIdeal.nD Cert.HyenaFirstIdeal.τ).loc Cert.HyenaFirstIdeal.main_arg3) = m ((c.tc : Thread Cert.HyenaFirstIdeal.nD Cert.HyenaFirstIdeal.τ).loc Cert.HyenaFirstIdeal.main_arg3)
      ∧ r.2.mem ((c.tc : Thread Cert.HyenaFirstIdeal.nD Cert.HyenaFirstIdeal.τ).loc Cert.HyenaFirstIdeal.main_arg4) = m ((c.tc : Thread Cert.HyenaFirstIdeal.nD Cert.HyenaFirstIdeal.τ).loc Cert.HyenaFirstIdeal.main_arg4)
      ∧ r.2.mem ((c.tc : Thread Cert.HyenaFirstIdeal.nD Cert.HyenaFirstIdeal.τ).loc Cert.HyenaFirstIdeal.main_arg5) = m ((c.tc : Thread Cert.HyenaFirstIdeal.nD Cert.HyenaFirstIdeal.τ).loc Cert.HyenaFirstIdeal.main_arg5))
      ∧ r.2.sem = fun _ => 0)

def quiescent_HyenaFirstRefIdeal [hHyenaFirstRefIdeal : Cert.HyenaFirstRefIdeal.Facts] : Prop :=
  ∀ (m : (ℓ : Loc Cert.HyenaFirstRefIdeal.nD Cert.HyenaFirstRefIdeal.τ Cert.HyenaFirstRefIdeal.sig) → Buf (Elt Ideal) ℓ) (g : Dev Cert.HyenaFirstRefIdeal.nD → PrngReg), Pre_HyenaFirstRefIdeal m →
    θ_run (Cert.HyenaFirstRefIdeal.defs (F := Ideal)) (onTc (τ := Cert.HyenaFirstRefIdeal.τ) (Cert.HyenaFirstRefIdeal.main (F := Ideal))) ⟨m, fun _ => 0, g⟩ (fun r => (∀ c : Dev Cert.HyenaFirstRefIdeal.nD,
      r.2.mem ((c.tc : Thread Cert.HyenaFirstRefIdeal.nD Cert.HyenaFirstRefIdeal.τ).loc Cert.HyenaFirstRefIdeal.main_arg0) = m ((c.tc : Thread Cert.HyenaFirstRefIdeal.nD Cert.HyenaFirstRefIdeal.τ).loc Cert.HyenaFirstRefIdeal.main_arg0)
      ∧ r.2.mem ((c.tc : Thread Cert.HyenaFirstRefIdeal.nD Cert.HyenaFirstRefIdeal.τ).loc Cert.HyenaFirstRefIdeal.main_arg1) = m ((c.tc : Thread Cert.HyenaFirstRefIdeal.nD Cert.HyenaFirstRefIdeal.τ).loc Cert.HyenaFirstRefIdeal.main_arg1)
      ∧ r.2.mem ((c.tc : Thread Cert.HyenaFirstRefIdeal.nD Cert.HyenaFirstRefIdeal.τ).loc Cert.HyenaFirstRefIdeal.main_arg2) = m ((c.tc : Thread Cert.HyenaFirstRefIdeal.nD Cert.HyenaFirstRefIdeal.τ).loc Cert.HyenaFirstRefIdeal.main_arg2)
      ∧ r.2.mem ((c.tc : Thread Cert.HyenaFirstRefIdeal.nD Cert.HyenaFirstRefIdeal.τ).loc Cert.HyenaFirstRefIdeal.main_arg3) = m ((c.tc : Thread Cert.HyenaFirstRefIdeal.nD Cert.HyenaFirstRefIdeal.τ).loc Cert.HyenaFirstRefIdeal.main_arg3)
      ∧ r.2.mem ((c.tc : Thread Cert.HyenaFirstRefIdeal.nD Cert.HyenaFirstRefIdeal.τ).loc Cert.HyenaFirstRefIdeal.main_arg4) = m ((c.tc : Thread Cert.HyenaFirstRefIdeal.nD Cert.HyenaFirstRefIdeal.τ).loc Cert.HyenaFirstRefIdeal.main_arg4)
      ∧ r.2.mem ((c.tc : Thread Cert.HyenaFirstRefIdeal.nD Cert.HyenaFirstRefIdeal.τ).loc Cert.HyenaFirstRefIdeal.main_arg5) = m ((c.tc : Thread Cert.HyenaFirstRefIdeal.nD Cert.HyenaFirstRefIdeal.τ).loc Cert.HyenaFirstRefIdeal.main_arg5))
      ∧ r.2.sem = fun _ => 0)

def quiescent_HyenaSecond [hHyenaSecond : Cert.HyenaSecond.Facts] : Prop :=
  ∀ (m : (ℓ : Loc Cert.HyenaSecond.nD Cert.HyenaSecond.τ Cert.HyenaSecond.sig) → Buf (Elt Bits) ℓ) (g : Dev Cert.HyenaSecond.nD → PrngReg), Pre_HyenaSecond m →
    θ_run (Cert.HyenaSecond.defs (F := Bits)) (onTc (τ := Cert.HyenaSecond.τ) (Cert.HyenaSecond.main (F := Bits))) ⟨m, fun _ => 0, g⟩ (fun r => (∀ c : Dev Cert.HyenaSecond.nD,
      r.2.mem ((c.tc : Thread Cert.HyenaSecond.nD Cert.HyenaSecond.τ).loc Cert.HyenaSecond.main_arg0) = m ((c.tc : Thread Cert.HyenaSecond.nD Cert.HyenaSecond.τ).loc Cert.HyenaSecond.main_arg0)
      ∧ r.2.mem ((c.tc : Thread Cert.HyenaSecond.nD Cert.HyenaSecond.τ).loc Cert.HyenaSecond.main_arg1) = m ((c.tc : Thread Cert.HyenaSecond.nD Cert.HyenaSecond.τ).loc Cert.HyenaSecond.main_arg1)
      ∧ r.2.mem ((c.tc : Thread Cert.HyenaSecond.nD Cert.HyenaSecond.τ).loc Cert.HyenaSecond.main_arg2) = m ((c.tc : Thread Cert.HyenaSecond.nD Cert.HyenaSecond.τ).loc Cert.HyenaSecond.main_arg2)
      ∧ r.2.mem ((c.tc : Thread Cert.HyenaSecond.nD Cert.HyenaSecond.τ).loc Cert.HyenaSecond.main_arg3) = m ((c.tc : Thread Cert.HyenaSecond.nD Cert.HyenaSecond.τ).loc Cert.HyenaSecond.main_arg3)
      ∧ r.2.mem ((c.tc : Thread Cert.HyenaSecond.nD Cert.HyenaSecond.τ).loc Cert.HyenaSecond.main_arg4) = m ((c.tc : Thread Cert.HyenaSecond.nD Cert.HyenaSecond.τ).loc Cert.HyenaSecond.main_arg4)
      ∧ r.2.mem ((c.tc : Thread Cert.HyenaSecond.nD Cert.HyenaSecond.τ).loc Cert.HyenaSecond.main_arg5) = m ((c.tc : Thread Cert.HyenaSecond.nD Cert.HyenaSecond.τ).loc Cert.HyenaSecond.main_arg5)
      ∧ r.2.mem ((c.tc : Thread Cert.HyenaSecond.nD Cert.HyenaSecond.τ).loc Cert.HyenaSecond.main_arg6) = m ((c.tc : Thread Cert.HyenaSecond.nD Cert.HyenaSecond.τ).loc Cert.HyenaSecond.main_arg6))
      ∧ r.2.sem = fun _ => 0)

def quiescent_HyenaSecondIdeal [hHyenaSecondIdeal : Cert.HyenaSecondIdeal.Facts] : Prop :=
  ∀ (m : (ℓ : Loc Cert.HyenaSecondIdeal.nD Cert.HyenaSecondIdeal.τ Cert.HyenaSecondIdeal.sig) → Buf (Elt Ideal) ℓ) (g : Dev Cert.HyenaSecondIdeal.nD → PrngReg), Pre_HyenaSecondIdeal m →
    θ_run (Cert.HyenaSecondIdeal.defs (F := Ideal)) (onTc (τ := Cert.HyenaSecondIdeal.τ) (Cert.HyenaSecondIdeal.main (F := Ideal))) ⟨m, fun _ => 0, g⟩ (fun r => (∀ c : Dev Cert.HyenaSecondIdeal.nD,
      r.2.mem ((c.tc : Thread Cert.HyenaSecondIdeal.nD Cert.HyenaSecondIdeal.τ).loc Cert.HyenaSecondIdeal.main_arg0) = m ((c.tc : Thread Cert.HyenaSecondIdeal.nD Cert.HyenaSecondIdeal.τ).loc Cert.HyenaSecondIdeal.main_arg0)
      ∧ r.2.mem ((c.tc : Thread Cert.HyenaSecondIdeal.nD Cert.HyenaSecondIdeal.τ).loc Cert.HyenaSecondIdeal.main_arg1) = m ((c.tc : Thread Cert.HyenaSecondIdeal.nD Cert.HyenaSecondIdeal.τ).loc Cert.HyenaSecondIdeal.main_arg1)
      ∧ r.2.mem ((c.tc : Thread Cert.HyenaSecondIdeal.nD Cert.HyenaSecondIdeal.τ).loc Cert.HyenaSecondIdeal.main_arg2) = m ((c.tc : Thread Cert.HyenaSecondIdeal.nD Cert.HyenaSecondIdeal.τ).loc Cert.HyenaSecondIdeal.main_arg2)
      ∧ r.2.mem ((c.tc : Thread Cert.HyenaSecondIdeal.nD Cert.HyenaSecondIdeal.τ).loc Cert.HyenaSecondIdeal.main_arg3) = m ((c.tc : Thread Cert.HyenaSecondIdeal.nD Cert.HyenaSecondIdeal.τ).loc Cert.HyenaSecondIdeal.main_arg3)
      ∧ r.2.mem ((c.tc : Thread Cert.HyenaSecondIdeal.nD Cert.HyenaSecondIdeal.τ).loc Cert.HyenaSecondIdeal.main_arg4) = m ((c.tc : Thread Cert.HyenaSecondIdeal.nD Cert.HyenaSecondIdeal.τ).loc Cert.HyenaSecondIdeal.main_arg4)
      ∧ r.2.mem ((c.tc : Thread Cert.HyenaSecondIdeal.nD Cert.HyenaSecondIdeal.τ).loc Cert.HyenaSecondIdeal.main_arg5) = m ((c.tc : Thread Cert.HyenaSecondIdeal.nD Cert.HyenaSecondIdeal.τ).loc Cert.HyenaSecondIdeal.main_arg5)
      ∧ r.2.mem ((c.tc : Thread Cert.HyenaSecondIdeal.nD Cert.HyenaSecondIdeal.τ).loc Cert.HyenaSecondIdeal.main_arg6) = m ((c.tc : Thread Cert.HyenaSecondIdeal.nD Cert.HyenaSecondIdeal.τ).loc Cert.HyenaSecondIdeal.main_arg6))
      ∧ r.2.sem = fun _ => 0)

def quiescent_HyenaSecondRefIdeal [hHyenaSecondRefIdeal : Cert.HyenaSecondRefIdeal.Facts] : Prop :=
  ∀ (m : (ℓ : Loc Cert.HyenaSecondRefIdeal.nD Cert.HyenaSecondRefIdeal.τ Cert.HyenaSecondRefIdeal.sig) → Buf (Elt Ideal) ℓ) (g : Dev Cert.HyenaSecondRefIdeal.nD → PrngReg), Pre_HyenaSecondRefIdeal m →
    θ_run (Cert.HyenaSecondRefIdeal.defs (F := Ideal)) (onTc (τ := Cert.HyenaSecondRefIdeal.τ) (Cert.HyenaSecondRefIdeal.main (F := Ideal))) ⟨m, fun _ => 0, g⟩ (fun r => (∀ c : Dev Cert.HyenaSecondRefIdeal.nD,
      r.2.mem ((c.tc : Thread Cert.HyenaSecondRefIdeal.nD Cert.HyenaSecondRefIdeal.τ).loc Cert.HyenaSecondRefIdeal.main_arg0) = m ((c.tc : Thread Cert.HyenaSecondRefIdeal.nD Cert.HyenaSecondRefIdeal.τ).loc Cert.HyenaSecondRefIdeal.main_arg0)
      ∧ r.2.mem ((c.tc : Thread Cert.HyenaSecondRefIdeal.nD Cert.HyenaSecondRefIdeal.τ).loc Cert.HyenaSecondRefIdeal.main_arg1) = m ((c.tc : Thread Cert.HyenaSecondRefIdeal.nD Cert.HyenaSecondRefIdeal.τ).loc Cert.HyenaSecondRefIdeal.main_arg1)
      ∧ r.2.mem ((c.tc : Thread Cert.HyenaSecondRefIdeal.nD Cert.HyenaSecondRefIdeal.τ).loc Cert.HyenaSecondRefIdeal.main_arg2) = m ((c.tc : Thread Cert.HyenaSecondRefIdeal.nD Cert.HyenaSecondRefIdeal.τ).loc Cert.HyenaSecondRefIdeal.main_arg2)
      ∧ r.2.mem ((c.tc : Thread Cert.HyenaSecondRefIdeal.nD Cert.HyenaSecondRefIdeal.τ).loc Cert.HyenaSecondRefIdeal.main_arg3) = m ((c.tc : Thread Cert.HyenaSecondRefIdeal.nD Cert.HyenaSecondRefIdeal.τ).loc Cert.HyenaSecondRefIdeal.main_arg3)
      ∧ r.2.mem ((c.tc : Thread Cert.HyenaSecondRefIdeal.nD Cert.HyenaSecondRefIdeal.τ).loc Cert.HyenaSecondRefIdeal.main_arg4) = m ((c.tc : Thread Cert.HyenaSecondRefIdeal.nD Cert.HyenaSecondRefIdeal.τ).loc Cert.HyenaSecondRefIdeal.main_arg4)
      ∧ r.2.mem ((c.tc : Thread Cert.HyenaSecondRefIdeal.nD Cert.HyenaSecondRefIdeal.τ).loc Cert.HyenaSecondRefIdeal.main_arg5) = m ((c.tc : Thread Cert.HyenaSecondRefIdeal.nD Cert.HyenaSecondRefIdeal.τ).loc Cert.HyenaSecondRefIdeal.main_arg5)
      ∧ r.2.mem ((c.tc : Thread Cert.HyenaSecondRefIdeal.nD Cert.HyenaSecondRefIdeal.τ).loc Cert.HyenaSecondRefIdeal.main_arg6) = m ((c.tc : Thread Cert.HyenaSecondRefIdeal.nD Cert.HyenaSecondRefIdeal.τ).loc Cert.HyenaSecondRefIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def preserves_Kernel_KernelIdeal : Prop :=
  True

def algebraic_KernelIdeal_ReferenceIdeal_pre_router_inputs_finite [hKernelIdeal : Cert.KernelIdeal.Facts] [hReferenceIdeal : Cert.ReferenceIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v33) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v3)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v3) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v29) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v6)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v6) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v8) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_Fnet_FnetIdeal : Prop :=
  True

def algebraic_FnetIdeal_FnetRefIdeal [hFnetIdeal : Cert.FnetIdeal.Facts] [hFnetRefIdeal : Cert.FnetRefIdeal.Facts] : Prop :=
  ∀ (m : (ℓ : Loc Cert.FnetIdeal.nD Cert.FnetIdeal.τ Cert.FnetIdeal.sig) → Buf (Elt Ideal) ℓ) (g : Dev Cert.FnetIdeal.nD → PrngReg)
    (m' : (ℓ : Loc Cert.FnetRefIdeal.nD Cert.FnetRefIdeal.τ Cert.FnetRefIdeal.sig) → Buf (Elt Ideal) ℓ) (g' : Dev Cert.FnetRefIdeal.nD → PrngReg), Pre_FnetIdeal m →
    (∀ c : Dev Cert.FnetIdeal.nD,
      m' ((c.tc : Thread Cert.FnetRefIdeal.nD Cert.FnetRefIdeal.τ).loc Cert.FnetRefIdeal.main_arg0) = m ((c.tc : Thread Cert.FnetIdeal.nD Cert.FnetIdeal.τ).loc Cert.FnetIdeal.main_arg0)) →
    ∃ (v0 : (c : Dev Cert.FnetIdeal.nD) → Buf (Elt Ideal) ((c.tc : Thread Cert.FnetIdeal.nD Cert.FnetIdeal.τ).loc Cert.FnetIdeal.main_v26)),
      θ_run (Cert.FnetIdeal.defs (F := Ideal)) (onTc (τ := Cert.FnetIdeal.τ) (Cert.FnetIdeal.main (F := Ideal))) ⟨m, fun _ => 0, g⟩ (fun r => ∀ c : Dev Cert.FnetIdeal.nD,
          r.2.mem ((c.tc : Thread Cert.FnetIdeal.nD Cert.FnetIdeal.τ).loc Cert.FnetIdeal.main_v26) = v0 c
          ∧ r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0))
      ∧ θ_run (Cert.FnetRefIdeal.defs (F := Ideal)) (onTc (τ := Cert.FnetRefIdeal.τ) (Cert.FnetRefIdeal.main (F := Ideal))) ⟨m', fun _ => 0, g'⟩ (fun r => ∀ c : Dev Cert.FnetRefIdeal.nD,
          r.2.mem ((c.tc : Thread Cert.FnetRefIdeal.nD Cert.FnetRefIdeal.τ).loc Cert.FnetRefIdeal.main_v37) = v0 c
          ∧ r.2.mem ((c.tc : Thread Cert.FnetRefIdeal.nD Cert.FnetRefIdeal.τ).loc Cert.FnetRefIdeal.main_arg0) = m' ((c.tc : Thread Cert.FnetRefIdeal.nD Cert.FnetRefIdeal.τ).loc Cert.FnetRefIdeal.main_arg0))

def preserves_FnetCtx_FnetCtxIdeal : Prop :=
  True

def algebraic_FnetCtxIdeal_FnetCtxRefIdeal [hFnetCtxIdeal : Cert.FnetCtxIdeal.Facts] [hFnetCtxRefIdeal : Cert.FnetCtxRefIdeal.Facts] : Prop :=
  ∀ (m : (ℓ : Loc Cert.FnetCtxIdeal.nD Cert.FnetCtxIdeal.τ Cert.FnetCtxIdeal.sig) → Buf (Elt Ideal) ℓ) (g : Dev Cert.FnetCtxIdeal.nD → PrngReg)
    (m' : (ℓ : Loc Cert.FnetCtxRefIdeal.nD Cert.FnetCtxRefIdeal.τ Cert.FnetCtxRefIdeal.sig) → Buf (Elt Ideal) ℓ) (g' : Dev Cert.FnetCtxRefIdeal.nD → PrngReg), Pre_FnetCtxIdeal m →
    (∀ c : Dev Cert.FnetCtxIdeal.nD,
      m' ((c.tc : Thread Cert.FnetCtxRefIdeal.nD Cert.FnetCtxRefIdeal.τ).loc Cert.FnetCtxRefIdeal.main_arg0) = m ((c.tc : Thread Cert.FnetCtxIdeal.nD Cert.FnetCtxIdeal.τ).loc Cert.FnetCtxIdeal.main_arg0)
      ∧ m' ((c.tc : Thread Cert.FnetCtxRefIdeal.nD Cert.FnetCtxRefIdeal.τ).loc Cert.FnetCtxRefIdeal.main_arg1) = m ((c.tc : Thread Cert.FnetCtxIdeal.nD Cert.FnetCtxIdeal.τ).loc Cert.FnetCtxIdeal.main_arg1)) →
    ∃ (v0 : (c : Dev Cert.FnetCtxIdeal.nD) → Buf (Elt Ideal) ((c.tc : Thread Cert.FnetCtxIdeal.nD Cert.FnetCtxIdeal.τ).loc Cert.FnetCtxIdeal.main_v26)),
      θ_run (Cert.FnetCtxIdeal.defs (F := Ideal)) (onTc (τ := Cert.FnetCtxIdeal.τ) (Cert.FnetCtxIdeal.main (F := Ideal))) ⟨m, fun _ => 0, g⟩ (fun r => ∀ c : Dev Cert.FnetCtxIdeal.nD,
          r.2.mem ((c.tc : Thread Cert.FnetCtxIdeal.nD Cert.FnetCtxIdeal.τ).loc Cert.FnetCtxIdeal.main_v26) = v0 c
          ∧ r.2.mem ((c.tc : Thread Cert.FnetCtxIdeal.nD Cert.FnetCtxIdeal.τ).loc Cert.FnetCtxIdeal.main_arg0) = m ((c.tc : Thread Cert.FnetCtxIdeal.nD Cert.FnetCtxIdeal.τ).loc Cert.FnetCtxIdeal.main_arg0)
          ∧ r.2.mem ((c.tc : Thread Cert.FnetCtxIdeal.nD Cert.FnetCtxIdeal.τ).loc Cert.FnetCtxIdeal.main_arg1) = m ((c.tc : Thread Cert.FnetCtxIdeal.nD Cert.FnetCtxIdeal.τ).loc Cert.FnetCtxIdeal.main_arg1))
      ∧ θ_run (Cert.FnetCtxRefIdeal.defs (F := Ideal)) (onTc (τ := Cert.FnetCtxRefIdeal.τ) (Cert.FnetCtxRefIdeal.main (F := Ideal))) ⟨m', fun _ => 0, g'⟩ (fun r => ∀ c : Dev Cert.FnetCtxRefIdeal.nD,
          r.2.mem ((c.tc : Thread Cert.FnetCtxRefIdeal.nD Cert.FnetCtxRefIdeal.τ).loc Cert.FnetCtxRefIdeal.main_v39) = v0 c
          ∧ r.2.mem ((c.tc : Thread Cert.FnetCtxRefIdeal.nD Cert.FnetCtxRefIdeal.τ).loc Cert.FnetCtxRefIdeal.main_arg0) = m' ((c.tc : Thread Cert.FnetCtxRefIdeal.nD Cert.FnetCtxRefIdeal.τ).loc Cert.FnetCtxRefIdeal.main_arg0)
          ∧ r.2.mem ((c.tc : Thread Cert.FnetCtxRefIdeal.nD Cert.FnetCtxRefIdeal.τ).loc Cert.FnetCtxRefIdeal.main_arg1) = m' ((c.tc : Thread Cert.FnetCtxRefIdeal.nD Cert.FnetCtxRefIdeal.τ).loc Cert.FnetCtxRefIdeal.main_arg1))

def preserves_HyenaFirst_HyenaFirstIdeal : Prop :=
  True

def algebraic_HyenaFirstIdeal_HyenaFirstRefIdeal [hHyenaFirstIdeal : Cert.HyenaFirstIdeal.Facts] [hHyenaFirstRefIdeal : Cert.HyenaFirstRefIdeal.Facts] : Prop :=
  ∀ (m : (ℓ : Loc Cert.HyenaFirstIdeal.nD Cert.HyenaFirstIdeal.τ Cert.HyenaFirstIdeal.sig) → Buf (Elt Ideal) ℓ) (g : Dev Cert.HyenaFirstIdeal.nD → PrngReg)
    (m' : (ℓ : Loc Cert.HyenaFirstRefIdeal.nD Cert.HyenaFirstRefIdeal.τ Cert.HyenaFirstRefIdeal.sig) → Buf (Elt Ideal) ℓ) (g' : Dev Cert.HyenaFirstRefIdeal.nD → PrngReg), Pre_HyenaFirstIdeal m →
    (∀ c : Dev Cert.HyenaFirstIdeal.nD,
      m' ((c.tc : Thread Cert.HyenaFirstRefIdeal.nD Cert.HyenaFirstRefIdeal.τ).loc Cert.HyenaFirstRefIdeal.main_arg0) = m ((c.tc : Thread Cert.HyenaFirstIdeal.nD Cert.HyenaFirstIdeal.τ).loc Cert.HyenaFirstIdeal.main_arg0)
      ∧ m' ((c.tc : Thread Cert.HyenaFirstRefIdeal.nD Cert.HyenaFirstRefIdeal.τ).loc Cert.HyenaFirstRefIdeal.main_arg1) = m ((c.tc : Thread Cert.HyenaFirstIdeal.nD Cert.HyenaFirstIdeal.τ).loc Cert.HyenaFirstIdeal.main_arg1)
      ∧ m' ((c.tc : Thread Cert.HyenaFirstRefIdeal.nD Cert.HyenaFirstRefIdeal.τ).loc Cert.HyenaFirstRefIdeal.main_arg2) = m ((c.tc : Thread Cert.HyenaFirstIdeal.nD Cert.HyenaFirstIdeal.τ).loc Cert.HyenaFirstIdeal.main_arg2)
      ∧ m' ((c.tc : Thread Cert.HyenaFirstRefIdeal.nD Cert.HyenaFirstRefIdeal.τ).loc Cert.HyenaFirstRefIdeal.main_arg3) = m ((c.tc : Thread Cert.HyenaFirstIdeal.nD Cert.HyenaFirstIdeal.τ).loc Cert.HyenaFirstIdeal.main_arg3)
      ∧ m' ((c.tc : Thread Cert.HyenaFirstRefIdeal.nD Cert.HyenaFirstRefIdeal.τ).loc Cert.HyenaFirstRefIdeal.main_arg4) = m ((c.tc : Thread Cert.HyenaFirstIdeal.nD Cert.HyenaFirstIdeal.τ).loc Cert.HyenaFirstIdeal.main_arg4)
      ∧ m' ((c.tc : Thread Cert.HyenaFirstRefIdeal.nD Cert.HyenaFirstRefIdeal.τ).loc Cert.HyenaFirstRefIdeal.main_arg5) = m ((c.tc : Thread Cert.HyenaFirstIdeal.nD Cert.HyenaFirstIdeal.τ).loc Cert.HyenaFirstIdeal.main_arg5)) →
    ∃ (v0 : (c : Dev Cert.HyenaFirstIdeal.nD) → Buf (Elt Ideal) ((c.tc : Thread Cert.HyenaFirstIdeal.nD Cert.HyenaFirstIdeal.τ).loc Cert.HyenaFirstIdeal.main_v41)),
      θ_run (Cert.HyenaFirstIdeal.defs (F := Ideal)) (onTc (τ := Cert.HyenaFirstIdeal.τ) (Cert.HyenaFirstIdeal.main (F := Ideal))) ⟨m, fun _ => 0, g⟩ (fun r => ∀ c : Dev Cert.HyenaFirstIdeal.nD,
          r.2.mem ((c.tc : Thread Cert.HyenaFirstIdeal.nD Cert.HyenaFirstIdeal.τ).loc Cert.HyenaFirstIdeal.main_v41) = v0 c
          ∧ r.2.mem ((c.tc : Thread Cert.HyenaFirstIdeal.nD Cert.HyenaFirstIdeal.τ).loc Cert.HyenaFirstIdeal.main_arg0) = m ((c.tc : Thread Cert.HyenaFirstIdeal.nD Cert.HyenaFirstIdeal.τ).loc Cert.HyenaFirstIdeal.main_arg0)
          ∧ r.2.mem ((c.tc : Thread Cert.HyenaFirstIdeal.nD Cert.HyenaFirstIdeal.τ).loc Cert.HyenaFirstIdeal.main_arg1) = m ((c.tc : Thread Cert.HyenaFirstIdeal.nD Cert.HyenaFirstIdeal.τ).loc Cert.HyenaFirstIdeal.main_arg1)
          ∧ r.2.mem ((c.tc : Thread Cert.HyenaFirstIdeal.nD Cert.HyenaFirstIdeal.τ).loc Cert.HyenaFirstIdeal.main_arg2) = m ((c.tc : Thread Cert.HyenaFirstIdeal.nD Cert.HyenaFirstIdeal.τ).loc Cert.HyenaFirstIdeal.main_arg2)
          ∧ r.2.mem ((c.tc : Thread Cert.HyenaFirstIdeal.nD Cert.HyenaFirstIdeal.τ).loc Cert.HyenaFirstIdeal.main_arg3) = m ((c.tc : Thread Cert.HyenaFirstIdeal.nD Cert.HyenaFirstIdeal.τ).loc Cert.HyenaFirstIdeal.main_arg3)
          ∧ r.2.mem ((c.tc : Thread Cert.HyenaFirstIdeal.nD Cert.HyenaFirstIdeal.τ).loc Cert.HyenaFirstIdeal.main_arg4) = m ((c.tc : Thread Cert.HyenaFirstIdeal.nD Cert.HyenaFirstIdeal.τ).loc Cert.HyenaFirstIdeal.main_arg4)
          ∧ r.2.mem ((c.tc : Thread Cert.HyenaFirstIdeal.nD Cert.HyenaFirstIdeal.τ).loc Cert.HyenaFirstIdeal.main_arg5) = m ((c.tc : Thread Cert.HyenaFirstIdeal.nD Cert.HyenaFirstIdeal.τ).loc Cert.HyenaFirstIdeal.main_arg5))
      ∧ θ_run (Cert.HyenaFirstRefIdeal.defs (F := Ideal)) (onTc (τ := Cert.HyenaFirstRefIdeal.τ) (Cert.HyenaFirstRefIdeal.main (F := Ideal))) ⟨m', fun _ => 0, g'⟩ (fun r => ∀ c : Dev Cert.HyenaFirstRefIdeal.nD,
          r.2.mem ((c.tc : Thread Cert.HyenaFirstRefIdeal.nD Cert.HyenaFirstRefIdeal.τ).loc Cert.HyenaFirstRefIdeal.main_v139) = v0 c
          ∧ r.2.mem ((c.tc : Thread Cert.HyenaFirstRefIdeal.nD Cert.HyenaFirstRefIdeal.τ).loc Cert.HyenaFirstRefIdeal.main_arg0) = m' ((c.tc : Thread Cert.HyenaFirstRefIdeal.nD Cert.HyenaFirstRefIdeal.τ).loc Cert.HyenaFirstRefIdeal.main_arg0)
          ∧ r.2.mem ((c.tc : Thread Cert.HyenaFirstRefIdeal.nD Cert.HyenaFirstRefIdeal.τ).loc Cert.HyenaFirstRefIdeal.main_arg1) = m' ((c.tc : Thread Cert.HyenaFirstRefIdeal.nD Cert.HyenaFirstRefIdeal.τ).loc Cert.HyenaFirstRefIdeal.main_arg1)
          ∧ r.2.mem ((c.tc : Thread Cert.HyenaFirstRefIdeal.nD Cert.HyenaFirstRefIdeal.τ).loc Cert.HyenaFirstRefIdeal.main_arg2) = m' ((c.tc : Thread Cert.HyenaFirstRefIdeal.nD Cert.HyenaFirstRefIdeal.τ).loc Cert.HyenaFirstRefIdeal.main_arg2)
          ∧ r.2.mem ((c.tc : Thread Cert.HyenaFirstRefIdeal.nD Cert.HyenaFirstRefIdeal.τ).loc Cert.HyenaFirstRefIdeal.main_arg3) = m' ((c.tc : Thread Cert.HyenaFirstRefIdeal.nD Cert.HyenaFirstRefIdeal.τ).loc Cert.HyenaFirstRefIdeal.main_arg3)
          ∧ r.2.mem ((c.tc : Thread Cert.HyenaFirstRefIdeal.nD Cert.HyenaFirstRefIdeal.τ).loc Cert.HyenaFirstRefIdeal.main_arg4) = m' ((c.tc : Thread Cert.HyenaFirstRefIdeal.nD Cert.HyenaFirstRefIdeal.τ).loc Cert.HyenaFirstRefIdeal.main_arg4)
          ∧ r.2.mem ((c.tc : Thread Cert.HyenaFirstRefIdeal.nD Cert.HyenaFirstRefIdeal.τ).loc Cert.HyenaFirstRefIdeal.main_arg5) = m' ((c.tc : Thread Cert.HyenaFirstRefIdeal.nD Cert.HyenaFirstRefIdeal.τ).loc Cert.HyenaFirstRefIdeal.main_arg5))

def preserves_HyenaSecond_HyenaSecondIdeal : Prop :=
  True

def algebraic_HyenaSecondIdeal_HyenaSecondRefIdeal [hHyenaSecondIdeal : Cert.HyenaSecondIdeal.Facts] [hHyenaSecondRefIdeal : Cert.HyenaSecondRefIdeal.Facts] : Prop :=
  ∀ (m : (ℓ : Loc Cert.HyenaSecondIdeal.nD Cert.HyenaSecondIdeal.τ Cert.HyenaSecondIdeal.sig) → Buf (Elt Ideal) ℓ) (g : Dev Cert.HyenaSecondIdeal.nD → PrngReg)
    (m' : (ℓ : Loc Cert.HyenaSecondRefIdeal.nD Cert.HyenaSecondRefIdeal.τ Cert.HyenaSecondRefIdeal.sig) → Buf (Elt Ideal) ℓ) (g' : Dev Cert.HyenaSecondRefIdeal.nD → PrngReg), Pre_HyenaSecondIdeal m →
    (∀ c : Dev Cert.HyenaSecondIdeal.nD,
      m' ((c.tc : Thread Cert.HyenaSecondRefIdeal.nD Cert.HyenaSecondRefIdeal.τ).loc Cert.HyenaSecondRefIdeal.main_arg0) = m ((c.tc : Thread Cert.HyenaSecondIdeal.nD Cert.HyenaSecondIdeal.τ).loc Cert.HyenaSecondIdeal.main_arg0)
      ∧ m' ((c.tc : Thread Cert.HyenaSecondRefIdeal.nD Cert.HyenaSecondRefIdeal.τ).loc Cert.HyenaSecondRefIdeal.main_arg1) = m ((c.tc : Thread Cert.HyenaSecondIdeal.nD Cert.HyenaSecondIdeal.τ).loc Cert.HyenaSecondIdeal.main_arg1)
      ∧ m' ((c.tc : Thread Cert.HyenaSecondRefIdeal.nD Cert.HyenaSecondRefIdeal.τ).loc Cert.HyenaSecondRefIdeal.main_arg2) = m ((c.tc : Thread Cert.HyenaSecondIdeal.nD Cert.HyenaSecondIdeal.τ).loc Cert.HyenaSecondIdeal.main_arg2)
      ∧ m' ((c.tc : Thread Cert.HyenaSecondRefIdeal.nD Cert.HyenaSecondRefIdeal.τ).loc Cert.HyenaSecondRefIdeal.main_arg3) = m ((c.tc : Thread Cert.HyenaSecondIdeal.nD Cert.HyenaSecondIdeal.τ).loc Cert.HyenaSecondIdeal.main_arg3)
      ∧ m' ((c.tc : Thread Cert.HyenaSecondRefIdeal.nD Cert.HyenaSecondRefIdeal.τ).loc Cert.HyenaSecondRefIdeal.main_arg4) = m ((c.tc : Thread Cert.HyenaSecondIdeal.nD Cert.HyenaSecondIdeal.τ).loc Cert.HyenaSecondIdeal.main_arg4)
      ∧ m' ((c.tc : Thread Cert.HyenaSecondRefIdeal.nD Cert.HyenaSecondRefIdeal.τ).loc Cert.HyenaSecondRefIdeal.main_arg5) = m ((c.tc : Thread Cert.HyenaSecondIdeal.nD Cert.HyenaSecondIdeal.τ).loc Cert.HyenaSecondIdeal.main_arg5)
      ∧ m' ((c.tc : Thread Cert.HyenaSecondRefIdeal.nD Cert.HyenaSecondRefIdeal.τ).loc Cert.HyenaSecondRefIdeal.main_arg6) = m ((c.tc : Thread Cert.HyenaSecondIdeal.nD Cert.HyenaSecondIdeal.τ).loc Cert.HyenaSecondIdeal.main_arg6)) →
    ∃ (v0 : (c : Dev Cert.HyenaSecondIdeal.nD) → Buf (Elt Ideal) ((c.tc : Thread Cert.HyenaSecondIdeal.nD Cert.HyenaSecondIdeal.τ).loc Cert.HyenaSecondIdeal.main_v41)),
      θ_run (Cert.HyenaSecondIdeal.defs (F := Ideal)) (onTc (τ := Cert.HyenaSecondIdeal.τ) (Cert.HyenaSecondIdeal.main (F := Ideal))) ⟨m, fun _ => 0, g⟩ (fun r => ∀ c : Dev Cert.HyenaSecondIdeal.nD,
          r.2.mem ((c.tc : Thread Cert.HyenaSecondIdeal.nD Cert.HyenaSecondIdeal.τ).loc Cert.HyenaSecondIdeal.main_v41) = v0 c
          ∧ r.2.mem ((c.tc : Thread Cert.HyenaSecondIdeal.nD Cert.HyenaSecondIdeal.τ).loc Cert.HyenaSecondIdeal.main_arg0) = m ((c.tc : Thread Cert.HyenaSecondIdeal.nD Cert.HyenaSecondIdeal.τ).loc Cert.HyenaSecondIdeal.main_arg0)
          ∧ r.2.mem ((c.tc : Thread Cert.HyenaSecondIdeal.nD Cert.HyenaSecondIdeal.τ).loc Cert.HyenaSecondIdeal.main_arg1) = m ((c.tc : Thread Cert.HyenaSecondIdeal.nD Cert.HyenaSecondIdeal.τ).loc Cert.HyenaSecondIdeal.main_arg1)
          ∧ r.2.mem ((c.tc : Thread Cert.HyenaSecondIdeal.nD Cert.HyenaSecondIdeal.τ).loc Cert.HyenaSecondIdeal.main_arg2) = m ((c.tc : Thread Cert.HyenaSecondIdeal.nD Cert.HyenaSecondIdeal.τ).loc Cert.HyenaSecondIdeal.main_arg2)
          ∧ r.2.mem ((c.tc : Thread Cert.HyenaSecondIdeal.nD Cert.HyenaSecondIdeal.τ).loc Cert.HyenaSecondIdeal.main_arg3) = m ((c.tc : Thread Cert.HyenaSecondIdeal.nD Cert.HyenaSecondIdeal.τ).loc Cert.HyenaSecondIdeal.main_arg3)
          ∧ r.2.mem ((c.tc : Thread Cert.HyenaSecondIdeal.nD Cert.HyenaSecondIdeal.τ).loc Cert.HyenaSecondIdeal.main_arg4) = m ((c.tc : Thread Cert.HyenaSecondIdeal.nD Cert.HyenaSecondIdeal.τ).loc Cert.HyenaSecondIdeal.main_arg4)
          ∧ r.2.mem ((c.tc : Thread Cert.HyenaSecondIdeal.nD Cert.HyenaSecondIdeal.τ).loc Cert.HyenaSecondIdeal.main_arg5) = m ((c.tc : Thread Cert.HyenaSecondIdeal.nD Cert.HyenaSecondIdeal.τ).loc Cert.HyenaSecondIdeal.main_arg5)
          ∧ r.2.mem ((c.tc : Thread Cert.HyenaSecondIdeal.nD Cert.HyenaSecondIdeal.τ).loc Cert.HyenaSecondIdeal.main_arg6) = m ((c.tc : Thread Cert.HyenaSecondIdeal.nD Cert.HyenaSecondIdeal.τ).loc Cert.HyenaSecondIdeal.main_arg6))
      ∧ θ_run (Cert.HyenaSecondRefIdeal.defs (F := Ideal)) (onTc (τ := Cert.HyenaSecondRefIdeal.τ) (Cert.HyenaSecondRefIdeal.main (F := Ideal))) ⟨m', fun _ => 0, g'⟩ (fun r => ∀ c : Dev Cert.HyenaSecondRefIdeal.nD,
          r.2.mem ((c.tc : Thread Cert.HyenaSecondRefIdeal.nD Cert.HyenaSecondRefIdeal.τ).loc Cert.HyenaSecondRefIdeal.main_v113) = v0 c
          ∧ r.2.mem ((c.tc : Thread Cert.HyenaSecondRefIdeal.nD Cert.HyenaSecondRefIdeal.τ).loc Cert.HyenaSecondRefIdeal.main_arg0) = m' ((c.tc : Thread Cert.HyenaSecondRefIdeal.nD Cert.HyenaSecondRefIdeal.τ).loc Cert.HyenaSecondRefIdeal.main_arg0)
          ∧ r.2.mem ((c.tc : Thread Cert.HyenaSecondRefIdeal.nD Cert.HyenaSecondRefIdeal.τ).loc Cert.HyenaSecondRefIdeal.main_arg1) = m' ((c.tc : Thread Cert.HyenaSecondRefIdeal.nD Cert.HyenaSecondRefIdeal.τ).loc Cert.HyenaSecondRefIdeal.main_arg1)
          ∧ r.2.mem ((c.tc : Thread Cert.HyenaSecondRefIdeal.nD Cert.HyenaSecondRefIdeal.τ).loc Cert.HyenaSecondRefIdeal.main_arg2) = m' ((c.tc : Thread Cert.HyenaSecondRefIdeal.nD Cert.HyenaSecondRefIdeal.τ).loc Cert.HyenaSecondRefIdeal.main_arg2)
          ∧ r.2.mem ((c.tc : Thread Cert.HyenaSecondRefIdeal.nD Cert.HyenaSecondRefIdeal.τ).loc Cert.HyenaSecondRefIdeal.main_arg3) = m' ((c.tc : Thread Cert.HyenaSecondRefIdeal.nD Cert.HyenaSecondRefIdeal.τ).loc Cert.HyenaSecondRefIdeal.main_arg3)
          ∧ r.2.mem ((c.tc : Thread Cert.HyenaSecondRefIdeal.nD Cert.HyenaSecondRefIdeal.τ).loc Cert.HyenaSecondRefIdeal.main_arg4) = m' ((c.tc : Thread Cert.HyenaSecondRefIdeal.nD Cert.HyenaSecondRefIdeal.τ).loc Cert.HyenaSecondRefIdeal.main_arg4)
          ∧ r.2.mem ((c.tc : Thread Cert.HyenaSecondRefIdeal.nD Cert.HyenaSecondRefIdeal.τ).loc Cert.HyenaSecondRefIdeal.main_arg5) = m' ((c.tc : Thread Cert.HyenaSecondRefIdeal.nD Cert.HyenaSecondRefIdeal.τ).loc Cert.HyenaSecondRefIdeal.main_arg5)
          ∧ r.2.mem ((c.tc : Thread Cert.HyenaSecondRefIdeal.nD Cert.HyenaSecondRefIdeal.τ).loc Cert.HyenaSecondRefIdeal.main_arg6) = m' ((c.tc : Thread Cert.HyenaSecondRefIdeal.nD Cert.HyenaSecondRefIdeal.τ).loc Cert.HyenaSecondRefIdeal.main_arg6))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hForget : Cert.Forget.Facts) (hForgetIdeal : Cert.ForgetIdeal.Facts) (hForgetRefIdeal : Cert.ForgetRefIdeal.Facts) (hMerge : Cert.Merge.Facts) (hMergeIdeal : Cert.MergeIdeal.Facts) (hMergeRefIdeal : Cert.MergeRefIdeal.Facts) (hModulation : Cert.Modulation.Facts) (hModulationIdeal : Cert.ModulationIdeal.Facts) (hModulationRefIdeal : Cert.ModulationRefIdeal.Facts) (hFnet : Cert.Fnet.Facts) (hFnetIdeal : Cert.FnetIdeal.Facts) (hFnetRefIdeal : Cert.FnetRefIdeal.Facts) (hFnetCtx : Cert.FnetCtx.Facts) (hFnetCtxIdeal : Cert.FnetCtxIdeal.Facts) (hFnetCtxRefIdeal : Cert.FnetCtxRefIdeal.Facts) (hHyenaFirst : Cert.HyenaFirst.Facts) (hHyenaFirstIdeal : Cert.HyenaFirstIdeal.Facts) (hHyenaFirstRefIdeal : Cert.HyenaFirstRefIdeal.Facts) (hHyenaSecond : Cert.HyenaSecond.Facts) (hHyenaSecondIdeal : Cert.HyenaSecondIdeal.Facts) (hHyenaSecondRefIdeal : Cert.HyenaSecondRefIdeal.Facts) (hFinal : Cert.Final.Facts) (hFinalIdeal : Cert.FinalIdeal.Facts) (hFinalRefIdeal : Cert.FinalRefIdeal.Facts) (hPre_router_inputs_finite : Cert.Pre_router_inputs_finite.Facts),
    quiescent_Kernel (hKernel := hKernel)
    ∧ quiescent_KernelIdeal (hKernelIdeal := hKernelIdeal)
    ∧ quiescent_KernelIdeal_pre_router_inputs_finite (hKernelIdeal := hKernelIdeal) (hPre_router_inputs_finite := hPre_router_inputs_finite)
    ∧ quiescent_ReferenceIdeal (hReferenceIdeal := hReferenceIdeal)
    ∧ quiescent_ReferenceIdeal_pre_router_inputs_finite (hReferenceIdeal := hReferenceIdeal) (hPre_router_inputs_finite := hPre_router_inputs_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Forget (hForget := hForget)
    ∧ quiescent_ForgetIdeal (hForgetIdeal := hForgetIdeal)
    ∧ quiescent_ForgetRefIdeal (hForgetRefIdeal := hForgetRefIdeal)
    ∧ quiescent_Merge (hMerge := hMerge)
    ∧ quiescent_MergeIdeal (hMergeIdeal := hMergeIdeal)
    ∧ quiescent_MergeRefIdeal (hMergeRefIdeal := hMergeRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Fnet (hFnet := hFnet)
    ∧ quiescent_FnetIdeal (hFnetIdeal := hFnetIdeal)
    ∧ quiescent_FnetRefIdeal (hFnetRefIdeal := hFnetRefIdeal)
    ∧ quiescent_FnetCtx (hFnetCtx := hFnetCtx)
    ∧ quiescent_FnetCtxIdeal (hFnetCtxIdeal := hFnetCtxIdeal)
    ∧ quiescent_FnetCtxRefIdeal (hFnetCtxRefIdeal := hFnetCtxRefIdeal)
    ∧ quiescent_HyenaFirst (hHyenaFirst := hHyenaFirst)
    ∧ quiescent_HyenaFirstIdeal (hHyenaFirstIdeal := hHyenaFirstIdeal)
    ∧ quiescent_HyenaFirstRefIdeal (hHyenaFirstRefIdeal := hHyenaFirstRefIdeal)
    ∧ quiescent_HyenaSecond (hHyenaSecond := hHyenaSecond)
    ∧ quiescent_HyenaSecondIdeal (hHyenaSecondIdeal := hHyenaSecondIdeal)
    ∧ quiescent_HyenaSecondRefIdeal (hHyenaSecondRefIdeal := hHyenaSecondRefIdeal)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal_pre_router_inputs_finite (hKernelIdeal := hKernelIdeal) (hReferenceIdeal := hReferenceIdeal) (hPre_router_inputs_finite := hPre_router_inputs_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Forget_ForgetIdeal
    ∧ algebraic_ForgetIdeal_ForgetRefIdeal (hForgetIdeal := hForgetIdeal) (hForgetRefIdeal := hForgetRefIdeal)
    ∧ preserves_Merge_MergeIdeal
    ∧ algebraic_MergeIdeal_MergeRefIdeal (hMergeIdeal := hMergeIdeal) (hMergeRefIdeal := hMergeRefIdeal)
    ∧ preserves_Modulation_ModulationIdeal
    ∧ algebraic_ModulationIdeal_ModulationRefIdeal (hModulationIdeal := hModulationIdeal) (hModulationRefIdeal := hModulationRefIdeal)
    ∧ preserves_Fnet_FnetIdeal
    ∧ algebraic_FnetIdeal_FnetRefIdeal (hFnetIdeal := hFnetIdeal) (hFnetRefIdeal := hFnetRefIdeal)
    ∧ preserves_FnetCtx_FnetCtxIdeal
    ∧ algebraic_FnetCtxIdeal_FnetCtxRefIdeal (hFnetCtxIdeal := hFnetCtxIdeal) (hFnetCtxRefIdeal := hFnetCtxRefIdeal)
    ∧ preserves_HyenaFirst_HyenaFirstIdeal
    ∧ algebraic_HyenaFirstIdeal_HyenaFirstRefIdeal (hHyenaFirstIdeal := hHyenaFirstIdeal) (hHyenaFirstRefIdeal := hHyenaFirstRefIdeal)
    ∧ preserves_HyenaSecond_HyenaSecondIdeal
    ∧ algebraic_HyenaSecondIdeal_HyenaSecondRefIdeal (hHyenaSecondIdeal := hHyenaSecondIdeal) (hHyenaSecondRefIdeal := hHyenaSecondRefIdeal)
    ∧ preserves_Final_FinalIdeal
    ∧ algebraic_FinalIdeal_FinalRefIdeal (hFinalIdeal := hFinalIdeal) (hFinalRefIdeal := hFinalRefIdeal)
-- ==== Pre_router_inputs_finite.lean ====
abbrev S9216x2048 : Shape := ⟨2, ![9216, 2048]⟩
abbrev S2048 : Shape := ⟨1, ![2048]⟩
abbrev S8x6x2048 : Shape := ⟨3, ![8, 6, 2048]⟩
abbrev S2048x8 : Shape := ⟨2, ![2048, 8]⟩
abbrev S8x2048x4096 : Shape := ⟨3, ![8, 2048, 4096]⟩
abbrev S8x4096x2048 : Shape := ⟨3, ![8, 4096, 2048]⟩
abbrev S8x2x2048 : Shape := ⟨3, ![8, 2, 2048]⟩
abbrev S_ : Shape := ⟨0, ![]⟩

class Facts : Prop where
  slices_S8x6x2048_S8x2x2048_0_3_0 : S8x6x2048.Slices ![0, 3, 0] S8x2x2048
  bcast_S_S9216x2048 : S_.BroadcastsInDim S9216x2048 (![] : Fin 0 → Fin S9216x2048.rank)
  bcast_S_S2048 : S_.BroadcastsInDim S2048 (![] : Fin 0 → Fin S2048.rank)
  bcast_S_S8x2x2048 : S_.BroadcastsInDim S8x2x2048 (![] : Fin 0 → Fin S8x2x2048.rank)
  bcast_S_S2048x8 : S_.BroadcastsInDim S2048x8 (![] : Fin 0 → Fin S2048x8.rank)

variable [Facts]

def fn {F : FTy → Type} [FloatOps F] (main_arg0 : FVec F S9216x2048 .f32) (main_arg1 : FVec F S2048 .f32) (main_arg2 : FVec F S8x6x2048 .f32) (main_arg3 : FVec F S2048x8 .f32) (main_arg4 : FVec F S8x2048x4096 .f32) (main_arg5 : FVec F S8x2048x4096 .f32) (main_arg6 : FVec F S8x4096x2048 .f32) : IVec S9216x2048 1 × IVec S2048 1 × IVec S8x2x2048 1 × IVec S2048x8 1 :=
  let main_v0 : FVec F S8x2x2048 .f32 := (extractStridedSlice S8x2x2048 ![0, 3, 0] · slices_S8x6x2048_S8x2x2048_0_3_0) main_arg2
  let main_v1 : FVec F S9216x2048 .f32 := Host.absf main_arg0
  let main_cst : FVec F S_ .f32 := constant S_ .f32 0x7F800000#32
  let main_v2 : FVec F S9216x2048 .f32 := broadcastInDim S9216x2048 ![] bcast_S_S9216x2048 main_cst
  let main_v3 : IVec S9216x2048 1 := cmpf .olt main_v1 main_v2
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : FVec F S8x2x2048 .f32 := Host.absf main_v0
  let main_cst_1 : FVec F S_ .f32 := constant S_ .f32 0x7F800000#32
  let main_v8 : FVec F S8x2x2048 .f32 := broadcastInDim S8x2x2048 ![] bcast_S_S8x2x2048 main_cst_1
  let main_v9 : IVec S8x2x2048 1 := cmpf .olt main_v7 main_v8
  let main_v10 : FVec F S2048x8 .f32 := Host.absf main_arg3
  let main_cst_2 : FVec F S_ .f32 := constant S_ .f32 0x7F800000#32
  let main_v11 : FVec F S2048x8 .f32 := broadcastInDim S2048x8 ![] bcast_S_S2048x8 main_cst_2
  let main_v12 : IVec S2048x8 1 := cmpf .olt main_v10 main_v11
  (main_v3, main_v6, main_v9, main_v12)
-- ==== Kernel.lean ====
abbrev S9216x2048 : Shape := ⟨2, ![9216, 2048]⟩
abbrev S2048 : Shape := ⟨1, ![2048]⟩
abbrev S8x6x2048 : Shape := ⟨3, ![8, 6, 2048]⟩
abbrev S2048x8 : Shape := ⟨2, ![2048, 8]⟩
abbrev S8x2048x4096 : Shape := ⟨3, ![8, 2048, 4096]⟩
abbrev S8x4096x2048 : Shape := ⟨3, ![8, 4096, 2048]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S512x2048 : Shape := ⟨2, ![512, 2048]⟩
abbrev S1x6x2048 : Shape := ⟨3, ![1, 6, 2048]⟩
abbrev S1x2048x512 : Shape := ⟨3, ![1, 2048, 512]⟩
abbrev S1x512x2048 : Shape := ⟨3, ![1, 512, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 17
  | .vmem => 17
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x8, .f32⟩
  | .hbm, ⟨4, _⟩ => ⟨S8x2048x4096, .f32⟩
  | .hbm, ⟨5, _⟩ => ⟨S8x2048x4096, .f32⟩
  | .hbm, ⟨6, _⟩ => ⟨S8x4096x2048, .f32⟩
  | .hbm, ⟨7, _⟩ => ⟨S8x2048x4096, .bf16⟩
  | .hbm, ⟨8, _⟩ => ⟨S8x2048x4096, .bf16⟩
  | .hbm, ⟨9, _⟩ => ⟨S8x4096x2048, .bf16⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S1, .i32⟩
  | .hbm, ⟨14, _⟩ => ⟨S2048x128, .f32⟩
  | .hbm, ⟨15, _⟩ => ⟨S1x2048, .f32⟩
  | .hbm, ⟨16, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x128, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x128, .f32⟩
  | .local _ .vmem, ⟨16, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![18, 8, 8], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c7_i32_22 : BitVec 32 := 7#32
  let v35 : BitVec 1 := Scalar.cmpi .eq arg2 c7_i32_22
  let v36 : BitVec 1 := Scalar.andi v34 v35
  let v37 : BitVec 32 := Scalar.extui v36
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S9216x2048 : Shape := ⟨2, ![9216, 2048]⟩
abbrev S2048 : Shape := ⟨1, ![2048]⟩
abbrev S8x6x2048 : Shape := ⟨3, ![8, 6, 2048]⟩
abbrev S2048x8 : Shape := ⟨2, ![2048, 8]⟩
abbrev S8x2048x4096 : Shape := ⟨3, ![8, 2048, 4096]⟩
abbrev S8x4096x2048 : Shape := ⟨3, ![8, 4096, 2048]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S1x6x2048 : Shape := ⟨3, ![1, 6, 2048]⟩
abbrev S1x1024x6x2048 : Shape := ⟨4, ![1, 1024, 6, 2048]⟩
abbrev S1024x6x2048 : Shape := ⟨3, ![1024, 6, 2048]⟩
abbrev S9216x6x2048 : Shape := ⟨3, ![9216, 6, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x1x2048 : Shape := ⟨3, ![9216, 1, 2048]⟩
abbrev S9216x8 : Shape := ⟨2, ![9216, 8]⟩
abbrev S9216x2 : Shape := ⟨2, ![9216, 2]⟩
abbrev S9216x2x1 : Shape := ⟨3, ![9216, 2, 1]⟩
abbrev S1x1x8 : Shape := ⟨3, ![1, 1, 8]⟩
abbrev S9216x2x8 : Shape := ⟨3, ![9216, 2, 8]⟩
abbrev S1x2048x4096 : Shape := ⟨3, ![1, 2048, 4096]⟩
abbrev S2048x4096 : Shape := ⟨2, ![2048, 4096]⟩
abbrev S1x4096x2048 : Shape := ⟨3, ![1, 4096, 2048]⟩
abbrev S4096x2048 : Shape := ⟨2, ![4096, 2048]⟩
abbrev S9216x4096 : Shape := ⟨2, ![9216, 4096]⟩

abbrev nBuf : Space → Nat
  | .hbm => 257
  | .vmem => 0
  | .smem => 0
  | _ => 0

abbrev hbmTy0_0 (i : Nat) : BufTy := match i % 128 with
  | 0 => ⟨S9216x2048, .f32⟩
  | 1 => ⟨S2048, .f32⟩
  | 2 => ⟨S8x6x2048, .f32⟩
  | 3 => ⟨S2048x8, .f32⟩
  | 4 => ⟨S8x2048x4096, .f32⟩
  | 5 => ⟨S8x2048x4096, .f32⟩
  | 6 => ⟨S8x4096x2048, .f32⟩
  | 7 => ⟨S4x6x2048, .f32⟩
  | 8 => ⟨S4x2048x6x2048, .f32⟩
  | 9 => ⟨S8192x6x2048, .f32⟩
  | 10 => ⟨S1x6x2048, .f32⟩
  | 11 => ⟨S1x1024x6x2048, .f32⟩
  | 12 => ⟨S1024x6x2048, .f32⟩
  | 13 => ⟨S9216x6x2048, .f32⟩
  | 14 => ⟨S9216x2048, .f32⟩
  | 15 => ⟨S_, .f32⟩
  | 16 => ⟨S9216, .f32⟩
  | 17 => ⟨S9216x1, .f32⟩
  | 18 => ⟨S_, .f32⟩
  | 19 => ⟨S9216x1, .f32⟩
  | 20 => ⟨S9216x1, .f32⟩
  | 21 => ⟨S_, .f32⟩
  | 22 => ⟨S9216x1, .f32⟩
  | 23 => ⟨S9216x1, .f32⟩
  | 24 => ⟨S9216x1, .f32⟩
  | 25 => ⟨S9216x2048, .f32⟩
  | 26 => ⟨S9216x2048, .f32⟩
  | 27 => ⟨S1x2048, .f32⟩
  | 28 => ⟨S9216x2048, .f32⟩
  | 29 => ⟨S9216x2048, .f32⟩
  | 30 => ⟨S9216x1x2048, .f32⟩
  | 31 => ⟨S9216x2048, .f32⟩
  | 32 => ⟨S9216x1x2048, .f32⟩
  | 33 => ⟨S9216x2048, .f32⟩
  | 34 => ⟨S_, .f32⟩
  | 35 => ⟨S9216x2048, .f32⟩
  | 36 => ⟨S9216x2048, .f32⟩
  | 37 => ⟨S9216x2048, .f32⟩
  | 38 => ⟨S9216x2048, .f32⟩
  | 39 => ⟨S9216x1x2048, .f32⟩
  | 40 => ⟨S9216x2048, .f32⟩
  | 41 => ⟨S9216x8, .f32⟩
  | 42 => ⟨S9216x2, .f32⟩
  | 43 => ⟨S9216x2, .i32⟩
  | 44 => ⟨S_, .f32⟩
  | 45 => ⟨S9216, .f32⟩
  | 46 => ⟨S_, .f32⟩
  | 47 => ⟨S9216, .f32⟩
  | 48 => ⟨S9216, .f32⟩
  | 49 => ⟨S9216x1, .f32⟩
  | 50 => ⟨S9216x2, .f32⟩
  | 51 => ⟨S9216x2, .f32⟩
  | 52 => ⟨S9216x2, .f32⟩
  | 53 => ⟨S_, .f32⟩
  | 54 => ⟨S9216, .f32⟩
  | 55 => ⟨S9216x1, .f32⟩
  | 56 => ⟨S9216x2, .f32⟩
  | 57 => ⟨S9216x2, .f32⟩
  | 58 => ⟨S9216x2x1, .i32⟩
  | 59 => ⟨S1x1x8, .i32⟩
  | 60 => ⟨S9216x2x8, .i32⟩
  | 61 => ⟨S9216x2x8, .i32⟩
  | 62 => ⟨S9216x2x8, .i1⟩
  | 63 => ⟨S9216x2x8, .f32⟩
  | 64 => ⟨S9216x2x1, .f32⟩
  | 65 => ⟨S9216x2x8, .f32⟩
  | 66 => ⟨S9216x2x8, .f32⟩
  | 67 => ⟨S_, .f32⟩
  | 68 => ⟨S9216x8, .f32⟩
  | 69 => ⟨S_, .f32⟩
  | 70 => ⟨S9216x2048, .f32⟩
  | 71 => ⟨S9216x1, .f32⟩
  | 72 => ⟨S1x2048x4096, .f32⟩
  | 73 => ⟨S2048x4096, .f32⟩
  | 74 => ⟨S1x2048x4096, .f32⟩
  | 75 => ⟨S2048x4096, .f32⟩
  | 76 => ⟨S1x4096x2048, .f32⟩
  | 77 => ⟨S4096x2048, .f32⟩
  | 78 => ⟨S9216x4096, .f32⟩
  | 79 => ⟨S9216x4096, .f32⟩
  | 80 => ⟨S9216x4096, .f32⟩
  | 81 => ⟨S_, .f32⟩
  | 82 => ⟨S9216x4096, .f32⟩
  | 83 => ⟨S9216x4096, .f32⟩
  | 84 => ⟨S_, .f32⟩
  | 85 => ⟨S9216x4096, .f32⟩
  | 86 => ⟨S9216x4096, .f32⟩
  | 87 => ⟨S9216x4096, .f32⟩
  | 88 => ⟨S9216x4096, .f32⟩
  | 89 => ⟨S9216x4096, .f32⟩
  | 90 => ⟨S9216x2048, .f32⟩
  | 91 => ⟨S9216x2048, .f32⟩
  | 92 => ⟨S9216x2048, .f32⟩
  | 93 => ⟨S9216x2048, .f32⟩
  | 94 => ⟨S9216x1, .f32⟩
  | 95 => ⟨S1x2048x4096, .f32⟩
  | 96 => ⟨S2048x4096, .f32⟩
  | 97 => ⟨S1x2048x4096, .f32⟩
  | 98 => ⟨S2048x4096, .f32⟩
  | 99 => ⟨S1x4096x2048, .f32⟩
  | 100 => ⟨S4096x2048, .f32⟩
  | 101 => ⟨S9216x4096, .f32⟩
  | 102 => ⟨S9216x4096, .f32⟩
  | 103 => ⟨S9216x4096, .f32⟩
  | 104 => ⟨S_, .f32⟩
  | 105 => ⟨S9216x4096, .f32⟩
  | 106 => ⟨S9216x4096, .f32⟩
  | 107 => ⟨S_, .f32⟩
  | 108 => ⟨S9216x4096, .f32⟩
  | 109 => ⟨S9216x4096, .f32⟩
  | 110 => ⟨S9216x4096, .f32⟩
  | 111 => ⟨S9216x4096, .f32⟩
  | 112 => ⟨S9216x4096, .f32⟩
  | 113 => ⟨S9216x2048, .f32⟩
  | 114 => ⟨S9216x2048, .f32⟩
  | 115 => ⟨S9216x2048, .f32⟩
  | 116 => ⟨S9216x2048, .f32⟩
  | 117 => ⟨S9216x1, .f32⟩
  | 118 => ⟨S1x2048x4096, .f32⟩
  | 119 => ⟨S2048x4096, .f32⟩
  | 120 => ⟨S1x2048x4096, .f32⟩
  | 121 => ⟨S2048x4096, .f32⟩
  | 122 => ⟨S1x4096x2048, .f32⟩
  | 123 => ⟨S4096x2048, .f32⟩
  | 124 => ⟨S9216x4096, .f32⟩
  | 125 => ⟨S9216x4096, .f32⟩
  | 126 => ⟨S9216x4096, .f32⟩
  | 127 => ⟨S_, .f32⟩
  | _ => ⟨S9216x2048, .f32⟩

abbrev hbmTy0_1 (i : Nat) : BufTy := match i % 128 with
  | 0 => ⟨S9216x4096, .f32⟩
  | 1 => ⟨S9216x4096, .f32⟩
  | 2 => ⟨S_, .f32⟩
  | 3 => ⟨S9216x4096, .f32⟩
  | 4 => ⟨S9216x4096, .f32⟩
  | 5 => ⟨S9216x4096, .f32⟩
  | 6 => ⟨S9216x4096, .f32⟩
  | 7 => ⟨S9216x4096, .f32⟩
  | 8 => ⟨S9216x2048, .f32⟩
  | 9 => ⟨S9216x2048, .f32⟩
  | 10 => ⟨S9216x2048, .f32⟩
  | 11 => ⟨S9216x2048, .f32⟩
  | 12 => ⟨S9216x1, .f32⟩
  | 13 => ⟨S1x2048x4096, .f32⟩
  | 14 => ⟨S2048x4096, .f32⟩
  | 15 => ⟨S1x2048x4096, .f32⟩
  | 16 => ⟨S2048x4096, .f32⟩
  | 17 => ⟨S1x4096x2048, .f32⟩
  | 18 => ⟨S4096x2048, .f32⟩
  | 19 => ⟨S9216x4096, .f32⟩
  | 20 => ⟨S9216x4096, .f32⟩
  | 21 => ⟨S9216x4096, .f32⟩
  | 22 => ⟨S_, .f32⟩
  | 23 => ⟨S9216x4096, .f32⟩
  | 24 => ⟨S9216x4096, .f32⟩
  | 25 => ⟨S_, .f32⟩
  | 26 => ⟨S9216x4096, .f32⟩
  | 27 => ⟨S9216x4096, .f32⟩
  | 28 => ⟨S9216x4096, .f32⟩
  | 29 => ⟨S9216x4096, .f32⟩
  | 30 => ⟨S9216x4096, .f32⟩
  | 31 => ⟨S9216x2048, .f32⟩
  | 32 => ⟨S9216x2048, .f32⟩
  | 33 => ⟨S9216x2048, .f32⟩
  | 34 => ⟨S9216x2048, .f32⟩
  | 35 => ⟨S9216x1, .f32⟩
  | 36 => ⟨S1x2048x4096, .f32⟩
  | 37 => ⟨S2048x4096, .f32⟩
  | 38 => ⟨S1x2048x4096, .f32⟩
  | 39 => ⟨S2048x4096, .f32⟩
  | 40 => ⟨S1x4096x2048, .f32⟩
  | 41 => ⟨S4096x2048, .f32⟩
  | 42 => ⟨S9216x4096, .f32⟩
  | 43 => ⟨S9216x4096, .f32⟩
  | 44 => ⟨S9216x4096, .f32⟩
  | 45 => ⟨S_, .f32⟩
  | 46 => ⟨S9216x4096, .f32⟩
  | 47 => ⟨S9216x4096, .f32⟩
  | 48 => ⟨S_, .f32⟩
  | 49 => ⟨S9216x4096, .f32⟩
  | 50 => ⟨S9216x4096, .f32⟩
  | 51 => ⟨S9216x4096, .f32⟩
  | 52 => ⟨S9216x4096, .f32⟩
  | 53 => ⟨S9216x4096, .f32⟩
  | 54 => ⟨S9216x2048, .f32⟩
  | 55 => ⟨S9216x2048, .f32⟩
  | 56 => ⟨S9216x2048, .f32⟩
  | 57 => ⟨S9216x2048, .f32⟩
  | 58 => ⟨S9216x1, .f32⟩
  | 59 => ⟨S1x2048x4096, .f32⟩
  | 60 => ⟨S2048x4096, .f32⟩
  | 61 => ⟨S1x2048x4096, .f32⟩
  | 62 => ⟨S2048x4096, .f32⟩
  | 63 => ⟨S1x4096x2048, .f32⟩
  | 64 => ⟨S4096x2048, .f32⟩
  | 65 => ⟨S9216x4096, .f32⟩
  | 66 => ⟨S9216x4096, .f32⟩
  | 67 => ⟨S9216x4096, .f32⟩
  | 68 => ⟨S_, .f32⟩
  | 69 => ⟨S9216x4096, .f32⟩
  | 70 => ⟨S9216x4096, .f32⟩
  | 71 => ⟨S_, .f32⟩
  | 72 => ⟨S9216x4096, .f32⟩
  | 73 => ⟨S9216x4096, .f32⟩
  | 74 => ⟨S9216x4096, .f32⟩
  | 75 => ⟨S9216x4096, .f32⟩
  | 76 => ⟨S9216x4096, .f32⟩
  | 77 => ⟨S9216x2048, .f32⟩
  | 78 => ⟨S9216x2048, .f32⟩
  | 79 => ⟨S9216x2048, .f32⟩
  | 80 => ⟨S9216x2048, .f32⟩
  | 81 => ⟨S9216x1, .f32⟩
  | 82 => ⟨S1x2048x4096, .f32⟩
  | 83 => ⟨S2048x4096, .f32⟩
  | 84 => ⟨S1x2048x4096, .f32⟩
  | 85 => ⟨S2048x4096, .f32⟩
  | 86 => ⟨S1x4096x2048, .f32⟩
  | 87 => ⟨S4096x2048, .f32⟩
  | 88 => ⟨S9216x4096, .f32⟩
  | 89 => ⟨S9216x4096, .f32⟩
  | 90 => ⟨S9216x4096, .f32⟩
  | 91 => ⟨S_, .f32⟩
  | 92 => ⟨S9216x4096, .f32⟩
  | 93 => ⟨S9216x4096, .f32⟩
  | 94 => ⟨S_, .f32⟩
  | 95 => ⟨S9216x4096, .f32⟩
  | 96 => ⟨S9216x4096, .f32⟩
  | 97 => ⟨S9216x4096, .f32⟩
  | 98 => ⟨S9216x4096, .f32⟩
  | 99 => ⟨S9216x4096, .f32⟩
  | 100 => ⟨S9216x2048, .f32⟩
  | 101 => ⟨S9216x2048, .f32⟩
  | 102 => ⟨S9216x2048, .f32⟩
  | 103 => ⟨S9216x2048, .f32⟩
  | 104 => ⟨S9216x1, .f32⟩
  | 105 => ⟨S1x2048x4096, .f32⟩
  | 106 => ⟨S2048x4096, .f32⟩
  | 107 => ⟨S1x2048x4096, .f32⟩
  | 108 => ⟨S2048x4096, .f32⟩
  | 109 => ⟨S1x4096x2048, .f32⟩
  | 110 => ⟨S4096x2048, .f32⟩
  | 111 => ⟨S9216x4096, .f32⟩
  | 112 => ⟨S9216x4096, .f32⟩
  | 113 => ⟨S9216x4096, .f32⟩
  | 114 => ⟨S_, .f32⟩
  | 115 => ⟨S9216x4096, .f32⟩
  | 116 => ⟨S9216x4096, .f32⟩
  | 117 => ⟨S_, .f32⟩
  | 118 => ⟨S9216x4096, .f32⟩
  | 119 => ⟨S9216x4096, .f32⟩
  | 120 => ⟨S9216x4096, .f32⟩
  | 121 => ⟨S9216x4096, .f32⟩
  | 122 => ⟨S9216x4096, .f32⟩
  | 123 => ⟨S9216x2048, .f32⟩
  | 124 => ⟨S9216x2048, .f32⟩
  | 125 => ⟨S9216x2048, .f32⟩
  | 126 => ⟨S9216x2048, .f32⟩
  | 127 => ⟨S9216x2048, .f32⟩
  | _ => ⟨S9216x2048, .f32⟩

abbrev hbmTy0_2 (i : Nat) : BufTy := match i % 128 with
  | 0 => ⟨S9216x2048, .f32⟩
  | _ => ⟨S9216x2048, .f32⟩

abbrev hbmTy (i : Nat) : BufTy := match i / 128 with
  | 0 => hbmTy0_0 i
  | 1 => hbmTy0_1 i
  | 2 => hbmTy0_2 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_values : Ref sig .tc := ⟨.hbm, 42, rfl⟩
abbrev main_indices : Ref sig .tc := ⟨.hbm, 43, rfl⟩
abbrev main_cst_3 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_call3_v0 : Ref sig .tc := ⟨.hbm, 125, rfl⟩
abbrev main_call3_v1 : Ref sig .tc := ⟨.hbm, 126, rfl⟩
abbrev main_call3_cst : Ref sig .tc := ⟨.hbm, 127, rfl⟩
abbrev main_call3_v2 : Ref sig .tc := ⟨.hbm, 128, rfl⟩
abbrev main_call3_v3 : Ref sig .tc := ⟨.hbm, 129, rfl⟩
abbrev main_call3_cst_0 : Ref sig .tc := ⟨.hbm, 130, rfl⟩
abbrev main_call3_v4 : Ref sig .tc := ⟨.hbm, 131, rfl⟩
abbrev main_call3_v5 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call4_v0 : Ref sig .tc := ⟨.hbm, 148, rfl⟩
abbrev main_call4_v1 : Ref sig .tc := ⟨.hbm, 149, rfl⟩
abbrev main_call4_cst : Ref sig .tc := ⟨.hbm, 150, rfl⟩
abbrev main_call4_v2 : Ref sig .tc := ⟨.hbm, 151, rfl⟩
abbrev main_call4_v3 : Ref sig .tc := ⟨.hbm, 152, rfl⟩
abbrev main_call4_cst_0 : Ref sig .tc := ⟨.hbm, 153, rfl⟩
abbrev main_call4_v4 : Ref sig .tc := ⟨.hbm, 154, rfl⟩
abbrev main_call4_v5 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_call5_v0 : Ref sig .tc := ⟨.hbm, 171, rfl⟩
abbrev main_call5_v1 : Ref sig .tc := ⟨.hbm, 172, rfl⟩
abbrev main_call5_cst : Ref sig .tc := ⟨.hbm, 173, rfl⟩
abbrev main_call5_v2 : Ref sig .tc := ⟨.hbm, 174, rfl⟩
abbrev main_call5_v3 : Ref sig .tc := ⟨.hbm, 175, rfl⟩
abbrev main_call5_cst_0 : Ref sig .tc := ⟨.hbm, 176, rfl⟩
abbrev main_call5_v4 : Ref sig .tc := ⟨.hbm, 177, rfl⟩
abbrev main_call5_v5 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_call6_v0 : Ref sig .tc := ⟨.hbm, 194, rfl⟩
abbrev main_call6_v1 : Ref sig .tc := ⟨.hbm, 195, rfl⟩
abbrev main_call6_cst : Ref sig .tc := ⟨.hbm, 196, rfl⟩
abbrev main_call6_v2 : Ref sig .tc := ⟨.hbm, 197, rfl⟩
abbrev main_call6_v3 : Ref sig .tc := ⟨.hbm, 198, rfl⟩
abbrev main_call6_cst_0 : Ref sig .tc := ⟨.hbm, 199, rfl⟩
abbrev main_call6_v4 : Ref sig .tc := ⟨.hbm, 200, rfl⟩
abbrev main_call6_v5 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_call7_v0 : Ref sig .tc := ⟨.hbm, 217, rfl⟩
abbrev main_call7_v1 : Ref sig .tc := ⟨.hbm, 218, rfl⟩
abbrev main_call7_cst : Ref sig .tc := ⟨.hbm, 219, rfl⟩
abbrev main_call7_v2 : Ref sig .tc := ⟨.hbm, 220, rfl⟩
abbrev main_call7_v3 : Ref sig .tc := ⟨.hbm, 221, rfl⟩
abbrev main_call7_cst_0 : Ref sig .tc := ⟨.hbm, 222, rfl⟩
abbrev main_call7_v4 : Ref sig .tc := ⟨.hbm, 223, rfl⟩
abbrev main_call7_v5 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_call8_v0 : Ref sig .tc := ⟨.hbm, 240, rfl⟩
abbrev main_call8_v1 : Ref sig .tc := ⟨.hbm, 241, rfl⟩
abbrev main_call8_cst : Ref sig .tc := ⟨.hbm, 242, rfl⟩
abbrev main_call8_v2 : Ref sig .tc := ⟨.hbm, 243, rfl⟩
abbrev main_call8_v3 : Ref sig .tc := ⟨.hbm, 244, rfl⟩
abbrev main_call8_cst_0 : Ref sig .tc := ⟨.hbm, 245, rfl⟩
abbrev main_call8_v4 : Ref sig .tc := ⟨.hbm, 246, rfl⟩
abbrev main_call8_v5 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩

abbrev nD : Nat := 1
abbrev τ : Topo := Topo.v7x

variable {F : FTy → Type} [FloatOps F]
-- ==== Ffn.lean ====
abbrev S9216x2048 : Shape := ⟨2, ![9216, 2048]⟩
abbrev S2048 : Shape := ⟨1, ![2048]⟩
abbrev S8x6x2048 : Shape := ⟨3, ![8, 6, 2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S1x6x2048 : Shape := ⟨3, ![1, 6, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![18, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S9216x2048 : Shape := ⟨2, ![9216, 2048]⟩
abbrev S2048 : Shape := ⟨1, ![2048]⟩
abbrev S8x6x2048 : Shape := ⟨3, ![8, 6, 2048]⟩
abbrev S2048x5632 : Shape := ⟨2, ![2048, 5632]⟩
abbrev S5632x2048 : Shape := ⟨2, ![5632, 2048]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S1x6x2048 : Shape := ⟨3, ![1, 6, 2048]⟩
abbrev S1x1024x6x2048 : Shape := ⟨4, ![1, 1024, 6, 2048]⟩
abbrev S1024x6x2048 : Shape := ⟨3, ![1024, 6, 2048]⟩
abbrev S9216x6x2048 : Shape := ⟨3, ![9216, 6, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x1x2048 : Shape := ⟨3, ![9216, 1, 2048]⟩
abbrev S9216x5632 : Shape := ⟨2, ![9216, 5632]⟩

abbrev nBuf : Space → Nat
  | .hbm => 55
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S4x6x2048, .f32⟩
  | .hbm, ⟨7, _⟩ => ⟨S4x2048x6x2048, .f32⟩
  | .hbm, ⟨8, _⟩ => ⟨S8192x6x2048, .f32⟩
  | .hbm, ⟨9, _⟩ => ⟨S1x6x2048, .f32⟩
  | .hbm, ⟨10, _⟩ => ⟨S1x1024x6x2048, .f32⟩
  | .hbm, ⟨11, _⟩ => ⟨S1024x6x2048, .f32⟩
  | .hbm, ⟨12, _⟩ => ⟨S9216x6x2048, .f32⟩
  | .hbm, ⟨13, _⟩ => ⟨S9216x2048, .f32⟩
  | .hbm, ⟨14, _⟩ => ⟨S_, .f32⟩
  | .hbm, ⟨15, _⟩ => ⟨S9216, .f32⟩
  | .hbm, ⟨16, _⟩ => ⟨S9216x1, .f32⟩
  | .hbm, ⟨17, _⟩ => ⟨S_, .f32⟩
  | .hbm, ⟨18, _⟩ => ⟨S9216x1, .f32⟩
  | .hbm, ⟨19, _⟩ => ⟨S9216x1, .f32⟩
  | .hbm, ⟨20, _⟩ => ⟨S_, .f32⟩
  | .hbm, ⟨21, _⟩ => ⟨S9216x1, .f32⟩
  | .hbm, ⟨22, _⟩ => ⟨S9216x1, .f32⟩
  | .hbm, ⟨23, _⟩ => ⟨S9216x1, .f32⟩
  | .hbm, ⟨24, _⟩ => ⟨S9216x2048, .f32⟩
  | .hbm, ⟨25, _⟩ => ⟨S9216x2048, .f32⟩
  | .hbm, ⟨26, _⟩ => ⟨S1x2048, .f32⟩
  | .hbm, ⟨27, _⟩ => ⟨S9216x2048, .f32⟩
  | .hbm, ⟨28, _⟩ => ⟨S9216x2048, .f32⟩
  | .hbm, ⟨29, _⟩ => ⟨S9216x1x2048, .f32⟩
  | .hbm, ⟨30, _⟩ => ⟨S9216x2048, .f32⟩
  | .hbm, ⟨31, _⟩ => ⟨S9216x1x2048, .f32⟩
  | .hbm, ⟨32, _⟩ => ⟨S9216x2048, .f32⟩
  | .hbm, ⟨33, _⟩ => ⟨S_, .f32⟩
  | .hbm, ⟨34, _⟩ => ⟨S9216x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x1x2048, .f32⟩
  | .hbm, ⟨39, _⟩ => ⟨S9216x2048, .f32⟩
  | .hbm, ⟨40, _⟩ => ⟨S9216x5632, .f32⟩
  | .hbm, ⟨41, _⟩ => ⟨S9216x5632, .f32⟩
  | .hbm, ⟨42, _⟩ => ⟨S9216x5632, .f32⟩
  | .hbm, ⟨43, _⟩ => ⟨S_, .f32⟩
  | .hbm, ⟨44, _⟩ => ⟨S9216x5632, .f32⟩
  | .hbm, ⟨45, _⟩ => ⟨S9216x5632, .f32⟩
  | .hbm, ⟨46, _⟩ => ⟨S_, .f32⟩
  | .hbm, ⟨47, _⟩ => ⟨S9216x5632, .f32⟩
  | .hbm, ⟨48, _⟩ => ⟨S9216x5632, .f32⟩
  | .hbm, ⟨49, _⟩ => ⟨S9216x5632, .f32⟩
  | .hbm, ⟨50, _⟩ => ⟨S9216x5632, .f32⟩
  | .hbm, ⟨51, _⟩ => ⟨S9216x5632, .f32⟩
  | .hbm, ⟨52, _⟩ => ⟨S9216x2048, .f32⟩
  | .hbm, ⟨53, _⟩ => ⟨S9216x2048, .f32⟩
  | .hbm, ⟨54, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== InProj.lean ====
abbrev S9216x2048 : Shape := ⟨2, ![9216, 2048]⟩
abbrev S2048 : Shape := ⟨1, ![2048]⟩
abbrev S8x6x2048 : Shape := ⟨3, ![8, 6, 2048]⟩
abbrev S2048x15360 : Shape := ⟨2, ![2048, 15360]⟩
abbrev S2048x6144 : Shape := ⟨2, ![2048, 6144]⟩
abbrev S2048x1024 : Shape := ⟨2, ![2048, 1024]⟩
abbrev S2048x13312 : Shape := ⟨2, ![2048, 13312]⟩
abbrev S1x2048 : Shape := ⟨2, ![1, 2048]⟩
abbrev S9216x13312 : Shape := ⟨2, ![9216, 13312]⟩
abbrev S1024x2048 : Shape := ⟨2, ![1024, 2048]⟩
abbrev S1x6x2048 : Shape := ⟨3, ![1, 6, 2048]⟩
abbrev S1024x1024 : Shape := ⟨2, ![1024, 1024]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x15360, .f32⟩
  | .hbm, ⟨4, _⟩ => ⟨S2048x6144, .f32⟩
  | .hbm, ⟨5, _⟩ => ⟨S2048x6144, .f32⟩
  | .hbm, ⟨6, _⟩ => ⟨S2048x1024, .f32⟩
  | .hbm, ⟨7, _⟩ => ⟨S2048x13312, .f32⟩
  | .hbm, ⟨8, _⟩ => ⟨S2048x13312, .bf16⟩
  | .hbm, ⟨9, _⟩ => ⟨S1x2048, .f32⟩
  | .hbm, ⟨10, _⟩ => ⟨S9216x13312, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S9216x2048 : Shape := ⟨2, ![9216, 2048]⟩
abbrev S2048 : Shape := ⟨1, ![2048]⟩
abbrev S8x6x2048 : Shape := ⟨3, ![8, 6, 2048]⟩
abbrev S2048x15360 : Shape := ⟨2, ![2048, 15360]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S1x6x2048 : Shape := ⟨3, ![1, 6, 2048]⟩
abbrev S1x1024x6x2048 : Shape := ⟨4, ![1, 1024, 6, 2048]⟩
abbrev S1024x6x2048 : Shape := ⟨3, ![1024, 6, 2048]⟩
abbrev S9216x6x2048 : Shape := ⟨3, ![9216, 6, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x1x2048 : Shape := ⟨3, ![9216, 1, 2048]⟩
abbrev S9216x15360 : Shape := ⟨2, ![9216, 15360]⟩
abbrev S9216x6144 : Shape := ⟨2, ![9216, 6144]⟩
abbrev S9216x1024 : Shape := ⟨2, ![9216, 1024]⟩
abbrev S9216x13312 : Shape := ⟨2, ![9216, 13312]⟩

abbrev nBuf : Space → Nat
  | .hbm => 42
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x15360, .f32⟩
  | .hbm, ⟨4, _⟩ => ⟨S4x6x2048, .f32⟩
  | .hbm, ⟨5, _⟩ => ⟨S4x2048x6x2048, .f32⟩
  | .hbm, ⟨6, _⟩ => ⟨S8192x6x2048, .f32⟩
  | .hbm, ⟨7, _⟩ => ⟨S1x6x2048, .f32⟩
  | .hbm, ⟨8, _⟩ => ⟨S1x1024x6x2048, .f32⟩
  | .hbm, ⟨9, _⟩ => ⟨S1024x6x2048, .f32⟩
  | .hbm, ⟨10, _⟩ => ⟨S9216x6x2048, .f32⟩
  | .hbm, ⟨11, _⟩ => ⟨S9216x2048, .f32⟩
  | .hbm, ⟨12, _⟩ => ⟨S_, .f32⟩
  | .hbm, ⟨13, _⟩ => ⟨S9216, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S_, .f32⟩
  | .hbm, ⟨19, _⟩ => ⟨S9216x1, .f32⟩
  | .hbm, ⟨20, _⟩ => ⟨S9216x1, .f32⟩
  | .hbm, ⟨21, _⟩ => ⟨S9216x1, .f32⟩
  | .hbm, ⟨22, _⟩ => ⟨S9216x2048, .f32⟩
  | .hbm, ⟨23, _⟩ => ⟨S9216x2048, .f32⟩
  | .hbm, ⟨24, _⟩ => ⟨S1x2048, .f32⟩
  | .hbm, ⟨25, _⟩ => ⟨S9216x2048, .f32⟩
  | .hbm, ⟨26, _⟩ => ⟨S9216x2048, .f32⟩
  | .hbm, ⟨27, _⟩ => ⟨S9216x1x2048, .f32⟩
  | .hbm, ⟨28, _⟩ => ⟨S9216x2048, .f32⟩
  | .hbm, ⟨29, _⟩ => ⟨S9216x1x2048, .f32⟩
  | .hbm, ⟨30, _⟩ => ⟨S9216x2048, .f32⟩
  | .hbm, ⟨31, _⟩ => ⟨S_, .f32⟩
  | .hbm, ⟨32, _⟩ => ⟨S9216x2048, .f32⟩
  | .hbm, ⟨33, _⟩ => ⟨S9216x2048, .f32⟩
  | .hbm, ⟨34, _⟩ => ⟨S9216x2048, .f32⟩
  | .hbm, ⟨35, _⟩ => ⟨S9216x2048, .f32⟩
  | .hbm, ⟨36, _⟩ => ⟨S9216x15360, .f32⟩
  | .hbm, ⟨37, _⟩ => ⟨S9216x6144, .f32⟩
  | .hbm, ⟨38, _⟩ => ⟨S9216x6144, .f32⟩
  | .hbm, ⟨39, _⟩ => ⟨S9216x1024, .f32⟩
  | .hbm, ⟨40, _⟩ => ⟨S9216x13312, .f32⟩
  | .hbm, ⟨41, _⟩ => ⟨S9216x13312, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Forget.lean ====
abbrev S9216x2048 : Shape := ⟨2, ![9216, 2048]⟩
abbrev S2048 : Shape := ⟨1, ![2048]⟩
abbrev S8x6x2048 : Shape := ⟨3, ![8, 6, 2048]⟩
abbrev S2048x15360 : Shape := ⟨2, ![2048, 15360]⟩
abbrev S2048x2048 : Shape := ⟨2, ![2048, 2048]⟩
abbrev S1x2048 : Shape := ⟨2, ![1, 2048]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x15360, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForgetRefIdeal.lean ====
abbrev S9216x2048 : Shape := ⟨2, ![9216, 2048]⟩
abbrev S2048 : Shape := ⟨1, ![2048]⟩
abbrev S8x6x2048 : Shape := ⟨3, ![8, 6, 2048]⟩
abbrev S2048x15360 : Shape := ⟨2, ![2048, 15360]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S1x6x2048 : Shape := ⟨3, ![1, 6, 2048]⟩
abbrev S1x1024x6x2048 : Shape := ⟨4, ![1, 1024, 6, 2048]⟩
abbrev S1024x6x2048 : Shape := ⟨3, ![1024, 6, 2048]⟩
abbrev S9216x6x2048 : Shape := ⟨3, ![9216, 6, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x1x2048 : Shape := ⟨3, ![9216, 1, 2048]⟩
abbrev S9216x15360 : Shape := ⟨2, ![9216, 15360]⟩

abbrev nBuf : Space → Nat
  | .hbm => 38
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x6x2048, .f32⟩
  | .hbm, ⟨3, _⟩ => ⟨S2048x15360, .f32⟩
  | .hbm, ⟨4, _⟩ => ⟨S4x6x2048, .f32⟩
  | .hbm, ⟨5, _⟩ => ⟨S4x2048x6x2048, .f32⟩
  | .hbm, ⟨6, _⟩ => ⟨S8192x6x2048, .f32⟩
  | .hbm, ⟨7, _⟩ => ⟨S1x6x2048, .f32⟩
  | .hbm, ⟨8, _⟩ => ⟨S1x1024x6x2048, .f32⟩
  | .hbm, ⟨9, _⟩ => ⟨S1024x6x2048, .f32⟩
  | .hbm, ⟨10, _⟩ => ⟨S9216x6x2048, .f32⟩
  | .hbm, ⟨11, _⟩ => ⟨S9216x2048, .f32⟩
  | .hbm, ⟨12, _⟩ => ⟨S_, .f32⟩
  | .hbm, ⟨13, _⟩ => ⟨S9216, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S_, .f32⟩
  | .hbm, ⟨19, _⟩ => ⟨S9216x1, .f32⟩
  | .hbm, ⟨20, _⟩ => ⟨S9216x1, .f32⟩
  | .hbm, ⟨21, _⟩ => ⟨S9216x1, .f32⟩
  | .hbm, ⟨22, _⟩ => ⟨S9216x2048, .f32⟩
  | .hbm, ⟨23, _⟩ => ⟨S9216x2048, .f32⟩
  | .hbm, ⟨24, _⟩ => ⟨S1x2048, .f32⟩
  | .hbm, ⟨25, _⟩ => ⟨S9216x2048, .f32⟩
  | .hbm, ⟨26, _⟩ => ⟨S9216x2048, .f32⟩
  | .hbm, ⟨27, _⟩ => ⟨S9216x1x2048, .f32⟩
  | .hbm, ⟨28, _⟩ => ⟨S9216x2048, .f32⟩
  | .hbm, ⟨29, _⟩ => ⟨S9216x1x2048, .f32⟩
  | .hbm, ⟨30, _⟩ => ⟨S9216x2048, .f32⟩
  | .hbm, ⟨31, _⟩ => ⟨S_, .f32⟩
  | .hbm, ⟨32, _⟩ => ⟨S9216x2048, .f32⟩
  | .hbm, ⟨33, _⟩ => ⟨S9216x2048, .f32⟩
  | .hbm, ⟨34, _⟩ => ⟨S9216x2048, .f32⟩
  | .hbm, ⟨35, _⟩ => ⟨S9216x2048, .f32⟩
  | .hbm, ⟨36, _⟩ => ⟨S9216x15360, .f32⟩
  | .hbm, ⟨37, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Merge.lean ====
abbrev S9216x1024 : Shape := ⟨2, ![9216, 1024]⟩
abbrev S9216x13312 : Shape := ⟨2, ![9216, 13312]⟩
abbrev S9216x2048 : Shape := ⟨2, ![9216, 2048]⟩
abbrev S128 : Shape := ⟨1, ![128]⟩
abbrev S8x6x2048 : Shape := ⟨3, ![8, 6, 2048]⟩
abbrev S1024x2048 : Shape := ⟨2, ![1024, 2048]⟩
abbrev S2048x2048 : Shape := ⟨2, ![2048, 2048]⟩
abbrev S1x128 : Shape := ⟨2, ![1, 128]⟩
abbrev S256x1024 : Shape := ⟨2, ![256, 1024]⟩
abbrev S256x6144 : Shape := ⟨2, ![256, 6144]⟩
abbrev S256x2048 : Shape := ⟨2, ![256, 2048]⟩
abbrev S1x6x2048 : Shape := ⟨3, ![1, 6, 2048]⟩
abbrev S256x128 : Shape := ⟨2, ![256, 128]⟩
abbrev S256 : Shape := ⟨1, ![256]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 18
  | .vmem => 23
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .f32⟩
  | .hbm, ⟨3, _⟩ => ⟨S9216x1024, .f32⟩
  | .hbm, ⟨4, _⟩ => ⟨S9216x13312, .bf16⟩
  | .hbm, ⟨5, _⟩ => ⟨S9216x2048, .f32⟩
  | .hbm, ⟨6, _⟩ => ⟨S128, .f32⟩
  | .hbm, ⟨7, _⟩ => ⟨S8x6x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S2048x2048, .f32⟩
  | .hbm, ⟨12, _⟩ => ⟨S1024x2048, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S1x128, .f32⟩
  | .hbm, ⟨17, _⟩ => ⟨S9216x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x6144, .bf16⟩
  | .local _ .vmem, ⟨11, _⟩ => ⟨S256x6144, .bf16⟩
  | .local _ .vmem, ⟨12, _⟩ => ⟨S256x2048, .f32⟩
  | .local _ .vmem, ⟨13, _⟩ => ⟨S256x2048, .f32⟩
  | .local _ .vmem, ⟨14, _⟩ => ⟨S1x128, .f32⟩
  | .local _ .vmem, ⟨15, _⟩ => ⟨S1x6x2048, .f32⟩
  | .local _ .vmem, ⟨16, _⟩ => ⟨S1x6x2048, .f32⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S2048x2048, .bf16⟩
  | .local _ .vmem, ⟨21, _⟩ => ⟨S256x2048, .f32⟩
  | .local _ .vmem, ⟨22, _⟩ => ⟨S256x2048, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x6x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S9216x1024 : Shape := ⟨2, ![9216, 1024]⟩
abbrev S9216x13312 : Shape := ⟨2, ![9216, 13312]⟩
abbrev S9216x2048 : Shape := ⟨2, ![9216, 2048]⟩
abbrev S128 : Shape := ⟨1, ![128]⟩
abbrev S8x6x2048 : Shape := ⟨3, ![8, 6, 2048]⟩
abbrev S1024x2048 : Shape := ⟨2, ![1024, 2048]⟩
abbrev S2048x2048 : Shape := ⟨2, ![2048, 2048]⟩
abbrev S9216x8x128 : Shape := ⟨3, ![9216, 8, 128]⟩
abbrev S_ : Shape := ⟨0, ![]⟩
abbrev S9216x8 : Shape := ⟨2, ![9216, 8]⟩
abbrev S9216x8x1 : Shape := ⟨3, ![9216, 8, 1]⟩
abbrev S1x1x128 : Shape := ⟨3, ![1, 1, 128]⟩
abbrev S9216x6144 : Shape := ⟨2, ![9216, 6144]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S1x6x2048 : Shape := ⟨3, ![1, 6, 2048]⟩
abbrev S1x1024x6x2048 : Shape := ⟨4, ![1, 1024, 6, 2048]⟩
abbrev S1024x6x2048 : Shape := ⟨3, ![1024, 6, 2048]⟩
abbrev S9216x6x2048 : Shape := ⟨3, ![9216, 6, 2048]⟩
abbrev S9216x1x2048 : Shape := ⟨3, ![9216, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .f32⟩
  | .hbm, ⟨3, _⟩ => ⟨S9216x1024, .f32⟩
  | .hbm, ⟨4, _⟩ => ⟨S9216x13312, .bf16⟩
  | .hbm, ⟨5, _⟩ => ⟨S9216x2048, .f32⟩
  | .hbm, ⟨6, _⟩ => ⟨S128, .f32⟩
  | .hbm, ⟨7, _⟩ => ⟨S8x6x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S2048x2048, .f32⟩
  | .hbm, ⟨12, _⟩ => ⟨S9216x1024, .bf16⟩
  | .hbm, ⟨13, _⟩ => ⟨S9216x1024, .f32⟩
  | .hbm, ⟨14, _⟩ => ⟨S9216x1024, .f32⟩
  | .hbm, ⟨15, _⟩ => ⟨S9216x8x128, .f32⟩
  | .hbm, ⟨16, _⟩ => ⟨S9216x8x128, .f32⟩
  | .hbm, ⟨17, _⟩ => ⟨S_, .f32⟩
  | .hbm, ⟨18, _⟩ => ⟨S9216x8, .f32⟩
  | .hbm, ⟨19, _⟩ => ⟨S9216x8x1, .f32⟩
  | .hbm, ⟨20, _⟩ => ⟨S_, .f32⟩
  | .hbm, ⟨21, _⟩ => ⟨S9216x8x1, .f32⟩
  | .hbm, ⟨22, _⟩ => ⟨S9216x8x1, .f32⟩
  | .hbm, ⟨23, _⟩ => ⟨S_, .f32⟩
  | .hbm, ⟨24, _⟩ => ⟨S9216x8x1, .f32⟩
  | .hbm, ⟨25, _⟩ => ⟨S9216x8x1, .f32⟩
  | .hbm, ⟨26, _⟩ => ⟨S9216x8x1, .f32⟩
  | .hbm, ⟨27, _⟩ => ⟨S9216x8x128, .f32⟩
  | .hbm, ⟨28, _⟩ => ⟨S9216x8x128, .f32⟩
  | .hbm, ⟨29, _⟩ => ⟨S1x1x128, .f32⟩
  | .hbm, ⟨30, _⟩ => ⟨S9216x8x128, .f32⟩
  | .hbm, ⟨31, _⟩ => ⟨S9216x8x128, .f32⟩
  | .hbm, ⟨32, _⟩ => ⟨S9216x1024, .f32⟩
  | .hbm, ⟨33, _⟩ => ⟨S9216x1024, .f32⟩
  | .hbm, ⟨34, _⟩ => ⟨S9216x1024, .f32⟩
  | .hbm, ⟨35, _⟩ => ⟨S_, .f32⟩
  | .hbm, ⟨36, _⟩ => ⟨S9216x1024, .f32⟩
  | .hbm, ⟨37, _⟩ => ⟨S9216x1024, .f32⟩
  | .hbm, ⟨38, _⟩ => ⟨S_, .f32⟩
  | .hbm, ⟨39, _⟩ => ⟨S9216x1024, .f32⟩
  | .hbm, ⟨40, _⟩ => ⟨S9216x1024, .f32⟩
  | .hbm, ⟨41, _⟩ => ⟨S9216x1024, .f32⟩
  | .hbm, ⟨42, _⟩ => ⟨S9216x1024, .f32⟩
  | .hbm, ⟨43, _⟩ => ⟨S9216x6144, .bf16⟩
  | .hbm, ⟨44, _⟩ => ⟨S9216x6144, .f32⟩
  | .hbm, ⟨45, _⟩ => ⟨S9216x6144, .f32⟩
  | .hbm, ⟨46, _⟩ => ⟨S9216x6144, .f32⟩
  | .hbm, ⟨47, _⟩ => ⟨S_, .f32⟩
  | .hbm, ⟨48, _⟩ => ⟨S9216x6144, .f32⟩
  | .hbm, ⟨49, _⟩ => ⟨S9216x6144, .f32⟩
  | .hbm, ⟨50, _⟩ => ⟨S_, .f32⟩
  | .hbm, ⟨51, _⟩ => ⟨S9216x6144, .f32⟩
  | .hbm, ⟨52, _⟩ => ⟨S9216x6144, .f32⟩
  | .hbm, ⟨53, _⟩ => ⟨S9216x2048, .f32⟩
  | .hbm, ⟨54, _⟩ => ⟨S9216x2048, .f32⟩
  | .hbm, ⟨55, _⟩ => ⟨S9216x2048, .f32⟩
  | .hbm, ⟨56, _⟩ => ⟨S9216x1024, .f32⟩
  | .hbm, ⟨57, _⟩ => ⟨S9216x2048, .f32⟩
  | .hbm, ⟨58, _⟩ => ⟨S9216x2048, .f32⟩
  | .hbm, ⟨59, _⟩ => ⟨S9216x1024, .f32⟩
  | .hbm, ⟨60, _⟩ => ⟨S9216x2048, .f32⟩
  | .hbm, ⟨61, _⟩ => ⟨S9216x2048, .f32⟩
  | .hbm, ⟨62, _⟩ => ⟨S9216x2048, .f32⟩
  | .hbm, ⟨63, _⟩ => ⟨S9216x2048, .f32⟩
  | .hbm, ⟨64, _⟩ => ⟨S9216x2048, .f32⟩
  | .hbm, ⟨65, _⟩ => ⟨S9216x2048, .f32⟩
  | .hbm, ⟨66, _⟩ => ⟨S4x6x2048, .f32⟩
  | .hbm, ⟨67, _⟩ => ⟨S4x2048x6x2048, .f32⟩
  | .hbm, ⟨68, _⟩ => ⟨S8192x6x2048, .f32⟩
  | .hbm, ⟨69, _⟩ => ⟨S1x6x2048, .f32⟩
  | .hbm, ⟨70, _⟩ => ⟨S1x1024x6x2048, .f32⟩
  | .hbm, ⟨71, _⟩ => ⟨S1024x6x2048, .f32⟩
  | .hbm, ⟨72, _⟩ => ⟨S9216x6x2048, .f32⟩
  | .hbm, ⟨73, _⟩ => ⟨S9216x1x2048, .f32⟩
  | .hbm, ⟨74, _⟩ => ⟨S9216x2048, .f32⟩
  | .hbm, ⟨75, _⟩ => ⟨S9216x2048, .f32⟩
  | .hbm, ⟨76, _⟩ => ⟨S9216x2048, .f32⟩
  | .hbm, ⟨77, _⟩ => ⟨S9216x2048, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Modulation.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1 : Shape := ⟨1, ![1]⟩
abbrev S4x1x12288 : Shape := ⟨3, ![4, 1, 12288]⟩
abbrev S4x8x12288 : Shape := ⟨3, ![4, 8, 12288]⟩
abbrev S1x2048x2048 : Shape := ⟨3, ![1, 2048, 2048]⟩
abbrev S1x1x2048 : Shape := ⟨3, ![1, 1, 2048]⟩
abbrev S1x8x2048 : Shape := ⟨3, ![1, 8, 2048]⟩
abbrev S2048x2048 : Shape := ⟨2, ![2048, 2048]⟩
abbrev S1x2048 : Shape := ⟨2, ![1, 2048]⟩

abbrev nBuf : Space → Nat
  | .hbm => 14
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S4x1x12288, .f32⟩
  | .hbm, ⟨13, _⟩ => ⟨S4x8x12288, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S3x2048 : Shape := ⟨2, ![3, 2048]⟩
abbrev S1x2048 : Shape := ⟨2, ![1, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S3x2048, .f32⟩
  | .hbm, ⟨6, _⟩ => ⟨S1x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Fnet.lean ====
abbrev S9216x13312 : Shape := ⟨2, ![9216, 13312]⟩
abbrev S2048x2048 : Shape := ⟨2, ![2048, 2048]⟩
abbrev S_ : Shape := ⟨0, ![]⟩
abbrev S128x128 : Shape := ⟨2, ![128, 128]⟩
abbrev S8192x1024 : Shape := ⟨2, ![8192, 1024]⟩
abbrev S2048x256 : Shape := ⟨2, ![2048, 256]⟩
abbrev S2048x128 : Shape := ⟨2, ![2048, 128]⟩

abbrev nBuf : Space → Nat
  | .hbm => 74
  | .vmem => 8
  | .smem => 0
  | _ => 0

abbrev bufTy : (tb : Table) → Fin (tcTables nBuf tb) → BufTy
  | .hbm, ⟨0, _⟩ => ⟨S9216x13312, .bf16⟩
  | .hbm, ⟨1, _⟩ => ⟨S2048x2048, .i32⟩
  | .hbm, ⟨2, _⟩ => ⟨S2048x2048, .i32⟩
  | .hbm, ⟨3, _⟩ => ⟨S2048x2048, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i1⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S2048x2048, .i1⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S_, .i32⟩
  | .hbm, ⟨45, _⟩ => ⟨S128x128, .i32⟩
  | .hbm, ⟨46, _⟩ => ⟨S128x128, .i1⟩
  | .hbm, ⟨47, _⟩ => ⟨S_, .i32⟩
  | .hbm, ⟨48, _⟩ => ⟨S_, .i1⟩
  | .hbm, ⟨49, _⟩ => ⟨S128x128, .i1⟩
  | .hbm, ⟨50, _⟩ => ⟨S128x128, .i1⟩
  | .hbm, ⟨51, _⟩ => ⟨S128x128, .i1⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S2048x2048, .bf16⟩
  | .hbm, ⟨64, _⟩ => ⟨S2048x2048, .f32⟩
  | .hbm, ⟨65, _⟩ => ⟨S_, .f32⟩
  | .hbm, ⟨66, _⟩ => ⟨S2048x2048, .f32⟩
  | .hbm, ⟨67, _⟩ => ⟨S2048x2048, .f32⟩
  | .hbm, ⟨68, _⟩ => ⟨S2048x2048, .bf16⟩
  | .hbm, ⟨69, _⟩ => ⟨S128x128, .f32⟩
  | .hbm, ⟨70, _⟩ => ⟨S128x128, .bf16⟩
  | .hbm, ⟨71, _⟩ => ⟨S128x128, .f32⟩
  | .hbm, ⟨72, _⟩ => ⟨S128x128, .bf16⟩
  | .hbm, ⟨73, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S128x128, .bf16⟩
  | .local _ .vmem, ⟨5, _⟩ => ⟨S128x128, .bf16⟩
  | .local _ .vmem, ⟨6, _⟩ => ⟨S2048x256, .bf16⟩
  | .local _ .vmem, ⟨7, _⟩ => ⟨S2048x256, .bf16⟩
  | _, _ => ⟨S9216x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_2 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst_3 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c36_i32 : BitVec 32 := 36#32
  let v1 : BitVec 32 := Scalar.addi c36_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FnetRefIdeal.lean ====
abbrev S9216x13312 : Shape := ⟨2, ![9216, 13312]⟩
abbrev S8192x1024 : Shape := ⟨2, ![8192, 1024]⟩
abbrev S4x2048x8x128 : Shape := ⟨4, ![4, 2048, 8, 128]⟩
abbrev S2048 : Shape := ⟨1, ![2048]⟩
abbrev S128 : Shape := ⟨1, ![128]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S4x8x128x2048 : Shape := ⟨4, ![4, 8, 128, 2048]⟩

abbrev nBuf : Space → Nat
  | .hbm => 84
  | .vmem => 0
  | .smem => 0
  | _ => 0

abbrev bufTy : (tb : Table) → Fin (tcTables nBuf tb) → BufTy
  | .hbm, ⟨0, _⟩ => ⟨S9216x13312, .bf16⟩
  | .hbm, ⟨1, _⟩ => ⟨S8192x1024, .bf16⟩
  | .hbm, ⟨2, _⟩ => ⟨S8192x1024, .f32⟩
  | .hbm, ⟨3, _⟩ => ⟨S4x2048x8x128, .f32⟩
  | .hbm, ⟨4, _⟩ => ⟨S2048, .i32⟩
  | .hbm, ⟨5, _⟩ => ⟨S128, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S128x1, .i32⟩
  | .hbm, ⟨38, _⟩ => ⟨S1x128, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i1⟩
  | .hbm, ⟨53, _⟩ => ⟨S_, .i32⟩
  | .hbm, ⟨54, _⟩ => ⟨S128x128, .i32⟩
  | .hbm, ⟨55, _⟩ => ⟨S128x128, .i1⟩
  | .hbm, ⟨56, _⟩ => ⟨S_, .i32⟩
  | .hbm, ⟨57, _⟩ => ⟨S_, .i1⟩
  | .hbm, ⟨58, _⟩ => ⟨S128x128, .i1⟩
  | .hbm, ⟨59, _⟩ => ⟨S128x128, .i1⟩
  | .hbm, ⟨60, _⟩ => ⟨S128x128, .i1⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .f32⟩
  | .hbm, ⟨65, _⟩ => ⟨S_, .f32⟩
  | .hbm, ⟨66, _⟩ => ⟨S128x128, .f32⟩
  | .hbm, ⟨67, _⟩ => ⟨S128x128, .f32⟩
  | .hbm, ⟨68, _⟩ => ⟨S2048x2048, .f32⟩
  | .hbm, ⟨69, _⟩ => ⟨S128x128, .f32⟩
  | .hbm, ⟨70, _⟩ => ⟨S4x2048x8x128, .f32⟩
  | .hbm, ⟨71, _⟩ => ⟨S4x8x128x2048, .f32⟩
  | .hbm, ⟨72, _⟩ => ⟨S4x2048x8x128, .f32⟩
  | .hbm, ⟨73, _⟩ => ⟨S2048x2048, .f32⟩
  | .hbm, ⟨74, _⟩ => ⟨S128x128, .f32⟩
  | .hbm, ⟨75, _⟩ => ⟨S4x2048x8x128, .f32⟩
  | .hbm, ⟨76, _⟩ => ⟨S4x8x128x2048, .f32⟩
  | .hbm, ⟨77, _⟩ => ⟨S4x2048x8x128, .f32⟩
  | .hbm, ⟨78, _⟩ => ⟨S4x2048x8x128, .f32⟩
  | .hbm, ⟨79, _⟩ => ⟨S_, .f32⟩
  | .hbm, ⟨80, _⟩ => ⟨S4x2048x8x128, .f32⟩
  | .hbm, ⟨81, _⟩ => ⟨S4x2048x8x128, .f32⟩
  | .hbm, ⟨82, _⟩ => ⟨S8192x1024, .f32⟩
  | .hbm, ⟨83, _⟩ => ⟨S8192x1024, .bf16⟩
  | _, _ => ⟨S9216x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v19 : Ref sig .tc := ⟨.hbm, 63, rfl⟩
abbrev main_v20 : Ref sig .tc := ⟨.hbm, 64, rfl⟩
abbrev main_cst_1 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_2 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩

abbrev nD : Nat := 1
abbrev τ : Topo := Topo.v7x

variable {F : FTy → Type} [FloatOps F]
-- ==== FnetCtx.lean ====
abbrev S9216x13312 : Shape := ⟨2, ![9216, 13312]⟩
abbrev S9216x1024 : Shape := ⟨2, ![9216, 1024]⟩
abbrev S256x256 : Shape := ⟨2, ![256, 256]⟩
abbrev S_ : Shape := ⟨0, ![]⟩
abbrev S128x128 : Shape := ⟨2, ![128, 128]⟩
abbrev S256x128 : Shape := ⟨2, ![256, 128]⟩

abbrev nBuf : Space → Nat
  | .hbm => 75
  | .vmem => 8
  | .smem => 0
  | _ => 0

abbrev bufTy : (tb : Table) → Fin (tcTables nBuf tb) → BufTy
  | .hbm, ⟨0, _⟩ => ⟨S9216x13312, .bf16⟩
  | .hbm, ⟨1, _⟩ => ⟨S9216x1024, .bf16⟩
  | .hbm, ⟨2, _⟩ => ⟨S256x256, .i32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i1⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S_, .i1⟩
  | .hbm, ⟨21, _⟩ => ⟨S256x256, .i1⟩
  | .hbm, ⟨22, _⟩ => ⟨S256x256, .i1⟩
  | .hbm, ⟨23, _⟩ => ⟨S256x256, .i1⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i1⟩
  | .hbm, ⟨45, _⟩ => ⟨S_, .i32⟩
  | .hbm, ⟨46, _⟩ => ⟨S128x128, .i32⟩
  | .hbm, ⟨47, _⟩ => ⟨S128x128, .i1⟩
  | .hbm, ⟨48, _⟩ => ⟨S_, .i32⟩
  | .hbm, ⟨49, _⟩ => ⟨S_, .i1⟩
  | .hbm, ⟨50, _⟩ => ⟨S128x128, .i1⟩
  | .hbm, ⟨51, _⟩ => ⟨S128x128, .i1⟩
  | .hbm, ⟨52, _⟩ => ⟨S128x128, .i1⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .f32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .bf16⟩
  | .hbm, ⟨65, _⟩ => ⟨S256x256, .f32⟩
  | .hbm, ⟨66, _⟩ => ⟨S_, .f32⟩
  | .hbm, ⟨67, _⟩ => ⟨S256x256, .f32⟩
  | .hbm, ⟨68, _⟩ => ⟨S256x256, .f32⟩
  | .hbm, ⟨69, _⟩ => ⟨S256x256, .bf16⟩
  | .hbm, ⟨70, _⟩ => ⟨S128x128, .f32⟩
  | .hbm, ⟨71, _⟩ => ⟨S128x128, .bf16⟩
  | .hbm, ⟨72, _⟩ => ⟨S128x128, .f32⟩
  | .hbm, ⟨73, _⟩ => ⟨S128x128, .bf16⟩
  | .hbm, ⟨74, _⟩ => ⟨S9216x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S128x128, .bf16⟩
  | .local _ .vmem, ⟨5, _⟩ => ⟨S128x128, .bf16⟩
  | .local _ .vmem, ⟨6, _⟩ => ⟨S256x256, .bf16⟩
  | .local _ .vmem, ⟨7, _⟩ => ⟨S256x256, .bf16⟩
  | _, _ => ⟨S9216x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v10 : Ref sig .tc := ⟨.hbm, 55, rfl⟩
abbrev main_v11 : Ref sig .tc := ⟨.hbm, 56, rfl⟩
abbrev main_cst_1 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst_2 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_3 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c36_i32 : BitVec 32 := 36#32
  let v1 : BitVec 32 := Scalar.addi c36_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FnetCtxRefIdeal.lean ====
abbrev S9216x13312 : Shape := ⟨2, ![9216, 13312]⟩
abbrev S9216x1024 : Shape := ⟨2, ![9216, 1024]⟩
abbrev S1024x1024 : Shape := ⟨2, ![1024, 1024]⟩
abbrev S4x256x8x128 : Shape := ⟨4, ![4, 256, 8, 128]⟩
abbrev S256 : Shape := ⟨1, ![256]⟩
abbrev S128 : Shape := ⟨1, ![128]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S4x8x128x256 : Shape := ⟨4, ![4, 8, 128, 256]⟩
abbrev S8192x1024 : Shape := ⟨2, ![8192, 1024]⟩

abbrev nBuf : Space → Nat
  | .hbm => 87
  | .vmem => 0
  | .smem => 0
  | _ => 0

abbrev bufTy : (tb : Table) → Fin (tcTables nBuf tb) → BufTy
  | .hbm, ⟨0, _⟩ => ⟨S9216x13312, .bf16⟩
  | .hbm, ⟨1, _⟩ => ⟨S9216x1024, .bf16⟩
  | .hbm, ⟨2, _⟩ => ⟨S1024x1024, .bf16⟩
  | .hbm, ⟨3, _⟩ => ⟨S1024x1024, .f32⟩
  | .hbm, ⟨4, _⟩ => ⟨S4x256x8x128, .f32⟩
  | .hbm, ⟨5, _⟩ => ⟨S256, .i32⟩
  | .hbm, ⟨6, _⟩ => ⟨S128, .i32⟩
  | .hbm, ⟨7, _⟩ => ⟨S256x1, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S_, .i1⟩
  | .hbm, ⟨28, _⟩ => ⟨S256x256, .i1⟩
  | .hbm, ⟨29, _⟩ => ⟨S256x256, .i1⟩
  | .hbm, ⟨30, _⟩ => ⟨S256x256, .i1⟩
  | .hbm, ⟨31, _⟩ => ⟨S256x256, .i32⟩
  | .hbm, ⟨32, _⟩ => ⟨S256x256, .i32⟩
  | .hbm, ⟨33, _⟩ => ⟨S256x256, .i32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S128x1, .i32⟩
  | .hbm, ⟨39, _⟩ => ⟨S1x128, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i1⟩
  | .hbm, ⟨54, _⟩ => ⟨S_, .i32⟩
  | .hbm, ⟨55, _⟩ => ⟨S128x128, .i32⟩
  | .hbm, ⟨56, _⟩ => ⟨S128x128, .i1⟩
  | .hbm, ⟨57, _⟩ => ⟨S_, .i32⟩
  | .hbm, ⟨58, _⟩ => ⟨S_, .i1⟩
  | .hbm, ⟨59, _⟩ => ⟨S128x128, .i1⟩
  | .hbm, ⟨60, _⟩ => ⟨S128x128, .i1⟩
  | .hbm, ⟨61, _⟩ => ⟨S128x128, .i1⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .f32⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S256x256, .f32⟩
  | .hbm, ⟨70, _⟩ => ⟨S128x128, .f32⟩
  | .hbm, ⟨71, _⟩ => ⟨S4x256x8x128, .f32⟩
  | .hbm, ⟨72, _⟩ => ⟨S4x8x128x256, .f32⟩
  | .hbm, ⟨73, _⟩ => ⟨S4x256x8x128, .f32⟩
  | .hbm, ⟨74, _⟩ => ⟨S256x256, .f32⟩
  | .hbm, ⟨75, _⟩ => ⟨S128x128, .f32⟩
  | .hbm, ⟨76, _⟩ => ⟨S4x256x8x128, .f32⟩
  | .hbm, ⟨77, _⟩ => ⟨S4x8x128x256, .f32⟩
  | .hbm, ⟨78, _⟩ => ⟨S4x256x8x128, .f32⟩
  | .hbm, ⟨79, _⟩ => ⟨S4x256x8x128, .f32⟩
  | .hbm, ⟨80, _⟩ => ⟨S_, .f32⟩
  | .hbm, ⟨81, _⟩ => ⟨S4x256x8x128, .f32⟩
  | .hbm, ⟨82, _⟩ => ⟨S4x256x8x128, .f32⟩
  | .hbm, ⟨83, _⟩ => ⟨S1024x1024, .f32⟩
  | .hbm, ⟨84, _⟩ => ⟨S1024x1024, .bf16⟩
  | .hbm, ⟨85, _⟩ => ⟨S8192x1024, .bf16⟩
  | .hbm, ⟨86, _⟩ => ⟨S9216x1024, .bf16⟩
  | _, _ => ⟨S9216x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v19 : Ref sig .tc := ⟨.hbm, 64, rfl⟩
abbrev main_v20 : Ref sig .tc := ⟨.hbm, 65, rfl⟩
abbrev main_cst_1 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩

abbrev nD : Nat := 1
abbrev τ : Topo := Topo.v7x

variable {F : FTy → Type} [FloatOps F]
-- ==== HyenaFirst.lean ====
abbrev S9216x13312 : Shape := ⟨2, ![9216, 13312]⟩
abbrev S3x3072 : Shape := ⟨2, ![3, 3072]⟩
abbrev S3072 : Shape := ⟨1, ![3072]⟩
abbrev S4x2x256x2048 : Shape := ⟨4, ![4, 2, 256, 2048]⟩
abbrev S2x1024 : Shape := ⟨2, ![2, 1024]⟩
abbrev S9216x1024 : Shape := ⟨2, ![9216, 1024]⟩
abbrev S256x256 : Shape := ⟨2, ![256, 256]⟩
abbrev S_ : Shape := ⟨0, ![]⟩
abbrev S1x3072 : Shape := ⟨2, ![1, 3072]⟩
abbrev S2x1x1024 : Shape := ⟨3, ![2, 1, 1024]⟩
abbrev S3x256 : Shape := ⟨2, ![3, 256]⟩
abbrev S1x256 : Shape := ⟨2, ![1, 256]⟩
abbrev S1x2x256x256 : Shape := ⟨4, ![1, 2, 256, 256]⟩
abbrev S1x1x256 : Shape := ⟨3, ![1, 1, 256]⟩
abbrev S1x1x256x256 : Shape := ⟨4, ![1, 1, 256, 256]⟩

abbrev nBuf : Space → Nat
  | .hbm => 133
  | .vmem => 23
  | .smem => 0
  | _ => 0

abbrev hbmTy0_0 (i : Nat) : BufTy := match i % 128 with
  | 0 => ⟨S9216x13312, .bf16⟩
  | 1 => ⟨S3x3072, .f32⟩
  | 2 => ⟨S3072, .f32⟩
  | 3 => ⟨S4x2x256x2048, .f32⟩
  | 4 => ⟨S2x1024, .f32⟩
  | 5 => ⟨S9216x1024, .bf16⟩
  | 6 => ⟨S256x256, .i32⟩
  | 7 => ⟨S256x256, .i32⟩
  | 8 => ⟨S256x256, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S_, .i32⟩
  | 21 => ⟨S256x256, .i32⟩
  | 22 => ⟨S256x256, .i1⟩
  | 23 => ⟨S_, .i32⟩
  | 24 => ⟨S_, .i1⟩
  | 25 => ⟨S256x256, .i1⟩
  | 26 => ⟨S256x256, .i1⟩
  | 27 => ⟨S256x256, .i1⟩
  | 28 => ⟨S256x256, .i32⟩
  | 29 => ⟨S256x256, .i32⟩
  | 30 => ⟨S256x256, .i32⟩
  | 31 => ⟨S256x256, .f32⟩
  | 32 => ⟨S_, .f32⟩
  | 33 => ⟨S256x256, .f32⟩
  | 34 => ⟨S256x256, .f32⟩
  | 35 => ⟨S256x256, .i32⟩
  | 36 => ⟨S256x256, .i32⟩
  | 37 => ⟨S256x256, .f32⟩
  | 38 => ⟨S256x256, .f32⟩
  | 39 => ⟨S_, .i32⟩
  | 40 => ⟨S256x256, .i32⟩
  | 41 => ⟨S256x256, .i1⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i1⟩
  | 53 => ⟨S_, .i32⟩
  | 54 => ⟨S256x256, .i32⟩
  | 55 => ⟨S256x256, .i1⟩
  | 56 => ⟨S_, .i32⟩
  | 57 => ⟨S_, .i1⟩
  | 58 => ⟨S256x256, .i1⟩
  | 59 => ⟨S256x256, .i1⟩
  | 60 => ⟨S256x256, .i1⟩
  | 61 => ⟨S256x256, .i32⟩
  | 62 => ⟨S256x256, .i32⟩
  | 63 => ⟨S256x256, .i32⟩
  | 64 => ⟨S_, .i32⟩
  | 65 => ⟨S256x256, .i32⟩
  | 66 => ⟨S256x256, .i1⟩
  | 67 => ⟨S_, .f32⟩
  | 68 => ⟨S_, .f32⟩
  | 69 => ⟨S256x256, .f32⟩
  | 70 => ⟨S256x256, .f32⟩
  | 71 => ⟨S256x256, .f32⟩
  | 72 => ⟨S256x256, .f32⟩
  | 73 => ⟨S256x256, .f32⟩
  | 74 => ⟨S_, .i32⟩
  | 75 => ⟨S256x256, .i32⟩
  | 76 => ⟨S256x256, .i1⟩
  | 77 => ⟨S_, .f32⟩
  | 78 => ⟨S256x256, .f32⟩
  | 79 => ⟨S256x256, .f32⟩
  | 80 => ⟨S_, .f32⟩
  | 81 => ⟨S_, .f32⟩
  | 82 => ⟨S256x256, .f32⟩
  | 83 => ⟨S256x256, .f32⟩
  | 84 => ⟨S_, .i32⟩
  | 85 => ⟨S256x256, .i32⟩
  | 86 => ⟨S256x256, .i1⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S256x256, .i32⟩
  | 94 => ⟨S256x256, .i32⟩
  | 95 => ⟨S_, .i32⟩
  | 96 => ⟨S256x256, .i32⟩
  | 97 => ⟨S256x256, .i1⟩
  | 98 => ⟨S_, .i32⟩
  | 99 => ⟨S256x256, .i32⟩
  | 100 => ⟨S256x256, .i1⟩
  | 101 => ⟨S_, .i32⟩
  | 102 => ⟨S_, .i1⟩
  | 103 => ⟨S256x256, .i1⟩
  | 104 => ⟨S256x256, .i1⟩
  | 105 => ⟨S256x256, .i1⟩
  | 106 => ⟨S256x256, .i32⟩
  | 107 => ⟨S256x256, .i32⟩
  | 108 => ⟨S256x256, .i32⟩
  | 109 => ⟨S_, .i32⟩
  | 110 => ⟨S256x256, .i32⟩
  | 111 => ⟨S256x256, .i1⟩
  | 112 => ⟨S_, .f32⟩
  | 113 => ⟨S_, .f32⟩
  | 114 => ⟨S256x256, .f32⟩
  | 115 => ⟨S256x256, .f32⟩
  | 116 => ⟨S256x256, .f32⟩
  | 117 => ⟨S_, .f32⟩
  | 118 => ⟨S256x256, .f32⟩
  | 119 => ⟨S256x256, .f32⟩
  | 120 => ⟨S_, .f32⟩
  | 121 => ⟨S256x256, .f32⟩
  | 122 => ⟨S256x256, .f32⟩
  | 123 => ⟨S256x256, .f32⟩
  | 124 => ⟨S256x256, .f32⟩
  | 125 => ⟨S256x256, .bf16⟩
  | 126 => ⟨S256x256, .bf16⟩
  | 127 => ⟨S256x256, .bf16⟩
  | _ => ⟨S9216x13312, .bf16⟩

abbrev hbmTy0_1 (i : Nat) : BufTy := match i % 128 with
  | 0 => ⟨S256x256, .bf16⟩
  | 1 => ⟨S1x3072, .f32⟩
  | 2 => ⟨S1x3072, .f32⟩
  | 3 => ⟨S2x1x1024, .f32⟩
  | 4 => ⟨S9216x1024, .bf16⟩
  | _ => ⟨S9216x13312, .bf16⟩

abbrev hbmTy (i : Nat) : BufTy := match i / 128 with
  | 0 => hbmTy0_0 i
  | 1 => hbmTy0_1 i
  | _ => ⟨S9216x13312, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2x256x256, .f32⟩
  | .local _ .vmem, ⟨13, _⟩ => ⟨S1x2x256x256, .f32⟩
  | .local _ .vmem, ⟨14, _⟩ => ⟨S1x1x256, .f32⟩
  | .local _ .vmem, ⟨15, _⟩ => ⟨S1x1x256, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .f32⟩
  | _, _ => ⟨S9216x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_c_1 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v13 : Ref sig .tc := ⟨.hbm, 63, rfl⟩
abbrev main_c_2 : Ref sig .tc := ⟨.hbm, 64, rfl⟩
abbrev main_v14 : Ref sig .tc := ⟨.hbm, 65, rfl⟩
abbrev main_v15 : Ref sig .tc := ⟨.hbm, 66, rfl⟩
abbrev main_cst_3 : Ref sig .tc := ⟨.hbm, 67, rfl⟩
abbrev main_cst_4 : Ref sig .tc := ⟨.hbm, 68, rfl⟩
abbrev main_call2_v0 : Ref sig .tc := ⟨.hbm, 69, rfl⟩
abbrev main_call2_v1 : Ref sig .tc := ⟨.hbm, 70, rfl⟩
abbrev main_v16 : Ref sig .tc := ⟨.hbm, 71, rfl⟩
abbrev main_call3_v0 : Ref sig .tc := ⟨.hbm, 72, rfl⟩
abbrev main_v17 : Ref sig .tc := ⟨.hbm, 73, rfl⟩
abbrev main_c_5 : Ref sig .tc := ⟨.hbm, 74, rfl⟩
abbrev main_v18 : Ref sig .tc := ⟨.hbm, 75, rfl⟩
abbrev main_v19 : Ref sig .tc := ⟨.hbm, 76, rfl⟩
abbrev main_cst_6 : Ref sig .tc := ⟨.hbm, 77, rfl⟩
abbrev main_v20 : Ref sig .tc := ⟨.hbm, 78, rfl⟩
abbrev main_v21 : Ref sig .tc := ⟨.hbm, 79, rfl⟩
abbrev main_cst_7 : Ref sig .tc := ⟨.hbm, 80, rfl⟩
abbrev main_call4_v0 : Ref sig .tc := ⟨.hbm, 81, rfl⟩
abbrev main_call4_v1 : Ref sig .tc := ⟨.hbm, 82, rfl⟩
abbrev main_v22 : Ref sig .tc := ⟨.hbm, 83, rfl⟩
abbrev main_c_8 : Ref sig .tc := ⟨.hbm, 84, rfl⟩
abbrev main_v23 : Ref sig .tc := ⟨.hbm, 85, rfl⟩
abbrev main_v24 : Ref sig .tc := ⟨.hbm, 86, rfl⟩
abbrev main_c_9 : Ref sig .tc := ⟨.hbm, 87, rfl⟩
abbrev main_call5_v0 : Ref sig .tc := ⟨.hbm, 88, rfl⟩
abbrev main_call5_c : Ref sig .tc := ⟨.hbm, 89, rfl⟩
abbrev main_call5_v1 : Ref sig .tc := ⟨.hbm, 90, rfl⟩
abbrev main_call5_c_0 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_c_1 : Ref sig .tc := ⟨.hbm, 95, rfl⟩
abbrev main_call5_v5 : Ref sig .tc := ⟨.hbm, 96, rfl⟩
abbrev main_call5_v6 : Ref sig .tc := ⟨.hbm, 97, rfl⟩
abbrev main_call5_c_2 : Ref sig .tc := ⟨.hbm, 98, rfl⟩
abbrev main_call5_v7 : Ref sig .tc := ⟨.hbm, 99, rfl⟩
abbrev main_call5_v8 : Ref sig .tc := ⟨.hbm, 100, rfl⟩
abbrev main_call5_c_3 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_v12 : Ref sig .tc := ⟨.hbm, 105, rfl⟩
abbrev main_call5_v13 : Ref sig .tc := ⟨.hbm, 106, rfl⟩
abbrev main_call5_v14 : Ref sig .tc := ⟨.hbm, 107, rfl⟩
abbrev main_v25 : Ref sig .tc := ⟨.hbm, 108, rfl⟩
abbrev main_c_10 : Ref sig .tc := ⟨.hbm, 109, rfl⟩
abbrev main_v26 : Ref sig .tc := ⟨.hbm, 110, rfl⟩
abbrev main_v27 : Ref sig .tc := ⟨.hbm, 111, rfl⟩
abbrev main_cst_11 : Ref sig .tc := ⟨.hbm, 112, rfl⟩
abbrev main_cst_12 : Ref sig .tc := ⟨.hbm, 113, rfl⟩
abbrev main_call6_v0 : Ref sig .tc := ⟨.hbm, 114, rfl⟩
abbrev main_call6_v1 : Ref sig .tc := ⟨.hbm, 115, rfl⟩
abbrev main_v28 : Ref sig .tc := ⟨.hbm, 116, rfl⟩
abbrev main_cst_13 : Ref sig .tc := ⟨.hbm, 117, rfl⟩
abbrev main_v29 : Ref sig .tc := ⟨.hbm, 118, rfl⟩
abbrev main_v30 : Ref sig .tc := ⟨.hbm, 119, rfl⟩
abbrev main_cst_14 : Ref sig .tc := ⟨.hbm, 120, rfl⟩
abbrev main_v31 : Ref sig .tc := ⟨.hbm, 121, rfl⟩
abbrev main_v32 : Ref sig .tc := ⟨.hbm, 122, rfl⟩
abbrev main_call7_v0 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c24_i32 : BitVec 32 := 24#32
  let v1 : BitVec 32 := Scalar.addi c24_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c28_i32 : BitVec 32 := 28#32
  let v1 : BitVec 32 := Scalar.addi c28_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== HyenaFirstRefIdeal.lean ====
abbrev S9216x13312 : Shape := ⟨2, ![9216, 13312]⟩
abbrev S3x3072 : Shape := ⟨2, ![3, 3072]⟩
abbrev S3072 : Shape := ⟨1, ![3072]⟩
abbrev S4x2x256x2048 : Shape := ⟨4, ![4, 2, 256, 2048]⟩
abbrev S2x1024 : Shape := ⟨2, ![2, 1024]⟩
abbrev S9216x1024 : Shape := ⟨2, ![9216, 1024]⟩
abbrev S1024x1024 : Shape := ⟨2, ![1024, 1024]⟩
abbrev S4x256x1024 : Shape := ⟨3, ![4, 256, 1024]⟩
abbrev S3x1024 : Shape := ⟨2, ![3, 1024]⟩
abbrev S1024 : Shape := ⟨1, ![1024]⟩
abbrev S_ : Shape := ⟨0, ![]⟩
abbrev S4x258x1024 : Shape := ⟨3, ![4, 258, 1024]⟩
abbrev S1x1024 : Shape := ⟨2, ![1, 1024]⟩
abbrev S1x1x1024 : Shape := ⟨3, ![1, 1, 1024]⟩
abbrev S1x2x256x1024 : Shape := ⟨4, ![1, 2, 256, 1024]⟩
abbrev S2x256x1024 : Shape := ⟨3, ![2, 256, 1024]⟩
abbrev S1x256x1024 : Shape := ⟨3, ![1, 256, 1024]⟩
abbrev S256x1024 : Shape := ⟨2, ![256, 1024]⟩
abbrev S257x1024 : Shape := ⟨2, ![257, 1024]⟩
abbrev S1x255x1024 : Shape := ⟨3, ![1, 255, 1024]⟩
abbrev S255x1024 : Shape := ⟨2, ![255, 1024]⟩
abbrev S257 : Shape := ⟨1, ![257]⟩
abbrev S257x1 : Shape := ⟨2, ![257, 1]⟩
abbrev S256 : Shape := ⟨1, ![256]⟩
abbrev S1x256 : Shape := ⟨2, ![1, 256]⟩
abbrev S257x256 : Shape := ⟨2, ![257, 256]⟩
abbrev S4x1024x257 : Shape := ⟨3, ![4, 1024, 257]⟩
abbrev S4x257x1024 : Shape := ⟨3, ![4, 257, 1024]⟩
abbrev S1x257x1024 : Shape := ⟨3, ![1, 257, 1024]⟩
abbrev S1x257x1 : Shape := ⟨3, ![1, 257, 1]⟩
abbrev S4x1024x256 : Shape := ⟨3, ![4, 1024, 256]⟩
abbrev S8192x1024 : Shape := ⟨2, ![8192, 1024]⟩

abbrev nBuf : Space → Nat
  | .hbm => 214
  | .vmem => 0
  | .smem => 0
  | _ => 0

abbrev hbmTy0_0 (i : Nat) : BufTy := match i % 128 with
  | 0 => ⟨S9216x13312, .bf16⟩
  | 1 => ⟨S3x3072, .f32⟩
  | 2 => ⟨S3072, .f32⟩
  | 3 => ⟨S4x2x256x2048, .f32⟩
  | 4 => ⟨S2x1024, .f32⟩
  | 5 => ⟨S9216x1024, .bf16⟩
  | 6 => ⟨S1024x1024, .bf16⟩
  | 7 => ⟨S1024x1024, .f32⟩
  | 8 => ⟨S4x256x1024, .f32⟩
  | 9 => ⟨S3x1024, .f32⟩
  | 10 => ⟨S1024, .f32⟩
  | 11 => ⟨S_, .i32⟩
  | 12 => ⟨S_, .f32⟩
  | 13 => ⟨S4x258x1024, .f32⟩
  | 14 => ⟨S4x256x1024, .f32⟩
  | 15 => ⟨S1x1024, .f32⟩
  | 16 => ⟨S1024, .f32⟩
  | 17 => ⟨S1x1x1024, .f32⟩
  | 18 => ⟨S4x256x1024, .f32⟩
  | 19 => ⟨S4x256x1024, .f32⟩
  | 20 => ⟨S4x256x1024, .f32⟩
  | 21 => ⟨S1x1024, .f32⟩
  | 22 => ⟨S1024, .f32⟩
  | 23 => ⟨S1x1x1024, .f32⟩
  | 24 => ⟨S4x256x1024, .f32⟩
  | 25 => ⟨S4x256x1024, .f32⟩
  | 26 => ⟨S4x256x1024, .f32⟩
  | 27 => ⟨S4x256x1024, .f32⟩
  | 28 => ⟨S1x1024, .f32⟩
  | 29 => ⟨S1024, .f32⟩
  | 30 => ⟨S1x1x1024, .f32⟩
  | 31 => ⟨S4x256x1024, .f32⟩
  | 32 => ⟨S4x256x1024, .f32⟩
  | 33 => ⟨S4x256x1024, .f32⟩
  | 34 => ⟨S1x1x1024, .f32⟩
  | 35 => ⟨S4x256x1024, .f32⟩
  | 36 => ⟨S4x256x1024, .f32⟩
  | 37 => ⟨S1024x1024, .bf16⟩
  | 38 => ⟨S1024x1024, .f32⟩
  | 39 => ⟨S4x256x1024, .f32⟩
  | 40 => ⟨S3x1024, .f32⟩
  | 41 => ⟨S1024, .f32⟩
  | 42 => ⟨S_, .i32⟩
  | 43 => ⟨S_, .f32⟩
  | 44 => ⟨S4x258x1024, .f32⟩
  | 45 => ⟨S4x256x1024, .f32⟩
  | 46 => ⟨S1x1024, .f32⟩
  | 47 => ⟨S1024, .f32⟩
  | 48 => ⟨S1x1x1024, .f32⟩
  | 49 => ⟨S4x256x1024, .f32⟩
  | 50 => ⟨S4x256x1024, .f32⟩
  | 51 => ⟨S4x256x1024, .f32⟩
  | 52 => ⟨S1x1024, .f32⟩
  | 53 => ⟨S1024, .f32⟩
  | 54 => ⟨S1x1x1024, .f32⟩
  | 55 => ⟨S4x256x1024, .f32⟩
  | 56 => ⟨S4x256x1024, .f32⟩
  | 57 => ⟨S4x256x1024, .f32⟩
  | 58 => ⟨S4x256x1024, .f32⟩
  | 59 => ⟨S1x1024, .f32⟩
  | 60 => ⟨S1024, .f32⟩
  | 61 => ⟨S1x1x1024, .f32⟩
  | 62 => ⟨S4x256x1024, .f32⟩
  | 63 => ⟨S4x256x1024, .f32⟩
  | 64 => ⟨S4x256x1024, .f32⟩
  | 65 => ⟨S1x1x1024, .f32⟩
  | 66 => ⟨S4x256x1024, .f32⟩
  | 67 => ⟨S4x256x1024, .f32⟩
  | 68 => ⟨S1x2x256x1024, .f32⟩
  | 69 => ⟨S2x256x1024, .f32⟩
  | 70 => ⟨S_, .f32⟩
  | 71 => ⟨S1x1024, .f32⟩
  | 72 => ⟨S1x256x1024, .f32⟩
  | 73 => ⟨S256x1024, .f32⟩
  | 74 => ⟨S1x1x1024, .f32⟩
  | 75 => ⟨S1x1024, .f32⟩
  | 76 => ⟨S257x1024, .f32⟩
  | 77 => ⟨S1x255x1024, .f32⟩
  | 78 => ⟨S255x1024, .f32⟩
  | 79 => ⟨S257x1024, .f32⟩
  | 80 => ⟨S257, .i32⟩
  | 81 => ⟨S257x1, .i32⟩
  | 82 => ⟨S256, .i32⟩
  | 83 => ⟨S1x256, .i32⟩
  | 84 => ⟨S257x256, .i32⟩
  | 85 => ⟨S257x256, .i32⟩
  | 86 => ⟨S257x256, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S257x256, .i32⟩
  | 94 => ⟨S257x256, .i32⟩
  | 95 => ⟨S_, .i32⟩
  | 96 => ⟨S257x256, .i32⟩
  | 97 => ⟨S257x256, .i1⟩
  | 98 => ⟨S_, .i32⟩
  | 99 => ⟨S257x256, .i32⟩
  | 100 => ⟨S257x256, .i1⟩
  | 101 => ⟨S_, .i32⟩
  | 102 => ⟨S_, .i1⟩
  | 103 => ⟨S257x256, .i1⟩
  | 104 => ⟨S257x256, .i1⟩
  | 105 => ⟨S257x256, .i1⟩
  | 106 => ⟨S257x256, .i32⟩
  | 107 => ⟨S257x256, .i32⟩
  | 108 => ⟨S257x256, .i32⟩
  | 109 => ⟨S257x256, .f32⟩
  | 110 => ⟨S_, .f32⟩
  | 111 => ⟨S257x256, .f32⟩
  | 112 => ⟨S257x256, .f32⟩
  | 113 => ⟨S_, .i32⟩
  | 114 => ⟨S257x1, .i32⟩
  | 115 => ⟨S257x1, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S1x256, .i32⟩
  | 123 => ⟨S1x256, .i32⟩
  | 124 => ⟨S_, .i32⟩
  | 125 => ⟨S1x256, .i32⟩
  | 126 => ⟨S1x256, .i1⟩
  | 127 => ⟨S_, .i32⟩
  | _ => ⟨S9216x13312, .bf16⟩

abbrev hbmTy0_1 (i : Nat) : BufTy := match i % 128 with
  | 0 => ⟨S1x256, .i32⟩
  | 1 => ⟨S1x256, .i1⟩
  | 2 => ⟨S_, .i32⟩
  | 3 => ⟨S_, .i1⟩
  | 4 => ⟨S1x256, .i1⟩
  | 5 => ⟨S1x256, .i1⟩
  | 6 => ⟨S1x256, .i1⟩
  | 7 => ⟨S1x256, .i32⟩
  | 8 => ⟨S1x256, .i32⟩
  | 9 => ⟨S1x256, .i32⟩
  | 10 => ⟨S_, .i32⟩
  | 11 => ⟨S1x256, .i32⟩
  | 12 => ⟨S1x256, .i1⟩
  | 13 => ⟨S_, .f32⟩
  | 14 => ⟨S_, .f32⟩
  | 15 => ⟨S1x256, .f32⟩
  | 16 => ⟨S1x256, .f32⟩
  | 17 => ⟨S1x256, .f32⟩
  | 18 => ⟨S257x256, .f32⟩
  | 19 => ⟨S1x256, .f32⟩
  | 20 => ⟨S257x256, .i1⟩
  | 21 => ⟨S257x256, .f32⟩
  | 22 => ⟨S257x256, .f32⟩
  | 23 => ⟨S_, .i32⟩
  | 24 => ⟨S257x1, .i32⟩
  | 25 => ⟨S257x1, .i1⟩
  | 26 => ⟨S257x256, .f32⟩
  | 27 => ⟨S_, .f32⟩
  | 28 => ⟨S_, .f32⟩
  | 29 => ⟨S257x256, .i1⟩
  | 30 => ⟨S257x256, .f32⟩
  | 31 => ⟨S257x256, .f32⟩
  | 32 => ⟨S_, .i32⟩
  | 33 => ⟨S257x1, .i32⟩
  | 34 => ⟨S257x1, .i1⟩
  | 35 => ⟨S_, .i32⟩
  | 36 => ⟨S257x1, .i32⟩
  | 37 => ⟨S257x1, .i1⟩
  | 38 => ⟨S257x1, .i1⟩
  | 39 => ⟨S_, .f32⟩
  | 40 => ⟨S_, .f32⟩
  | 41 => ⟨S257x1, .f32⟩
  | 42 => ⟨S257x1, .f32⟩
  | 43 => ⟨S257x1, .f32⟩
  | 44 => ⟨S4x1024x257, .f32⟩
  | 45 => ⟨S4x257x1024, .f32⟩
  | 46 => ⟨S4x1024x257, .f32⟩
  | 47 => ⟨S4x257x1024, .f32⟩
  | 48 => ⟨S1x257x1024, .f32⟩
  | 49 => ⟨S4x257x1024, .f32⟩
  | 50 => ⟨S4x257x1024, .f32⟩
  | 51 => ⟨S1x257x1024, .f32⟩
  | 52 => ⟨S4x257x1024, .f32⟩
  | 53 => ⟨S4x257x1024, .f32⟩
  | 54 => ⟨S4x257x1024, .f32⟩
  | 55 => ⟨S257x1, .f32⟩
  | 56 => ⟨S1x257x1, .f32⟩
  | 57 => ⟨S4x257x1024, .f32⟩
  | 58 => ⟨S4x257x1024, .f32⟩
  | 59 => ⟨S1x257x1024, .f32⟩
  | 60 => ⟨S4x257x1024, .f32⟩
  | 61 => ⟨S4x257x1024, .f32⟩
  | 62 => ⟨S1x257x1024, .f32⟩
  | 63 => ⟨S4x257x1024, .f32⟩
  | 64 => ⟨S4x257x1024, .f32⟩
  | 65 => ⟨S4x257x1024, .f32⟩
  | 66 => ⟨S257x1, .f32⟩
  | 67 => ⟨S1x257x1, .f32⟩
  | 68 => ⟨S4x257x1024, .f32⟩
  | 69 => ⟨S4x257x1024, .f32⟩
  | 70 => ⟨S4x1024x256, .f32⟩
  | 71 => ⟨S4x256x1024, .f32⟩
  | 72 => ⟨S4x1024x256, .f32⟩
  | 73 => ⟨S4x256x1024, .f32⟩
  | 74 => ⟨S4x256x1024, .f32⟩
  | 75 => ⟨S1x1024, .f32⟩
  | 76 => ⟨S1024, .f32⟩
  | 77 => ⟨S1x1x1024, .f32⟩
  | 78 => ⟨S4x256x1024, .f32⟩
  | 79 => ⟨S4x256x1024, .f32⟩
  | 80 => ⟨S4x256x1024, .f32⟩
  | 81 => ⟨S4x256x1024, .f32⟩
  | 82 => ⟨S8192x1024, .bf16⟩
  | 83 => ⟨S1024x1024, .f32⟩
  | 84 => ⟨S1024x1024, .bf16⟩
  | 85 => ⟨S9216x1024, .bf16⟩
  | _ => ⟨S9216x13312, .bf16⟩

abbrev hbmTy (i : Nat) : BufTy := match i / 128 with
  | 0 => hbmTy0_0 i
  | 1 => hbmTy0_1 i
  | _ => ⟨S9216x13312, .bf16⟩

abbrev bufTy : (tb : Table) → Fin (tcTables nBuf tb) → BufTy
  | .hbm, ⟨i, _⟩ => hbmTy i
  | _, _ => ⟨S9216x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_0 : Ref sig .tc := ⟨.hbm, 42, rfl⟩
abbrev main_call1_v0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_c_1 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v76 : Ref sig .tc := ⟨.hbm, 108, rfl⟩
abbrev main_v77 : Ref sig .tc := ⟨.hbm, 109, rfl⟩
abbrev main_cst_2 : Ref sig .tc := ⟨.hbm, 110, rfl⟩
abbrev main_v78 : Ref sig .tc := ⟨.hbm, 111, rfl⟩
abbrev main_v79 : Ref sig .tc := ⟨.hbm, 112, rfl⟩
abbrev main_c_3 : Ref sig .tc := ⟨.hbm, 113, rfl⟩
abbrev main_v80 : Ref sig .tc := ⟨.hbm, 114, rfl⟩
abbrev main_v81 : Ref sig .tc := ⟨.hbm, 115, rfl⟩
abbrev main_c_4 : Ref sig .tc := ⟨.hbm, 116, rfl⟩
abbrev main_call3_v0 : Ref sig .tc := ⟨.hbm, 117, rfl⟩
abbrev main_call3_c : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_1 : Ref sig .tc := ⟨.hbm, 124, rfl⟩
abbrev main_call3_v5 : Ref sig .tc := ⟨.hbm, 125, rfl⟩
abbrev main_call3_v6 : Ref sig .tc := ⟨.hbm, 126, rfl⟩
abbrev main_call3_c_2 : Ref sig .tc := ⟨.hbm, 127, rfl⟩
abbrev main_call3_v7 : Ref sig .tc := ⟨.hbm, 128, rfl⟩
abbrev main_call3_v8 : Ref sig .tc := ⟨.hbm, 129, rfl⟩
abbrev main_call3_c_3 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_v82 : Ref sig .tc := ⟨.hbm, 137, rfl⟩
abbrev main_c_5 : Ref sig .tc := ⟨.hbm, 138, rfl⟩
abbrev main_v83 : Ref sig .tc := ⟨.hbm, 139, rfl⟩
abbrev main_v84 : Ref sig .tc := ⟨.hbm, 140, rfl⟩
abbrev main_cst_6 : Ref sig .tc := ⟨.hbm, 141, rfl⟩
abbrev main_cst_7 : Ref sig .tc := ⟨.hbm, 142, rfl⟩
abbrev main_call4_v0 : Ref sig .tc := ⟨.hbm, 143, rfl⟩
abbrev main_call4_v1 : Ref sig .tc := ⟨.hbm, 144, rfl⟩
abbrev main_v85 : Ref sig .tc := ⟨.hbm, 145, rfl⟩
abbrev main_v86 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v87 : Ref sig .tc := ⟨.hbm, 150, rfl⟩
abbrev main_c_8 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_9 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_v91 : Ref sig .tc := ⟨.hbm, 159, rfl⟩
abbrev main_c_10 : Ref sig .tc := ⟨.hbm, 160, rfl⟩
abbrev main_v92 : Ref sig .tc := ⟨.hbm, 161, rfl⟩
abbrev main_v93 : Ref sig .tc := ⟨.hbm, 162, rfl⟩
abbrev main_c_11 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_12 : Ref sig .tc := ⟨.hbm, 167, rfl⟩
abbrev main_cst_13 : Ref sig .tc := ⟨.hbm, 168, rfl⟩
abbrev main_call7_v0 : Ref sig .tc := ⟨.hbm, 169, rfl⟩
abbrev main_call7_v1 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩

abbrev nD : Nat := 1
abbrev τ : Topo := Topo.v7x

variable {F : FTy → Type} [FloatOps F]
-- ==== HyenaSecond.lean ====
abbrev S9216x1024 : Shape := ⟨2, ![9216, 1024]⟩
abbrev S9216x13312 : Shape := ⟨2, ![9216, 13312]⟩
abbrev S3x3072 : Shape := ⟨2, ![3, 3072]⟩
abbrev S3072 : Shape := ⟨1, ![3072]⟩
abbrev S4x2x256x2048 : Shape := ⟨4, ![4, 2, 256, 2048]⟩
abbrev S2x1024 : Shape := ⟨2, ![2, 1024]⟩
abbrev S256x256 : Shape := ⟨2, ![256, 256]⟩
abbrev S_ : Shape := ⟨0, ![]⟩
abbrev S1x3072 : Shape := ⟨2, ![1, 3072]⟩
abbrev S2x1x1024 : Shape := ⟨3, ![2, 1, 1024]⟩
abbrev S3x256 : Shape := ⟨2, ![3, 256]⟩
abbrev S1x256 : Shape := ⟨2, ![1, 256]⟩
abbrev S1x2x256x256 : Shape := ⟨4, ![1, 2, 256, 256]⟩
abbrev S1x1x256 : Shape := ⟨3, ![1, 1, 256]⟩
abbrev S1x1x256x256 : Shape := ⟨4, ![1, 1, 256, 256]⟩

abbrev nBuf : Space → Nat
  | .hbm => 134
  | .vmem => 23
  | .smem => 0
  | _ => 0

abbrev hbmTy0_0 (i : Nat) : BufTy := match i % 128 with
  | 0 => ⟨S9216x1024, .bf16⟩
  | 1 => ⟨S9216x13312, .bf16⟩
  | 2 => ⟨S3x3072, .f32⟩
  | 3 => ⟨S3072, .f32⟩
  | 4 => ⟨S4x2x256x2048, .f32⟩
  | 5 => ⟨S2x1024, .f32⟩
  | 6 => ⟨S9216x1024, .bf16⟩
  | 7 => ⟨S256x256, .i32⟩
  | 8 => ⟨S256x256, .i32⟩
  | 9 => ⟨S256x256, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S256x256, .i32⟩
  | 17 => ⟨S256x256, .i32⟩
  | 18 => ⟨S_, .i32⟩
  | 19 => ⟨S256x256, .i32⟩
  | 20 => ⟨S256x256, .i1⟩
  | 21 => ⟨S_, .i32⟩
  | 22 => ⟨S256x256, .i32⟩
  | 23 => ⟨S256x256, .i1⟩
  | 24 => ⟨S_, .i32⟩
  | 25 => ⟨S_, .i1⟩
  | 26 => ⟨S256x256, .i1⟩
  | 27 => ⟨S256x256, .i1⟩
  | 28 => ⟨S256x256, .i1⟩
  | 29 => ⟨S256x256, .i32⟩
  | 30 => ⟨S256x256, .i32⟩
  | 31 => ⟨S256x256, .i32⟩
  | 32 => ⟨S256x256, .f32⟩
  | 33 => ⟨S_, .f32⟩
  | 34 => ⟨S256x256, .f32⟩
  | 35 => ⟨S256x256, .f32⟩
  | 36 => ⟨S256x256, .i32⟩
  | 37 => ⟨S256x256, .i32⟩
  | 38 => ⟨S256x256, .f32⟩
  | 39 => ⟨S256x256, .f32⟩
  | 40 => ⟨S_, .i32⟩
  | 41 => ⟨S256x256, .i32⟩
  | 42 => ⟨S256x256, .i1⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S256x256, .i32⟩
  | 50 => ⟨S256x256, .i32⟩
  | 51 => ⟨S_, .i32⟩
  | 52 => ⟨S256x256, .i32⟩
  | 53 => ⟨S256x256, .i1⟩
  | 54 => ⟨S_, .i32⟩
  | 55 => ⟨S256x256, .i32⟩
  | 56 => ⟨S256x256, .i1⟩
  | 57 => ⟨S_, .i32⟩
  | 58 => ⟨S_, .i1⟩
  | 59 => ⟨S256x256, .i1⟩
  | 60 => ⟨S256x256, .i1⟩
  | 61 => ⟨S256x256, .i1⟩
  | 62 => ⟨S256x256, .i32⟩
  | 63 => ⟨S256x256, .i32⟩
  | 64 => ⟨S256x256, .i32⟩
  | 65 => ⟨S_, .i32⟩
  | 66 => ⟨S256x256, .i32⟩
  | 67 => ⟨S256x256, .i1⟩
  | 68 => ⟨S_, .f32⟩
  | 69 => ⟨S_, .f32⟩
  | 70 => ⟨S256x256, .f32⟩
  | 71 => ⟨S256x256, .f32⟩
  | 72 => ⟨S256x256, .f32⟩
  | 73 => ⟨S256x256, .f32⟩
  | 74 => ⟨S256x256, .f32⟩
  | 75 => ⟨S_, .i32⟩
  | 76 => ⟨S256x256, .i32⟩
  | 77 => ⟨S256x256, .i1⟩
  | 78 => ⟨S_, .f32⟩
  | 79 => ⟨S256x256, .f32⟩
  | 80 => ⟨S256x256, .f32⟩
  | 81 => ⟨S_, .f32⟩
  | 82 => ⟨S_, .f32⟩
  | 83 => ⟨S256x256, .f32⟩
  | 84 => ⟨S256x256, .f32⟩
  | 85 => ⟨S_, .i32⟩
  | 86 => ⟨S256x256, .i32⟩
  | 87 => ⟨S256x256, .i1⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S256x256, .i32⟩
  | 95 => ⟨S256x256, .i32⟩
  | 96 => ⟨S_, .i32⟩
  | 97 => ⟨S256x256, .i32⟩
  | 98 => ⟨S256x256, .i1⟩
  | 99 => ⟨S_, .i32⟩
  | 100 => ⟨S256x256, .i32⟩
  | 101 => ⟨S256x256, .i1⟩
  | 102 => ⟨S_, .i32⟩
  | 103 => ⟨S_, .i1⟩
  | 104 => ⟨S256x256, .i1⟩
  | 105 => ⟨S256x256, .i1⟩
  | 106 => ⟨S256x256, .i1⟩
  | 107 => ⟨S256x256, .i32⟩
  | 108 => ⟨S256x256, .i32⟩
  | 109 => ⟨S256x256, .i32⟩
  | 110 => ⟨S_, .i32⟩
  | 111 => ⟨S256x256, .i32⟩
  | 112 => ⟨S256x256, .i1⟩
  | 113 => ⟨S_, .f32⟩
  | 114 => ⟨S_, .f32⟩
  | 115 => ⟨S256x256, .f32⟩
  | 116 => ⟨S256x256, .f32⟩
  | 117 => ⟨S256x256, .f32⟩
  | 118 => ⟨S_, .f32⟩
  | 119 => ⟨S256x256, .f32⟩
  | 120 => ⟨S256x256, .f32⟩
  | 121 => ⟨S_, .f32⟩
  | 122 => ⟨S256x256, .f32⟩
  | 123 => ⟨S256x256, .f32⟩
  | 124 => ⟨S256x256, .f32⟩
  | 125 => ⟨S256x256, .f32⟩
  | 126 => ⟨S256x256, .bf16⟩
  | 127 => ⟨S256x256, .bf16⟩
  | _ => ⟨S9216x1024, .bf16⟩

abbrev hbmTy0_1 (i : Nat) : BufTy := match i % 128 with
  | 0 => ⟨S256x256, .bf16⟩
  | 1 => ⟨S256x256, .bf16⟩
  | 2 => ⟨S1x3072, .f32⟩
  | 3 => ⟨S1x3072, .f32⟩
  | 4 => ⟨S2x1x1024, .f32⟩
  | 5 => ⟨S9216x1024, .bf16⟩
  | _ => ⟨S9216x1024, .bf16⟩

abbrev hbmTy (i : Nat) : BufTy := match i / 128 with
  | 0 => hbmTy0_0 i
  | 1 => hbmTy0_1 i
  | _ => ⟨S9216x1024, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2x256x256, .f32⟩
  | .local _ .vmem, ⟨13, _⟩ => ⟨S1x2x256x256, .f32⟩
  | .local _ .vmem, ⟨14, _⟩ => ⟨S1x1x256, .f32⟩
  | .local _ .vmem, ⟨15, _⟩ => ⟨S1x1x256, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_0 : Ref sig .tc := ⟨.hbm, 40, rfl⟩
abbrev main_v11 : Ref sig .tc := ⟨.hbm, 41, rfl⟩
abbrev main_v12 : Ref sig .tc := ⟨.hbm, 42, rfl⟩
abbrev main_c_1 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v13 : Ref sig .tc := ⟨.hbm, 64, rfl⟩
abbrev main_c_2 : Ref sig .tc := ⟨.hbm, 65, rfl⟩
abbrev main_v14 : Ref sig .tc := ⟨.hbm, 66, rfl⟩
abbrev main_v15 : Ref sig .tc := ⟨.hbm, 67, rfl⟩
abbrev main_cst_3 : Ref sig .tc := ⟨.hbm, 68, rfl⟩
abbrev main_cst_4 : Ref sig .tc := ⟨.hbm, 69, rfl⟩
abbrev main_call2_v0 : Ref sig .tc := ⟨.hbm, 70, rfl⟩
abbrev main_call2_v1 : Ref sig .tc := ⟨.hbm, 71, rfl⟩
abbrev main_v16 : Ref sig .tc := ⟨.hbm, 72, rfl⟩
abbrev main_call3_v0 : Ref sig .tc := ⟨.hbm, 73, rfl⟩
abbrev main_v17 : Ref sig .tc := ⟨.hbm, 74, rfl⟩
abbrev main_c_5 : Ref sig .tc := ⟨.hbm, 75, rfl⟩
abbrev main_v18 : Ref sig .tc := ⟨.hbm, 76, rfl⟩
abbrev main_v19 : Ref sig .tc := ⟨.hbm, 77, rfl⟩
abbrev main_cst_6 : Ref sig .tc := ⟨.hbm, 78, rfl⟩
abbrev main_v20 : Ref sig .tc := ⟨.hbm, 79, rfl⟩
abbrev main_v21 : Ref sig .tc := ⟨.hbm, 80, rfl⟩
abbrev main_cst_7 : Ref sig .tc := ⟨.hbm, 81, rfl⟩
abbrev main_call4_v0 : Ref sig .tc := ⟨.hbm, 82, rfl⟩
abbrev main_call4_v1 : Ref sig .tc := ⟨.hbm, 83, rfl⟩
abbrev main_v22 : Ref sig .tc := ⟨.hbm, 84, rfl⟩
abbrev main_c_8 : Ref sig .tc := ⟨.hbm, 85, rfl⟩
abbrev main_v23 : Ref sig .tc := ⟨.hbm, 86, rfl⟩
abbrev main_v24 : Ref sig .tc := ⟨.hbm, 87, rfl⟩
abbrev main_c_9 : Ref sig .tc := ⟨.hbm, 88, rfl⟩
abbrev main_call5_v0 : Ref sig .tc := ⟨.hbm, 89, rfl⟩
abbrev main_call5_c : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_c_1 : Ref sig .tc := ⟨.hbm, 96, rfl⟩
abbrev main_call5_v5 : Ref sig .tc := ⟨.hbm, 97, rfl⟩
abbrev main_call5_v6 : Ref sig .tc := ⟨.hbm, 98, rfl⟩
abbrev main_call5_c_2 : Ref sig .tc := ⟨.hbm, 99, rfl⟩
abbrev main_call5_v7 : Ref sig .tc := ⟨.hbm, 100, rfl⟩
abbrev main_call5_v8 : Ref sig .tc := ⟨.hbm, 101, rfl⟩
abbrev main_call5_c_3 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_call5_v12 : Ref sig .tc := ⟨.hbm, 106, rfl⟩
abbrev main_call5_v13 : Ref sig .tc := ⟨.hbm, 107, rfl⟩
abbrev main_call5_v14 : Ref sig .tc := ⟨.hbm, 108, rfl⟩
abbrev main_v25 : Ref sig .tc := ⟨.hbm, 109, rfl⟩
abbrev main_c_10 : Ref sig .tc := ⟨.hbm, 110, rfl⟩
abbrev main_v26 : Ref sig .tc := ⟨.hbm, 111, rfl⟩
abbrev main_v27 : Ref sig .tc := ⟨.hbm, 112, rfl⟩
abbrev main_cst_11 : Ref sig .tc := ⟨.hbm, 113, rfl⟩
abbrev main_cst_12 : Ref sig .tc := ⟨.hbm, 114, rfl⟩
abbrev main_call6_v0 : Ref sig .tc := ⟨.hbm, 115, rfl⟩
abbrev main_call6_v1 : Ref sig .tc := ⟨.hbm, 116, rfl⟩
abbrev main_v28 : Ref sig .tc := ⟨.hbm, 117, rfl⟩
abbrev main_cst_13 : Ref sig .tc := ⟨.hbm, 118, rfl⟩
abbrev main_v29 : Ref sig .tc := ⟨.hbm, 119, rfl⟩
abbrev main_v30 : Ref sig .tc := ⟨.hbm, 120, rfl⟩
abbrev main_cst_14 : Ref sig .tc := ⟨.hbm, 121, rfl⟩
abbrev main_v31 : Ref sig .tc := ⟨.hbm, 122, rfl⟩
abbrev main_v32 : Ref sig .tc := ⟨.hbm, 123, rfl⟩
abbrev main_call7_v0 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c32_i32_0 : BitVec 32 := 32#32
  let v1 : BitVec 32 := Scalar.addi c32_i32_0 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== HyenaSecondRefIdeal.lean ====
abbrev S9216x1024 : Shape := ⟨2, ![9216, 1024]⟩
abbrev S9216x13312 : Shape := ⟨2, ![9216, 13312]⟩
abbrev S3x3072 : Shape := ⟨2, ![3, 3072]⟩
abbrev S3072 : Shape := ⟨1, ![3072]⟩
abbrev S4x2x256x2048 : Shape := ⟨4, ![4, 2, 256, 2048]⟩
abbrev S2x1024 : Shape := ⟨2, ![2, 1024]⟩
abbrev S1024x1024 : Shape := ⟨2, ![1024, 1024]⟩
abbrev S4x256x1024 : Shape := ⟨3, ![4, 256, 1024]⟩
abbrev S3x1024 : Shape := ⟨2, ![3, 1024]⟩
abbrev S1024 : Shape := ⟨1, ![1024]⟩
abbrev S_ : Shape := ⟨0, ![]⟩
abbrev S4x258x1024 : Shape := ⟨3, ![4, 258, 1024]⟩
abbrev S1x1024 : Shape := ⟨2, ![1, 1024]⟩
abbrev S1x1x1024 : Shape := ⟨3, ![1, 1, 1024]⟩
abbrev S1x2x256x1024 : Shape := ⟨4, ![1, 2, 256, 1024]⟩
abbrev S2x256x1024 : Shape := ⟨3, ![2, 256, 1024]⟩
abbrev S1x256x1024 : Shape := ⟨3, ![1, 256, 1024]⟩
abbrev S256x1024 : Shape := ⟨2, ![256, 1024]⟩
abbrev S257x1024 : Shape := ⟨2, ![257, 1024]⟩
abbrev S1x255x1024 : Shape := ⟨3, ![1, 255, 1024]⟩
abbrev S255x1024 : Shape := ⟨2, ![255, 1024]⟩
abbrev S257 : Shape := ⟨1, ![257]⟩
abbrev S257x1 : Shape := ⟨2, ![257, 1]⟩
abbrev S256 : Shape := ⟨1, ![256]⟩
abbrev S1x256 : Shape := ⟨2, ![1, 256]⟩
abbrev S257x256 : Shape := ⟨2, ![257, 256]⟩
abbrev S4x1024x257 : Shape := ⟨3, ![4, 1024, 257]⟩
abbrev S4x257x1024 : Shape := ⟨3, ![4, 257, 1024]⟩
abbrev S1x257x1024 : Shape := ⟨3, ![1, 257, 1024]⟩
abbrev S1x257x1 : Shape := ⟨3, ![1, 257, 1]⟩
abbrev S4x1024x256 : Shape := ⟨3, ![4, 1024, 256]⟩
abbrev S8192x1024 : Shape := ⟨2, ![8192, 1024]⟩

abbrev nBuf : Space → Nat
  | .hbm => 187
  | .vmem => 0
  | .smem => 0
  | _ => 0

abbrev hbmTy0_0 (i : Nat) : BufTy := match i % 128 with
  | 0 => ⟨S9216x1024, .bf16⟩
  | 1 => ⟨S9216x13312, .bf16⟩
  | 2 => ⟨S3x3072, .f32⟩
  | 3 => ⟨S3072, .f32⟩
  | 4 => ⟨S4x2x256x2048, .f32⟩
  | 5 => ⟨S2x1024, .f32⟩
  | 6 => ⟨S9216x1024, .bf16⟩
  | 7 => ⟨S1024x1024, .bf16⟩
  | 8 => ⟨S1024x1024, .f32⟩
  | 9 => ⟨S4x256x1024, .f32⟩
  | 10 => ⟨S1024x1024, .bf16⟩
  | 11 => ⟨S1024x1024, .f32⟩
  | 12 => ⟨S4x256x1024, .f32⟩
  | 13 => ⟨S3x1024, .f32⟩
  | 14 => ⟨S1024, .f32⟩
  | 15 => ⟨S_, .i32⟩
  | 16 => ⟨S_, .f32⟩
  | 17 => ⟨S4x258x1024, .f32⟩
  | 18 => ⟨S4x256x1024, .f32⟩
  | 19 => ⟨S1x1024, .f32⟩
  | 20 => ⟨S1024, .f32⟩
  | 21 => ⟨S1x1x1024, .f32⟩
  | 22 => ⟨S4x256x1024, .f32⟩
  | 23 => ⟨S4x256x1024, .f32⟩
  | 24 => ⟨S4x256x1024, .f32⟩
  | 25 => ⟨S1x1024, .f32⟩
  | 26 => ⟨S1024, .f32⟩
  | 27 => ⟨S1x1x1024, .f32⟩
  | 28 => ⟨S4x256x1024, .f32⟩
  | 29 => ⟨S4x256x1024, .f32⟩
  | 30 => ⟨S4x256x1024, .f32⟩
  | 31 => ⟨S4x256x1024, .f32⟩
  | 32 => ⟨S1x1024, .f32⟩
  | 33 => ⟨S1024, .f32⟩
  | 34 => ⟨S1x1x1024, .f32⟩
  | 35 => ⟨S4x256x1024, .f32⟩
  | 36 => ⟨S4x256x1024, .f32⟩
  | 37 => ⟨S4x256x1024, .f32⟩
  | 38 => ⟨S1x1x1024, .f32⟩
  | 39 => ⟨S4x256x1024, .f32⟩
  | 40 => ⟨S4x256x1024, .f32⟩
  | 41 => ⟨S1x2x256x1024, .f32⟩
  | 42 => ⟨S2x256x1024, .f32⟩
  | 43 => ⟨S_, .f32⟩
  | 44 => ⟨S1x1024, .f32⟩
  | 45 => ⟨S1x256x1024, .f32⟩
  | 46 => ⟨S256x1024, .f32⟩
  | 47 => ⟨S1x1x1024, .f32⟩
  | 48 => ⟨S1x1024, .f32⟩
  | 49 => ⟨S257x1024, .f32⟩
  | 50 => ⟨S1x255x1024, .f32⟩
  | 51 => ⟨S255x1024, .f32⟩
  | 52 => ⟨S257x1024, .f32⟩
  | 53 => ⟨S257, .i32⟩
  | 54 => ⟨S257x1, .i32⟩
  | 55 => ⟨S256, .i32⟩
  | 56 => ⟨S1x256, .i32⟩
  | 57 => ⟨S257x256, .i32⟩
  | 58 => ⟨S257x256, .i32⟩
  | 59 => ⟨S257x256, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S257x256, .i32⟩
  | 67 => ⟨S257x256, .i32⟩
  | 68 => ⟨S_, .i32⟩
  | 69 => ⟨S257x256, .i32⟩
  | 70 => ⟨S257x256, .i1⟩
  | 71 => ⟨S_, .i32⟩
  | 72 => ⟨S257x256, .i32⟩
  | 73 => ⟨S257x256, .i1⟩
  | 74 => ⟨S_, .i32⟩
  | 75 => ⟨S_, .i1⟩
  | 76 => ⟨S257x256, .i1⟩
  | 77 => ⟨S257x256, .i1⟩
  | 78 => ⟨S257x256, .i1⟩
  | 79 => ⟨S257x256, .i32⟩
  | 80 => ⟨S257x256, .i32⟩
  | 81 => ⟨S257x256, .i32⟩
  | 82 => ⟨S257x256, .f32⟩
  | 83 => ⟨S_, .f32⟩
  | 84 => ⟨S257x256, .f32⟩
  | 85 => ⟨S257x256, .f32⟩
  | 86 => ⟨S_, .i32⟩
  | 87 => ⟨S257x1, .i32⟩
  | 88 => ⟨S257x1, .i1⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S1x256, .i32⟩
  | 96 => ⟨S1x256, .i32⟩
  | 97 => ⟨S_, .i32⟩
  | 98 => ⟨S1x256, .i32⟩
  | 99 => ⟨S1x256, .i1⟩
  | 100 => ⟨S_, .i32⟩
  | 101 => ⟨S1x256, .i32⟩
  | 102 => ⟨S1x256, .i1⟩
  | 103 => ⟨S_, .i32⟩
  | 104 => ⟨S_, .i1⟩
  | 105 => ⟨S1x256, .i1⟩
  | 106 => ⟨S1x256, .i1⟩
  | 107 => ⟨S1x256, .i1⟩
  | 108 => ⟨S1x256, .i32⟩
  | 109 => ⟨S1x256, .i32⟩
  | 110 => ⟨S1x256, .i32⟩
  | 111 => ⟨S_, .i32⟩
  | 112 => ⟨S1x256, .i32⟩
  | 113 => ⟨S1x256, .i1⟩
  | 114 => ⟨S_, .f32⟩
  | 115 => ⟨S_, .f32⟩
  | 116 => ⟨S1x256, .f32⟩
  | 117 => ⟨S1x256, .f32⟩
  | 118 => ⟨S1x256, .f32⟩
  | 119 => ⟨S257x256, .f32⟩
  | 120 => ⟨S1x256, .f32⟩
  | 121 => ⟨S257x256, .i1⟩
  | 122 => ⟨S257x256, .f32⟩
  | 123 => ⟨S257x256, .f32⟩
  | 124 => ⟨S_, .i32⟩
  | 125 => ⟨S257x1, .i32⟩
  | 126 => ⟨S257x1, .i1⟩
  | 127 => ⟨S257x256, .f32⟩
  | _ => ⟨S9216x1024, .bf16⟩

abbrev hbmTy0_1 (i : Nat) : BufTy := match i % 128 with
  | 0 => ⟨S_, .f32⟩
  | 1 => ⟨S_, .f32⟩
  | 2 => ⟨S257x256, .i1⟩
  | 3 => ⟨S257x256, .f32⟩
  | 4 => ⟨S257x256, .f32⟩
  | 5 => ⟨S_, .i32⟩
  | 6 => ⟨S257x1, .i32⟩
  | 7 => ⟨S257x1, .i1⟩
  | 8 => ⟨S_, .i32⟩
  | 9 => ⟨S257x1, .i32⟩
  | 10 => ⟨S257x1, .i1⟩
  | 11 => ⟨S257x1, .i1⟩
  | 12 => ⟨S_, .f32⟩
  | 13 => ⟨S_, .f32⟩
  | 14 => ⟨S257x1, .f32⟩
  | 15 => ⟨S257x1, .f32⟩
  | 16 => ⟨S257x1, .f32⟩
  | 17 => ⟨S4x1024x257, .f32⟩
  | 18 => ⟨S4x257x1024, .f32⟩
  | 19 => ⟨S4x1024x257, .f32⟩
  | 20 => ⟨S4x257x1024, .f32⟩
  | 21 => ⟨S1x257x1024, .f32⟩
  | 22 => ⟨S4x257x1024, .f32⟩
  | 23 => ⟨S4x257x1024, .f32⟩
  | 24 => ⟨S1x257x1024, .f32⟩
  | 25 => ⟨S4x257x1024, .f32⟩
  | 26 => ⟨S4x257x1024, .f32⟩
  | 27 => ⟨S4x257x1024, .f32⟩
  | 28 => ⟨S257x1, .f32⟩
  | 29 => ⟨S1x257x1, .f32⟩
  | 30 => ⟨S4x257x1024, .f32⟩
  | 31 => ⟨S4x257x1024, .f32⟩
  | 32 => ⟨S1x257x1024, .f32⟩
  | 33 => ⟨S4x257x1024, .f32⟩
  | 34 => ⟨S4x257x1024, .f32⟩
  | 35 => ⟨S1x257x1024, .f32⟩
  | 36 => ⟨S4x257x1024, .f32⟩
  | 37 => ⟨S4x257x1024, .f32⟩
  | 38 => ⟨S4x257x1024, .f32⟩
  | 39 => ⟨S257x1, .f32⟩
  | 40 => ⟨S1x257x1, .f32⟩
  | 41 => ⟨S4x257x1024, .f32⟩
  | 42 => ⟨S4x257x1024, .f32⟩
  | 43 => ⟨S4x1024x256, .f32⟩
  | 44 => ⟨S4x256x1024, .f32⟩
  | 45 => ⟨S4x1024x256, .f32⟩
  | 46 => ⟨S4x256x1024, .f32⟩
  | 47 => ⟨S4x256x1024, .f32⟩
  | 48 => ⟨S1x1024, .f32⟩
  | 49 => ⟨S1024, .f32⟩
  | 50 => ⟨S1x1x1024, .f32⟩
  | 51 => ⟨S4x256x1024, .f32⟩
  | 52 => ⟨S4x256x1024, .f32⟩
  | 53 => ⟨S4x256x1024, .f32⟩
  | 54 => ⟨S4x256x1024, .f32⟩
  | 55 => ⟨S8192x1024, .bf16⟩
  | 56 => ⟨S1024x1024, .f32⟩
  | 57 => ⟨S1024x1024, .bf16⟩
  | 58 => ⟨S9216x1024, .bf16⟩
  | _ => ⟨S9216x1024, .bf16⟩

abbrev hbmTy (i : Nat) : BufTy := match i / 128 with
  | 0 => hbmTy0_0 i
  | 1 => hbmTy0_1 i
  | _ => ⟨S9216x1024, .bf16⟩

abbrev bufTy : (tb : Table) → Fin (tcTables nBuf tb) → BufTy
  | .hbm, ⟨i, _⟩ => hbmTy i
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_0 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v50 : Ref sig .tc := ⟨.hbm, 81, rfl⟩
abbrev main_v51 : Ref sig .tc := ⟨.hbm, 82, rfl⟩
abbrev main_cst_1 : Ref sig .tc := ⟨.hbm, 83, rfl⟩
abbrev main_v52 : Ref sig .tc := ⟨.hbm, 84, rfl⟩
abbrev main_v53 : Ref sig .tc := ⟨.hbm, 85, rfl⟩
abbrev main_c_2 : Ref sig .tc := ⟨.hbm, 86, rfl⟩
abbrev main_v54 : Ref sig .tc := ⟨.hbm, 87, rfl⟩
abbrev main_v55 : Ref sig .tc := ⟨.hbm, 88, rfl⟩
abbrev main_c_3 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_1 : Ref sig .tc := ⟨.hbm, 97, rfl⟩
abbrev main_call2_v5 : Ref sig .tc := ⟨.hbm, 98, rfl⟩
abbrev main_call2_v6 : Ref sig .tc := ⟨.hbm, 99, rfl⟩
abbrev main_call2_c_2 : Ref sig .tc := ⟨.hbm, 100, rfl⟩
abbrev main_call2_v7 : Ref sig .tc := ⟨.hbm, 101, rfl⟩
abbrev main_call2_v8 : Ref sig .tc := ⟨.hbm, 102, rfl⟩
abbrev main_call2_c_3 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_v56 : Ref sig .tc := ⟨.hbm, 110, rfl⟩
abbrev main_c_4 : Ref sig .tc := ⟨.hbm, 111, rfl⟩
abbrev main_v57 : Ref sig .tc := ⟨.hbm, 112, rfl⟩
abbrev main_v58 : Ref sig .tc := ⟨.hbm, 113, rfl⟩
abbrev main_cst_5 : Ref sig .tc := ⟨.hbm, 114, rfl⟩
abbrev main_cst_6 : Ref sig .tc := ⟨.hbm, 115, rfl⟩
abbrev main_call3_v0 : Ref sig .tc := ⟨.hbm, 116, rfl⟩
abbrev main_call3_v1 : Ref sig .tc := ⟨.hbm, 117, rfl⟩
abbrev main_v59 : Ref sig .tc := ⟨.hbm, 118, rfl⟩
abbrev main_v60 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v61 : Ref sig .tc := ⟨.hbm, 123, rfl⟩
abbrev main_c_7 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_8 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v65 : Ref sig .tc := ⟨.hbm, 132, rfl⟩
abbrev main_c_9 : Ref sig .tc := ⟨.hbm, 133, rfl⟩
abbrev main_v66 : Ref sig .tc := ⟨.hbm, 134, rfl⟩
abbrev main_v67 : Ref sig .tc := ⟨.hbm, 135, rfl⟩
abbrev main_c_10 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_11 : Ref sig .tc := ⟨.hbm, 140, rfl⟩
abbrev main_cst_12 : Ref sig .tc := ⟨.hbm, 141, rfl⟩
abbrev main_call6_v0 : Ref sig .tc := ⟨.hbm, 142, rfl⟩
abbrev main_call6_v1 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩

abbrev nD : Nat := 1
abbrev τ : Topo := Topo.v7x

variable {F : FTy → Type} [FloatOps F]
-- ==== Final.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.MoeCases.lean ====
/-
  What one grid point of the expert call leaves behind, case by case, as values of its input blocks and of the
  scratch it finds: the first point of a row block stores the normalized rows, the routing weights and the first
  partial sum; a middle point adds its partial sum; the last point adds its own and stores the result rows.
-/
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.MoeCases

open Cert.KernelIdeal Cert.KernelIdeal.Gen

variable {F : FTy → Type} [FloatOps F]

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl

/-- Row `3` of the modulation block: the shift. -/
abbrev shiftRow (x2 : Vec F S1x6x2048 .f32) : Vec F S1x1x2048 .f32 :=
  View.ld x2 (Rect.unit ![0, 3, 0] ![1, 1, 2048] inb_S1x6x2048_S1x1x2048_0_3_0)

/-- Row `4` of the modulation block: the scale. -/
abbrev scaleRow (x2 : Vec F S1x6x2048 .f32) : Vec F S1x1x2048 .f32 :=
  View.ld x2 (Rect.unit ![0, 4, 0] ![1, 1, 2048] inb_S1x6x2048_S1x1x2048_0_4_0)

/-- Row `5` of the modulation block: the gate. -/
abbrev gateRow (x2 : Vec F S1x6x2048 .f32) : Vec F S1x1x2048 .f32 :=
  View.ld x2 (Rect.unit ![0, 5, 0] ![1, 1, 2048] inb_S1x6x2048_S1x1x2048_0_5_0)

/-- The normalized and modulated rows of a block. -/
def rowsH (x0 : Vec F S512x2048 .f32) (x1 : Vec F S1x2048 .f32) (x2 : Vec F S1x6x2048 .f32) : FVec F S512x2048 .f32 :=
  k0_pay3 x0 x1 (shiftRow x2) (scaleRow x2)

/-- The routing logits of a block's rows, −∞ past the experts. -/
def logitsV (x0 : Vec F S512x2048 .f32) (x1 : Vec F S1x2048 .f32) (x2 : Vec F S1x6x2048 .f32) (x3 : Vec F S2048x128 .f32) : FVec F S512x128 .f32 :=
  k0_pay5 x0 x1 (shiftRow x2) (scaleRow x2) x3

/-- The routing weights of a block's rows. -/
def combV (x0 : Vec F S512x2048 .f32) (x1 : Vec F S1x2048 .f32) (x2 : Vec F S1x6x2048 .f32) (x3 : Vec F S2048x128 .f32) : FVec F S512x128 .f32 :=
  k0_pay9 k0_pay4 (k0_pay5 x0 x1 (shiftRow x2) (scaleRow x2) x3) (k0_pay6 x0 x1 (shiftRow x2) (scaleRow x2) x3)
    (k0_pay7 x0 x1 (shiftRow x2) (scaleRow x2) x3) k0_pay8

variable (c : Dev nD) (i : grid0.Coords) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x128 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x128 .f32) (harg12 : arg12.IsWhole) (arg13 : Memref sig .tc .vmem S512x2048 .f32) (harg13 : arg13.IsWhole)
variable (x0 : Vec F S512x2048 .f32) (x1 : Vec F S1x2048 .f32) (x2 : Vec F S1x6x2048 .f32) (x3 : Vec F S2048x128 .f32) (x4 : Vec F S1x2048x512 .bf16) (x5 : Vec F S1x2048x512 .bf16) (x6 : Vec F S1x512x2048 .bf16)

/-- The first point of a row block stores the normalized rows. -/
theorem first_h (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay10 (rowsH x0 x1 x2) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero hz2]
  unfold rowsH
  simp only [View.readCov_unit_zero (S := S512x2048) _ hz2, View.readCov_unit_zero (S := S512x128) _ hz2, View.readAt_eq_ld, harg3.read_unread, harg4.read_unread, harg5.read_unread, harg6.read_unread, harg7.read_unread, harg8.read_unread, harg9.read_unread, harg11.read_unread, harg12.read_unread, harg13.read_unread, View.ld_unit_zero (S := S512x2048) hz2, View.ld_unit_zero (S := S1x2048) hz2, View.ld_unit_zero (S := S2048x128) hz2, View.ld_unit_zero (S := S512x128) hz2, View.ld_unit_zero (S := S1x2048x512) hz3, View.ld_unit_zero (S := S1x512x2048) hz3, shapeCast_self]

/-- The first point of a row block stores the routing weights. -/
theorem first_comb (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 x6 = combV x0 x1 x2 x3 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero hz2]
  unfold combV
  simp only [View.readCov_unit_zero (S := S512x2048) _ hz2, View.readCov_unit_zero (S := S512x128) _ hz2, View.readAt_eq_ld, harg3.read_unread, harg4.read_unread, harg5.read_unread, harg6.read_unread, harg7.read_unread, harg8.read_unread, harg9.read_unread, harg11.read_unread, harg12.read_unread, harg13.read_unread, View.ld_unit_zero (S := S512x2048) hz2, View.ld_unit_zero (S := S1x2048) hz2, View.ld_unit_zero (S := S2048x128) hz2, View.ld_unit_zero (S := S512x128) hz2, View.ld_unit_zero (S := S1x2048x512) hz3, View.ld_unit_zero (S := S1x512x2048) hz3, shapeCast_self]

/-- The first point of a row block leaves its partial sum over the zero block. -/
theorem first_acc (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay12 i (k0_pay10 (rowsH x0 x1 x2)) (combV x0 x1 x2 x3) x4 x5 k0_pay11 x6 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S512x2048) hz2]
  unfold k0_pay1 rowsH combV
  simp only [View.readCov_unit_zero (S := S512x2048) _ hz2, View.readCov_unit_zero (S := S512x128) _ hz2, View.readAt_eq_ld, harg3.read_unread, harg4.read_unread, harg5.read_unread, harg6.read_unread, harg7.read_unread, harg8.read_unread, harg9.read_unread, harg11.read_unread, harg12.read_unread, harg13.read_unread, View.ld_unit_zero (S := S512x2048) hz2, View.ld_unit_zero (S := S1x2048) hz2, View.ld_unit_zero (S := S2048x128) hz2, View.ld_unit_zero (S := S512x128) hz2, View.ld_unit_zero (S := S1x2048x512) hz3, View.ld_unit_zero (S := S1x512x2048) hz3, shapeCast_self]

/-- A middle point adds its partial sum. -/
theorem mid_acc (s0 : Vec F S512x2048 .bf16) (s1 : Vec F S512x128 .f32) (s2 : Vec F S512x2048 .f32) (hc0 : ¬cond0_0 i) (hc1 : ¬cond0_1 i) :
    sout0_B_2 c i arg3 harg3 arg4 harg4 arg5 harg5 arg6 harg6 arg7 harg7 arg8 harg8 arg9 harg9 arg10 harg10 arg11 harg11 arg12 harg12 arg13 harg13 hc0 hc1 x0 x1 x2 x3 x4 x5 x6 s0 s1 s2 = k0_pay12 i s0 s1 x4 x5 s2 x6 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 hc0 hc1 x0 x1 x2 x3 x4 x5 x6 s0 s1 s2)]
  unfold kernelRun0_B
  dsimp only
  sl_unfold_words
  rw [View.canon_unit_zero hz2]
  unfold k0_pay1
  simp only [View.readCov_unit_zero (S := S512x2048) _ hz2, View.readCov_unit_zero (S := S512x128) _ hz2, View.readAt_eq_ld, harg3.read_unread, harg4.read_unread, harg5.read_unread, harg6.read_unread, harg7.read_unread, harg8.read_unread, harg9.read_unread, harg11.read_unread, harg12.read_unread, harg13.read_unread, View.ld_unit_zero (S := S512x2048) hz2, View.ld_unit_zero (S := S1x2048) hz2, View.ld_unit_zero (S := S2048x128) hz2, View.ld_unit_zero (S := S512x128) hz2, View.ld_unit_zero (S := S1x2048x512) hz3, View.ld_unit_zero (S := S1x512x2048) hz3, shapeCast_self]

/-- The last point adds its partial sum. -/
theorem last_acc (s0 : Vec F S512x2048 .bf16) (s1 : Vec F S512x128 .f32) (s2 : Vec F S512x2048 .f32) (hc0 : ¬cond0_0 i) (hc1 : cond0_1 i) :
    sout0_C_2 c i arg3 harg3 arg4 harg4 arg5 harg5 arg6 harg6 arg7 harg7 arg8 harg8 arg9 harg9 arg10 harg10 arg11 harg11 arg12 harg12 arg13 harg13 hc0 hc1 x0 x1 x2 x3 x4 x5 x6 s0 s1 s2 = k0_pay12 i s0 s1 x4 x5 s2 x6 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 hc0 hc1 x0 x1 x2 x3 x4 x5 x6 s0 s1 s2)]
  unfold kernelRun0_C
  dsimp only
  sl_unfold_words
  rw [View.canon_unit_zero hz2]
  unfold k0_pay1
  simp only [View.readCov_unit_zero (S := S512x2048) _ hz2, View.readCov_unit_zero (S := S512x128) _ hz2, View.readAt_eq_ld, harg3.read_unread, harg4.read_unread, harg5.read_unread, harg6.read_unread, harg7.read_unread, harg8.read_unread, harg9.read_unread, harg11.read_unread, harg12.read_unread, harg13.read_unread, View.ld_unit_zero (S := S512x2048) hz2, View.ld_unit_zero (S := S1x2048) hz2, View.ld_unit_zero (S := S2048x128) hz2, View.ld_unit_zero (S := S512x128) hz2, View.ld_unit_zero (S := S1x2048x512) hz3, View.ld_unit_zero (S := S1x512x2048) hz3, shapeCast_self]

/-- The last point stores the input rows plus the gate times the whole sum. -/
theorem last_out (s0 : Vec F S512x2048 .bf16) (s1 : Vec F S512x128 .f32) (s2 : Vec F S512x2048 .f32) (hc0 : ¬cond0_0 i) (hc1 : cond0_1 i) :
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 s0 s1 s2 = k0_pay2 x0 (gateRow x2) (k0_pay12 i s0 s1 x4 x5 s2 x6) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 s0 s1 s2)]
  unfold kernelRun0_C
  dsimp only
  sl_unfold_words
  rw [View.canon_unit_zero hz2]
  unfold k0_pay1
  simp only [View.readCov_unit_zero (S := S512x2048) _ hz2, View.readCov_unit_zero (S := S512x128) _ hz2, View.readAt_eq_ld, harg3.read_unread, harg4.read_unread, harg5.read_unread, harg6.read_unread, harg7.read_unread, harg8.read_unread, harg9.read_unread, harg11.read_unread, harg12.read_unread, harg13.read_unread, View.ld_unit_zero (S := S512x2048) hz2, View.ld_unit_zero (S := S1x2048) hz2, View.ld_unit_zero (S := S2048x128) hz2, View.ld_unit_zero (S := S512x128) hz2, View.ld_unit_zero (S := S1x2048x512) hz3, View.ld_unit_zero (S := S1x512x2048) hz3, shapeCast_self]

end Cert.KernelIdeal.MoeCases
end
-- ==== Proof.Top2.lean ====
/-
  The two experts a token is sent to and their weights, over the extended reals: the two greatest of eight logits, the
  lower index first at ties, and the softmax of the two. The lane form (128 lanes, −∞ past the eighth) is read here too.
-/
module

public import Idealize.ShloMosaic.Lib.Pointwise
public import Mathlib.Data.EReal.Inv

@[expose] public section

set_option maxRecDepth 16384

noncomputable section

open Idealize.ShloMosaic

namespace Top2

/-- `i₁` is the first index of the greatest value, `i₂` the first index of the greatest value among the others. -/
structure Picks (v : Fin 8 → EReal) (i₁ i₂ : Fin 8) : Prop where
  le₁ : ∀ j, v j ≤ v i₁
  lt₁ : ∀ j, j < i₁ → v j < v i₁
  ne : i₂ ≠ i₁
  le₂ : ∀ j, j ≠ i₁ → v j ≤ v i₂
  lt₂ : ∀ j, j ≠ i₁ → j < i₂ → v j < v i₂

/-- The ratio of the second weight to the first. -/
def ratio (v : Fin 8 → EReal) (i₁ i₂ : Fin 8) : EReal := Ideal.exp (v i₂ - v i₁)

/-- The routing weight of expert `e`. -/
def weight (v : Fin 8 → EReal) (i₁ i₂ e : Fin 8) : EReal :=
  (if e = i₁ then Ideal.div 1 (1 + ratio v i₁ i₂) else 0) + (if e = i₂ then Ideal.div (ratio v i₁ i₂) (1 + ratio v i₁ i₂) else 0)

/-- The pattern of −∞. -/
theorem bits_bot : Ideal.ofBits .f32 4286578688#32 = ⊥ := by simp [Ideal.ofBits, Ideal.ieee]
/-- The pattern of +∞. -/
theorem bits_top : Ideal.ofBits .f32 2139095040#32 = ⊤ := by simp [Ideal.ofBits, Ideal.ieee]
/-- The pattern of 128. -/
theorem bits_128 : Ideal.ofBits .f32 1124073472#32 = ((128 : ℝ) : EReal) := by
  simp [Ideal.ofBits, Ideal.ieee]; rw [← EReal.coe_mul]; norm_num
/-- The pattern of 8. -/
theorem bits_8 : Ideal.ofBits .f32 1090519040#32 = ((8 : ℝ) : EReal) := by
  simp [Ideal.ofBits, Ideal.ieee]; rw [← EReal.coe_mul]; norm_num

/-- A lane number read as a float is the number. -/
theorem lane_val (x : Fin 128) : (FloatOps.sitofp (F := Ideal) FTy.f32 (BitVec.ofNat 32 ↑x) : EReal) = ((x.val : ℝ) : EReal) := by
  show (((BitVec.ofNat 32 x.val).toInt : ℝ) : EReal) = _
  have h := x.isLt
  have : (BitVec.ofNat 32 x.val).toInt = (x.val : Int) := by
    rw [BitVec.toInt_eq_toNat_of_lt] <;> simp <;> omega
  rw [this]; simp

/-- Two lane numbers as floats agree exactly when the lanes do. -/
theorem lane_inj (x y : Nat) : (((x : ℝ) : EReal) = ((y : ℝ) : EReal)) ↔ x = y := by
  simp

/-- The greatest over the lanes, from −∞, is the greatest value. -/
theorem fold_max_eq {n : Nat} (f : Fin n → EReal) (i : Fin n) (h : ∀ j, f j ≤ f i) :
    Finset.fold max ⊥ f Finset.univ = f i :=
  le_antisymm (Finset.fold_max_le _ |>.mpr ⟨bot_le, fun j _ => h j⟩) (Finset.le_fold_max _ |>.mpr (.inr ⟨i, Finset.mem_univ _, le_rfl⟩))

/-- The least over the lanes, from +∞, is the least value. -/
theorem fold_min_eq {n : Nat} (f : Fin n → EReal) (i : Fin n) (h : ∀ j, f i ≤ f j) :
    Finset.fold min ⊤ f Finset.univ = f i :=
  le_antisymm (Finset.fold_min_le _ |>.mpr (.inr ⟨i, Finset.mem_univ _, le_rfl⟩)) (Finset.le_fold_min _ |>.mpr ⟨le_top, fun j _ => h j⟩)

/-- The first lane at which the lanes' value is `c`, taken as the least lane number with 128 elsewhere. -/
theorem first_lane (f : Fin 128 → EReal) (c : EReal) (i : Fin 128) (hi : f i = c) (hlt : ∀ j, j < i → f j ≠ c) :
    Finset.fold min ⊤ (fun x : Fin 128 => if f x = c then ((x.val : ℝ) : EReal) else ((128 : ℝ) : EReal)) Finset.univ = ((i.val : ℝ) : EReal) := by
  rw [fold_min_eq _ i]
  · simp [hi]
  · intro j
    rw [if_pos hi]
    split
    · rename_i h
      have : ¬ j < i := fun hj => hlt j hj h
      rw [EReal.coe_le_coe_iff]; exact_mod_cast (not_lt.mp this)
    · rw [EReal.coe_le_coe_iff]; exact_mod_cast i.isLt.le

/-- The eight logits laid on 128 lanes, −∞ past the eighth. -/
def lanes (v : Fin 8 → EReal) (l : Fin 128) : EReal := if h : l.val < 8 then v ⟨l.val, h⟩ else ⊥

/-- A lane below the eighth. -/
def lane (i : Fin 8) : Fin 128 := ⟨i.val, by omega⟩

/-- The lanes at an expert's lane hold its logit. -/
theorem lanes_lane (v : Fin 8 → EReal) (i : Fin 8) : lanes v (lane i) = v i := by
  simp [lanes, lane]

/-- The routing weights as the lanes compute them. -/
def laneWeight (L : Fin 128 → EReal) (l : Fin 128) : EReal :=
  let m₁ := Finset.fold max ⊥ L Finset.univ
  let j₁ := Finset.fold min ⊤ (fun x : Fin 128 => if L x = m₁ then ((x.val : ℝ) : EReal) else ((128 : ℝ) : EReal)) Finset.univ
  let L₂ : Fin 128 → EReal := fun x => if ((x.val : ℝ) : EReal) = j₁ then ⊥ else L x
  let m₂ := Finset.fold max ⊥ L₂ Finset.univ
  let j₂ := Finset.fold min ⊤ (fun x : Fin 128 => if L₂ x = m₂ then ((x.val : ℝ) : EReal) else ((128 : ℝ) : EReal)) Finset.univ
  (if ((l.val : ℝ) : EReal) = j₁ then Ideal.div 1 (1 + Ideal.exp (m₂ - m₁)) else 0)
    + (if ((l.val : ℝ) : EReal) = j₂ then Ideal.div (Ideal.exp (m₂ - m₁)) (1 + Ideal.exp (m₂ - m₁)) else 0)

/-- Over lanes that hold eight logits none of which is −∞, the lanes compute the routing weights. -/
theorem laneWeight_eq (v : Fin 8 → EReal) (hv : ∀ j, v j ≠ ⊥) (i₁ i₂ : Fin 8) (h : Picks v i₁ i₂) (e : Fin 8) :
    laneWeight (lanes v) (lane e) = weight v i₁ i₂ e := by
  have hm₁ : Finset.fold max ⊥ (lanes v) Finset.univ = v i₁ := by
    rw [fold_max_eq _ (lane i₁), lanes_lane]
    intro j; rw [lanes_lane]; unfold lanes; split
    · exact h.le₁ _
    · exact bot_le
  have hj₁ : Finset.fold min ⊤ (fun x : Fin 128 => if lanes v x = v i₁ then ((x.val : ℝ) : EReal) else ((128 : ℝ) : EReal)) Finset.univ
      = ((i₁.val : ℝ) : EReal) := by
    refine first_lane (lanes v) (v i₁) (lane i₁) (lanes_lane _ _) fun j hj => ?_
    have hj' : j.val < i₁.val := hj
    have : lanes v j = v ⟨j.val, by omega⟩ := by unfold lanes; rw [dif_pos (by omega)]
    rw [this]; exact (h.lt₁ _ hj').ne
  set L₂ : Fin 128 → EReal := fun x => if ((x.val : ℝ) : EReal) = ((i₁.val : ℝ) : EReal) then ⊥ else lanes v x with hL₂
  have hL : ∀ j : Fin 8, j ≠ i₁ → L₂ (lane j) = v j := by
    intro j hj
    have : ¬ (lane j).val = i₁.val := fun hh => hj (Fin.ext hh)
    simp only [hL₂, lane_inj]
    rw [if_neg this, lanes_lane]
  have hm₂ : Finset.fold max ⊥ L₂ Finset.univ = v i₂ := by
    rw [fold_max_eq _ (lane i₂), hL _ h.ne]
    intro j; rw [hL _ h.ne]; simp only [hL₂, lane_inj]
    split
    · exact bot_le
    · rename_i hne
      unfold lanes; split
      · exact h.le₂ _ fun hh => hne (congrArg Fin.val hh)
      · exact bot_le
  have hj₂ : Finset.fold min ⊤ (fun x : Fin 128 => if L₂ x = v i₂ then ((x.val : ℝ) : EReal) else ((128 : ℝ) : EReal)) Finset.univ
      = ((i₂.val : ℝ) : EReal) := by
    refine first_lane L₂ (v i₂) (lane i₂) (hL _ h.ne) fun j hj => ?_
    have hj' : j.val < i₂.val := hj
    simp only [hL₂, lane_inj]
    split
    · exact (hv i₂).symm
    · rename_i hne
      have : lanes v j = v ⟨j.val, by omega⟩ := by unfold lanes; rw [dif_pos (by omega)]
      rw [this]; exact (h.lt₂ _ (fun hh => hne (congrArg Fin.val hh)) hj').ne
  unfold laneWeight
  simp only [hm₁, hj₁]
  rw [← hL₂, hm₂, hj₂]
  simp only [lane_inj, lane, weight, ratio, Fin.ext_iff]

/-- The ratio of two finite logits is a positive number. -/
theorem ratio_coe (v : Fin 8 → EReal) (hv : ∀ j, ∃ r : ℝ, v j = (r : EReal)) (i₁ i₂ : Fin 8) :
    ∃ r : ℝ, 0 < r ∧ ratio v i₁ i₂ = (r : EReal) := by
  obtain ⟨a, ha⟩ := hv i₁
  obtain ⟨b, hb⟩ := hv i₂
  refine ⟨Real.exp (b - a), Real.exp_pos _, ?_⟩
  unfold ratio
  rw [ha, hb, ← EReal.coe_sub]
  rfl

/-- A quotient of numbers by a positive number. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- A routing weight of finite logits is a nonnegative number. -/
theorem weight_coe (v : Fin 8 → EReal) (hv : ∀ j, ∃ r : ℝ, v j = (r : EReal)) (i₁ i₂ e : Fin 8) :
    ∃ r : ℝ, 0 ≤ r ∧ weight v i₁ i₂ e = (r : EReal) := by
  obtain ⟨r, hr, h⟩ := ratio_coe v hv i₁ i₂
  have h1 : (1 : EReal) = ((1 : ℝ) : EReal) := rfl
  have h0 : (0 : EReal) = ((0 : ℝ) : EReal) := rfl
  refine ⟨(if e = i₁ then 1 / (1 + r) else 0) + (if e = i₂ then r / (1 + r) else 0), by positivity, ?_⟩
  unfold weight
  rw [h, h1, h0, ← EReal.coe_add, div_coe _ _ (by linarith), div_coe _ _ (by linarith), EReal.coe_add]
  congr 1 <;> split <;> rfl

end Top2
end
-- ==== Proof.MoeSpec.lean ====
/-
  The expert layer over its arguments' elements: normalized rows, logits, routing weights, one hidden unit's share of
  a result, and the results the call computes.
-/
module

public import proofs.«01_k».proof.Proof.Top2

@[expose] public section

noncomputable section

open Idealize.ShloMosaic Idealize.ShloMosaic.TcCoe Idealize.SL.Sem

namespace MoeSpec

/-- A hidden unit of a gated expert: silu of one product times the other. -/
def unit (a b : EReal) : EReal := a * Ideal.logistic a * b

/-- The group of modulation rows a row takes: its sequence, or the context's. -/
def grp (r : Fin 9216) : Fin 8 := ⟨min (r.val / 2048) 4, by omega⟩

variable (X : Fin 9216 → Fin 2048 → EReal) (NW : Fin 2048 → EReal) (M : Fin 8 → Fin 6 → Fin 2048 → EReal) (RT : Fin 2048 → Fin 8 → EReal)
variable (W1 W3 : Fin 8 → Fin 2048 → Fin 4096 → EReal) (W2 : Fin 8 → Fin 4096 → Fin 2048 → EReal)

/-- The scale of a row's norm: one over the root of its mean square plus a small number. -/
def inv (r : Fin 9216) : EReal :=
  Ideal.rsqrt (Ideal.div (∑ x : Fin 2048, X r x * X r x) (Ideal.ofBits FTy.f32 1157627904#32) + Ideal.ofBits FTy.f32 897988541#32)

/-- A normalized and modulated row. -/
def hid (r : Fin 9216) (k : Fin 2048) : EReal := X r k * inv X r * NW k * (1 + M (grp r) 4 k) + M (grp r) 3 k

/-- A row's routing logits. -/
def lg (r : Fin 9216) (e : Fin 8) : EReal := ∑ k : Fin 2048, hid X NW M r k * RT k e

/-- A row's routing weight of an expert, as the lanes give it. -/
def comb (r : Fin 9216) (e : Fin 8) : EReal := Top2.laneWeight (Top2.lanes (lg X NW M RT r)) (Top2.lane e)

/-- A hidden unit of an expert at a row. -/
def act (r : Fin 9216) (e : Fin 8) (f : Fin 4096) : EReal :=
  unit (∑ k : Fin 2048, hid X NW M r k * W1 e k f) (∑ k : Fin 2048, hid X NW M r k * W3 e k f)

/-- A hidden unit's share of a result. -/
def share (r : Fin 9216) (n : Fin 2048) (e : Fin 8) (f : Fin 4096) : EReal :=
  act X NW M W1 W3 r e f * comb X NW M RT r e * W2 e f n

/-- The hidden unit `t` of the `j`-th block of 512. -/
def unitAt (j : Nat) (t : Fin 512) : Fin 4096 := ⟨j % 8 * 512 + t.val, by omega⟩

/-- The expert of the `j`-th block. -/
def expertAt (j : Nat) : Fin 8 := ⟨j % 64 / 8, by omega⟩

/-- The share of the `j`-th block of hidden units. -/
def blockShare (r : Fin 9216) (n : Fin 2048) (j : Nat) : EReal :=
  ∑ t : Fin 512, share X NW M RT W1 W3 W2 r n (expertAt j) (unitAt j t)

/-- The results as the call computes them. -/
def result (r : Fin 9216) (n : Fin 2048) : EReal :=
  X r n + M (grp r) 5 n * ∑ j ∈ Finset.range 64, blockShare X NW M RT W1 W3 W2 r n j

end MoeSpec
end
-- ==== Proof.MoeStep.lean ====
/-
  The values of one grid point of the expert call at an element, over the extended reals.
-/
module

public import proofs.«01_k».proof.Proof.MoeCases
public import proofs.«01_k».proof.Proof.MoeSpec

@[expose] public section

set_option maxRecDepth 16384

noncomputable section

open Idealize.ShloMosaic Idealize.ShloMosaic.TcCoe Idealize.SL.Sem

namespace Cert.KernelIdeal.MoeStep

open MoeSpec (unit)
open Cert.KernelIdeal Cert.KernelIdeal.Gen Cert.KernelIdeal.MoeCases

/-- A grid coordinate along the experts is below 8. -/
theorem expert_lt (i : grid0.Coords) : (i 1).val < 8 := (i 1).isLt

/-- The masked sum over the lanes picks the weight at the point's expert. -/
theorem pick_lane (C : Fin 128 → EReal) (e : Fin 8) :
    (∑ x : Fin 128, Scalar.select (IntOp.cmpi CmpIPredicate.eq (BitVec.ofNat 32 ↑x) (BitVec.ofNat 32 e.val)) (C x) 0) = C (Top2.lane e) := by
  rw [Finset.sum_eq_single (Top2.lane e)]
  · simp [Scalar.select, IntOp.cmpi, Top2.lane]
  · intro b _ hb
    have hne : ¬ BitVec.ofNat 32 b.val = BitVec.ofNat 32 e.val := by
      intro h
      apply hb
      have := congrArg BitVec.toNat h
      simp at this
      apply Fin.ext
      show b.val = e.val
      omega
    have hb' : (BitVec.ofNat 32 b.val == BitVec.ofNat 32 e.val) = false := beq_eq_false_iff_ne.mpr hne
    show (if BitVec.ofBool (BitVec.ofNat 32 b.val == BitVec.ofNat 32 e.val) = 1#1 then C b else 0) = 0
    rw [hb', if_neg (by decide)]
  · intro h; exact absurd (Finset.mem_univ _) h

/-- The partial sum of a point: its hidden columns' units, weighted, times the second matrix. -/
theorem step_apply (i : grid0.Coords) (e : Fin 8) (he : (i 1).val = e.val) (s0 : Vec Ideal S512x2048 .bf16) (s1 : Vec Ideal S512x128 .f32) (x4 x5 : Vec Ideal S1x2048x512 .bf16)
    (s2 : Vec Ideal S512x2048 .f32) (x6 : Vec Ideal S1x512x2048 .bf16) (r : Fin 512) (n : Fin 2048) :
    k0_pay12 (F := Ideal) i s0 s1 x4 x5 s2 x6 (ix2 r n) =
      s2 (ix2 r n) + ∑ t : Fin 512, unit (∑ k : Fin 2048, s0 (ix2 r k) * x4 (ix3 0 k t)) (∑ k : Fin 2048, s0 (ix2 r k) * x5 (ix3 0 k t))
        * s1 (ix2 r (Top2.lane e)) * x6 (ix3 0 t n) := by
  pointwise [k0_pay12]
  simp only [he, pick_lane (fun x => s1 (ix2 r x)) e]
  rfl

/-- The normalized rows at an element. -/
theorem rows_apply (x0 : Vec Ideal S512x2048 .f32) (x1 : Vec Ideal S1x2048 .f32) (x2 : Vec Ideal S1x6x2048 .f32) (r : Fin 512) (n : Fin 2048) :
    rowsH (F := Ideal) x0 x1 x2 (ix2 r n) =
      x0 (ix2 r n) * Ideal.rsqrt (Ideal.div (∑ x : Fin 2048, x0 (ix2 r x) * x0 (ix2 r x)) (Ideal.ofBits FTy.f32 1157627904#32) + Ideal.ofBits FTy.f32 897988541#32)
        * x1 (ix2 0 n) * (1 + x2 (ix3 0 4 n)) + x2 (ix3 0 3 n) := by
  pointwise [rowsH, k0_pay3, shiftRow, scaleRow]

/-- The stored rows are the normalized rows. -/
theorem stored_apply (h : FVec Ideal S512x2048 .f32) (r : Fin 512) (n : Fin 2048) : k0_pay10 (F := Ideal) h (ix2 r n) = h (ix2 r n) := by
  pointwise [k0_pay10]

/-- The sum starts at zero. -/
theorem zero_apply (r : Fin 512) (n : Fin 2048) : k0_pay11 (F := Ideal) (ix2 r n) = 0 := by
  pointwise [k0_pay11]

/-- The result rows at an element. -/
theorem out_apply (x0 : Vec Ideal S512x2048 .f32) (x2 : Vec Ideal S1x6x2048 .f32) (s : Vec Ideal S512x2048 .f32) (r : Fin 512) (n : Fin 2048) :
    k0_pay2 (F := Ideal) x0 (gateRow x2) s (ix2 r n) = x0 (ix2 r n) + x2 (ix3 0 5 n) * s (ix2 r n) := by
  pointwise [k0_pay2, gateRow]

/-- The logits' lanes at a row. -/
theorem logits_apply (x0 : Vec Ideal S512x2048 .f32) (x1 : Vec Ideal S1x2048 .f32) (x2 : Vec Ideal S1x6x2048 .f32) (x3 : Vec Ideal S2048x128 .f32) (r : Fin 512) (l : Fin 128) :
    logitsV (F := Ideal) x0 x1 x2 x3 (ix2 r l) =
      Top2.lanes (fun e : Fin 8 => ∑ k : Fin 2048, rowsH (F := Ideal) x0 x1 x2 (ix2 r k) * x3 (ix2 k (Top2.lane e))) l := by
  unfold logitsV k0_pay5
  rw [show k0_pay3 x0 x1 (shiftRow x2) (scaleRow x2) = rowsH x0 x1 x2 from rfl]
  pointwise [k0_pay4]
  rw [Top2.lane_val, Top2.bits_8, Top2.bits_bot]
  unfold Top2.lanes
  by_cases h : l.val < 8
  · rw [dif_pos h, if_pos (by exact_mod_cast h)]
    rfl
  · rw [dif_neg h, if_neg (by rw [EReal.coe_lt_coe_iff]; intro hh; exact h (by exact_mod_cast hh))]

/-- The routing weights at a row are the lanes' weights of its logits. -/
theorem comb_apply (x0 : Vec Ideal S512x2048 .f32) (x1 : Vec Ideal S1x2048 .f32) (x2 : Vec Ideal S1x6x2048 .f32) (x3 : Vec Ideal S2048x128 .f32) (r : Fin 512) (l : Fin 128) :
    combV (F := Ideal) x0 x1 x2 x3 (ix2 r l) = Top2.laneWeight (fun x => logitsV (F := Ideal) x0 x1 x2 x3 (ix2 r x)) l := by
  unfold combV k0_pay7 k0_pay6
  rw [show k0_pay5 x0 x1 (shiftRow x2) (scaleRow x2) x3 = logitsV x0 x1 x2 x3 from rfl]
  generalize logitsV x0 x1 x2 x3 = L
  pointwise [k0_pay4, k0_pay8, k0_pay9]
  simp only [Top2.lane_val, Top2.bits_bot, Top2.bits_top, Top2.bits_128]
  rfl

end Cert.KernelIdeal.MoeStep
end
-- ==== Proof.MoeBlocks.lean ====
/-
  The blocks the expert call's windows stage at a grid point, and the arrays behind them, read at an element of the
  arguments. Point `t` of the grid is row block `t / 64`, expert `t % 64 / 8`, hidden block `t % 8`.
-/
module

public import proofs.«01_k».proof.Proof.Gen.KernelIdeal.Value
public import Idealize.ShloMosaic.Lib.Pointwise
public import Idealize.ShloMosaic.Lib.Tactic
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem

namespace Cert.KernelIdeal.MoeBlocks

open Cert.KernelIdeal Cert.KernelIdeal.Gen

variable (m : (ℓ : Loc nD τ sig) → Buf (Elt Ideal) ℓ) (c : Dev nD)

/-- The row modulation group of row block `b`: four blocks a sequence, the context rows last. -/
def group (b : Nat) : Nat := min (b / 4) 4

theorem index0 : ∀ t : Fin grid0.N, win0_0.index t (0 : Fin 2) = t.val / 64 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 3) = group (t.val / 64) ∧ win0_2.index t (1 : Fin 3) = 0 ∧ win0_2.index t (2 : Fin 3) = 0 := by
  decide +kernel
theorem index3 : ∀ t : Fin grid0.N, win0_3.index t (0 : Fin 2) = 0 ∧ win0_3.index t (1 : Fin 2) = 0 := by decide +kernel
theorem index4 : ∀ t : Fin grid0.N, win0_4.index t (0 : Fin 3) = t.val % 64 / 8 ∧ win0_4.index t (1 : Fin 3) = 0 ∧ win0_4.index t (2 : Fin 3) = t.val % 8 := by
  decide +kernel
theorem index5 : ∀ t : Fin grid0.N, win0_5.index t (0 : Fin 3) = t.val % 64 / 8 ∧ win0_5.index t (1 : Fin 3) = 0 ∧ win0_5.index t (2 : Fin 3) = t.val % 8 := by
  decide +kernel
theorem index6 : ∀ t : Fin grid0.N, win0_6.index t (0 : Fin 3) = t.val % 64 / 8 ∧ win0_6.index t (1 : Fin 3) = t.val % 8 ∧ win0_6.index t (2 : Fin 3) = 0 := by
  decide +kernel
theorem coord1 : ∀ t : Fin grid0.N, (grid0.coords t 1).val = t.val % 64 / 8 := by decide +kernel

/-- The input rows' block. -/
theorem blk0 (t : Fin cfg0.N) (r : Fin 512) (n : Fin 2048) (q : Fin 9216) (hq : q.val = t.val / 64 * 512 + r.val) :
    (iblk m c 0 t : Vec Ideal S512x2048 .f32) (ix2 r n) = m ((c : Thread nD τ).loc main_arg0) (ix2 q n) := by
  unfold iblk
  rw [View.read_apply]
  show V m c main_arg0 _ = _
  rw [V_main_arg0]
  congr 1
  funext a
  apply Fin.ext
  match a with
  | ⟨0, _⟩ => show win0_0.index t 0 * 512 + 1 * r.val = q.val; rw [(index0 t).1]; omega
  | ⟨1, _⟩ => show win0_0.index t 1 * 2048 + 1 * n.val = n.val; rw [(index0 t).2]; omega

/-- The norm weights as the call gets them. -/
theorem arr1 : V m c main_v6 = shapeCast S1x2048 (m ((c : Thread nD τ).loc main_arg1)) shapeCasts_S2048_S1x2048 := by
  dsimp only [V, hostOps0]
  after_results
  rfl

/-- The norm weights' block. -/
theorem blk1 (t : Fin cfg0.N) (n : Fin 2048) :
    (iblk m c 1 t : Vec Ideal S1x2048 .f32) (ix2 0 n) = m ((c : Thread nD τ).loc main_arg1) (ix1 n) := by
  unfold iblk
  rw [View.read_apply]
  show V m c main_v6 _ = _
  rw [arr1, show (((cfg0.win 1).blk t).view.emb (ix2 0 n)) = (ix2 0 n : S1x2048.Idx) from by
    funext a
    apply Fin.ext
    match a with
    | ⟨0, _⟩ => show win0_1.index t 0 * 1 + 1 * 0 = 0; rw [(index1 t).1]
    | ⟨1, _⟩ => show win0_1.index t 1 * 2048 + 1 * n.val = n.val; rw [(index1 t).2]; omega]
  pointwise

/-- The modulation rows' block. -/
theorem blk2 (t : Fin cfg0.N) (k : Fin 6) (n : Fin 2048) (g : Fin 8) (hg : g.val = group (t.val / 64)) :
    (iblk m c 2 t : Vec Ideal S1x6x2048 .f32) (ix3 0 k n) = m ((c : Thread nD τ).loc main_arg2) (ix3 g k n) := by
  unfold iblk
  rw [View.read_apply]
  show V m c main_arg2 _ = _
  rw [V_main_arg2]
  congr 1
  funext a
  apply Fin.ext
  match a with
  | ⟨0, _⟩ => show win0_2.index t 0 * 1 + 1 * 0 = g.val; rw [(index2 t).1]; omega
  | ⟨1, _⟩ => show win0_2.index t 1 * 6 + 1 * k.val = k.val; rw [(index2 t).2.1]; omega
  | ⟨2, _⟩ => show win0_2.index t 2 * 2048 + 1 * n.val = n.val; rw [(index2 t).2.2]; omega

/-- The first matrices as the call gets them: a cast that changes nothing here. -/
theorem arr4 : V m c main_v0 = (m ((c : Thread nD τ).loc main_arg4) : S8x2048x4096.Idx → EReal) := by
  dsimp only [V, hostOps0]
  after_results
  rfl
/-- The gate matrices as the call gets them. -/
theorem arr5 : V m c main_v1 = (m ((c : Thread nD τ).loc main_arg5) : S8x2048x4096.Idx → EReal) := by
  dsimp only [V, hostOps0]
  after_results
  rfl
/-- The second matrices as the call gets them. -/
theorem arr6 : V m c main_v2 = (m ((c : Thread nD τ).loc main_arg6) : S8x4096x2048.Idx → EReal) := by
  dsimp only [V, hostOps0]
  after_results
  rfl

/-- The first matrix's block. -/
theorem blk4 (t : Fin cfg0.N) (k : Fin 2048) (n : Fin 512) (e : Fin 8) (f : Fin 4096) (he : e.val = t.val % 64 / 8) (hf : f.val = t.val % 8 * 512 + n.val) :
    (iblk m c 4 t : Vec Ideal S1x2048x512 .bf16) (ix3 0 k n) = m ((c : Thread nD τ).loc main_arg4) (ix3 e k f) := by
  unfold iblk
  rw [View.read_apply]
  show V m c main_v0 _ = _
  rw [arr4]
  congr 1
  funext a
  apply Fin.ext
  match a with
  | ⟨0, _⟩ => show win0_4.index t 0 * 1 + 1 * 0 = e.val; rw [(index4 t).1]; omega
  | ⟨1, _⟩ => show win0_4.index t 1 * 2048 + 1 * k.val = k.val; rw [(index4 t).2.1]; omega
  | ⟨2, _⟩ => show win0_4.index t 2 * 512 + 1 * n.val = f.val; rw [(index4 t).2.2]; omega

/-- The gate matrix's block. -/
theorem blk5 (t : Fin cfg0.N) (k : Fin 2048) (n : Fin 512) (e : Fin 8) (f : Fin 4096) (he : e.val = t.val % 64 / 8) (hf : f.val = t.val % 8 * 512 + n.val) :
    (iblk m c 5 t : Vec Ideal S1x2048x512 .bf16) (ix3 0 k n) = m ((c : Thread nD τ).loc main_arg5) (ix3 e k f) := by
  unfold iblk
  rw [View.read_apply]
  show V m c main_v1 _ = _
  rw [arr5]
  congr 1
  funext a
  apply Fin.ext
  match a with
  | ⟨0, _⟩ => show win0_5.index t 0 * 1 + 1 * 0 = e.val; rw [(index5 t).1]; omega
  | ⟨1, _⟩ => show win0_5.index t 1 * 2048 + 1 * k.val = k.val; rw [(index5 t).2.1]; omega
  | ⟨2, _⟩ => show win0_5.index t 2 * 512 + 1 * n.val = f.val; rw [(index5 t).2.2]; omega

/-- The second matrix's block. -/
theorem blk6 (t : Fin cfg0.N) (n : Fin 512) (k : Fin 2048) (e : Fin 8) (f : Fin 4096) (he : e.val = t.val % 64 / 8) (hf : f.val = t.val % 8 * 512 + n.val) :
    (iblk m c 6 t : Vec Ideal S1x512x2048 .bf16) (ix3 0 n k) = m ((c : Thread nD τ).loc main_arg6) (ix3 e f k) := by
  unfold iblk
  rw [View.read_apply]
  show V m c main_v2 _ = _
  rw [arr6]
  congr 1
  funext a
  apply Fin.ext
  match a with
  | ⟨0, _⟩ => show win0_6.index t 0 * 1 + 1 * 0 = e.val; rw [(index6 t).1]; omega
  | ⟨1, _⟩ => show win0_6.index t 1 * 512 + 1 * n.val = f.val; rw [(index6 t).2.1]; omega
  | ⟨2, _⟩ => show win0_6.index t 2 * 2048 + 1 * k.val = k.val; rw [(index6 t).2.2]; omega

/-- The router padded to 128 lanes, as the call gets it. -/
theorem arr3 : V m c main_v5 = Host.scatter scatter_S2048x128_S1_S2048x8_01_n_1_0 (fun _ b => b)
    (broadcastInDim S2048x128 ![] bcast_S_S2048x128 (constant (F := Ideal) S_ .f32 0x00000000#32))
    (broadcastInDim S1 ![] bcast_S_S1 (constantI S_ 32 0#32)) (m ((c : Thread nD τ).loc main_arg3) : S2048x8.Idx → EReal) := by
  dsimp only [V, hostOps0]
  after_results

/-- Where an element of the router lands in the padded router: at its own place. -/
theorem router_lands (idx : IVec S1 32) (hidx : ∀ j, idx j = 0#32) (k : S2048x8.Idx) (a : Fin 2048) (b : Fin 128) :
    scatter_S2048x128_S1_S2048x8_01_n_1_0.resultIdx? k idx = some (ix2 a b) ↔ (k 0).val = a.val ∧ (k 1).val = b.val := by
  have s0 : scatter_S2048x128_S1_S2048x8_01_n_1_0.start k idx 0 = 0 := by
    unfold ScatterDims.start
    rw [dif_neg (by decide)]
  have s1 : scatter_S2048x128_S1_S2048x8_01_n_1_0.start k idx 1 = 0 := by
    unfold ScatterDims.start
    rw [dif_pos (by decide), hidx]
    rfl
  have w0 : scatter_S2048x128_S1_S2048x8_01_n_1_0.window k 0 = (k 0).val := rfl
  have w1 : scatter_S2048x128_S1_S2048x8_01_n_1_0.window k 1 = (k 1).val := rfl
  rw [Routing.resultIdx?_eq_some]
  constructor
  · intro h
    have h0 := h 0
    have h1 := h 1
    rw [s0, w0] at h0
    rw [s1, w1] at h1
    have h0' : (0 : Int) + ((k 0).val : Int) = (a.val : Int) := h0
    have h1' : (0 : Int) + ((k 1).val : Int) = (b.val : Int) := h1
    exact ⟨by omega, by omega⟩
  · rintro ⟨h0, h1⟩ q
    match q with
    | ⟨0, _⟩ => show scatter_S2048x128_S1_S2048x8_01_n_1_0.start k idx 0 + _ = (a.val : Int); rw [s0]; show (0 : Int) + ((k 0).val : Int) = _; omega
    | ⟨1, _⟩ => show scatter_S2048x128_S1_S2048x8_01_n_1_0.start k idx 1 + _ = (b.val : Int); rw [s1]; show (0 : Int) + ((k 1).val : Int) = _; omega

/-- The padded router's block at one of the first eight lanes. -/
theorem blk3 (t : Fin cfg0.N) (k : Fin 2048) (e : Fin 8) (l : Fin 128) (hl : l.val = e.val) :
    (iblk m c 3 t : Vec Ideal S2048x128 .f32) (ix2 k l) = m ((c : Thread nD τ).loc main_arg3) (ix2 k e) := by
  unfold iblk
  rw [View.read_apply]
  show V m c main_v5 _ = _
  rw [arr3, show (((cfg0.win 3).blk t).view.emb (ix2 k l)) = (ix2 k l : S2048x128.Idx) from by
    funext a
    apply Fin.ext
    match a with
    | ⟨0, _⟩ => show win0_3.index t 0 * 2048 + 1 * k.val = k.val; rw [(index3 t).1]; omega
    | ⟨1, _⟩ => show win0_3.index t 1 * 128 + 1 * l.val = l.val; rw [(index3 t).2]; omega]
  have hidx : ∀ j, (broadcastInDim S1 ![] bcast_S_S1 (constantI S_ 32 0#32) : IVec S1 32) j = 0#32 := fun _ => rfl
  refine Routing.scatter_set_hit _ _ _ _ _ _ (fun q hq => ?_) (ix2 k e) ((router_lands _ hidx _ _ _).mpr ⟨rfl, hl.symm⟩)
  have h := (router_lands _ hidx _ _ _).mp hq
  congr 1
  funext a
  apply Fin.ext
  match a with
  | ⟨0, _⟩ => exact h.1
  | ⟨1, _⟩ => show (q 1).val = e.val; omega

end Cert.KernelIdeal.MoeBlocks
end
-- ==== Proof.MoeFold.lean ====
/-
  The expert call's sweep over a row block's 64 points: the scratch holds the normalized rows, the routing weights and
  the sum of the blocks of hidden units so far; the last point stores the results.
-/
module

public import proofs.«01_k».proof.Proof.MoeStep
public import proofs.«01_k».proof.Proof.MoeBlocks

@[expose] public section

set_option maxRecDepth 16384

noncomputable section

open Idealize.ShloMosaic Idealize.ShloMosaic.TcCoe Idealize.SL.Sem

namespace Cert.KernelIdeal.MoeFold

open Cert.KernelIdeal Cert.KernelIdeal.Gen Cert.KernelIdeal.Value Cert.KernelIdeal.MoeBlocks Cert.KernelIdeal.MoeCases Cert.KernelIdeal.MoeStep MoeSpec

variable (m : (ℓ : Loc nD τ sig) → Buf (Elt Ideal) ℓ) (c : Dev nD)

/-- The input rows by row and column. -/
def aX : Fin 9216 → Fin 2048 → EReal := fun r n => m ((c : Thread nD τ).loc main_arg0) (ix2 r n)
/-- The norm weights by column. -/
def aN : Fin 2048 → EReal := fun n => m ((c : Thread nD τ).loc main_arg1) (ix1 n)
/-- The modulation rows by group, row and column. -/
def aM : Fin 8 → Fin 6 → Fin 2048 → EReal := fun g k n => m ((c : Thread nD τ).loc main_arg2) (ix3 g k n)
/-- The router by column and expert. -/
def aR : Fin 2048 → Fin 8 → EReal := fun k e => m ((c : Thread nD τ).loc main_arg3) (ix2 k e)
/-- The first matrices by expert, row and column. -/
def aW1 : Fin 8 → Fin 2048 → Fin 4096 → EReal := fun e k f => m ((c : Thread nD τ).loc main_arg4) (ix3 e k f)
/-- The gate matrices by expert, row and column. -/
def aW3 : Fin 8 → Fin 2048 → Fin 4096 → EReal := fun e k f => m ((c : Thread nD τ).loc main_arg5) (ix3 e k f)
/-- The second matrices by expert, row and column. -/
def aW2 : Fin 8 → Fin 4096 → Fin 2048 → EReal := fun e f n => m ((c : Thread nD τ).loc main_arg6) (ix3 e f n)

/-- Row `r` of row block `b`. -/
def rowOf (b : Fin 18) (r : Fin 512) : Fin 9216 := ⟨b.val * 512 + r.val, by omega⟩

/-- A grid point's row block is one of 18. -/
theorem block_lt (t : Fin cfg0.N) : t.val / 64 < 18 := by
  have h := lt_of_lt_of_eq t.isLt (show cfg0.N = 1152 from N_0)
  omega

/-- The modulation group of a block is that of each of its rows. -/
theorem grp_row (b : Fin 18) (r : Fin 512) : (grp (rowOf b r)).val = group b.val := by
  show min ((b.val * 512 + r.val) / 2048) 4 = min (b.val / 4) 4
  omega

section point
variable (t : Fin cfg0.N) (b : Fin 18) (hb : b.val = t.val / 64) (r : Fin 512)
include hb

/-- The normalized rows a block's first point computes. -/
theorem hid_at (k : Fin 2048) : rowsH (F := Ideal) (iblk m c 0 t) (iblk m c 1 t) (iblk m c 2 t) (ix2 r k) = hid (aX m c) (aN m c) (aM m c) (rowOf b r) k := by
  have hq : (rowOf b r).val = t.val / 64 * 512 + r.val := by show b.val * 512 + r.val = _; rw [hb]
  have hg : (grp (rowOf b r)).val = group (t.val / 64) := by rw [grp_row, hb]
  rw [rows_apply]
  simp only [blk0 m c t r _ _ hq, blk1, blk2 m c t _ _ _ hg]
  rfl

/-- The routing weights a block's first point computes, at an expert's lane. -/
theorem comb_at (e : Fin 8) : combV (F := Ideal) (iblk m c 0 t) (iblk m c 1 t) (iblk m c 2 t) (iblk m c 3 t) (ix2 r (Top2.lane e))
    = comb (aX m c) (aN m c) (aM m c) (aR m c) (rowOf b r) e := by
  rw [comb_apply]
  unfold comb
  congr 1
  funext l
  rw [logits_apply]
  refine congrArg (fun v => Top2.lanes v l) ?_
  funext e'
  unfold lg
  refine Finset.sum_congr rfl fun k _ => ?_
  rw [hid_at m c t b hb, blk3 m c t k e' (Top2.lane e') rfl]
  rfl

/-- One point's step at an element: it adds its block's share. -/
theorem step_at (k : Nat) (hk : t.val = b.val * 64 + k) (hk' : k < 64) (n : Fin 2048) (s0 : Vec Ideal S512x2048 .bf16) (s1 : Vec Ideal S512x128 .f32) (s2 : Vec Ideal S512x2048 .f32)
    (h0 : ∀ x, s0 (ix2 r x) = hid (aX m c) (aN m c) (aM m c) (rowOf b r) x)
    (h1 : ∀ e, s1 (ix2 r (Top2.lane e)) = comb (aX m c) (aN m c) (aM m c) (aR m c) (rowOf b r) e) :
    k0_pay12 (F := Ideal) (grid0.coords t) s0 s1 (iblk m c 4 t) (iblk m c 5 t) s2 (iblk m c 6 t) (ix2 r n)
      = s2 (ix2 r n) + blockShare (aX m c) (aN m c) (aM m c) (aR m c) (aW1 m c) (aW3 m c) (aW2 m c) (rowOf b r) n k := by
  have he : (expertAt k).val = t.val % 64 / 8 := by show k % 64 / 8 = _; omega
  have hf : ∀ u : Fin 512, (unitAt k u).val = t.val % 8 * 512 + u.val := fun u => by show k % 8 * 512 + u.val = _; omega
  rw [step_apply _ (expertAt k) ((coord1 t).trans he.symm)]
  congr 1
  unfold blockShare share act
  refine Finset.sum_congr rfl fun u _ => ?_
  rw [h1, blk6 m c t u n (expertAt k) (unitAt k u) he (hf u)]
  simp only [h0, blk4 m c t _ u (expertAt k) (unitAt k u) he (hf u), blk5 m c t _ u (expertAt k) (unitAt k u) he (hf u)]
  rfl

end point

/-- What the scratch holds after the point `k` of row block `b`. -/
structure Holds (b : Fin 18) (k : Nat) (s : Vec Ideal S512x2048 .f32 × Vec Ideal S512x2048 .bf16 × Vec Ideal S512x128 .f32 × Vec Ideal S512x2048 .f32) : Prop where
  rows : ∀ r x, s.2.1 (ix2 r x) = hid (aX m c) (aN m c) (aM m c) (rowOf b r) x
  weights : ∀ r e, s.2.2.1 (ix2 r (Top2.lane e)) = comb (aX m c) (aN m c) (aM m c) (aR m c) (rowOf b r) e
  sums : ∀ r n, s.2.2.2 (ix2 r n) = ∑ j ∈ Finset.range (k + 1), blockShare (aX m c) (aN m c) (aM m c) (aR m c) (aW1 m c) (aW3 m c) (aW2 m c) (rowOf b r) n j

/-- A row block's first point. -/
theorem holds_first (t : Fin cfg0.N) (b : Fin 18) (ht : t.val = b.val * 64) (s) : Holds m c b 0 (stAt0 m c t.val t.isLt s) := by
  have hb : b.val = t.val / 64 := by omega
  have h0 : t.val % 64 = 0 := by omega
  have h1 : ¬t.val % 64 = 63 := by omega
  rw [stAt0_A m c t s h0 h1]
  refine ⟨fun r x => ?_, fun r e => ?_, fun r n => ?_⟩
  · dsimp only
    rw [first_h, stored_apply, hid_at m c t b hb]
  · dsimp only
    rw [first_comb, comb_at m c t b hb]
  · dsimp only
    rw [first_acc, step_at m c t b hb r 0 (by omega) (by omega) n _ _ _ (fun x => by rw [stored_apply, hid_at m c t b hb]) (fun e => comb_at m c t b hb r e),
      zero_apply, zero_add, Finset.sum_range_one]

/-- A later point of a row block. -/
theorem holds_next (t : Fin cfg0.N) (b : Fin 18) (k : Nat) (ht : t.val = b.val * 64 + (k + 1)) (hk : k + 1 < 64) (s) (hs : Holds m c b k s) :
    Holds m c b (k + 1) (stAt0 m c t.val t.isLt s) := by
  have hb : b.val = t.val / 64 := by omega
  have h0 : ¬t.val % 64 = 0 := by omega
  by_cases h1 : t.val % 64 = 63
  · rw [stAt0_C m c t s h0 h1]
    refine ⟨hs.rows, hs.weights, fun r n => ?_⟩
    dsimp only
    rw [last_acc, step_at m c t b hb r (k + 1) ht hk n _ _ _ (hs.rows r) (hs.weights r), hs.sums, ← Finset.sum_range_succ]
  · rw [stAt0_B m c t s h0 h1]
    refine ⟨hs.rows, hs.weights, fun r n => ?_⟩
    dsimp only
    rw [mid_acc, step_at m c t b hb r (k + 1) ht hk n _ _ _ (hs.rows r) (hs.weights r), hs.sums, ← Finset.sum_range_succ]

/-- What each point's carried contents are: its step of those before it. -/
theorem outs_step (t : Fin cfg0.N) : ∃ s, outsAt0 m c t.val t.isLt = stAt0 m c t.val t.isLt s ∧ ∀ (n : Nat) (h : n < cfg0.N), t.val = n + 1 → s = outsAt0 m c n h := by
  obtain ⟨n, hn⟩ := t
  cases n with
  | zero => exact ⟨_, outsAt0_zero m c hn, fun n _ h => absurd h (by simp)⟩
  | succ n => exact ⟨_, outsAt0_succ m c n hn, fun n' h' e => by obtain rfl : n = n' := Nat.succ.inj e; rfl⟩

/-- What the scratch holds after every point. -/
theorem holds (b : Fin 18) : ∀ (k : Nat) (hk : k < 64) (t : Fin cfg0.N) (ht : t.val = b.val * 64 + k), Holds m c b k (outsAt0 m c t.val t.isLt) := by
  intro k
  induction k with
  | zero =>
    intro _ t ht
    obtain ⟨s, hs, _⟩ := outs_step m c t
    rw [hs]
    exact holds_first m c t b ht s
  | succ k ih =>
    intro hk t ht
    obtain ⟨s, hs, hp⟩ := outs_step m c t
    have hl : b.val * 64 + k < cfg0.N := by have := t.isLt; omega
    rw [hs, hp (b.val * 64 + k) hl (by omega)]
    exact holds_next m c t b k ht hk _ (ih (by omega) ⟨b.val * 64 + k, hl⟩ rfl)

/-- The rows the last point of a row block stores. -/
theorem stored (b : Fin 18) (t : Fin cfg0.N) (ht : t.val = b.val * 64 + 63) (r : Fin 512) (n : Fin 2048) :
    (outsAt0 m c t.val t.isLt).1 (ix2 r n) = result (aX m c) (aN m c) (aM m c) (aR m c) (aW1 m c) (aW3 m c) (aW2 m c) (rowOf b r) n := by
  obtain ⟨s, hs, hp⟩ := outs_step m c t
  have hl : b.val * 64 + 62 < cfg0.N := by have := t.isLt; omega
  have hh : Holds m c b 62 s := by
    rw [hp (b.val * 64 + 62) hl (by omega)]
    exact holds m c b 62 (by omega) ⟨b.val * 64 + 62, hl⟩ rfl
  have hb : b.val = t.val / 64 := by omega
  have hq : (rowOf b r).val = t.val / 64 * 512 + r.val := by show b.val * 512 + r.val = _; rw [hb]
  have hg : (grp (rowOf b r)).val = group (t.val / 64) := by rw [grp_row, hb]
  rw [hs, stAt0_C m c t s (by omega) (by omega)]
  dsimp only
  rw [last_out, out_apply, step_at m c t b hb r 63 ht (by omega) n _ _ _ (hh.rows r) (hh.weights r), hh.sums, ← Finset.sum_range_succ,
    blk0 m c t r n _ hq, blk2 m c t 5 n _ hg]
  rfl

/-- The result array at an element. -/
theorem result_at (r : Fin 9216) (n : Fin 2048) :
    G7 m c (ix2 r n) = result (aX m c) (aN m c) (aM m c) (aR m c) (aW1 m c) (aW3 m c) (aW2 m c) r n := by
  have hN : cfg0.N = 1152 := N_0
  have hp : pt7Of (ix2 r n : S9216x2048.Idx) = r.val / 512 * 64 + 63 := by
    show 64 * (1 * (r.val / 512 - 0) + 1 * (n.val / 2048 - 0)) + 63 = _
    omega
  have hlt : pt7Of (ix2 r n : S9216x2048.Idx) < cfg0.N := by rw [hp, hN]; omega
  unfold G7
  rw [dif_pos hlt, ← outsAt0_sweep m c _ hlt]
  have e := stored m c ⟨r.val / 512, by omega⟩ ⟨_, hlt⟩ hp ⟨r.val % 512, by omega⟩ n
  have hr : rowOf ⟨r.val / 512, by omega⟩ ⟨r.val % 512, by omega⟩ = r := Fin.ext (by show r.val / 512 * 512 + r.val % 512 = r.val; omega)
  rw [hr] at e
  rw [← e]
  refine congrArg (outsAt0 m c (pt7Of (ix2 r n : S9216x2048.Idx)) hlt).1 ?_
  funext a
  apply Fin.ext
  match a with
  | ⟨0, _⟩ => rfl
  | ⟨1, _⟩ => show n.val % 2048 = n.val; omega

end Cert.KernelIdeal.MoeFold
end
-- ==== Proof.MoeAlgebra.lean ====
/-
  The results the call computes are the rows plus the gated sum of the experts' outputs by their weights: the weights
  are nonnegative numbers, so they come out of the sums over the hidden units.
-/
module

public import proofs.«01_k».proof.Proof.MoeSpec

@[expose] public section

noncomputable section

open Idealize.ShloMosaic Idealize.ShloMosaic.TcCoe Idealize.SL.Sem

namespace MoeSpec

/-- A real number among the extended ones. -/
def Real' (x : EReal) : Prop := ∃ a : ℝ, x = (a : EReal)

theorem real_add {x y : EReal} (hx : Real' x) (hy : Real' y) : Real' (x + y) := by
  obtain ⟨a, rfl⟩ := hx
  obtain ⟨b, rfl⟩ := hy
  exact ⟨a + b, (EReal.coe_add a b).symm⟩

theorem real_mul {x y : EReal} (hx : Real' x) (hy : Real' y) : Real' (x * y) := by
  obtain ⟨a, rfl⟩ := hx
  obtain ⟨b, rfl⟩ := hy
  exact ⟨a * b, (EReal.coe_mul a b).symm⟩

theorem real_one : Real' 1 := ⟨1, rfl⟩

theorem real_sum {ι : Type} (s : Finset ι) (f : ι → EReal) (h : ∀ i ∈ s, Real' (f i)) : Real' (∑ i ∈ s, f i) := by
  classical
  induction s using Finset.induction_on with
  | empty => exact ⟨0, rfl⟩
  | insert a s ha ih =>
    rw [Finset.sum_insert ha]
    exact real_add (h a (Finset.mem_insert_self a s)) (ih fun i hi => h i (Finset.mem_insert_of_mem hi))

/-- A sum of squares of numbers is a nonnegative number. -/
theorem real_squares {ι : Type} (s : Finset ι) (f : ι → EReal) (h : ∀ i ∈ s, Real' (f i)) : ∃ a : ℝ, 0 ≤ a ∧ ∑ i ∈ s, f i * f i = (a : EReal) := by
  classical
  induction s using Finset.induction_on with
  | empty => exact ⟨0, le_rfl, rfl⟩
  | insert a s ha ih =>
    rw [Finset.sum_insert ha]
    obtain ⟨b, hb⟩ := h a (Finset.mem_insert_self a s)
    obtain ⟨c, hc, e⟩ := ih fun i hi => h i (Finset.mem_insert_of_mem hi)
    exact ⟨b * b + c, add_nonneg (mul_self_nonneg b) hc, by rw [hb, e, EReal.coe_add, EReal.coe_mul]⟩

/-- A number whose absolute value is below +∞. -/
theorem real_of_abs {x : EReal} (h : max x (-x) < ⊤) : Real' x := by
  induction x with
  | bot => simp at h
  | top => simp at h
  | coe a => exact ⟨a, rfl⟩

/-- The pattern of 2048. -/
theorem bits_2048 : Ideal.ofBits FTy.f32 1157627904#32 = ((2048 : ℝ) : EReal) := by
  simp [Ideal.ofBits, Ideal.ieee]
  rw [← EReal.coe_mul]
  norm_num

/-- The pattern of the small number under the root is a positive number. -/
theorem bits_eps : ∃ a : ℝ, 0 < a ∧ Ideal.ofBits FTy.f32 897988541#32 = (a : EReal) := by
  refine ⟨(8796093 : ℝ) * (2 : ℝ) ^ (-43 : ℤ), by positivity, ?_⟩
  simp [Ideal.ofBits, Ideal.ieee]

/-- The scale of a norm over numbers is a number. -/
theorem real_scale (s : EReal) (hs : ∃ a : ℝ, 0 ≤ a ∧ s = (a : EReal)) :
    Real' (Ideal.rsqrt (Ideal.div s (Ideal.ofBits FTy.f32 1157627904#32) + Ideal.ofBits FTy.f32 897988541#32)) := by
  obtain ⟨a, ha, rfl⟩ := hs
  obtain ⟨e, he, h⟩ := bits_eps
  rw [bits_2048, h, Top2.div_coe a 2048 (by norm_num), ← EReal.coe_add]
  have hp : 0 < a / 2048 + e := by positivity
  refine ⟨(Real.sqrt (a / 2048 + e))⁻¹, ?_⟩
  show (if a / 2048 + e < 0 then (⊥ : EReal) else if a / 2048 + e = 0 then ⊤ else ((Real.sqrt (a / 2048 + e))⁻¹ : ℝ)) = _
  rw [if_neg (not_lt.2 hp.le), if_neg hp.ne']

section
variable (X : Fin 9216 → Fin 2048 → EReal) (NW : Fin 2048 → EReal) (M : Fin 8 → Fin 6 → Fin 2048 → EReal) (RT : Fin 2048 → Fin 8 → EReal)
variable (W1 W3 : Fin 8 → Fin 2048 → Fin 4096 → EReal) (W2 : Fin 8 → Fin 4096 → Fin 2048 → EReal)
variable (hX : ∀ r k, Real' (X r k)) (hN : ∀ k, Real' (NW k)) (h3 : ∀ g k, Real' (M g 3 k)) (h4 : ∀ g k, Real' (M g 4 k)) (hR : ∀ k e, Real' (RT k e))

include hX hN h3 h4 in
/-- Normalized rows of numbers are numbers. -/
theorem real_hid (r : Fin 9216) (k : Fin 2048) : Real' (hid X NW M r k) :=
  real_add (real_mul (real_mul (real_mul (hX r k) (real_scale _ (real_squares _ _ fun x _ => hX r x))) (hN k)) (real_add real_one (h4 _ k))) (h3 _ k)

include hX hN h3 h4 hR in
/-- Their logits are numbers. -/
theorem real_lg (r : Fin 9216) (e : Fin 8) : Real' (lg X NW M RT r e) :=
  real_sum _ _ fun k _ => real_mul (real_hid X NW M hX hN h3 h4 r k) (hR k e)

/-- A nonnegative number comes out of a sum. -/
theorem mul_sum_coe {ι : Type} (s : Finset ι) (f : ι → EReal) (a : ℝ) (ha : 0 ≤ a) : ∑ i ∈ s, (a : EReal) * f i = (a : EReal) * ∑ i ∈ s, f i := by
  classical
  induction s using Finset.induction_on with
  | empty => simp
  | insert b s hb ih =>
    rw [Finset.sum_insert hb, Finset.sum_insert hb, ih,
      EReal.left_distrib_of_nonneg_of_ne_top (EReal.coe_nonneg.2 ha) (EReal.coe_ne_top a)]

/-- The sum over the blocks of hidden units is the sum over experts and hidden units. -/
theorem sum_blocks (g : Fin 8 → Fin 4096 → EReal) :
    ∑ j ∈ Finset.range 64, ∑ t : Fin 512, g (expertAt j) (unitAt j t) = ∑ e : Fin 8, ∑ f : Fin 4096, g e f := by
  rw [← Fin.sum_univ_eq_sum_range (fun j => ∑ t : Fin 512, g (expertAt j) (unitAt j t)) 64,
    ← Equiv.sum_comp (finProdFinEquiv (m := 8) (n := 8)), Fintype.sum_prod_type]
  refine Finset.sum_congr rfl fun e _ => ?_
  rw [← Equiv.sum_comp (finProdFinEquiv (m := 8) (n := 512)), Fintype.sum_prod_type]
  refine Finset.sum_congr rfl fun q _ => Finset.sum_congr rfl fun t _ => ?_
  have h1 : expertAt (finProdFinEquiv (e, q)).val = e := Fin.ext (by show (q.val + 8 * e.val) % 64 / 8 = e.val; omega)
  have h2 : unitAt (finProdFinEquiv (e, q)).val t = finProdFinEquiv (q, t) := Fin.ext (by show (q.val + 8 * e.val) % 8 * 512 + t.val = t.val + 512 * q.val; omega)
  rw [h1, h2]

include hX hN h3 h4 hR in
/-- The call's results, over any top two of a row's logits. -/
theorem result_eq (r : Fin 9216) (n : Fin 2048) (i₁ i₂ : Fin 8) (h : Top2.Picks (lg X NW M RT r) i₁ i₂) :
    result X NW M RT W1 W3 W2 r n = X r n + M (grp r) 5 n
      * ∑ e : Fin 8, Top2.weight (lg X NW M RT r) i₁ i₂ e * ∑ f : Fin 4096, act X NW M W1 W3 r e f * W2 e f n := by
  have hl := real_lg X NW M RT hX hN h3 h4 hR r
  unfold result
  congr 2
  unfold blockShare
  rw [sum_blocks (fun e f => share X NW M RT W1 W3 W2 r n e f)]
  refine Finset.sum_congr rfl fun e _ => ?_
  have hc : comb X NW M RT r e = Top2.weight (lg X NW M RT r) i₁ i₂ e :=
    Top2.laneWeight_eq _ (fun j => by obtain ⟨a, ha⟩ := hl j; rw [ha]; exact EReal.coe_ne_bot a) i₁ i₂ h e
  obtain ⟨w, hw, hwe⟩ := Top2.weight_coe (lg X NW M RT r) hl i₁ i₂ e
  rw [hwe, ← mul_sum_coe _ _ w hw]
  refine Finset.sum_congr rfl fun f _ => ?_
  unfold share
  rw [hc, hwe, mul_comm (act X NW M W1 W3 r e f), mul_assoc]

end

end MoeSpec
end
-- ==== Proof.RefRows.lean ====
/-
  The reference's rows read at an element: the modulation rows repeated for the tokens, the normalized rows, the
  routing logits.
-/
module

public import proofs.«01_k».proof.Proof.Gen.ReferenceIdeal.Read
public import proofs.«01_k».proof.Proof.MoeSpec
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Read MoeSpec

variable (x0 : Vec Ideal S9216x2048 .f32) (x1 : Vec Ideal S2048 .f32) (x2 : Vec Ideal S8x6x2048 .f32) (x3 : Vec Ideal S2048x8 .f32)

/-- The repeated modulation rows at a token: its group's. -/
theorem mods_apply (r : Fin 9216) (k : Fin 6) (n : Fin 2048) : val_main_v6 (F := Ideal) x2 (ix3 r k n) = x2 (ix3 (grp r) k n) := by
  pointwise [val_main_v6, val_main_v2, val_main_v5, val_main_v1, val_main_v4, val_main_v0, val_main_v3]
  by_cases h : r.val < 8192
  · rw [dif_pos h]
    congr 2
    exact Fin.ext (by show r.val / 2048 = min (r.val / 2048) 4; omega)
  · rw [dif_neg h]
    congr 2
    exact Fin.ext (by show 4 = min (r.val / 2048) 4; omega)

/-- The normalized rows at an element. -/
theorem hid_apply (r : Fin 9216) (n : Fin 2048) : val_main_v27 (F := Ideal) x0 x1 x2 (ix2 r n)
    = hid (fun r n => x0 (ix2 r n)) (fun n => x1 (ix1 n)) (fun g k n => x2 (ix3 g k n)) r n := by
  have h := mods_apply x2 r
  unfold val_main_v27 val_main_v26 val_main_v25 val_main_v23 val_main_v21 val_main_v20 val_main_v22
  generalize val_main_v6 x2 = y at h
  pointwise [val_main_v19, val_main_v16, val_main_v18, val_main_v17, val_main_v15, val_main_v14, val_main_v13, val_main_v12,
    val_main_v11, val_main_v10, val_main_v9, val_main_v8, val_main_v7, val_main_v24, val_main_cst, val_main_cst_0, val_main_cst_1, val_main_cst_2]
  rw [h, h]
  rfl

/-- The routing logits at an element. -/
theorem lg_apply (r : Fin 9216) (e : Fin 8) : val_main_v30 (F := Ideal) x0 x1 x2 x3 (ix2 r e)
    = lg (fun r n => x0 (ix2 r n)) (fun n => x1 (ix1 n)) (fun g k n => x2 (ix3 g k n)) (fun k e => x3 (ix2 k e)) r e := by
  unfold val_main_v30 lg
  simp only [← hid_apply]
  generalize val_main_v27 x0 x1 x2 = y
  pointwise
  done

end Cert.ReferenceIdeal.Rows
end
-- ==== Proof.TopSort.lean ====
/-
  A stable sort by descending values: its first two positions are the greatest value's first place and the greatest
  remaining value's first place.
-/
module

public import proofs.«01_k».proof.Proof.Top2
public import Idealize.ShloMosaic.Lib.SortFacts

@[expose] public section

noncomputable section

open Idealize.ShloMosaic Idealize.ShloMosaic.TcCoe Idealize.SL.Sem

namespace TopSort

variable {n : Nat} (v : Fin n → EReal)

/-- In descending order, equal values in index order. -/
def Ahead (a b : Fin n) : Prop := v b ≤ v a ∧ (v b = v a → a < b)

/-- One insertion in front of the places after it keeps the order. -/
theorem insert_ahead (before : Fin n → Fin n → Bool) (hb : ∀ a b, before a b = true ↔ v b < v a) (a : Fin n) (l : List (Fin n))
    (hl : l.Pairwise (Ahead v)) (ha : ∀ b ∈ l, a < b) : (insertBefore before a l).Pairwise (Ahead v) := by
  induction l with
  | nil => simp [insertBefore]
  | cons b l ih =>
    unfold insertBefore
    rw [List.pairwise_cons] at hl
    split
    · next h =>
      have hba := (hb b a).1 h
      rw [List.pairwise_cons]
      refine ⟨fun x hx => ?_, ih hl.2 fun y hy => ha y (List.mem_cons_of_mem _ hy)⟩
      rcases List.mem_cons.1 ((perm_insertBefore before a l).mem_iff.1 hx) with rfl | hx
      · exact ⟨hba.le, fun e => absurd e hba.ne⟩
      · exact hl.1 x hx
    · next h =>
      have hba : v b ≤ v a := not_lt.1 fun q => h ((hb b a).2 q)
      rw [List.pairwise_cons, List.pairwise_cons]
      refine ⟨fun x hx => ?_, hl⟩
      refine ⟨?_, fun _ => ha x hx⟩
      rcases List.mem_cons.1 hx with rfl | hx
      · exact hba
      · exact (hl.1 x hx).1.trans hba

/-- The sort of places in index order is in descending order, equal values in index order. -/
theorem sort_ahead (before : Fin n → Fin n → Bool) (hb : ∀ a b, before a b = true ↔ v b < v a) (l : List (Fin n)) (hl : l.Pairwise (· < ·)) :
    (stableSort before l).Pairwise (Ahead v) := by
  induction l with
  | nil => exact List.Pairwise.nil
  | cons a l ih =>
    rw [List.pairwise_cons] at hl
    exact insert_ahead v before hb a _ (ih hl.2) fun b hb' => hl.1 b ((perm_stableSort before l).mem_iff.1 hb')

/-- An earlier place of the sort is ahead of a later one. -/
theorem from_ahead (before : Fin n → Fin n → Bool) (hb : ∀ a b, before a b = true ↔ v b < v a) (j k : Fin n) (hjk : j < k) :
    Ahead v (sortedFrom before j) (sortedFrom before k) := by
  have h := sort_ahead v before hb (List.finRange n) (List.pairwise_lt_finRange n)
  exact List.pairwise_iff_get.1 h _ _ hjk

/-- The first two places of eight. -/
theorem picks (v : Fin 8 → EReal) (before : Fin 8 → Fin 8 → Bool) (hb : ∀ a b, before a b = true ↔ v b < v a) :
    Top2.Picks v (sortedFrom before 0) (sortedFrom before 1) := by
  have rest : ∀ j, j ≠ sortedFrom before 0 → ∃ k, sortedFrom before k = j ∧ 0 < k := fun j hj => by
    obtain ⟨k, rfl⟩ := sortedFrom_surjective before j
    exact ⟨k, rfl, Fin.pos_iff_ne_zero.2 fun h => hj (by rw [h])⟩
  have first : ∀ j, j ≠ sortedFrom before 0 → Ahead v (sortedFrom before 0) j := fun j hj => by
    obtain ⟨k, rfl, hk⟩ := rest j hj
    exact from_ahead v before hb 0 k hk
  have second : ∀ j, j ≠ sortedFrom before 0 → j ≠ sortedFrom before 1 → Ahead v (sortedFrom before 1) j := fun j hj hj' => by
    obtain ⟨k, rfl, hk⟩ := rest j hj
    have : k ≠ 1 := fun h => hj' (by rw [h])
    exact from_ahead v before hb 1 k (by omega)
  refine ⟨fun j => ?_, fun j hj => ?_, fun h => ?_, fun j hj => ?_, fun j hj hlt => ?_⟩
  · by_cases h : j = sortedFrom before 0
    · rw [h]
    · exact (first j h).1
  · have h := first j hj.ne
    exact lt_of_le_of_ne h.1 fun e => absurd (h.2 e) (not_lt.2 hj.le)
  · exact absurd (sortedFrom_injective before h) (by decide)
  · by_cases h : j = sortedFrom before 1
    · rw [h]
    · exact (second j hj h).1
  · have h := second j hj hlt.ne
    exact lt_of_le_of_ne h.1 fun e => absurd (h.2 e) (not_lt.2 hlt.le)

end TopSort
end
-- ==== Proof.RefTop.lean ====
/-
  The reference's routing weights read at an element: the top two of the sorted logits, their softmax, spread over the
  experts.
-/
module

public import proofs.«01_k».proof.Proof.RefRows
public import proofs.«01_k».proof.Proof.TopSort

@[expose] public section

set_option maxRecDepth 16384

noncomputable section

open Idealize.ShloMosaic Idealize.ShloMosaic.TcCoe Idealize.SL.Sem

namespace Cert.ReferenceIdeal.RefTop

open Cert.ReferenceIdeal Cert.ReferenceIdeal.Gen Cert.ReferenceIdeal.Read MoeSpec

/-- The expert the sort of a row puts at a place. -/
def place (L : FVec Ideal S9216x8 .f32) (r : Fin 9216) (k : Fin 8) : Fin 8 :=
  sortedFrom (fun a b => FloatOps.cmpfTotal (F := Ideal) (φ := .f32) .gt (L (ix2 r a)) (L (ix2 r b)) == 1#1) k

/-- The sort's test is that of the values. -/
theorem before_iff (a b : EReal) : (FloatOps.cmpfTotal (F := Ideal) (φ := .f32) .gt a b == 1#1) = true ↔ b < a := by
  show (BitVec.ofBool (decide (b < a)) == 1#1) = true ↔ b < a
  by_cases h : b < a <;> simp [h]

/-- The first two places of a row's sort are its top two. -/
theorem picks (L : FVec Ideal S9216x8 .f32) (r : Fin 9216) : Top2.Picks (fun e => L (ix2 r e)) (place L r 0) (place L r 1) :=
  TopSort.picks _ _ fun a b => before_iff _ _

/-- An index with its second coordinate replaced. -/
theorem along_second (r : Fin 9216) (k l : Fin 8) : (ix2 r k : S9216x8.Idx).along (1 : Fin 2) l = ix2 r l := by
  funext a
  unfold Shape.Idx.along
  match a with
  | ⟨0, _⟩ => rfl
  | ⟨1, _⟩ => rfl

/-- The first two columns at an element. -/
theorem slice_two {α : Type} (x : S9216x8.Idx → α) (r : Fin 9216) (k : Fin 2) :
    extractStridedSlice S9216x2 (fun _ => 0) x sliceFits_S9216x8_S9216x2 (ix2 r k) = x (ix2 r (k.castLE (by decide))) := by
  unfold extractStridedSlice
  refine congrArg x (funext fun a => Fin.ext ?_)
  match a with
  | ⟨0, _⟩ => exact Nat.zero_add _
  | ⟨1, _⟩ => exact Nat.zero_add _

/-- An array read at a row's place in the sort. -/
theorem along_sorted {α : Type} (x : S9216x8.Idx → α) (L : FVec Ideal S9216x8 .f32) (r : Fin 9216) (k : Fin 8) :
    x ((ix2 r k : S9216x8.Idx).along (1 : Fin 2) (sortedFrom (n := 8) (fun a b => FloatOps.cmpfTotal (F := Ideal) (φ := .f32) .gt
      (L ((ix2 r k : S9216x8.Idx).along (1 : Fin 2) a)) (L ((ix2 r k : S9216x8.Idx).along (1 : Fin 2) b)) == 1#1) k)) = x (ix2 r (place L r k)) := by
  have h : sortedFrom (n := 8) (fun a b => FloatOps.cmpfTotal (F := Ideal) (φ := .f32) .gt
      (L ((ix2 r k : S9216x8.Idx).along (1 : Fin 2) a)) (L ((ix2 r k : S9216x8.Idx).along (1 : Fin 2) b)) == 1#1) k = place L r k := by
    unfold place
    congr 1
    funext a b
    rw [along_second r k a, along_second r k b]
  rw [h, along_second r k]

/-- The top values at a row and place. -/
theorem values_at (L : FVec Ideal S9216x8 .f32) (r : Fin 9216) (k : Fin 2) :
    (Host.topK S9216x2 1 (FloatOps.cmpfTotal .gt) L sliceFits_S9216x8_S9216x2).1 (ix2 r k) = L (ix2 r (place L r (k.castLE (by decide)))) := by
  unfold Host.topK Host.sort2
  simp only [show (1 : Nat) < S9216x8.rank from by decide, dite_true]
  rw [slice_two]
  exact along_sorted L L r (k.castLE (by decide))

/-- The top indices at a row and place. -/
theorem indices_at (L : FVec Ideal S9216x8 .f32) (r : Fin 9216) (k : Fin 2) :
    (Host.topK S9216x2 1 (FloatOps.cmpfTotal .gt) L sliceFits_S9216x8_S9216x2).2 (ix2 r k) = BitVec.ofNat 32 (place L r (k.castLE (by decide))).val := by
  unfold Host.topK Host.sort2
  simp only [show (1 : Nat) < S9216x8.rank from by decide, dite_true]
  rw [slice_two]
  exact along_sorted (iotaInDim S9216x8 32 (1 : Fin 2)) L r (k.castLE (by decide))

variable (x0 : Vec Ideal S9216x2048 .f32) (x1 : Vec Ideal S2048 .f32) (x2 : Vec Ideal S8x6x2048 .f32) (x3 : Vec Ideal S2048x8 .f32)

/-- A one-hot entry times a weight is the weight or zero. -/
theorem onehot_mul (i e : Fin 8) (p : EReal) :
    FloatOps.uitofp (F := Ideal) FTy.f32 (IntOp.cmpi CmpIPredicate.eq (BitVec.ofNat 32 i.val) (BitVec.ofNat 32 e.val)) * p = if e = i then p else 0 := by
  show (((IntOp.cmpi CmpIPredicate.eq (BitVec.ofNat 32 i.val) (BitVec.ofNat 32 e.val)).toNat : ℝ) : EReal) * p = _
  by_cases h : e = i
  · subst h
    rw [if_pos rfl]
    simp [IntOp.cmpi]
  · have hb : (BitVec.ofNat 32 i.val == BitVec.ofNat 32 e.val) = false := by
      rw [beq_eq_false_iff_ne]
      intro q
      have q' := congrArg BitVec.toNat q
      simp only [BitVec.toNat_ofNat] at q'
      exact h (Fin.ext (by omega))
    rw [if_neg h]
    simp [IntOp.cmpi, hb]

/-- The routing weights at an element, where the row's logits are numbers. -/
theorem weight_apply (r : Fin 9216) (hf : ∀ e : Fin 8, ∃ a : ℝ, val_main_v30 (F := Ideal) x0 x1 x2 x3 (ix2 r e) = (a : EReal)) (e : Fin 8) :
    val_main_v46 (F := Ideal) x0 x1 x2 x3 (ix2 r e) = Top2.weight (fun e => val_main_v30 (F := Ideal) x0 x1 x2 x3 (ix2 r e))
      (place (val_main_v30 (F := Ideal) x0 x1 x2 x3) r 0) (place (val_main_v30 (F := Ideal) x0 x1 x2 x3) r 1) e := by
  have hv := values_at (val_main_v30 x0 x1 x2 x3) r
  have hi := indices_at (val_main_v30 x0 x1 x2 x3) r
  generalize hV : val_main_values (F := Ideal) x0 x1 x2 x3 = V
  generalize hI : val_main_indices (F := Ideal) x0 x1 x2 x3 = I
  unfold val_main_values at hV
  unfold val_main_indices at hI
  rw [hV] at hv
  rw [hI] at hi
  unfold val_main_v46 val_main_v45 val_main_v44 val_main_v43 val_main_v42 val_main_v41 val_main_v40 val_main_v39 val_main_v38 val_main_v37
    val_main_v36 val_main_v35 val_main_v34 val_main_v33 val_main_v32 val_main_v31 val_main_call0_v4 val_main_call0_v3 val_main_call0_v2 val_main_call0_v1 val_main_call0_v0
  simp only [val_main_values, val_main_indices, hV, hI]
  pointwise [val_main_cst_3, val_main_cst_4, val_main_cst_5, val_main_cst_6]
  simp only [Fin.sum_univ_two]
  have hp := picks (val_main_v30 (F := Ideal) x0 x1 x2 x3) r
  have h0 : V (ix2 r 0) = val_main_v30 x0 x1 x2 x3 (ix2 r (place (val_main_v30 (F := Ideal) x0 x1 x2 x3) r 0)) := hv 0
  have h1 : V (ix2 r 1) = val_main_v30 x0 x1 x2 x3 (ix2 r (place (val_main_v30 (F := Ideal) x0 x1 x2 x3) r 1)) := hv 1
  have i0 : I (ix2 r 0) = BitVec.ofNat 32 (place (val_main_v30 (F := Ideal) x0 x1 x2 x3) r 0).val := hi 0
  have i1 : I (ix2 r 1) = BitVec.ofNat 32 (place (val_main_v30 (F := Ideal) x0 x1 x2 x3) r 1).val := hi 1
  have hm : Finset.fold max ⊥ (fun x : Fin 2 => V (ix2 r x)) Finset.univ = V (ix2 r 0) :=
    Top2.fold_max_eq (fun x : Fin 2 => V (ix2 r x)) 0 fun j => by
      match j with
      | 0 => exact le_rfl
      | 1 => show V (ix2 r 1) ≤ V (ix2 r 0); rw [h0, h1]; exact hp.le₁ _
  rw [Top2.bits_bot, hm, max_eq_right bot_le, i0, i1, onehot_mul, onehot_mul, h0, h1]
  have he : Ideal.exp (val_main_v30 (F := Ideal) x0 x1 x2 x3 (ix2 r (place (val_main_v30 (F := Ideal) x0 x1 x2 x3) r 0))
      - val_main_v30 (F := Ideal) x0 x1 x2 x3 (ix2 r (place (val_main_v30 (F := Ideal) x0 x1 x2 x3) r 0))) = 1 := by
    obtain ⟨a, ha⟩ := hf (place (val_main_v30 (F := Ideal) x0 x1 x2 x3) r 0)
    rw [ha, ← EReal.coe_sub, sub_self]
    show ((Real.exp 0 : ℝ) : EReal) = 1
    rw [Real.exp_zero]
    rfl
  rw [he]
  rfl

end Cert.ReferenceIdeal.RefTop
end
-- ==== Proof.RefOut.lean ====
/-
  The reference's experts read at an element, and its results: the rows plus the gated, weighted sum of the experts.
-/
module

public import proofs.«01_k».proof.Proof.RefTop

@[expose] public section

set_option maxRecDepth 16384

noncomputable section

open Idealize.ShloMosaic Idealize.ShloMosaic.TcCoe Idealize.SL.Sem

namespace Cert.ReferenceIdeal.RefOut

open Cert.ReferenceIdeal Cert.ReferenceIdeal.Gen Cert.ReferenceIdeal.Read Cert.ReferenceIdeal.Rows MoeSpec

variable (x0 : Vec Ideal S9216x2048 .f32) (x1 : Vec Ideal S2048 .f32) (x2 : Vec Ideal S8x6x2048 .f32) (x3 : Vec Ideal S2048x8 .f32)
variable (x4 x5 : Vec Ideal S8x2048x4096 .f32) (x6 : Vec Ideal S8x4096x2048 .f32)

/-- An expert's output at an element, of rows already normalized. -/
def expertOf (y : FVec Ideal S9216x2048 .f32) (r : Fin 9216) (n : Fin 2048) (e : Fin 8) : EReal :=
  ∑ f : Fin 4096, unit (∑ k : Fin 2048, y (ix2 r k) * x4 (ix3 e k f)) (∑ k : Fin 2048, y (ix2 r k) * x5 (ix3 e k f)) * x6 (ix3 e f n)

/-- Expert 0 at an element. -/
theorem expert0 (r : Fin 9216) (n : Fin 2048) : val_main_v59 (F := Ideal) x0 x1 x2 x4 x5 x6 (ix2 r n) = expertOf x4 x5 x6 (val_main_v27 (F := Ideal) x0 x1 x2) r n 0 := by
  unfold val_main_v59 val_main_v58 val_main_v57 val_main_v56 val_main_call1_v5 val_main_call1_v4 val_main_call1_v3 val_main_call1_v2 val_main_call1_v1 val_main_call1_v0 val_main_call1_cst val_main_call1_cst_0 val_main_v55 val_main_v50 val_main_v49 val_main_v52 val_main_v51 val_main_v54 val_main_v53
  generalize val_main_v27 (F := Ideal) x0 x1 x2 = y
  pointwise
  rfl

/-- Expert 1 at an element. -/
theorem expert1 (r : Fin 9216) (n : Fin 2048) : val_main_v74 (F := Ideal) x0 x1 x2 x4 x5 x6 (ix2 r n) = expertOf x4 x5 x6 (val_main_v27 (F := Ideal) x0 x1 x2) r n 1 := by
  unfold val_main_v74 val_main_v73 val_main_v72 val_main_v71 val_main_call2_v5 val_main_call2_v4 val_main_call2_v3 val_main_call2_v2 val_main_call2_v1 val_main_call2_v0 val_main_call2_cst val_main_call2_cst_0 val_main_v70 val_main_v65 val_main_v64 val_main_v67 val_main_v66 val_main_v69 val_main_v68
  generalize val_main_v27 (F := Ideal) x0 x1 x2 = y
  pointwise
  rfl

/-- Expert 2 at an element. -/
theorem expert2 (r : Fin 9216) (n : Fin 2048) : val_main_v89 (F := Ideal) x0 x1 x2 x4 x5 x6 (ix2 r n) = expertOf x4 x5 x6 (val_main_v27 (F := Ideal) x0 x1 x2) r n 2 := by
  unfold val_main_v89 val_main_v88 val_main_v87 val_main_v86 val_main_call3_v5 val_main_call3_v4 val_main_call3_v3 val_main_call3_v2 val_main_call3_v1 val_main_call3_v0 val_main_call3_cst val_main_call3_cst_0 val_main_v85 val_main_v80 val_main_v79 val_main_v82 val_main_v81 val_main_v84 val_main_v83
  generalize val_main_v27 (F := Ideal) x0 x1 x2 = y
  pointwise
  rfl

/-- Expert 3 at an element. -/
theorem expert3 (r : Fin 9216) (n : Fin 2048) : val_main_v104 (F := Ideal) x0 x1 x2 x4 x5 x6 (ix2 r n) = expertOf x4 x5 x6 (val_main_v27 (F := Ideal) x0 x1 x2) r n 3 := by
  unfold val_main_v104 val_main_v103 val_main_v102 val_main_v101 val_main_call4_v5 val_main_call4_v4 val_main_call4_v3 val_main_call4_v2 val_main_call4_v1 val_main_call4_v0 val_main_call4_cst val_main_call4_cst_0 val_main_v100 val_main_v95 val_main_v94 val_main_v97 val_main_v96 val_main_v99 val_main_v98
  generalize val_main_v27 (F := Ideal) x0 x1 x2 = y
  pointwise
  rfl

/-- Expert 4 at an element. -/
theorem expert4 (r : Fin 9216) (n : Fin 2048) : val_main_v119 (F := Ideal) x0 x1 x2 x4 x5 x6 (ix2 r n) = expertOf x4 x5 x6 (val_main_v27 (F := Ideal) x0 x1 x2) r n 4 := by
  unfold val_main_v119 val_main_v118 val_main_v117 val_main_v116 val_main_call5_v5 val_main_call5_v4 val_main_call5_v3 val_main_call5_v2 val_main_call5_v1 val_main_call5_v0 val_main_call5_cst val_main_call5_cst_0 val_main_v115 val_main_v110 val_main_v109 val_main_v112 val_main_v111 val_main_v114 val_main_v113
  generalize val_main_v27 (F := Ideal) x0 x1 x2 = y
  pointwise
  rfl

/-- Expert 5 at an element. -/
theorem expert5 (r : Fin 9216) (n : Fin 2048) : val_main_v134 (F := Ideal) x0 x1 x2 x4 x5 x6 (ix2 r n) = expertOf x4 x5 x6 (val_main_v27 (F := Ideal) x0 x1 x2) r n 5 := by
  unfold val_main_v134 val_main_v133 val_main_v132 val_main_v131 val_main_call6_v5 val_main_call6_v4 val_main_call6_v3 val_main_call6_v2 val_main_call6_v1 val_main_call6_v0 val_main_call6_cst val_main_call6_cst_0 val_main_v130 val_main_v125 val_main_v124 val_main_v127 val_main_v126 val_main_v129 val_main_v128
  generalize val_main_v27 (F := Ideal) x0 x1 x2 = y
  pointwise
  rfl

/-- Expert 6 at an element. -/
theorem expert6 (r : Fin 9216) (n : Fin 2048) : val_main_v149 (F := Ideal) x0 x1 x2 x4 x5 x6 (ix2 r n) = expertOf x4 x5 x6 (val_main_v27 (F := Ideal) x0 x1 x2) r n 6 := by
  unfold val_main_v149 val_main_v148 val_main_v147 val_main_v146 val_main_call7_v5 val_main_call7_v4 val_main_call7_v3 val_main_call7_v2 val_main_call7_v1 val_main_call7_v0 val_main_call7_cst val_main_call7_cst_0 val_main_v145 val_main_v140 val_main_v139 val_main_v142 val_main_v141 val_main_v144 val_main_v143
  generalize val_main_v27 (F := Ideal) x0 x1 x2 = y
  pointwise
  rfl

/-- Expert 7 at an element. -/
theorem expert7 (r : Fin 9216) (n : Fin 2048) : val_main_v164 (F := Ideal) x0 x1 x2 x4 x5 x6 (ix2 r n) = expertOf x4 x5 x6 (val_main_v27 (F := Ideal) x0 x1 x2) r n 7 := by
  unfold val_main_v164 val_main_v163 val_main_v162 val_main_v161 val_main_call8_v5 val_main_call8_v4 val_main_call8_v3 val_main_call8_v2 val_main_call8_v1 val_main_call8_v0 val_main_call8_cst val_main_call8_cst_0 val_main_v160 val_main_v155 val_main_v154 val_main_v157 val_main_v156 val_main_v159 val_main_v158
  generalize val_main_v27 (F := Ideal) x0 x1 x2 = y
  pointwise
  rfl

/-- The results at an element, over the routing weights and the experts. -/
theorem result_apply (r : Fin 9216) (n : Fin 2048) : val_main_v169 (F := Ideal) x0 x1 x2 x3 x4 x5 x6 (ix2 r n)
    = x0 (ix2 r n) + x2 (ix3 (grp r) 5 n) * ∑ e : Fin 8, val_main_v46 (F := Ideal) x0 x1 x2 x3 (ix2 r e) * expertOf x4 x5 x6 (val_main_v27 (F := Ideal) x0 x1 x2) r n e := by
  simp only [Fin.sum_univ_eight, ← expert0, ← expert1, ← expert2, ← expert3, ← expert4, ← expert5, ← expert6, ← expert7]
  rw [← mods_apply x2 r 5 n]
  unfold val_main_v169 val_main_v168 val_main_v29 val_main_v28 val_main_v167 val_main_v166 val_main_v165 val_main_v153 val_main_v152 val_main_v151 val_main_v150 val_main_v138 val_main_v137 val_main_v136 val_main_v135 val_main_v123 val_main_v122 val_main_v121 val_main_v120 val_main_v108 val_main_v107 val_main_v106 val_main_v105 val_main_v93 val_main_v92 val_main_v91 val_main_v90 val_main_v78 val_main_v77 val_main_v76 val_main_v75 val_main_v63 val_main_v62 val_main_v61 val_main_v60 val_main_v48
  generalize val_main_v59 (F := Ideal) x0 x1 x2 x4 x5 x6 = o0
  generalize val_main_v74 (F := Ideal) x0 x1 x2 x4 x5 x6 = o1
  generalize val_main_v89 (F := Ideal) x0 x1 x2 x4 x5 x6 = o2
  generalize val_main_v104 (F := Ideal) x0 x1 x2 x4 x5 x6 = o3
  generalize val_main_v119 (F := Ideal) x0 x1 x2 x4 x5 x6 = o4
  generalize val_main_v134 (F := Ideal) x0 x1 x2 x4 x5 x6 = o5
  generalize val_main_v149 (F := Ideal) x0 x1 x2 x4 x5 x6 = o6
  generalize val_main_v164 (F := Ideal) x0 x1 x2 x4 x5 x6 = o7
  generalize val_main_v6 (F := Ideal) x2 = y
  generalize val_main_v46 (F := Ideal) x0 x1 x2 x3 = w
  pointwise [val_main_v47, val_main_cst_7]

end Cert.ReferenceIdeal.RefOut
end
-- ==== Proof.MoeTie.lean ====
/-
  The expert call and its reference compute the same results, where the routing's inputs are numbers.
-/
module

public import proofs.«01_k».proof.Defs
public import proofs.«01_k».proof.Proof.MoeFold
public import proofs.«01_k».proof.Proof.MoeAlgebra
public import proofs.«01_k».proof.Proof.RefOut

@[expose] public section

set_option maxRecDepth 16384

noncomputable section

open Idealize.ShloMosaic Idealize.ShloMosaic.TcCoe Idealize.SL.Sem

namespace Cert.MoeTie

open Cert.KernelIdeal.MoeFold MoeSpec

/-- A test that every entry's absolute value is below +∞, read at an entry. -/
theorem real_of_test (x : EReal) (h : FloatOps.cmpf (F := Ideal) (φ := .f32) .olt (max x (-x)) (Ideal.ofBits .f32 2139095040#32) = 1#1) : Real' x := by
  have ht : Ideal.ofBits .f32 2139095040#32 = ⊤ := by simp [Ideal.ofBits, Ideal.ieee]
  rw [ht] at h
  refine real_of_abs ?_
  have h' : BitVec.ofBool (decide (max x (-x) < ⊤)) = 1#1 := h
  by_contra hn
  rw [decide_eq_false hn] at h'
  exact absurd h' (by decide)

section
variable [Cert.Pre_router_inputs_finite.Facts]
variable (m : (ℓ : Loc Cert.KernelIdeal.nD Cert.KernelIdeal.τ Cert.KernelIdeal.sig) → Buf (Elt Ideal) ℓ) (h : Cert.Pre_KernelIdeal_router_inputs_finite m) (c : Dev Cert.KernelIdeal.nD)
include h

/-- The rows are numbers. -/
theorem real_rows (r : Fin 9216) (k : Fin 2048) : Real' (aX m c r k) := by
  have q := congrFun (h c).1 (ix2 r k)
  refine real_of_test _ ?_
  rw [← q]
  pointwise [Cert.Pre_router_inputs_finite.fn, aX]
  rfl

/-- The norm weights are numbers. -/
theorem real_norm (k : Fin 2048) : Real' (aN m c k) := by
  have q := congrFun (h c).2.1 (ix1 k)
  refine real_of_test _ ?_
  rw [← q]
  pointwise [Cert.Pre_router_inputs_finite.fn, aN]
  rfl

/-- The shift rows are numbers. -/
theorem real_shift (g : Fin 8) (k : Fin 2048) : Real' (aM m c g 3 k) := by
  have q := congrFun (h c).2.2.1 (ix3 g 0 k)
  refine real_of_test _ ?_
  rw [← q]
  pointwise [Cert.Pre_router_inputs_finite.fn, aM]
  rfl

/-- The scale rows are numbers. -/
theorem real_scale_row (g : Fin 8) (k : Fin 2048) : Real' (aM m c g 4 k) := by
  have q := congrFun (h c).2.2.1 (ix3 g 1 k)
  refine real_of_test _ ?_
  rw [← q]
  pointwise [Cert.Pre_router_inputs_finite.fn, aM]
  rfl

/-- The router is of numbers. -/
theorem real_router (k : Fin 2048) (e : Fin 8) : Real' (aR m c k e) := by
  have q := congrFun (h c).2.2.2 (ix2 k e)
  refine real_of_test _ ?_
  rw [← q]
  pointwise [Cert.Pre_router_inputs_finite.fn, aR]
  rfl

/-- The reference's results at the call's arguments are the call's. -/
theorem tie : Cert.ReferenceIdeal.Read.val_main_v169 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) = Cert.KernelIdeal.Value.G7 m c := by
  funext i
  obtain ⟨r, n, rfl⟩ : ∃ (r : Fin 9216) (n : Fin 2048), i = ix2 r n := ⟨i 0, i 1, by funext a; match a with | ⟨0, _⟩ => rfl | ⟨1, _⟩ => rfl⟩
  have hl := real_lg (aX m c) (aN m c) (aM m c) (aR m c) (real_rows m h c) (real_norm m h c) (real_shift m h c) (real_scale_row m h c) (real_router m h c) r
  have e30 : ∀ e, Cert.ReferenceIdeal.Read.val_main_v30 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) (ix2 r e)
      = lg (aX m c) (aN m c) (aM m c) (aR m c) r e := fun e => Cert.ReferenceIdeal.Rows.lg_apply _ _ _ _ r e
  have hp := Cert.ReferenceIdeal.RefTop.picks (Cert.ReferenceIdeal.Read.val_main_v30 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))) r
  have hw := Cert.ReferenceIdeal.RefTop.weight_apply
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) r
      (fun e => by rw [e30]; exact hl e)
  simp only [e30] at hp hw
  rw [Cert.ReferenceIdeal.RefOut.result_apply, result_at,
    result_eq _ _ _ _ _ _ _ (real_rows m h c) (real_norm m h c) (real_shift m h c) (real_scale_row m h c) (real_router m h c) r n _ _ hp]
  simp only [hw, Cert.ReferenceIdeal.RefOut.expertOf, Cert.ReferenceIdeal.Rows.hid_apply]
  rfl

end
end Cert.MoeTie
end
-- ==== Proof.FfnCases.lean ====
/-
  What one grid point of the dense feed-forward call leaves behind, case by case, as values of its input blocks and of
  the scratch it finds: the first point of a row block stores the normalized rows and the first partial sum; a middle
  point adds its partial sum; the last point adds its own and stores the result rows.
-/
module

public import proofs.«01_k».proof.Proof.Gen.FfnIdeal.Value
public import Idealize.ShloMosaic.Lib.Tactic

@[expose] public section

set_option maxRecDepth 16384

noncomputable section

open Idealize.ShloMosaic Idealize.ShloMosaic.TcCoe Idealize.SL.Sem

namespace Cert.FfnIdeal.FfnCases

open Cert.FfnIdeal Cert.FfnIdeal.Gen

variable {F : FTy → Type} [FloatOps F]

/-- Two zero offsets are the zero function. -/
theorem hz2 : (![0, 0] : Fin 2 → Nat) = fun _ => 0 := funext fun a => by fin_cases a <;> rfl

/-- Row `3` of the modulation block: the shift. -/
abbrev shiftRow (x2 : Vec F S1x6x2048 .f32) : Vec F S1x1x2048 .f32 :=
  View.ld x2 (Rect.unit ![0, 3, 0] ![1, 1, 2048] inb_S1x6x2048_S1x1x2048_0_3_0)

/-- Row `4` of the modulation block: the scale. -/
abbrev scaleRow (x2 : Vec F S1x6x2048 .f32) : Vec F S1x1x2048 .f32 :=
  View.ld x2 (Rect.unit ![0, 4, 0] ![1, 1, 2048] inb_S1x6x2048_S1x1x2048_0_4_0)

/-- Row `5` of the modulation block: the gate. -/
abbrev gateRow (x2 : Vec F S1x6x2048 .f32) : Vec F S1x1x2048 .f32 :=
  View.ld x2 (Rect.unit ![0, 5, 0] ![1, 1, 2048] inb_S1x6x2048_S1x1x2048_0_5_0)

/-- The normalized and modulated rows of a block. -/
def rowsH (x0 : Vec F S512x2048 .f32) (x1 : Vec F S1x2048 .f32) (x2 : Vec F S1x6x2048 .f32) : FVec F S512x2048 .bf16 :=
  k0_pay1 x0 x1 (shiftRow x2) (scaleRow x2)

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
variable (x0 : Vec F S512x2048 .f32) (x1 : Vec F S1x2048 .f32) (x2 : Vec F S1x6x2048 .f32) (x3 : Vec F S2048x512 .bf16) (x4 : Vec F S2048x512 .bf16) (x5 : Vec F S512x2048 .bf16)

/-- The first point of a row block stores the normalized rows. -/
theorem first_h (hc0 : cond0_0 i) (hc1 : ¬cond0_1 i) : sout0_A_0 c i arg2 harg2 arg3 harg3 arg4 harg4 arg5 harg5 arg6 harg6 arg7 harg7 arg8 harg8 arg9 harg9 arg10 harg10 hc0 hc1 x0 x1 x2 x3 x4 x5 = rowsH x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero hz2]
  unfold rowsH
  simp only [View.readCov_unit_zero (S := S512x2048) _ hz2, View.readAt_eq_ld, harg2.read_unread, harg3.read_unread, harg4.read_unread, harg5.read_unread, harg6.read_unread, harg7.read_unread, harg9.read_unread, harg10.read_unread, View.ld_unit_zero (S := S512x2048) hz2, View.ld_unit_zero (S := S1x2048) hz2, View.ld_unit_zero (S := S2048x512) hz2, shapeCast_self]

/-- The first point of a row block leaves its partial sum over the zero block. -/
theorem first_acc (hc0 : cond0_0 i) (hc1 : ¬cond0_1 i) : sout0_A_1 c i arg2 harg2 arg3 harg3 arg4 harg4 arg5 harg5 arg6 harg6 arg7 harg7 arg8 harg8 arg9 harg9 arg10 harg10 hc0 hc1 x0 x1 x2 x3 x4 x5 = k0_pay3 (rowsH x0 x1 x2) x3 x4 k0_pay2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x2048) hz2]
  unfold rowsH
  simp only [View.readCov_unit_zero (S := S512x2048) _ hz2, View.readAt_eq_ld, harg2.read_unread, harg3.read_unread, harg4.read_unread, harg5.read_unread, harg6.read_unread, harg7.read_unread, harg9.read_unread, harg10.read_unread, View.ld_unit_zero (S := S512x2048) hz2, View.ld_unit_zero (S := S1x2048) hz2, View.ld_unit_zero (S := S2048x512) hz2, shapeCast_self]

/-- A middle point adds its partial sum. -/
theorem mid_acc (s0 : Vec F S512x2048 .bf16) (s1 : Vec F S512x2048 .f32) (hc0 : ¬cond0_0 i) (hc1 : ¬cond0_1 i) : sout0_B_1 c i arg2 harg2 arg3 harg3 arg4 harg4 arg5 harg5 arg6 harg6 arg7 harg7 arg8 harg8 arg9 harg9 arg10 harg10 hc0 hc1 x0 x1 x2 x3 x4 x5 s0 s1 = k0_pay3 s0 x3 x4 s1 x5 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 s0 s1)]
  unfold kernelRun0_B
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg9.read_unread, harg10.read_unread, View.ld_unit_zero (S := S512x2048) hz2, View.ld_unit_zero (S := S1x2048) hz2, View.ld_unit_zero (S := S2048x512) hz2, shapeCast_self]

/-- The last point adds its partial sum. -/
theorem last_acc (s0 : Vec F S512x2048 .bf16) (s1 : Vec F S512x2048 .f32) (hc0 : ¬cond0_0 i) (hc1 : cond0_1 i) : sout0_C_1 c i arg2 harg2 arg3 harg3 arg4 harg4 arg5 harg5 arg6 harg6 arg7 harg7 arg8 harg8 arg9 harg9 arg10 harg10 hc0 hc1 x0 x1 x2 x3 x4 x5 s0 s1 = k0_pay3 s0 x3 x4 s1 x5 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 s0 s1)]
  unfold kernelRun0_C
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg9.read_unread, harg10.read_unread, View.ld_unit_zero (S := S512x2048) hz2, View.ld_unit_zero (S := S1x2048) hz2, View.ld_unit_zero (S := S2048x512) hz2, shapeCast_self]

/-- The last point stores the input rows plus the gate times the whole sum. -/
theorem last_out (s0 : Vec F S512x2048 .bf16) (s1 : Vec F S512x2048 .f32) (hc0 : ¬cond0_0 i) (hc1 : cond0_1 i) : out0_C_6 c i arg2 harg2 arg3 harg3 arg4 harg4 arg5 harg5 arg6 harg6 arg7 harg7 arg8 harg8 arg9 harg9 arg10 harg10 hc0 hc1 x0 x1 x2 x3 x4 x5 s0 s1 = k0_pay4 x0 (gateRow x2) (k0_pay3 s0 x3 x4 s1 x5) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 s0 s1)]
  unfold kernelRun0_C
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg9.read_unread, harg10.read_unread, View.ld_unit_zero (S := S512x2048) hz2, View.ld_unit_zero (S := S1x2048) hz2, View.ld_unit_zero (S := S2048x512) hz2, shapeCast_self]

end Cert.FfnIdeal.FfnCases
end
-- ==== Proof.FfnFold.lean ====
/-
  The dense feed-forward call over its arguments' elements: what a grid point adds, the sweep over a row block's 11
  points, and the results. Point `t` of the grid is row block `t / 11`, hidden block `t % 11`.
-/
module

public import proofs.«01_k».proof.Proof.FfnCases
public import proofs.«01_k».proof.Proof.MoeSpec
public import Idealize.ShloMosaic.Lib.Pointwise

@[expose] public section

set_option maxRecDepth 16384

noncomputable section

open Idealize.ShloMosaic Idealize.ShloMosaic.TcCoe Idealize.SL.Sem

namespace FfnSpec

open MoeSpec

variable (X : Fin 9216 → Fin 2048 → EReal) (NW : Fin 2048 → EReal) (M : Fin 8 → Fin 6 → Fin 2048 → EReal)
variable (W1 W3 : Fin 2048 → Fin 5632 → EReal) (W2 : Fin 5632 → Fin 2048 → EReal)

/-- A hidden unit at a row. -/
def act (r : Fin 9216) (f : Fin 5632) : EReal :=
  unit (∑ k : Fin 2048, hid X NW M r k * W1 k f) (∑ k : Fin 2048, hid X NW M r k * W3 k f)

/-- The hidden unit `t` of the `j`-th block of 512. -/
def unitAt (j : Nat) (t : Fin 512) : Fin 5632 := ⟨j % 11 * 512 + t.val, by omega⟩

/-- The share of the `j`-th block of hidden units in a result. -/
def blockShare (r : Fin 9216) (n : Fin 2048) (j : Nat) : EReal :=
  ∑ t : Fin 512, act X NW M W1 W3 r (unitAt j t) * W2 (unitAt j t) n

/-- The results as the call computes them. -/
def result (r : Fin 9216) (n : Fin 2048) : EReal :=
  X r n + M (grp r) 5 n * ∑ j ∈ Finset.range 11, blockShare X NW M W1 W3 W2 r n j

/-- The hidden units, block by block, are all the hidden units. -/
theorem sum_blocks (g : Fin 5632 → EReal) : ∑ j ∈ Finset.range 11, ∑ t : Fin 512, g (unitAt j t) = ∑ f : Fin 5632, g f := by
  rw [Finset.sum_range fun j => ∑ t : Fin 512, g (unitAt j t), ← Fintype.sum_prod_type']
  refine Fintype.sum_equiv (finProdFinEquiv (m := 11) (n := 512)) _ _ fun p => ?_
  refine congrArg g (Fin.ext ?_)
  show p.1.val % 11 * 512 + p.2.val = p.2.val + 512 * p.1.val
  omega

/-- The results with one sum over all hidden units. -/
theorem result_eq (r : Fin 9216) (n : Fin 2048) :
    result X NW M W1 W3 W2 r n = X r n + M (grp r) 5 n * ∑ f : Fin 5632, act X NW M W1 W3 r f * W2 f n := by
  unfold result blockShare
  rw [sum_blocks fun f => act X NW M W1 W3 r f * W2 f n]

end FfnSpec

namespace Cert.FfnIdeal.FfnFold

open MoeSpec (unit hid grp)
open FfnSpec
open Cert.FfnIdeal Cert.FfnIdeal.Gen Cert.FfnIdeal.Value Cert.FfnIdeal.FfnCases

/-- The partial sum of a point: its hidden columns' units times the second matrix. -/
theorem step_apply (s0 : Vec Ideal S512x2048 .bf16) (x3 x4 : Vec Ideal S2048x512 .bf16)
    (s1 : Vec Ideal S512x2048 .f32) (x5 : Vec Ideal S512x2048 .bf16) (r : Fin 512) (n : Fin 2048) :
    k0_pay3 (F := Ideal) s0 x3 x4 s1 x5 (ix2 r n) =
      s1 (ix2 r n) + ∑ t : Fin 512, unit (∑ k : Fin 2048, s0 (ix2 r k) * x3 (ix2 k t)) (∑ k : Fin 2048, s0 (ix2 r k) * x4 (ix2 k t)) * x5 (ix2 t n) := by
  pointwise [k0_pay3]
  rfl

/-- The normalized rows at an element. -/
theorem rows_apply (x0 : Vec Ideal S512x2048 .f32) (x1 : Vec Ideal S1x2048 .f32) (x2 : Vec Ideal S1x6x2048 .f32) (r : Fin 512) (n : Fin 2048) :
    rowsH (F := Ideal) x0 x1 x2 (ix2 r n) =
      x0 (ix2 r n) * Ideal.rsqrt (Ideal.div (∑ x : Fin 2048, x0 (ix2 r x) * x0 (ix2 r x)) (Ideal.ofBits FTy.f32 1157627904#32) + Ideal.ofBits FTy.f32 897988541#32)
        * x1 (ix2 0 n) * (1 + x2 (ix3 0 4 n)) + x2 (ix3 0 3 n) := by
  pointwise [rowsH, k0_pay1, shiftRow, scaleRow]

/-- The sum starts at zero. -/
theorem zero_apply (r : Fin 512) (n : Fin 2048) : k0_pay2 (F := Ideal) (ix2 r n) = 0 := by
  pointwise [k0_pay2]

/-- The result rows at an element. -/
theorem out_apply (x0 : Vec Ideal S512x2048 .f32) (x2 : Vec Ideal S1x6x2048 .f32) (s : Vec Ideal S512x2048 .f32) (r : Fin 512) (n : Fin 2048) :
    k0_pay4 (F := Ideal) x0 (gateRow x2) s (ix2 r n) = x0 (ix2 r n) + x2 (ix3 0 5 n) * s (ix2 r n) := by
  pointwise [k0_pay4, gateRow]

variable (m : (ℓ : Loc nD τ sig) → Buf (Elt Ideal) ℓ) (c : Dev nD)

/-- The row modulation group of row block `b`: four blocks a sequence, the context rows last. -/
def group (b : Nat) : Nat := min (b / 4) 4

theorem index0 : ∀ t : Fin grid0.N, win0_0.index t (0 : Fin 2) = t.val / 11 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 3) = group (t.val / 11) ∧ win0_2.index t (1 : Fin 3) = 0 ∧ win0_2.index t (2 : Fin 3) = 0 := by
  decide +kernel
theorem index3 : ∀ t : Fin grid0.N, win0_3.index t (0 : Fin 2) = 0 ∧ win0_3.index t (1 : Fin 2) = t.val % 11 := by decide +kernel
theorem index4 : ∀ t : Fin grid0.N, win0_4.index t (0 : Fin 2) = 0 ∧ win0_4.index t (1 : Fin 2) = t.val % 11 := by decide +kernel
theorem index5 : ∀ t : Fin grid0.N, win0_5.index t (0 : Fin 2) = t.val % 11 ∧ win0_5.index t (1 : Fin 2) = 0 := by decide +kernel

/-- The input rows' block. -/
theorem blk0 (t : Fin cfg0.N) (r : Fin 512) (n : Fin 2048) (q : Fin 9216) (hq : q.val = t.val / 11 * 512 + r.val) :
    (iblk m c 0 t : Vec Ideal S512x2048 .f32) (ix2 r n) = m ((c : Thread nD τ).loc main_arg0) (ix2 q n) := by
  unfold iblk
  rw [View.read_apply]
  show V m c main_arg0 _ = _
  rw [V_main_arg0]
  congr 1
  funext a
  apply Fin.ext
  match a with
  | ⟨0, _⟩ => show win0_0.index t 0 * 512 + 1 * r.val = q.val; rw [(index0 t).1]; omega
  | ⟨1, _⟩ => show win0_0.index t 1 * 2048 + 1 * n.val = n.val; rw [(index0 t).2]; omega

/-- The norm weights as the call gets them. -/
theorem arr1 : V m c main_v3 = shapeCast S1x2048 (m ((c : Thread nD τ).loc main_arg1)) shapeCasts_S2048_S1x2048 := by
  dsimp only [V, hostOps0]
  after_results
  rfl

/-- The norm weights' block. -/
theorem blk1 (t : Fin cfg0.N) (n : Fin 2048) :
    (iblk m c 1 t : Vec Ideal S1x2048 .f32) (ix2 0 n) = m ((c : Thread nD τ).loc main_arg1) (ix1 n) := by
  unfold iblk
  rw [View.read_apply]
  show V m c main_v3 _ = _
  rw [arr1, show (((cfg0.win 1).blk t).view.emb (ix2 0 n)) = (ix2 0 n : S1x2048.Idx) from by
    funext a
    apply Fin.ext
    match a with
    | ⟨0, _⟩ => show win0_1.index t 0 * 1 + 1 * 0 = 0; rw [(index1 t).1]
    | ⟨1, _⟩ => show win0_1.index t 1 * 2048 + 1 * n.val = n.val; rw [(index1 t).2]; omega]
  pointwise

/-- The modulation rows' block. -/
theorem blk2 (t : Fin cfg0.N) (k : Fin 6) (n : Fin 2048) (g : Fin 8) (hg : g.val = group (t.val / 11)) :
    (iblk m c 2 t : Vec Ideal S1x6x2048 .f32) (ix3 0 k n) = m ((c : Thread nD τ).loc main_arg2) (ix3 g k n) := by
  unfold iblk
  rw [View.read_apply]
  show V m c main_arg2 _ = _
  rw [V_main_arg2]
  congr 1
  funext a
  apply Fin.ext
  match a with
  | ⟨0, _⟩ => show win0_2.index t 0 * 1 + 1 * 0 = g.val; rw [(index2 t).1]; omega
  | ⟨1, _⟩ => show win0_2.index t 1 * 6 + 1 * k.val = k.val; rw [(index2 t).2.1]; omega
  | ⟨2, _⟩ => show win0_2.index t 2 * 2048 + 1 * n.val = n.val; rw [(index2 t).2.2]; omega

/-- The first matrix as the call gets it: a cast that changes nothing here. -/
theorem arr3 : V m c main_v0 = (m ((c : Thread nD τ).loc main_arg3) : S2048x5632.Idx → EReal) := by
  dsimp only [V, hostOps0]
  after_results
  rfl

/-- The gate matrix as the call gets it: a cast that changes nothing here. -/
theorem arr4 : V m c main_v1 = (m ((c : Thread nD τ).loc main_arg4) : S2048x5632.Idx → EReal) := by
  dsimp only [V, hostOps0]
  after_results
  rfl

/-- The second matrix as the call gets it: a cast that changes nothing here. -/
theorem arr5 : V m c main_v2 = (m ((c : Thread nD τ).loc main_arg5) : S5632x2048.Idx → EReal) := by
  dsimp only [V, hostOps0]
  after_results
  rfl

/-- The first matrix's block. -/
theorem blk3 (t : Fin cfg0.N) (k : Fin 2048) (n : Fin 512) (f : Fin 5632) (hf : f.val = t.val % 11 * 512 + n.val) :
    (iblk m c 3 t : Vec Ideal S2048x512 .bf16) (ix2 k n) = m ((c : Thread nD τ).loc main_arg3) (ix2 k f) := by
  unfold iblk
  rw [View.read_apply]
  show V m c main_v0 _ = _
  rw [arr3]
  congr 1
  funext a
  apply Fin.ext
  match a with
  | ⟨0, _⟩ => show win0_3.index t 0 * 2048 + 1 * k.val = k.val; rw [(index3 t).1]; omega
  | ⟨1, _⟩ => show win0_3.index t 1 * 512 + 1 * n.val = f.val; rw [(index3 t).2]; omega

/-- The gate matrix's block. -/
theorem blk4 (t : Fin cfg0.N) (k : Fin 2048) (n : Fin 512) (f : Fin 5632) (hf : f.val = t.val % 11 * 512 + n.val) :
    (iblk m c 4 t : Vec Ideal S2048x512 .bf16) (ix2 k n) = m ((c : Thread nD τ).loc main_arg4) (ix2 k f) := by
  unfold iblk
  rw [View.read_apply]
  show V m c main_v1 _ = _
  rw [arr4]
  congr 1
  funext a
  apply Fin.ext
  match a with
  | ⟨0, _⟩ => show win0_4.index t 0 * 2048 + 1 * k.val = k.val; rw [(index4 t).1]; omega
  | ⟨1, _⟩ => show win0_4.index t 1 * 512 + 1 * n.val = f.val; rw [(index4 t).2]; omega

/-- The second matrix's block. -/
theorem blk5 (t : Fin cfg0.N) (n : Fin 512) (k : Fin 2048) (f : Fin 5632) (hf : f.val = t.val % 11 * 512 + n.val) :
    (iblk m c 5 t : Vec Ideal S512x2048 .bf16) (ix2 n k) = m ((c : Thread nD τ).loc main_arg5) (ix2 f k) := by
  unfold iblk
  rw [View.read_apply]
  show V m c main_v2 _ = _
  rw [arr5]
  congr 1
  funext a
  apply Fin.ext
  match a with
  | ⟨0, _⟩ => show win0_5.index t 0 * 512 + 1 * n.val = f.val; rw [(index5 t).1]; omega
  | ⟨1, _⟩ => show win0_5.index t 1 * 2048 + 1 * k.val = k.val; rw [(index5 t).2]; omega

/-- The input rows by row and column. -/
def aX : Fin 9216 → Fin 2048 → EReal := fun r n => m ((c : Thread nD τ).loc main_arg0) (ix2 r n)
/-- The norm weights by column. -/
def aN : Fin 2048 → EReal := fun n => m ((c : Thread nD τ).loc main_arg1) (ix1 n)
/-- The modulation rows by group, row and column. -/
def aM : Fin 8 → Fin 6 → Fin 2048 → EReal := fun g k n => m ((c : Thread nD τ).loc main_arg2) (ix3 g k n)
/-- The first matrix by row and column. -/
def aW1 : Fin 2048 → Fin 5632 → EReal := fun k f => m ((c : Thread nD τ).loc main_arg3) (ix2 k f)
/-- The gate matrix by row and column. -/
def aW3 : Fin 2048 → Fin 5632 → EReal := fun k f => m ((c : Thread nD τ).loc main_arg4) (ix2 k f)
/-- The second matrix by row and column. -/
def aW2 : Fin 5632 → Fin 2048 → EReal := fun f n => m ((c : Thread nD τ).loc main_arg5) (ix2 f n)

/-- Row `r` of row block `b`. -/
def rowOf (b : Fin 18) (r : Fin 512) : Fin 9216 := ⟨b.val * 512 + r.val, by omega⟩

/-- The modulation group of a block is that of each of its rows. -/
theorem grp_row (b : Fin 18) (r : Fin 512) : (grp (rowOf b r)).val = group b.val := by
  show min ((b.val * 512 + r.val) / 2048) 4 = min (b.val / 4) 4
  omega

section point
variable (t : Fin cfg0.N) (b : Fin 18) (hb : b.val = t.val / 11) (r : Fin 512)
include hb

/-- The normalized rows a block's first point computes. -/
theorem hid_at (k : Fin 2048) : rowsH (F := Ideal) (iblk m c 0 t) (iblk m c 1 t) (iblk m c 2 t) (ix2 r k) = hid (aX m c) (aN m c) (aM m c) (rowOf b r) k := by
  have hq : (rowOf b r).val = t.val / 11 * 512 + r.val := by show b.val * 512 + r.val = _; rw [hb]
  have hg : (grp (rowOf b r)).val = group (t.val / 11) := by rw [grp_row, hb]
  rw [rows_apply]
  simp only [blk0 m c t r _ _ hq, blk1, blk2 m c t _ _ _ hg]
  rfl

/-- One point's step at an element: it adds its block's share. -/
theorem step_at (k : Nat) (hk : t.val = b.val * 11 + k) (hk' : k < 11) (n : Fin 2048) (s0 : Vec Ideal S512x2048 .bf16) (s1 : Vec Ideal S512x2048 .f32)
    (h0 : ∀ x, s0 (ix2 r x) = hid (aX m c) (aN m c) (aM m c) (rowOf b r) x) :
    k0_pay3 (F := Ideal) s0 (iblk m c 3 t) (iblk m c 4 t) s1 (iblk m c 5 t) (ix2 r n)
      = s1 (ix2 r n) + blockShare (aX m c) (aN m c) (aM m c) (aW1 m c) (aW3 m c) (aW2 m c) (rowOf b r) n k := by
  have hf : ∀ u : Fin 512, (unitAt k u).val = t.val % 11 * 512 + u.val := fun u => by show k % 11 * 512 + u.val = _; omega
  rw [step_apply]
  congr 1
  unfold blockShare act
  refine Finset.sum_congr rfl fun u _ => ?_
  rw [blk5 m c t u n (unitAt k u) (hf u)]
  simp only [h0, blk3 m c t _ u (unitAt k u) (hf u), blk4 m c t _ u (unitAt k u) (hf u)]
  rfl

end point

/-- What the scratch holds after the point `k` of row block `b`. -/
structure Holds (b : Fin 18) (k : Nat) (s : Vec Ideal S512x2048 .f32 × Vec Ideal S512x2048 .bf16 × Vec Ideal S512x2048 .f32) : Prop where
  rows : ∀ r x, s.2.1 (ix2 r x) = hid (aX m c) (aN m c) (aM m c) (rowOf b r) x
  sums : ∀ r n, s.2.2 (ix2 r n) = ∑ j ∈ Finset.range (k + 1), blockShare (aX m c) (aN m c) (aM m c) (aW1 m c) (aW3 m c) (aW2 m c) (rowOf b r) n j

/-- A row block's first point. -/
theorem holds_first (t : Fin cfg0.N) (b : Fin 18) (ht : t.val = b.val * 11) (s) : Holds m c b 0 (stAt0 m c t.val t.isLt s) := by
  have hb : b.val = t.val / 11 := by omega
  rw [stAt0_A m c t s (by omega) (by omega)]
  refine ⟨fun r x => ?_, fun r n => ?_⟩
  · dsimp only
    rw [first_h, hid_at m c t b hb]
  · dsimp only
    rw [first_acc, step_at m c t b hb r 0 (by omega) (by omega) n _ _ (hid_at m c t b hb r), zero_apply, zero_add, Finset.sum_range_one]

/-- A later point of a row block. -/
theorem holds_next (t : Fin cfg0.N) (b : Fin 18) (k : Nat) (ht : t.val = b.val * 11 + (k + 1)) (hk : k + 1 < 11) (s) (hs : Holds m c b k s) :
    Holds m c b (k + 1) (stAt0 m c t.val t.isLt s) := by
  have hb : b.val = t.val / 11 := by omega
  have h0 : ¬t.val % 11 = 0 := by omega
  by_cases h1 : t.val % 11 = 10
  · rw [stAt0_C m c t s h0 h1]
    refine ⟨hs.rows, fun r n => ?_⟩
    dsimp only
    rw [last_acc, step_at m c t b hb r (k + 1) ht hk n _ _ (hs.rows r), hs.sums, ← Finset.sum_range_succ]
  · rw [stAt0_B m c t s h0 h1]
    refine ⟨hs.rows, fun r n => ?_⟩
    dsimp only
    rw [mid_acc, step_at m c t b hb r (k + 1) ht hk n _ _ (hs.rows r), hs.sums, ← Finset.sum_range_succ]

/-- What each point leaves is its step of what the point before left. -/
theorem outs_step (t : Fin cfg0.N) : ∃ s, outsAt0 m c t.val t.isLt = stAt0 m c t.val t.isLt s ∧ ∀ (n : Nat) (h : n < cfg0.N), t.val = n + 1 → s = outsAt0 m c n h := by
  obtain ⟨n, hn⟩ := t
  cases n with
  | zero => exact ⟨_, outsAt0_zero m c hn, fun n _ h => absurd h (by simp)⟩
  | succ n => exact ⟨_, outsAt0_succ m c n hn, fun n' h' e => by obtain rfl : n = n' := Nat.succ.inj e; rfl⟩

/-- What the scratch holds after every point. -/
theorem holds (b : Fin 18) : ∀ (k : Nat) (hk : k < 11) (t : Fin cfg0.N) (ht : t.val = b.val * 11 + k), Holds m c b k (outsAt0 m c t.val t.isLt) := by
  intro k
  induction k with
  | zero =>
    intro _ t ht
    obtain ⟨s, hs, _⟩ := outs_step m c t
    rw [hs]
    exact holds_first m c t b ht s
  | succ k ih =>
    intro hk t ht
    obtain ⟨s, hs, hp⟩ := outs_step m c t
    have hl : b.val * 11 + k < cfg0.N := by have := t.isLt; omega
    rw [hs, hp (b.val * 11 + k) hl (by omega)]
    exact holds_next m c t b k ht hk _ (ih (by omega) ⟨b.val * 11 + k, hl⟩ rfl)

/-- The rows the last point of a row block stores. -/
theorem stored (b : Fin 18) (t : Fin cfg0.N) (ht : t.val = b.val * 11 + 10) (r : Fin 512) (n : Fin 2048) :
    (outsAt0 m c t.val t.isLt).1 (ix2 r n) = result (aX m c) (aN m c) (aM m c) (aW1 m c) (aW3 m c) (aW2 m c) (rowOf b r) n := by
  obtain ⟨s, hs, hp⟩ := outs_step m c t
  have hl : b.val * 11 + 9 < cfg0.N := by have := t.isLt; omega
  have hh : Holds m c b 9 s := by
    rw [hp (b.val * 11 + 9) hl (by omega)]
    exact holds m c b 9 (by omega) ⟨b.val * 11 + 9, hl⟩ rfl
  have hb : b.val = t.val / 11 := by omega
  have hq : (rowOf b r).val = t.val / 11 * 512 + r.val := by show b.val * 512 + r.val = _; rw [hb]
  have hg : (grp (rowOf b r)).val = group (t.val / 11) := by rw [grp_row, hb]
  rw [hs, stAt0_C m c t s (by omega) (by omega)]
  dsimp only
  rw [last_out, out_apply, step_at m c t b hb r 10 ht (by omega) n _ _ (hh.rows r), hh.sums, ← Finset.sum_range_succ,
    blk0 m c t r n _ hq, blk2 m c t 5 n _ hg]
  rfl

/-- The result array at an element. -/
theorem result_at (r : Fin 9216) (n : Fin 2048) : G6 m c (ix2 r n) = result (aX m c) (aN m c) (aM m c) (aW1 m c) (aW3 m c) (aW2 m c) r n := by
  have hN : cfg0.N = 198 := N_0
  have hp : pt6Of (ix2 r n : S9216x2048.Idx) = r.val / 512 * 11 + 10 := by
    show 11 * (1 * (r.val / 512 - 0) + 1 * (n.val / 2048 - 0)) + 10 = _
    omega
  have hlt : pt6Of (ix2 r n : S9216x2048.Idx) < cfg0.N := by rw [hp, hN]; omega
  unfold G6
  rw [dif_pos hlt, ← outsAt0_sweep m c _ hlt]
  have e := stored m c ⟨r.val / 512, by omega⟩ ⟨_, hlt⟩ hp ⟨r.val % 512, by omega⟩ n
  have hr : rowOf ⟨r.val / 512, by omega⟩ ⟨r.val % 512, by omega⟩ = r := Fin.ext (by show r.val / 512 * 512 + r.val % 512 = r.val; omega)
  rw [hr] at e
  rw [← e]
  refine congrArg (outsAt0 m c (pt6Of (ix2 r n : S9216x2048.Idx)) hlt).1 ?_
  funext a
  apply Fin.ext
  match a with
  | ⟨0, _⟩ => rfl
  | ⟨1, _⟩ => show n.val % 2048 = n.val; omega

end Cert.FfnIdeal.FfnFold
end
-- ==== Proof.Points.lean ====
/-
  Elements of arrays by their coordinates.
-/
module

public import Idealize.ShloMosaic.Lib.Pointwise

@[expose] public section

open Idealize.ShloMosaic Idealize.ShloMosaic.TcCoe Idealize.SL.Sem

namespace Points

/-- An index of a matrix is a row and a column. -/
theorem exists_row_col {a b : Nat} (y : (⟨2, ![a, b]⟩ : Shape).Idx) : ∃ (r : Fin a) (n : Fin b), y = ix2 r n :=
  ⟨y 0, y 1, by funext k; match k with | ⟨0, _⟩ => rfl | ⟨1, _⟩ => rfl⟩

end Points
-- ==== Proof.FfnTie.lean ====
/-
  The dense feed-forward call and its reference compute the same results, whatever the arguments.
-/
module

public import proofs.«01_k».proof.Proof.FfnFold
public import proofs.«01_k».proof.Proof.Points
public import proofs.«01_k».proof.Proof.RefRows
public import proofs.«01_k».proof.Proof.Gen.FfnRefIdeal.Run
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Rows

open Cert.FfnRefIdeal Cert.FfnRefIdeal.Read MoeSpec

variable (x0 : Vec Ideal S9216x2048 .f32) (x1 : Vec Ideal S2048 .f32) (x2 : Vec Ideal S8x6x2048 .f32)
variable (x3 x4 : Vec Ideal S2048x5632 .f32) (x5 : Vec Ideal S5632x2048 .f32)

/-- The repeated modulation rows are those of the expert layer's reference. -/
theorem mods_same : val_main_v6 (F := Ideal) x2 = Cert.ReferenceIdeal.Read.val_main_v6 (F := Ideal) x2 := rfl

/-- The normalized rows are those of the expert layer's reference. -/
theorem rows_same : val_main_v27 (F := Ideal) x0 x1 x2 = Cert.ReferenceIdeal.Read.val_main_v27 (F := Ideal) x0 x1 x2 := rfl

/-- The hidden units at an element. -/
theorem act_apply (r : Fin 9216) (f : Fin 5632) : val_main_v33 (F := Ideal) x0 x1 x2 x3 x4 (ix2 r f)
    = FfnSpec.act (fun r n => x0 (ix2 r n)) (fun n => x1 (ix1 n)) (fun g k n => x2 (ix3 g k n)) (fun k f => x3 (ix2 k f)) (fun k f => x4 (ix2 k f)) r f := by
  unfold FfnSpec.act val_main_v33 val_main_v31 val_main_v32 val_main_call0_v5 val_main_call0_v4 val_main_call0_v3 val_main_call0_v2 val_main_call0_v1 val_main_call0_v0 val_main_v30
  simp only [← Cert.ReferenceIdeal.Rows.hid_apply]
  rw [rows_same]
  generalize Cert.ReferenceIdeal.Read.val_main_v27 (F := Ideal) x0 x1 x2 = y
  pointwise [val_main_call0_cst, val_main_call0_cst_0]
  rfl

/-- The reference's results at an element. -/
theorem out_apply (r : Fin 9216) (n : Fin 2048) : val_main_v36 (F := Ideal) x0 x1 x2 x3 x4 x5 (ix2 r n)
    = FfnSpec.result (fun r n => x0 (ix2 r n)) (fun n => x1 (ix1 n)) (fun g k n => x2 (ix3 g k n)) (fun k f => x3 (ix2 k f)) (fun k f => x4 (ix2 k f))
      (fun f n => x5 (ix2 f n)) r n := by
  have h := Cert.ReferenceIdeal.Rows.mods_apply x2 r
  rw [FfnSpec.result_eq]
  simp only [← act_apply]
  unfold val_main_v36 val_main_v35 val_main_v29 val_main_v28 val_main_v34
  rw [mods_same]
  generalize Cert.ReferenceIdeal.Read.val_main_v6 (F := Ideal) x2 = y at h
  generalize val_main_v33 (F := Ideal) x0 x1 x2 x3 x4 = z
  pointwise
  rw [h]

end Cert.FfnRefIdeal.Rows

namespace Cert.FfnTie

open Cert.FfnIdeal.FfnFold

variable (m : (ℓ : Loc Cert.FfnIdeal.nD Cert.FfnIdeal.τ Cert.FfnIdeal.sig) → Buf (Elt Ideal) ℓ) (c : Dev Cert.FfnIdeal.nD)

/-- The reference's results at the call's arguments are the call's. -/
theorem tie : Cert.FfnRefIdeal.Read.val_main_v36 (F := Ideal)
      (m ((c : Thread Cert.FfnIdeal.nD Cert.FfnIdeal.τ).loc Cert.FfnIdeal.main_arg0)) (m ((c : Thread Cert.FfnIdeal.nD Cert.FfnIdeal.τ).loc Cert.FfnIdeal.main_arg1))
      (m ((c : Thread Cert.FfnIdeal.nD Cert.FfnIdeal.τ).loc Cert.FfnIdeal.main_arg2)) (m ((c : Thread Cert.FfnIdeal.nD Cert.FfnIdeal.τ).loc Cert.FfnIdeal.main_arg3))
      (m ((c : Thread Cert.FfnIdeal.nD Cert.FfnIdeal.τ).loc Cert.FfnIdeal.main_arg4)) (m ((c : Thread Cert.FfnIdeal.nD Cert.FfnIdeal.τ).loc Cert.FfnIdeal.main_arg5))
    = Cert.FfnIdeal.Value.G6 (F := Ideal) m c := by
  funext y
  obtain ⟨r, n, rfl⟩ := Points.exists_row_col y
  exact (Cert.FfnRefIdeal.Rows.out_apply _ _ _ _ _ _ r n).trans (result_at m c r n).symm

end Cert.FfnTie
end
-- ==== Proof.ProjSpec.lean ====
/-
  The token mixers' input projection over its arguments' elements: normalized and modulated rows times a weight matrix
  of 15360 columns.
-/
module

public import proofs.«01_k».proof.Proof.MoeSpec

@[expose] public section

set_option maxRecDepth 16384

noncomputable section

open Idealize.ShloMosaic Idealize.ShloMosaic.TcCoe Idealize.SL.Sem

namespace ProjSpec

open MoeSpec

variable (X : Fin 9216 → Fin 2048 → EReal) (NW : Fin 2048 → EReal) (M : Fin 8 → Fin 6 → Fin 2048 → EReal) (W : Fin 2048 → Fin 15360 → EReal)

/-- A normalized and modulated row: rows `0` and `1` of the modulation are the shift and the scale. -/
def mix (r : Fin 9216) (k : Fin 2048) : EReal := X r k * inv X r * NW k * (1 + M (grp r) 1 k) + M (grp r) 0 k

/-- The projection of a row to a column. -/
def proj (r : Fin 9216) (f : Fin 15360) : EReal := ∑ k : Fin 2048, mix X NW M r k * W k f

/-- The weight column of the main call's `n`-th column: the gates', the first mixers', the output gate's. -/
def mainCol (n : Fin 13312) : Fin 15360 :=
  ⟨if n.val < 6144 then n.val + 9216 else if n.val < 12288 then n.val - 6144 else n.val - 4096, by split_ifs <;> omega⟩

/-- The weight column of the forget gates' call's `n`-th column. -/
def forgetCol (n : Fin 2048) : Fin 15360 := ⟨n.val + 6144, by omega⟩

end ProjSpec
end
-- ==== Proof.InProjFold.lean ====
/-
  The input projection's main call: what a grid point leaves behind, the blocks it reads, and the results. Point `t` of the grid is row block
  `t / 13`, column block `t % 13`; a row block's first point stores the normalized rows, which the later ones read.
-/
module

public import proofs.«01_k».proof.Proof.Gen.InProjIdeal.Value
public import proofs.«01_k».proof.Proof.ProjSpec
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.InProjIdeal.InProjFold

open Cert.InProjIdeal Cert.InProjIdeal.Gen Cert.InProjIdeal.Value

section cases
variable {F : FTy → Type} [FloatOps F]

/-- Two zero offsets are the zero function. -/
theorem hz2 : (![0, 0] : Fin 2 → Nat) = fun _ => 0 := funext fun a => by fin_cases a <;> rfl

/-- The normalized and modulated rows of a block. -/
def rowsH (x0 : Vec F S1024x2048 .f32) (x1 : Vec F S1x2048 .f32) (x2 : Vec F S1x6x2048 .f32) : FVec F S1024x2048 .bf16 :=
  k0_pay1 x0 x1 (View.ld x2 (Rect.unit ![0, 0, 0] ![1, 1, 2048] inb_S1x6x2048_S1x1x2048_0_0_0))
    (View.ld x2 (Rect.unit ![0, 1, 0] ![1, 1, 2048] inb_S1x6x2048_S1x1x2048_0_1_0))

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x2048 .bf16) (harg7 : arg7.IsWhole)
variable {x0 : Vec F S1024x2048 .f32} {x1 : Vec F S1x2048 .f32} {x2 : Vec F S1x6x2048 .f32} {x3 : Vec F S2048x1024 .bf16}

/-- The first point of a row block stores the normalized rows. -/
theorem first_h (hc0 : cond0_0 i) : sout0_A_0 c i arg2 harg2 arg3 harg3 arg4 harg4 arg5 harg5 arg6 harg6 arg7 harg7 hc0 x0 x1 x2 x3 = rowsH x0 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  unfold rowsH
  simp only [View.readCov_unit_zero (S := S1024x2048) _ hz2, View.readAt_eq_ld, harg2.read_unread, harg3.read_unread, harg4.read_unread, harg5.read_unread, harg7.read_unread, View.ld_unit_zero (S := S1024x2048) hz2, View.ld_unit_zero (S := S1x2048) hz2, View.ld_unit_zero (S := S2048x1024) hz2, shapeCast_self]

/-- The first point's result block. -/
theorem first_out (hc0 : cond0_0 i) : out0_A_4 c i arg2 harg2 arg3 harg3 arg4 harg4 arg5 harg5 arg6 harg6 arg7 harg7 hc0 x0 x1 x2 x3 = k0_pay2 (rowsH x0 x1 x2) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz2]
  unfold rowsH
  simp only [View.readCov_unit_zero (S := S1024x2048) _ hz2, View.readAt_eq_ld, harg2.read_unread, harg3.read_unread, harg4.read_unread, harg5.read_unread, harg7.read_unread, View.ld_unit_zero (S := S1024x2048) hz2, View.ld_unit_zero (S := S1x2048) hz2, View.ld_unit_zero (S := S2048x1024) hz2, shapeCast_self]

/-- A later point's result block. -/
theorem next_out (s0 : Vec F S1024x2048 .bf16) (hc0 : ¬cond0_0 i) : out0_B_4 c i arg2 harg2 arg3 harg3 arg4 harg4 arg5 harg5 arg6 harg6 arg7 harg7 hc0 x0 x1 x2 x3 s0 = k0_pay2 s0 x3 := by
  unfold out0_B_4
  rw [View.read_writes_eq_canon _ _ _ (cover0_B_4 c i arg2 harg2 arg3 harg3 arg4 harg4 arg5 harg5 arg6 harg6 arg7 harg7 hc0 x0 x1 x2 x3 s0)]
  unfold kernelRun0_B
  dsimp only
  sl_unfold_words
  rw [View.canon_unit_zero hz2]
  simp only [View.readCov_unit_zero (S := S1024x2048) _ hz2, View.readAt_eq_ld, harg2.read_unread, harg3.read_unread, harg4.read_unread, harg5.read_unread, harg7.read_unread, View.ld_unit_zero (S := S1024x2048) hz2, View.ld_unit_zero (S := S1x2048) hz2, View.ld_unit_zero (S := S2048x1024) hz2, shapeCast_self]

end cases

open MoeSpec (grp)
open ProjSpec

/-- The normalized rows at an element. -/
theorem rows_apply (x0 : Vec Ideal S1024x2048 .f32) (x1 : Vec Ideal S1x2048 .f32) (x2 : Vec Ideal S1x6x2048 .f32) (r : Fin 1024) (n : Fin 2048) :
    rowsH (F := Ideal) x0 x1 x2 (ix2 r n) =
      x0 (ix2 r n) * Ideal.rsqrt (Ideal.div (∑ x : Fin 2048, x0 (ix2 r x) * x0 (ix2 r x)) (Ideal.ofBits FTy.f32 1157627904#32) + Ideal.ofBits FTy.f32 897988541#32)
        * x1 (ix2 0 n) * (1 + x2 (ix3 0 1 n)) + x2 (ix3 0 0 n) := by
  pointwise [rowsH, k0_pay1]

/-- The result block at an element. -/
theorem prod_apply (s0 : Vec Ideal S1024x2048 .bf16) (x3 : Vec Ideal S2048x1024 .bf16) (r : Fin 1024) (n : Fin 1024) :
    k0_pay2 (F := Ideal) s0 x3 (ix2 r n) = ∑ k : Fin 2048, s0 (ix2 r k) * x3 (ix2 k n) := by
  pointwise [k0_pay2]

variable (m : (ℓ : Loc nD τ sig) → Buf (Elt Ideal) ℓ) (c : Dev nD)

/-- The modulation group of row block `b`: two blocks a sequence, the context rows last. -/
def group (b : Nat) : Nat := min (b / 2) 4

/-- The rows' block is the point's row block. -/
theorem index0 : ∀ t : Fin grid0.N, win0_0.index t (0 : Fin 2) = t.val / 13 ∧ win0_0.index t (1 : Fin 2) = 0 := by decide +kernel
/-- The norm weights are one block. -/
theorem index1 : ∀ t : Fin grid0.N, win0_1.index t (0 : Fin 2) = 0 ∧ win0_1.index t (1 : Fin 2) = 0 := by decide +kernel
/-- The modulation rows' block is the row block's group. -/
theorem index2 : ∀ t : Fin grid0.N, win0_2.index t (0 : Fin 3) = group (t.val / 13) ∧ win0_2.index t (1 : Fin 3) = 0 ∧ win0_2.index t (2 : Fin 3) = 0 := by
  decide +kernel
/-- The weights' block is the point's column block. -/
theorem index3 : ∀ t : Fin grid0.N, win0_3.index t (0 : Fin 2) = 0 ∧ win0_3.index t (1 : Fin 2) = t.val % 13 := by decide +kernel

/-- The input rows' block. -/
theorem blk0 (t : Fin cfg0.N) (r : Fin 1024) (n : Fin 2048) (q : Fin 9216) (hq : q.val = t.val / 13 * 1024 + r.val) :
    (iblk m c 0 t : Vec Ideal S1024x2048 .f32) (ix2 r n) = m ((c : Thread nD τ).loc main_arg0) (ix2 q n) := by
  unfold iblk
  rw [View.read_apply]
  show V m c main_arg0 _ = _
  rw [V_main_arg0]
  congr 1
  funext a
  apply Fin.ext
  match a with
  | ⟨0, _⟩ => show win0_0.index t 0 * 1024 + 1 * r.val = q.val; rw [(index0 t).1]; omega
  | ⟨1, _⟩ => show win0_0.index t 1 * 2048 + 1 * n.val = n.val; rw [(index0 t).2]; omega

/-- The norm weights as the call gets them. -/
theorem arr1 : V m c main_v5 = shapeCast S1x2048 (m ((c : Thread nD τ).loc main_arg1)) shapeCasts_S2048_S1x2048 := by
  dsimp only [V, hostOps0]
  after_results
  rfl

/-- The norm weights' block. -/
theorem blk1 (t : Fin cfg0.N) (n : Fin 2048) :
    (iblk m c 1 t : Vec Ideal S1x2048 .f32) (ix2 0 n) = m ((c : Thread nD τ).loc main_arg1) (ix1 n) := by
  unfold iblk
  rw [View.read_apply]
  show V m c main_v5 _ = _
  rw [arr1, show (((cfg0.win 1).blk t).view.emb (ix2 0 n)) = (ix2 0 n : S1x2048.Idx) from by
    funext a
    apply Fin.ext
    match a with
    | ⟨0, _⟩ => show win0_1.index t 0 * 1 + 1 * 0 = 0; rw [(index1 t).1]
    | ⟨1, _⟩ => show win0_1.index t 1 * 2048 + 1 * n.val = n.val; rw [(index1 t).2]; omega]
  pointwise

/-- The modulation rows' block. -/
theorem blk2 (t : Fin cfg0.N) (k : Fin 6) (n : Fin 2048) (g : Fin 8) (hg : g.val = group (t.val / 13)) :
    (iblk m c 2 t : Vec Ideal S1x6x2048 .f32) (ix3 0 k n) = m ((c : Thread nD τ).loc main_arg2) (ix3 g k n) := by
  unfold iblk
  rw [View.read_apply]
  show V m c main_arg2 _ = _
  rw [V_main_arg2]
  congr 1
  funext a
  apply Fin.ext
  match a with
  | ⟨0, _⟩ => show win0_2.index t 0 * 1 + 1 * 0 = g.val; rw [(index2 t).1]; omega
  | ⟨1, _⟩ => show win0_2.index t 1 * 6 + 1 * k.val = k.val; rw [(index2 t).2.1]; omega
  | ⟨2, _⟩ => show win0_2.index t 2 * 2048 + 1 * n.val = n.val; rw [(index2 t).2.2]; omega

/-- The weights as the call gets them: column pieces of the whole matrix, and a cast that changes nothing here. -/
theorem arrW : V m c main_v4 = (concatenate S2048x13312 1
    [⟨S2048x6144, extractStridedSlice (α := EReal) S2048x6144 ![0, 9216] (m ((c : Thread nD τ).loc main_arg3)) slices_S2048x15360_S2048x6144_0_9216⟩,
     ⟨S2048x6144, extractStridedSlice (α := EReal) S2048x6144 ![0, 0] (m ((c : Thread nD τ).loc main_arg3)) slices_S2048x15360_S2048x6144_0_0⟩,
     ⟨S2048x1024, extractStridedSlice (α := EReal) S2048x1024 ![0, 8192] (m ((c : Thread nD τ).loc main_arg3)) slices_S2048x15360_S2048x1024_0_8192⟩]
    concatenates_S2048x6144_S2048x6144_S2048x1024_S2048x13312_d1 : S2048x13312.Idx → EReal) := by
  dsimp only [V, hostOps0]
  after_results
  rfl

/-- The weights' element. -/
theorem arr3 (k : Fin 2048) (n : Fin 13312) : (V m c main_v4 : S2048x13312.Idx → EReal) (ix2 k n) = m ((c : Thread nD τ).loc main_arg3) (ix2 k (mainCol n)) := by
  rw [arrW]
  pointwise
  unfold mainCol
  by_cases h1 : n.val < 6144
  · rw [dif_pos h1]
    refine congrArg (fun v => m ((c : Thread nD τ).loc main_arg3) (ix2 k v)) (Fin.ext ?_)
    show 9216 + n.val = if n.val < 6144 then _ else _
    rw [if_pos h1, Nat.add_comm]
  · rw [dif_neg h1]
    by_cases h2 : n.val < 12288
    · rw [dif_pos (by omega : n.val - 6144 < 6144)]
      refine congrArg (fun v => m ((c : Thread nD τ).loc main_arg3) (ix2 k v)) (Fin.ext ?_)
      show n.val - 6144 = if n.val < 6144 then _ else if n.val < 12288 then _ else _
      rw [if_neg h1, if_pos h2]
    · rw [dif_neg (by omega : ¬n.val - 6144 < 6144)]
      refine congrArg (fun v => m ((c : Thread nD τ).loc main_arg3) (ix2 k v)) (Fin.ext ?_)
      show 8192 + (n.val - 6144 - 6144) = if n.val < 6144 then _ else if n.val < 12288 then _ else _
      rw [if_neg h1, if_neg h2]
      omega

/-- The weights' block. -/
theorem blk3 (t : Fin cfg0.N) (k : Fin 2048) (n : Fin 1024) (f : Fin 13312) (hf : f.val = t.val % 13 * 1024 + n.val) :
    (iblk m c 3 t : Vec Ideal S2048x1024 .bf16) (ix2 k n) = m ((c : Thread nD τ).loc main_arg3) (ix2 k (mainCol f)) := by
  unfold iblk
  rw [View.read_apply]
  show V m c main_v4 _ = _
  refine Eq.trans (congrArg (V m c main_v4 : S2048x13312.Idx → EReal) ?_) (arr3 m c k f)
  funext a
  apply Fin.ext
  match a with
  | ⟨0, _⟩ => show win0_3.index t 0 * 2048 + 1 * k.val = k.val; rw [(index3 t).1]; omega
  | ⟨1, _⟩ => show win0_3.index t 1 * 1024 + 1 * n.val = f.val; rw [(index3 t).2]; omega

/-- The input rows by row and column. -/
def aX : Fin 9216 → Fin 2048 → EReal := fun r n => m ((c : Thread nD τ).loc main_arg0) (ix2 r n)
/-- The norm weights by column. -/
def aN : Fin 2048 → EReal := fun n => m ((c : Thread nD τ).loc main_arg1) (ix1 n)
/-- The modulation rows by group, row and column. -/
def aM : Fin 8 → Fin 6 → Fin 2048 → EReal := fun g k n => m ((c : Thread nD τ).loc main_arg2) (ix3 g k n)
/-- The weights by row and column. -/
def aW : Fin 2048 → Fin 15360 → EReal := fun k f => m ((c : Thread nD τ).loc main_arg3) (ix2 k f)

/-- Row `r` of row block `b`. -/
def rowOf (b : Fin 9) (r : Fin 1024) : Fin 9216 := ⟨b.val * 1024 + r.val, by omega⟩

/-- The modulation group of a block is that of each of its rows. -/
theorem grp_row (b : Fin 9) (r : Fin 1024) : (grp (rowOf b r)).val = group b.val := by
  show min ((b.val * 1024 + r.val) / 2048) 4 = min (b.val / 2) 4
  omega

section point
variable (t : Fin cfg0.N) (b : Fin 9) (hb : b.val = t.val / 13) (r : Fin 1024)
include hb

/-- The normalized rows a block's first point computes. -/
theorem mix_at (k : Fin 2048) : rowsH (F := Ideal) (iblk m c 0 t) (iblk m c 1 t) (iblk m c 2 t) (ix2 r k) = mix (aX m c) (aN m c) (aM m c) (rowOf b r) k := by
  have hq : (rowOf b r).val = t.val / 13 * 1024 + r.val := by show b.val * 1024 + r.val = _; rw [hb]
  have hg : (grp (rowOf b r)).val = group (t.val / 13) := by rw [grp_row, hb]
  rw [rows_apply]
  simp only [blk0 m c t r _ _ hq, blk1, blk2 m c t _ _ _ hg]
  rfl

/-- The result block of a point whose rows are the normalized ones. -/
theorem prod_at (n : Fin 1024) (f : Fin 13312) (hf : f.val = t.val % 13 * 1024 + n.val) (s0 : Vec Ideal S1024x2048 .bf16)
    (h0 : ∀ x, s0 (ix2 r x) = mix (aX m c) (aN m c) (aM m c) (rowOf b r) x) :
    k0_pay2 (F := Ideal) s0 (iblk m c 3 t) (ix2 r n) = proj (aX m c) (aN m c) (aM m c) (aW m c) (rowOf b r) (mainCol f) := by
  rw [prod_apply]
  simp only [h0, blk3 m c t _ n f hf]
  rfl

end point

/-- What the result block and the scratch hold after the point `k` of row block `b`. -/
structure Holds (b : Fin 9) (k : Nat) (s : Vec Ideal S1024x1024 .bf16 × Vec Ideal S1024x2048 .bf16) : Prop where
  rows : ∀ r x, s.2 (ix2 r x) = mix (aX m c) (aN m c) (aM m c) (rowOf b r) x
  outs : ∀ r n (f : Fin 13312), f.val = k * 1024 + n.val → s.1 (ix2 r n) = proj (aX m c) (aN m c) (aM m c) (aW m c) (rowOf b r) (mainCol f)

/-- A row block's first point. -/
theorem holds_first (t : Fin cfg0.N) (b : Fin 9) (ht : t.val = b.val * 13) (s) : Holds m c b 0 (stAt0 m c t.val t.isLt s) := by
  have hb : b.val = t.val / 13 := by omega
  have hm : t.val % 13 = 0 := by omega
  rw [stAt0_A m c t s hm]
  refine ⟨fun r x => ?_, fun r n f hf => ?_⟩
  · dsimp only
    rw [first_h, mix_at m c t b hb]
  · dsimp only
    rw [first_out]
    exact prod_at m c t b hb r n f (by rw [hm]; exact hf) (rowsH (F := Ideal) (iblk m c 0 t) (iblk m c 1 t) (iblk m c 2 t)) (mix_at m c t b hb r)

/-- A later point of a row block. -/
theorem holds_next (t : Fin cfg0.N) (b : Fin 9) (k : Nat) (ht : t.val = b.val * 13 + (k + 1)) (hk : k + 1 < 13) (s) (hs : Holds m c b k s) :
    Holds m c b (k + 1) (stAt0 m c t.val t.isLt s) := by
  have hb : b.val = t.val / 13 := by omega
  have hm : t.val % 13 = k + 1 := by omega
  rw [stAt0_B m c t s (by omega)]
  refine ⟨hs.rows, fun r n f hf => ?_⟩
  dsimp only
  rw [next_out]
  exact prod_at m c t b hb r n f (by rw [hm]; exact hf) s.2 (hs.rows r)

/-- What each point leaves is its step of what the point before left. -/
theorem outs_step (t : Fin cfg0.N) : ∃ s, outsAt0 m c t.val t.isLt = stAt0 m c t.val t.isLt s ∧ ∀ (n : Nat) (h : n < cfg0.N), t.val = n + 1 → s = outsAt0 m c n h := by
  obtain ⟨n, hn⟩ := t
  cases n with
  | zero => exact ⟨_, outsAt0_zero m c hn, fun n _ h => absurd h (by simp)⟩
  | succ n => exact ⟨_, outsAt0_succ m c n hn, fun n' h' e => by obtain rfl : n = n' := Nat.succ.inj e; rfl⟩

/-- What is held after every point. -/
theorem holds (b : Fin 9) : ∀ (k : Nat) (hk : k < 13) (t : Fin cfg0.N) (ht : t.val = b.val * 13 + k), Holds m c b k (outsAt0 m c t.val t.isLt) := by
  intro k
  induction k with
  | zero =>
    intro _ t ht
    obtain ⟨s, hs, _⟩ := outs_step m c t
    rw [hs]
    exact holds_first m c t b ht s
  | succ k ih =>
    intro hk t ht
    obtain ⟨s, hs, hp⟩ := outs_step m c t
    have hl : b.val * 13 + k < cfg0.N := by have := t.isLt; omega
    rw [hs, hp (b.val * 13 + k) hl (by omega)]
    exact holds_next m c t b k ht hk _ (ih (by omega) ⟨b.val * 13 + k, hl⟩ rfl)

/-- The result array at an element. -/
theorem result_at (r : Fin 9216) (n : Fin 13312) : G4 m c (ix2 r n) = proj (aX m c) (aN m c) (aM m c) (aW m c) r (mainCol n) := by
  have hN : cfg0.N = 117 := N_0
  have hp : pt4Of (ix2 r n : S9216x13312.Idx) = r.val / 1024 * 13 + n.val / 1024 := by
    show 13 * (r.val / 1024 - 0) + 1 * (n.val / 1024 - 0) = _
    omega
  have hlt : pt4Of (ix2 r n : S9216x13312.Idx) < cfg0.N := by rw [hp, hN]; omega
  unfold G4
  rw [dif_pos hlt, ← outsAt0_sweep m c _ hlt]
  have e := (holds m c ⟨r.val / 1024, by omega⟩ (n.val / 1024) (by omega) ⟨_, hlt⟩ hp).outs ⟨r.val % 1024, by omega⟩ ⟨n.val % 1024, by omega⟩ n
    (by show n.val = n.val / 1024 * 1024 + n.val % 1024; omega)
  have hr : rowOf ⟨r.val / 1024, by omega⟩ ⟨r.val % 1024, by omega⟩ = r := Fin.ext (by show r.val / 1024 * 1024 + r.val % 1024 = r.val; omega)
  rw [hr] at e
  rw [← e]
  refine congrArg (outsAt0 m c (pt4Of (ix2 r n : S9216x13312.Idx)) hlt).1 ?_
  funext a
  match a with
  | ⟨0, _⟩ => rfl
  | ⟨1, _⟩ => rfl

end Cert.InProjIdeal.InProjFold
end
-- ==== Proof.InProjTie.lean ====
/-
  The input projection's main call and its reference compute the same results, whatever the arguments.
-/
module

public import proofs.«01_k».proof.Proof.InProjFold
public import proofs.«01_k».proof.Proof.Points
public import proofs.«01_k».proof.Proof.RefRows
public import proofs.«01_k».proof.Proof.Gen.InProjRefIdeal.Run
public import proofs.«01_k».proof.Proof.Gen.InProjRefIdeal.Read

@[expose] public section

set_option maxRecDepth 16384

noncomputable section

open Idealize.ShloMosaic Idealize.ShloMosaic.TcCoe Idealize.SL.Sem

namespace Cert.InProjRefIdeal.Rows

open Cert.InProjRefIdeal Cert.InProjRefIdeal.Read MoeSpec ProjSpec

variable (x0 : Vec Ideal S9216x2048 .f32) (x1 : Vec Ideal S2048 .f32) (x2 : Vec Ideal S8x6x2048 .f32) (x3 : Vec Ideal S2048x15360 .f32)

/-- The repeated modulation rows are those of the expert layer's reference. -/
theorem mods_same : val_main_v6 (F := Ideal) x2 = Cert.ReferenceIdeal.Read.val_main_v6 (F := Ideal) x2 := rfl

/-- The normalized and modulated rows at an element. -/
theorem mix_apply (r : Fin 9216) (n : Fin 2048) : val_main_v27 (F := Ideal) x0 x1 x2 (ix2 r n) = mix (fun r n => x0 (ix2 r n)) (fun n => x1 (ix1 n)) (fun g k n => x2 (ix3 g k n)) r n := by
  have h := Cert.ReferenceIdeal.Rows.mods_apply x2 r
  unfold val_main_v27 val_main_v26 val_main_v25 val_main_v23 val_main_v21 val_main_v20 val_main_v22
  rw [mods_same]
  generalize Cert.ReferenceIdeal.Read.val_main_v6 (F := Ideal) x2 = y at h
  pointwise [val_main_v19, val_main_v16, val_main_v18, val_main_v17, val_main_v15, val_main_v14, val_main_v13, val_main_v12,
    val_main_v11, val_main_v10, val_main_v9, val_main_v8, val_main_v7, val_main_v24, val_main_cst, val_main_cst_0, val_main_cst_1, val_main_cst_2]
  rw [h, h]
  rfl

/-- The projection at an element. -/
theorem proj_apply (r : Fin 9216) (f : Fin 15360) : val_main_v28 (F := Ideal) x0 x1 x2 x3 (ix2 r f) = proj (fun r n => x0 (ix2 r n)) (fun n => x1 (ix1 n)) (fun g k n => x2 (ix3 g k n)) (fun k f => x3 (ix2 k f)) r f := by
  unfold val_main_v28 proj
  simp only [← mix_apply]
  generalize val_main_v27 x0 x1 x2 = y
  pointwise
  done

/-- The results at an element: the projection's column pieces. -/
theorem out_apply (r : Fin 9216) (n : Fin 13312) : val_main_v33 (F := Ideal) x0 x1 x2 x3 (ix2 r n)
    = proj (fun r n => x0 (ix2 r n)) (fun n => x1 (ix1 n)) (fun g k n => x2 (ix3 g k n)) (fun k f => x3 (ix2 k f)) r (mainCol n) := by
  rw [← proj_apply]
  unfold val_main_v33 val_main_v32 val_main_v31 val_main_v30 val_main_v29
  generalize val_main_v28 x0 x1 x2 x3 = z
  pointwise
  unfold mainCol
  by_cases h1 : n.val < 6144
  · rw [dif_pos h1]
    refine congrArg (fun v => z (ix2 r v)) (Fin.ext ?_)
    show 9216 + n.val = if n.val < 6144 then _ else _
    rw [if_pos h1, Nat.add_comm]
  · rw [dif_neg h1]
    by_cases h2 : n.val < 12288
    · rw [dif_pos (by omega : n.val - 6144 < 6144)]
      refine congrArg (fun v => z (ix2 r v)) (Fin.ext ?_)
      show n.val - 6144 = if n.val < 6144 then _ else if n.val < 12288 then _ else _
      rw [if_neg h1, if_pos h2]
    · rw [dif_neg (by omega : ¬n.val - 6144 < 6144)]
      refine congrArg (fun v => z (ix2 r v)) (Fin.ext ?_)
      show 8192 + (n.val - 6144 - 6144) = if n.val < 6144 then _ else if n.val < 12288 then _ else _
      rw [if_neg h1, if_neg h2]
      omega

end Cert.InProjRefIdeal.Rows

namespace Cert.InProjTie

open Cert.InProjIdeal.InProjFold

variable (m : (ℓ : Loc Cert.InProjIdeal.nD Cert.InProjIdeal.τ Cert.InProjIdeal.sig) → Buf (Elt Ideal) ℓ) (c : Dev Cert.InProjIdeal.nD)

/-- The reference's results at the call's arguments are the call's. -/
theorem tie : Cert.InProjRefIdeal.Read.val_main_v33 (F := Ideal)
      (m ((c : Thread Cert.InProjIdeal.nD Cert.InProjIdeal.τ).loc Cert.InProjIdeal.main_arg0)) (m ((c : Thread Cert.InProjIdeal.nD Cert.InProjIdeal.τ).loc Cert.InProjIdeal.main_arg1))
      (m ((c : Thread Cert.InProjIdeal.nD Cert.InProjIdeal.τ).loc Cert.InProjIdeal.main_arg2)) (m ((c : Thread Cert.InProjIdeal.nD Cert.InProjIdeal.τ).loc Cert.InProjIdeal.main_arg3))
    = Cert.InProjIdeal.Value.G4 (F := Ideal) m c := by
  funext y
  obtain ⟨r, n, rfl⟩ := Points.exists_row_col y
  exact (Cert.InProjRefIdeal.Rows.out_apply _ _ _ _ r n).trans (result_at m c r n).symm

end Cert.InProjTie
end
-- ==== Proof.ForgetFold.lean ====
/-
  The input projection's call for the forget gates: what a grid point leaves behind, the blocks it reads, and the results. Point `t` of the grid is row block
  `t / 2`, column block `t % 2`; a row block's first point stores the normalized rows, which the later ones read.
-/
module

public import proofs.«01_k».proof.Proof.Gen.ForgetIdeal.Value
public import proofs.«01_k».proof.Proof.ProjSpec
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.ForgetIdeal.ForgetFold

open Cert.ForgetIdeal Cert.ForgetIdeal.Gen Cert.ForgetIdeal.Value

section cases
variable {F : FTy → Type} [FloatOps F]

/-- Two zero offsets are the zero function. -/
theorem hz2 : (![0, 0] : Fin 2 → Nat) = fun _ => 0 := funext fun a => by fin_cases a <;> rfl

/-- The normalized and modulated rows of a block. -/
def rowsH (x0 : Vec F S1024x2048 .f32) (x1 : Vec F S1x2048 .f32) (x2 : Vec F S1x6x2048 .f32) : FVec F S1024x2048 .bf16 :=
  k0_pay1 x0 x1 (View.ld x2 (Rect.unit ![0, 0, 0] ![1, 1, 2048] inb_S1x6x2048_S1x1x2048_0_0_0))
    (View.ld x2 (Rect.unit ![0, 1, 0] ![1, 1, 2048] inb_S1x6x2048_S1x1x2048_0_1_0))

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole)
variable {x0 : Vec F S1024x2048 .f32} {x1 : Vec F S1x2048 .f32} {x2 : Vec F S1x6x2048 .f32} {x3 : Vec F S2048x1024 .bf16}

/-- The first point of a row block stores the normalized rows. -/
theorem first_h (hc0 : cond0_0 i) : sout0_A_0 c i arg2 harg2 arg3 harg3 arg4 harg4 arg5 harg5 arg6 harg6 arg7 harg7 hc0 x0 x1 x2 x3 = rowsH x0 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  unfold rowsH
  simp only [View.readCov_unit_zero (S := S1024x2048) _ hz2, View.readAt_eq_ld, harg2.read_unread, harg3.read_unread, harg4.read_unread, harg5.read_unread, harg7.read_unread, View.ld_unit_zero (S := S1024x2048) hz2, View.ld_unit_zero (S := S1x2048) hz2, View.ld_unit_zero (S := S2048x1024) hz2, shapeCast_self]

/-- The first point's result block. -/
theorem first_out (hc0 : cond0_0 i) : out0_A_4 c i arg2 harg2 arg3 harg3 arg4 harg4 arg5 harg5 arg6 harg6 arg7 harg7 hc0 x0 x1 x2 x3 = k0_pay2 (rowsH x0 x1 x2) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz2]
  unfold rowsH
  simp only [View.readCov_unit_zero (S := S1024x2048) _ hz2, View.readAt_eq_ld, harg2.read_unread, harg3.read_unread, harg4.read_unread, harg5.read_unread, harg7.read_unread, View.ld_unit_zero (S := S1024x2048) hz2, View.ld_unit_zero (S := S1x2048) hz2, View.ld_unit_zero (S := S2048x1024) hz2, shapeCast_self]

/-- A later point's result block. -/
theorem next_out (s0 : Vec F S1024x2048 .bf16) (hc0 : ¬cond0_0 i) : out0_B_4 c i arg2 harg2 arg3 harg3 arg4 harg4 arg5 harg5 arg6 harg6 arg7 harg7 hc0 x0 x1 x2 x3 s0 = k0_pay2 s0 x3 := by
  unfold out0_B_4
  rw [View.read_writes_eq_canon _ _ _ (cover0_B_4 c i arg2 harg2 arg3 harg3 arg4 harg4 arg5 harg5 arg6 harg6 arg7 harg7 hc0 x0 x1 x2 x3 s0)]
  unfold kernelRun0_B
  dsimp only
  sl_unfold_words
  rw [View.canon_unit_zero hz2]
  simp only [View.readCov_unit_zero (S := S1024x2048) _ hz2, View.readAt_eq_ld, harg2.read_unread, harg3.read_unread, harg4.read_unread, harg5.read_unread, harg7.read_unread, View.ld_unit_zero (S := S1024x2048) hz2, View.ld_unit_zero (S := S1x2048) hz2, View.ld_unit_zero (S := S2048x1024) hz2, shapeCast_self]

end cases

open MoeSpec (grp)
open ProjSpec

/-- The normalized rows at an element. -/
theorem rows_apply (x0 : Vec Ideal S1024x2048 .f32) (x1 : Vec Ideal S1x2048 .f32) (x2 : Vec Ideal S1x6x2048 .f32) (r : Fin 1024) (n : Fin 2048) :
    rowsH (F := Ideal) x0 x1 x2 (ix2 r n) =
      x0 (ix2 r n) * Ideal.rsqrt (Ideal.div (∑ x : Fin 2048, x0 (ix2 r x) * x0 (ix2 r x)) (Ideal.ofBits FTy.f32 1157627904#32) + Ideal.ofBits FTy.f32 897988541#32)
        * x1 (ix2 0 n) * (1 + x2 (ix3 0 1 n)) + x2 (ix3 0 0 n) := by
  pointwise [rowsH, k0_pay1]

/-- The result block at an element. -/
theorem prod_apply (s0 : Vec Ideal S1024x2048 .bf16) (x3 : Vec Ideal S2048x1024 .bf16) (r : Fin 1024) (n : Fin 1024) :
    k0_pay2 (F := Ideal) s0 x3 (ix2 r n) = ∑ k : Fin 2048, s0 (ix2 r k) * x3 (ix2 k n) := by
  pointwise [k0_pay2]

variable (m : (ℓ : Loc nD τ sig) → Buf (Elt Ideal) ℓ) (c : Dev nD)

/-- The modulation group of row block `b`: two blocks a sequence, the context rows last. -/
def group (b : Nat) : Nat := min (b / 2) 4

/-- The rows' block is the point's row block. -/
theorem index0 : ∀ t : Fin grid0.N, win0_0.index t (0 : Fin 2) = t.val / 2 ∧ win0_0.index t (1 : Fin 2) = 0 := by decide +kernel
/-- The norm weights are one block. -/
theorem index1 : ∀ t : Fin grid0.N, win0_1.index t (0 : Fin 2) = 0 ∧ win0_1.index t (1 : Fin 2) = 0 := by decide +kernel
/-- The modulation rows' block is the row block's group. -/
theorem index2 : ∀ t : Fin grid0.N, win0_2.index t (0 : Fin 3) = group (t.val / 2) ∧ win0_2.index t (1 : Fin 3) = 0 ∧ win0_2.index t (2 : Fin 3) = 0 := by
  decide +kernel
/-- The weights' block is the point's column block. -/
theorem index3 : ∀ t : Fin grid0.N, win0_3.index t (0 : Fin 2) = 0 ∧ win0_3.index t (1 : Fin 2) = t.val % 2 := by decide +kernel

/-- The input rows' block. -/
theorem blk0 (t : Fin cfg0.N) (r : Fin 1024) (n : Fin 2048) (q : Fin 9216) (hq : q.val = t.val / 2 * 1024 + r.val) :
    (iblk m c 0 t : Vec Ideal S1024x2048 .f32) (ix2 r n) = m ((c : Thread nD τ).loc main_arg0) (ix2 q n) := by
  unfold iblk
  rw [View.read_apply]
  show V m c main_arg0 _ = _
  rw [V_main_arg0]
  congr 1
  funext a
  apply Fin.ext
  match a with
  | ⟨0, _⟩ => show win0_0.index t 0 * 1024 + 1 * r.val = q.val; rw [(index0 t).1]; omega
  | ⟨1, _⟩ => show win0_0.index t 1 * 2048 + 1 * n.val = n.val; rw [(index0 t).2]; omega

/-- The norm weights as the call gets them. -/
theorem arr1 : V m c main_v2 = shapeCast S1x2048 (m ((c : Thread nD τ).loc main_arg1)) shapeCasts_S2048_S1x2048 := by
  dsimp only [V, hostOps0]
  after_results
  rfl

/-- The norm weights' block. -/
theorem blk1 (t : Fin cfg0.N) (n : Fin 2048) :
    (iblk m c 1 t : Vec Ideal S1x2048 .f32) (ix2 0 n) = m ((c : Thread nD τ).loc main_arg1) (ix1 n) := by
  unfold iblk
  rw [View.read_apply]
  show V m c main_v2 _ = _
  rw [arr1, show (((cfg0.win 1).blk t).view.emb (ix2 0 n)) = (ix2 0 n : S1x2048.Idx) from by
    funext a
    apply Fin.ext
    match a with
    | ⟨0, _⟩ => show win0_1.index t 0 * 1 + 1 * 0 = 0; rw [(index1 t).1]
    | ⟨1, _⟩ => show win0_1.index t 1 * 2048 + 1 * n.val = n.val; rw [(index1 t).2]; omega]
  pointwise

/-- The modulation rows' block. -/
theorem blk2 (t : Fin cfg0.N) (k : Fin 6) (n : Fin 2048) (g : Fin 8) (hg : g.val = group (t.val / 2)) :
    (iblk m c 2 t : Vec Ideal S1x6x2048 .f32) (ix3 0 k n) = m ((c : Thread nD τ).loc main_arg2) (ix3 g k n) := by
  unfold iblk
  rw [View.read_apply]
  show V m c main_arg2 _ = _
  rw [V_main_arg2]
  congr 1
  funext a
  apply Fin.ext
  match a with
  | ⟨0, _⟩ => show win0_2.index t 0 * 1 + 1 * 0 = g.val; rw [(index2 t).1]; omega
  | ⟨1, _⟩ => show win0_2.index t 1 * 6 + 1 * k.val = k.val; rw [(index2 t).2.1]; omega
  | ⟨2, _⟩ => show win0_2.index t 2 * 2048 + 1 * n.val = n.val; rw [(index2 t).2.2]; omega

/-- The weights as the call gets them: columns of the whole matrix, and a cast that changes nothing here. -/
theorem arr3 (k : Fin 2048) (n : Fin 2048) : (V m c main_v1 : S2048x2048.Idx → EReal) (ix2 k n) = m ((c : Thread nD τ).loc main_arg3) (ix2 k (forgetCol n)) := by
  dsimp only [V, hostOps0]
  after_results
  pointwise
  unfold forgetCol
  refine congrArg (fun v => m ((c : Thread nD τ).loc main_arg3) (ix2 k v)) (Fin.ext ?_)
  dsimp only
  omega

/-- The weights' block. -/
theorem blk3 (t : Fin cfg0.N) (k : Fin 2048) (n : Fin 1024) (f : Fin 2048) (hf : f.val = t.val % 2 * 1024 + n.val) :
    (iblk m c 3 t : Vec Ideal S2048x1024 .bf16) (ix2 k n) = m ((c : Thread nD τ).loc main_arg3) (ix2 k (forgetCol f)) := by
  unfold iblk
  rw [View.read_apply]
  show V m c main_v1 _ = _
  refine Eq.trans (congrArg (V m c main_v1 : S2048x2048.Idx → EReal) ?_) (arr3 m c k f)
  funext a
  apply Fin.ext
  match a with
  | ⟨0, _⟩ => show win0_3.index t 0 * 2048 + 1 * k.val = k.val; rw [(index3 t).1]; omega
  | ⟨1, _⟩ => show win0_3.index t 1 * 1024 + 1 * n.val = f.val; rw [(index3 t).2]; omega

/-- The input rows by row and column. -/
def aX : Fin 9216 → Fin 2048 → EReal := fun r n => m ((c : Thread nD τ).loc main_arg0) (ix2 r n)
/-- The norm weights by column. -/
def aN : Fin 2048 → EReal := fun n => m ((c : Thread nD τ).loc main_arg1) (ix1 n)
/-- The modulation rows by group, row and column. -/
def aM : Fin 8 → Fin 6 → Fin 2048 → EReal := fun g k n => m ((c : Thread nD τ).loc main_arg2) (ix3 g k n)
/-- The weights by row and column. -/
def aW : Fin 2048 → Fin 15360 → EReal := fun k f => m ((c : Thread nD τ).loc main_arg3) (ix2 k f)

/-- Row `r` of row block `b`. -/
def rowOf (b : Fin 9) (r : Fin 1024) : Fin 9216 := ⟨b.val * 1024 + r.val, by omega⟩

/-- The modulation group of a block is that of each of its rows. -/
theorem grp_row (b : Fin 9) (r : Fin 1024) : (grp (rowOf b r)).val = group b.val := by
  show min ((b.val * 1024 + r.val) / 2048) 4 = min (b.val / 2) 4
  omega

section point
variable (t : Fin cfg0.N) (b : Fin 9) (hb : b.val = t.val / 2) (r : Fin 1024)
include hb

/-- The normalized rows a block's first point computes. -/
theorem mix_at (k : Fin 2048) : rowsH (F := Ideal) (iblk m c 0 t) (iblk m c 1 t) (iblk m c 2 t) (ix2 r k) = mix (aX m c) (aN m c) (aM m c) (rowOf b r) k := by
  have hq : (rowOf b r).val = t.val / 2 * 1024 + r.val := by show b.val * 1024 + r.val = _; rw [hb]
  have hg : (grp (rowOf b r)).val = group (t.val / 2) := by rw [grp_row, hb]
  rw [rows_apply]
  simp only [blk0 m c t r _ _ hq, blk1, blk2 m c t _ _ _ hg]
  rfl

/-- The result block of a point whose rows are the normalized ones. -/
theorem prod_at (n : Fin 1024) (f : Fin 2048) (hf : f.val = t.val % 2 * 1024 + n.val) (s0 : Vec Ideal S1024x2048 .bf16)
    (h0 : ∀ x, s0 (ix2 r x) = mix (aX m c) (aN m c) (aM m c) (rowOf b r) x) :
    k0_pay2 (F := Ideal) s0 (iblk m c 3 t) (ix2 r n) = proj (aX m c) (aN m c) (aM m c) (aW m c) (rowOf b r) (forgetCol f) := by
  rw [prod_apply]
  simp only [h0, blk3 m c t _ n f hf]
  rfl

end point

/-- What the result block and the scratch hold after the point `k` of row block `b`. -/
structure Holds (b : Fin 9) (k : Nat) (s : Vec Ideal S1024x1024 .f32 × Vec Ideal S1024x2048 .bf16) : Prop where
  rows : ∀ r x, s.2 (ix2 r x) = mix (aX m c) (aN m c) (aM m c) (rowOf b r) x
  outs : ∀ r n (f : Fin 2048), f.val = k * 1024 + n.val → s.1 (ix2 r n) = proj (aX m c) (aN m c) (aM m c) (aW m c) (rowOf b r) (forgetCol f)

/-- A row block's first point. -/
theorem holds_first (t : Fin cfg0.N) (b : Fin 9) (ht : t.val = b.val * 2) (s) : Holds m c b 0 (stAt0 m c t.val t.isLt s) := by
  have hb : b.val = t.val / 2 := by omega
  have hm : t.val % 2 = 0 := by omega
  rw [stAt0_A m c t s hm]
  refine ⟨fun r x => ?_, fun r n f hf => ?_⟩
  · dsimp only
    rw [first_h, mix_at m c t b hb]
  · dsimp only
    rw [first_out]
    exact prod_at m c t b hb r n f (by rw [hm]; exact hf) (rowsH (F := Ideal) (iblk m c 0 t) (iblk m c 1 t) (iblk m c 2 t)) (mix_at m c t b hb r)

/-- A later point of a row block. -/
theorem holds_next (t : Fin cfg0.N) (b : Fin 9) (k : Nat) (ht : t.val = b.val * 2 + (k + 1)) (hk : k + 1 < 2) (s) (hs : Holds m c b k s) :
    Holds m c b (k + 1) (stAt0 m c t.val t.isLt s) := by
  have hb : b.val = t.val / 2 := by omega
  have hm : t.val % 2 = k + 1 := by omega
  rw [stAt0_B m c t s (by omega)]
  refine ⟨hs.rows, fun r n f hf => ?_⟩
  dsimp only
  rw [next_out]
  exact prod_at m c t b hb r n f (by rw [hm]; exact hf) s.2 (hs.rows r)

/-- What each point leaves is its step of what the point before left. -/
theorem outs_step (t : Fin cfg0.N) : ∃ s, outsAt0 m c t.val t.isLt = stAt0 m c t.val t.isLt s ∧ ∀ (n : Nat) (h : n < cfg0.N), t.val = n + 1 → s = outsAt0 m c n h := by
  obtain ⟨n, hn⟩ := t
  cases n with
  | zero => exact ⟨_, outsAt0_zero m c hn, fun n _ h => absurd h (by simp)⟩
  | succ n => exact ⟨_, outsAt0_succ m c n hn, fun n' h' e => by obtain rfl : n = n' := Nat.succ.inj e; rfl⟩

/-- What is held after every point. -/
theorem holds (b : Fin 9) : ∀ (k : Nat) (hk : k < 2) (t : Fin cfg0.N) (ht : t.val = b.val * 2 + k), Holds m c b k (outsAt0 m c t.val t.isLt) := by
  intro k
  induction k with
  | zero =>
    intro _ t ht
    obtain ⟨s, hs, _⟩ := outs_step m c t
    rw [hs]
    exact holds_first m c t b ht s
  | succ k ih =>
    intro hk t ht
    obtain ⟨s, hs, hp⟩ := outs_step m c t
    have hl : b.val * 2 + k < cfg0.N := by have := t.isLt; omega
    rw [hs, hp (b.val * 2 + k) hl (by omega)]
    exact holds_next m c t b k ht hk _ (ih (by omega) ⟨b.val * 2 + k, hl⟩ rfl)

/-- The result array at an element. -/
theorem result_at (r : Fin 9216) (n : Fin 2048) : G4 m c (ix2 r n) = proj (aX m c) (aN m c) (aM m c) (aW m c) r (forgetCol n) := by
  have hN : cfg0.N = 18 := N_0
  have hp : pt4Of (ix2 r n : S9216x2048.Idx) = r.val / 1024 * 2 + n.val / 1024 := by
    show 2 * (r.val / 1024 - 0) + 1 * (n.val / 1024 - 0) = _
    omega
  have hlt : pt4Of (ix2 r n : S9216x2048.Idx) < cfg0.N := by rw [hp, hN]; omega
  unfold G4
  rw [dif_pos hlt, ← outsAt0_sweep m c _ hlt]
  have e := (holds m c ⟨r.val / 1024, by omega⟩ (n.val / 1024) (by omega) ⟨_, hlt⟩ hp).outs ⟨r.val % 1024, by omega⟩ ⟨n.val % 1024, by omega⟩ n
    (by show n.val = n.val / 1024 * 1024 + n.val % 1024; omega)
  have hr : rowOf ⟨r.val / 1024, by omega⟩ ⟨r.val % 1024, by omega⟩ = r := Fin.ext (by show r.val / 1024 * 1024 + r.val % 1024 = r.val; omega)
  rw [hr] at e
  rw [← e]
  refine congrArg (outsAt0 m c (pt4Of (ix2 r n : S9216x2048.Idx)) hlt).1 ?_
  funext a
  match a with
  | ⟨0, _⟩ => rfl
  | ⟨1, _⟩ => rfl

end Cert.ForgetIdeal.ForgetFold
end
-- ==== Proof.ForgetTie.lean ====
/-
  The input projection's call for the forget gates and its reference compute the same results, whatever the arguments.
-/
module

public import proofs.«01_k».proof.Proof.ForgetFold
public import proofs.«01_k».proof.Proof.Points
public import proofs.«01_k».proof.Proof.InProjTie
public import proofs.«01_k».proof.Proof.Gen.ForgetRefIdeal.Run
public import proofs.«01_k».proof.Proof.Gen.ForgetRefIdeal.Read

@[expose] public section

set_option maxRecDepth 16384

noncomputable section

open Idealize.ShloMosaic Idealize.ShloMosaic.TcCoe Idealize.SL.Sem

namespace Cert.ForgetRefIdeal.Rows

open Cert.ForgetRefIdeal Cert.ForgetRefIdeal.Read MoeSpec ProjSpec

variable (x0 : Vec Ideal S9216x2048 .f32) (x1 : Vec Ideal S2048 .f32) (x2 : Vec Ideal S8x6x2048 .f32) (x3 : Vec Ideal S2048x15360 .f32)

/-- The whole projection is that of the main call's reference. -/
theorem proj_same : val_main_v28 (F := Ideal) x0 x1 x2 x3 = Cert.InProjRefIdeal.Read.val_main_v28 (F := Ideal) x0 x1 x2 x3 := rfl

/-- The results at an element: a column piece of the projection. -/
theorem out_apply (r : Fin 9216) (n : Fin 2048) : val_main_v29 (F := Ideal) x0 x1 x2 x3 (ix2 r n)
    = proj (fun r n => x0 (ix2 r n)) (fun n => x1 (ix1 n)) (fun g k n => x2 (ix3 g k n)) (fun k f => x3 (ix2 k f)) r (forgetCol n) := by
  rw [← Cert.InProjRefIdeal.Rows.proj_apply]
  unfold val_main_v29
  rw [proj_same]
  generalize Cert.InProjRefIdeal.Read.val_main_v28 (F := Ideal) x0 x1 x2 x3 = z
  pointwise
  unfold forgetCol
  refine congrArg (fun v => z (ix2 r v)) (Fin.ext ?_)
  show 6144 + n.val = n.val + 6144
  omega

end Cert.ForgetRefIdeal.Rows

namespace Cert.ForgetTie

open Cert.ForgetIdeal.ForgetFold

variable (m : (ℓ : Loc Cert.ForgetIdeal.nD Cert.ForgetIdeal.τ Cert.ForgetIdeal.sig) → Buf (Elt Ideal) ℓ) (c : Dev Cert.ForgetIdeal.nD)

/-- The reference's results at the call's arguments are the call's. -/
theorem tie : Cert.ForgetRefIdeal.Read.val_main_v29 (F := Ideal)
      (m ((c : Thread Cert.ForgetIdeal.nD Cert.ForgetIdeal.τ).loc Cert.ForgetIdeal.main_arg0)) (m ((c : Thread Cert.ForgetIdeal.nD Cert.ForgetIdeal.τ).loc Cert.ForgetIdeal.main_arg1))
      (m ((c : Thread Cert.ForgetIdeal.nD Cert.ForgetIdeal.τ).loc Cert.ForgetIdeal.main_arg2)) (m ((c : Thread Cert.ForgetIdeal.nD Cert.ForgetIdeal.τ).loc Cert.ForgetIdeal.main_arg3))
    = Cert.ForgetIdeal.Value.G4 (F := Ideal) m c := by
  funext y
  obtain ⟨r, n, rfl⟩ := Points.exists_row_col y
  exact (Cert.ForgetRefIdeal.Rows.out_apply _ _ _ _ r n).trans (result_at m c r n).symm

end Cert.ForgetTie
end
-- ==== Proof.MergeSpec.lean ====
/-
  The merge of the token mixers' outputs over its arguments' elements: the recurrence's heads normalized and gated, the
  three mixers' products gated and added, and the output product.
-/
module

public import proofs.«01_k».proof.Proof.MoeSpec

@[expose] public section

set_option maxRecDepth 16384

noncomputable section

open Idealize.ShloMosaic Idealize.ShloMosaic.TcCoe Idealize.SL.Sem

namespace MergeSpec

open MoeSpec

/-- Column `k` of head `p`. -/
def headCol (p : Fin 8) (k : Fin 128) : Fin 1024 := ⟨p.val * 128 + k.val, by omega⟩

/-- A head's normalized element: over the root of the head's mean square plus a small number, times the weight. -/
def headAt (o : Fin 1024 → EReal) (w : Fin 128 → EReal) (p : Fin 8) (k : Fin 128) : EReal :=
  o (headCol p k) * Ideal.rsqrt (Ideal.div (∑ x : Fin 128, o (headCol p x) * o (headCol p x)) (Ideal.ofBits FTy.f32 1124073472#32) + Ideal.ofBits FTy.f32 897988541#32) * w k

/-- The normalized heads side by side. -/
def heads (o : Fin 1024 → EReal) (w : Fin 128 → EReal) (j : Fin 1024) : EReal := headAt o w ⟨j.val / 128, by omega⟩ ⟨j.val % 128, by omega⟩

/-- The normalized heads at a head's column. -/
theorem heads_of (o : Fin 1024 → EReal) (w : Fin 128 → EReal) (j : Fin 1024) (p : Fin 8) (k : Fin 128) (h : j.val = p.val * 128 + k.val) :
    headAt o w p k = heads o w j := by
  have hp : p = ⟨j.val / 128, by omega⟩ := Fin.ext (by show p.val = j.val / 128; omega)
  have hk : k = ⟨j.val % 128, by omega⟩ := Fin.ext (by show k.val = j.val % 128; omega)
  unfold heads
  rw [← hp, ← hk]

variable (YH YF OF OB : Fin 9216 → Fin 1024 → EReal) (Z : Fin 9216 → Fin 13312 → EReal) (X : Fin 9216 → Fin 2048 → EReal) (HN : Fin 128 → EReal)
variable (M : Fin 8 → Fin 6 → Fin 2048 → EReal) (BH BF BG : Fin 1024 → Fin 2048 → EReal) (WO : Fin 2048 → Fin 2048 → EReal)

/-- The column of the `i`-th mixer's gate. -/
def gateCol (i : Fin 3) (n : Fin 2048) : Fin 13312 := ⟨i.val * 2048 + n.val, by omega⟩

/-- The column of the recurrence's output gate. -/
def outCol (j : Fin 1024) : Fin 13312 := ⟨11264 + j.val, by omega⟩

/-- The recurrence's gated heads: both directions added, normalized, times the gate. -/
def recur (r : Fin 9216) (j : Fin 1024) : EReal :=
  heads (fun j => OF r j + OB r j) HN j * (Z r (outCol j) * Ideal.logistic (Z r (outCol j)))

/-- The three mixers' products, gated and added. -/
def merged (r : Fin 9216) (n : Fin 2048) : EReal :=
  Ideal.logistic (Z r (gateCol 0 n)) * (∑ k : Fin 1024, YH r k * BH k n) + Ideal.logistic (Z r (gateCol 1 n)) * (∑ k : Fin 1024, YF r k * BF k n)
    + Ideal.logistic (Z r (gateCol 2 n)) * (∑ k : Fin 1024, recur OF OB Z HN r k * BG k n)

/-- The results: the rows plus their gated share of the output product. -/
def result (r : Fin 9216) (n : Fin 2048) : EReal :=
  X r n + M (grp r) 2 n * ∑ k : Fin 2048, merged YH YF OF OB Z HN BH BF BG r k * WO k n

end MergeSpec
end
-- ==== Proof.MergeFold.lean ====
/-
  The merge call: what a grid point stores, the blocks it reads, and the results. Point `t` of the grid is row block `t`.
-/
module

public import proofs.«01_k».proof.Proof.Gen.MergeIdeal.Value
public import proofs.«01_k».proof.Proof.MergeSpec
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.MergeIdeal.MergeBlocks

open Cert.MergeIdeal Cert.MergeIdeal.Gen Cert.MergeIdeal.Value

section stored
variable {F : FTy → Type} [FloatOps F]

/-- Two zero offsets are the zero function. -/
theorem hz2 : (![0, 0] : Fin 2 → Nat) = fun _ => 0 := funext fun a => by fin_cases a <;> rfl

/-- The first mixer's gate columns. -/
abbrev gate0 (x5 : Vec F S256x6144 .bf16) : Vec F S256x2048 .bf16 := View.ld x5 (Rect.unit ![0, 0] ![256, 2048] inb_S256x6144_S256x2048_0_0)
/-- The second mixer's gate columns. -/
abbrev gate1 (x5 : Vec F S256x6144 .bf16) : Vec F S256x2048 .bf16 := View.ld x5 (Rect.unit ![0, 2048] ![256, 2048] inb_S256x6144_S256x2048_0_2048)
/-- The third mixer's gate columns. -/
abbrev gate2 (x5 : Vec F S256x6144 .bf16) : Vec F S256x2048 .bf16 := View.ld x5 (Rect.unit ![0, 4096] ![256, 2048] inb_S256x6144_S256x2048_0_4096)
/-- Row `2` of the modulation block: the gate of the rows. -/
abbrev gateRow (x8 : Vec F S1x6x2048 .f32) : Vec F S1x1x2048 .f32 :=
  View.ld x8 (Rect.unit ![0, 2, 0] ![1, 1, 2048] inb_S1x6x2048_S1x1x2048_0_2_0)

/-- The recurrence's gated heads of a block. -/
def recBlock (x2 x3 : Vec F S256x1024 .f32) (x4 : Vec F S256x1024 .bf16) (x7 : Vec F S1x128 .f32) : FVec F S256x1024 .f32 :=
  k0_pay12 (k0_pay2 x2 x3) (k0_pay3 x7) (k0_pay4 x2 x3 x7) (k0_pay5 x2 x3 x7) (k0_pay6 x2 x3 x7) (k0_pay7 (k0_pay2 x2 x3) (k0_pay3 x7)) (k0_pay8 (k0_pay2 x2 x3) (k0_pay3 x7)) (k0_pay9 (k0_pay2 x2 x3) (k0_pay3 x7)) (k0_pay10 (k0_pay2 x2 x3)) (k0_pay11 (k0_pay2 x2 x3)) x4

/-- A grid point stores its result rows. -/
theorem stored (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x6144 .bf16) (harg6 : arg6.IsWhole) (arg7 : Memref sig .tc .vmem S256x2048 .f32) (harg7 : arg7.IsWhole) (arg8 : Memref sig .tc .vmem S1x128 .f32) (harg8 : arg8.IsWhole) (arg9 : Memref sig .tc .vmem S1x6x2048 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S2048x2048 .bf16) (harg13 : arg13.IsWhole) (arg14 : Memref sig .tc .vmem S256x2048 .f32) (harg14 : arg14.IsWhole)
    (x0 : Vec F S256x1024 .bf16) (x1 : Vec F S256x1024 .bf16) (x2 : Vec F S256x1024 .f32) (x3 : Vec F S256x1024 .f32) (x4 : Vec F S256x1024 .bf16) (x5 : Vec F S256x6144 .bf16) (x6 : Vec F S256x2048 .f32) (x7 : Vec F S1x128 .f32) (x8 : Vec F S1x6x2048 .f32) (x9 : Vec F S1024x2048 .bf16) (x10 : Vec F S1024x2048 .bf16) (x11 : Vec F S1024x2048 .bf16) (x12 : Vec F S2048x2048 .bf16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 =
      k0_pay1 (recBlock x2 x3 x4 x7) (k0_pay13 (gate0 x5) x0 x9 (gate1 x5) x1 x10) (gate2 x5) x11 x12 x6 (gateRow x8) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  sl_unfold_words
  rw [View.canon_unit_zero hz2]
  unfold recBlock
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S256x2048) hz2, View.ld_unit_zero (S := S1x128) hz2, View.ld_unit_zero (S := S1024x2048) hz2, View.ld_unit_zero (S := S2048x2048) hz2]

end stored

open MergeSpec
open MoeSpec (grp)

/-- Head 0 of a block. -/
theorem head0_apply (v0 v1 : Vec Ideal S256x1024 .f32) (v3 : Vec Ideal S1x128 .f32) (r : Fin 256) (k : Fin 128) :
    k0_pay4 (F := Ideal) v0 v1 v3 (ix2 r k) = headAt (fun j => v0 (ix2 r j) + v1 (ix2 r j)) (fun k => v3 (ix2 0 k)) 0 k := by
  unfold headAt headCol
  pointwise [k0_pay4, k0_pay2, k0_pay3]

/-- Head 1 of a block. -/
theorem head1_apply (v0 v1 : Vec Ideal S256x1024 .f32) (v3 : Vec Ideal S1x128 .f32) (r : Fin 256) (k : Fin 128) :
    k0_pay5 (F := Ideal) v0 v1 v3 (ix2 r k) = headAt (fun j => v0 (ix2 r j) + v1 (ix2 r j)) (fun k => v3 (ix2 0 k)) 1 k := by
  unfold headAt headCol
  pointwise [k0_pay5, k0_pay2, k0_pay3]

/-- Head 2 of a block. -/
theorem head2_apply (v0 v1 : Vec Ideal S256x1024 .f32) (v3 : Vec Ideal S1x128 .f32) (r : Fin 256) (k : Fin 128) :
    k0_pay6 (F := Ideal) v0 v1 v3 (ix2 r k) = headAt (fun j => v0 (ix2 r j) + v1 (ix2 r j)) (fun k => v3 (ix2 0 k)) 2 k := by
  unfold headAt headCol
  pointwise [k0_pay6, k0_pay2, k0_pay3]

/-- Head 3 of a block. -/
theorem head3_apply (v2 : Vec Ideal S256x1024 .f32) (v4 : Vec Ideal S1x128 .f32) (r : Fin 256) (k : Fin 128) :
    k0_pay7 (F := Ideal) v2 v4 (ix2 r k) = headAt (fun j => v2 (ix2 r j)) (fun k => v4 (ix2 0 k)) 3 k := by
  unfold headAt headCol
  pointwise [k0_pay7]

/-- Head 4 of a block. -/
theorem head4_apply (v2 : Vec Ideal S256x1024 .f32) (v4 : Vec Ideal S1x128 .f32) (r : Fin 256) (k : Fin 128) :
    k0_pay8 (F := Ideal) v2 v4 (ix2 r k) = headAt (fun j => v2 (ix2 r j)) (fun k => v4 (ix2 0 k)) 4 k := by
  unfold headAt headCol
  pointwise [k0_pay8]

/-- Head 5 of a block. -/
theorem head5_apply (v2 : Vec Ideal S256x1024 .f32) (v4 : Vec Ideal S1x128 .f32) (r : Fin 256) (k : Fin 128) :
    k0_pay9 (F := Ideal) v2 v4 (ix2 r k) = headAt (fun j => v2 (ix2 r j)) (fun k => v4 (ix2 0 k)) 5 k := by
  unfold headAt headCol
  pointwise [k0_pay9]

/-- The gated heads from the heads. -/
theorem gated_apply (v2 : Vec Ideal S256x1024 .f32) (v4 : Vec Ideal S1x128 .f32) (h0 h1 h2 h3 h4 h5 : Vec Ideal S256x128 .f32) (g : Vec Ideal S256x1024 .bf16)
    (o : Fin 1024 → EReal) (w : Fin 128 → EReal) (r : Fin 256) (ho : ∀ j, v2 (ix2 r j) = o j) (hw : ∀ k, v4 (ix2 0 k) = w k)
    (e0 : ∀ k, h0 (ix2 r k) = headAt o w 0 k) (e1 : ∀ k, h1 (ix2 r k) = headAt o w 1 k) (e2 : ∀ k, h2 (ix2 r k) = headAt o w 2 k)
    (e3 : ∀ k, h3 (ix2 r k) = headAt o w 3 k) (e4 : ∀ k, h4 (ix2 r k) = headAt o w 4 k) (e5 : ∀ k, h5 (ix2 r k) = headAt o w 5 k) (j : Fin 1024) :
    k0_pay12 (F := Ideal) v2 v4 h0 h1 h2 h3 h4 h5 (k0_pay10 v2) (k0_pay11 v2) g (ix2 r j) = heads o w j * (g (ix2 r j) * Ideal.logistic (g (ix2 r j))) := by
  pointwise [k0_pay12, k0_pay10, k0_pay11]
  simp only [ho, hw, e0, e1, e2, e3, e4, e5]
  refine congrArg (fun v => v * _) ?_
  by_cases c0 : j.val < 128
  · rw [dif_pos c0]
    exact heads_of o w j 0 ⟨j.val, c0⟩ (by show j.val = 0 * 128 + (j.val); omega)
  rw [dif_neg c0]
  by_cases c1 : j.val - 128 < 128
  · rw [dif_pos c1]
    exact heads_of o w j 1 ⟨j.val - 128, c1⟩ (by show j.val = 1 * 128 + (j.val - 128); omega)
  rw [dif_neg c1]
  by_cases c2 : j.val - 128 - 128 < 128
  · rw [dif_pos c2]
    exact heads_of o w j 2 ⟨j.val - 128 - 128, c2⟩ (by show j.val = 2 * 128 + (j.val - 128 - 128); omega)
  rw [dif_neg c2]
  by_cases c3 : j.val - 128 - 128 - 128 < 128
  · rw [dif_pos c3]
    exact heads_of o w j 3 ⟨j.val - 128 - 128 - 128, c3⟩ (by show j.val = 3 * 128 + (j.val - 128 - 128 - 128); omega)
  rw [dif_neg c3]
  by_cases c4 : j.val - 128 - 128 - 128 - 128 < 128
  · rw [dif_pos c4]
    exact heads_of o w j 4 ⟨j.val - 128 - 128 - 128 - 128, c4⟩ (by show j.val = 4 * 128 + (j.val - 128 - 128 - 128 - 128); omega)
  rw [dif_neg c4]
  by_cases c5 : j.val - 128 - 128 - 128 - 128 - 128 < 128
  · rw [dif_pos c5]
    exact heads_of o w j 5 ⟨j.val - 128 - 128 - 128 - 128 - 128, c5⟩ (by show j.val = 5 * 128 + (j.val - 128 - 128 - 128 - 128 - 128); omega)
  rw [dif_neg c5]
  by_cases c6 : j.val - 128 - 128 - 128 - 128 - 128 - 128 < 128
  · rw [dif_pos c6]
    exact heads_of o w j 6 ⟨j.val - 128 - 128 - 128 - 128 - 128 - 128, c6⟩ (by show j.val = 6 * 128 + (j.val - 128 - 128 - 128 - 128 - 128 - 128); omega)
  rw [dif_neg c6]
  exact heads_of o w j 7 ⟨j.val - 128 - 128 - 128 - 128 - 128 - 128 - 128, by omega⟩ (by show j.val = 7 * 128 + (j.val - 128 - 128 - 128 - 128 - 128 - 128 - 128); omega)

/-- The recurrence's gated heads of a block, at an element. -/
theorem recBlock_apply (x2 x3 : Vec Ideal S256x1024 .f32) (x4 : Vec Ideal S256x1024 .bf16) (x7 : Vec Ideal S1x128 .f32) (r : Fin 256) (j : Fin 1024) :
    recBlock (F := Ideal) x2 x3 x4 x7 (ix2 r j)
      = heads (fun j => x2 (ix2 r j) + x3 (ix2 r j)) (fun k => x7 (ix2 0 k)) j * (x4 (ix2 r j) * Ideal.logistic (x4 (ix2 r j))) := by
  have ho : ∀ j, k0_pay2 (F := Ideal) x2 x3 (ix2 r j) = x2 (ix2 r j) + x3 (ix2 r j) := fun j => by pointwise [k0_pay2]
  have hw : ∀ k, k0_pay3 (F := Ideal) x7 (ix2 0 k) = x7 (ix2 0 k) := fun k => by pointwise [k0_pay3]
  unfold recBlock
  refine gated_apply _ _ _ _ _ _ _ _ x4 _ _ r ho hw (head0_apply x2 x3 x7 r) (head1_apply x2 x3 x7 r) (head2_apply x2 x3 x7 r) ?_ ?_ ?_ j
  · intro k
    rw [head3_apply]
    simp only [ho, hw]
  · intro k
    rw [head4_apply]
    simp only [ho, hw]
  · intro k
    rw [head5_apply]
    simp only [ho, hw]

/-- The first two mixers' gated products at an element. -/
theorem two_apply (x5 : Vec Ideal S256x6144 .bf16) (x0 x1 : Vec Ideal S256x1024 .bf16) (x9 x10 : Vec Ideal S1024x2048 .bf16) (r : Fin 256) (n : Fin 2048) :
    k0_pay13 (F := Ideal) (gate0 x5) x0 x9 (gate1 x5) x1 x10 (ix2 r n)
      = Ideal.logistic (x5 (ix2 r ⟨0 + n.val, by omega⟩)) * (∑ k : Fin 1024, x0 (ix2 r k) * x9 (ix2 k n))
        + Ideal.logistic (x5 (ix2 r ⟨2048 + n.val, by omega⟩)) * (∑ k : Fin 1024, x1 (ix2 r k) * x10 (ix2 k n)) := by
  pointwise [k0_pay13, gate0, gate1]

/-- The stored rows at an element. -/
theorem out_apply (a : Vec Ideal S256x1024 .f32) (b : Vec Ideal S256x2048 .f32) (x5 : Vec Ideal S256x6144 .bf16) (x11 : Vec Ideal S1024x2048 .bf16)
    (x12 : Vec Ideal S2048x2048 .bf16) (x6 : Vec Ideal S256x2048 .f32) (x8 : Vec Ideal S1x6x2048 .f32) (r : Fin 256) (n : Fin 2048) :
    k0_pay1 (F := Ideal) a b (gate2 x5) x11 x12 x6 (gateRow x8) (ix2 r n)
      = x6 (ix2 r n) + x8 (ix3 0 2 n) * ∑ k : Fin 2048, (b (ix2 r k)
        + Ideal.logistic (x5 (ix2 r ⟨4096 + k.val, by omega⟩)) * (∑ j : Fin 1024, a (ix2 r j) * x11 (ix2 j k))) * x12 (ix2 k n) := by
  pointwise [k0_pay1, gate2, gateRow]

variable (m : (ℓ : Loc nD τ sig) → Buf (Elt Ideal) ℓ) (c : Dev nD)

/-- The modulation group of row block `b`: eight blocks a sequence, the context rows last. -/
def group (b : Nat) : Nat := min (b / 8) 4

/-- The first mixer's rows' block is at block row `t`, block column 0. -/
theorem index0 : ∀ t : Fin grid0.N, win0_0.index t (0 : Fin 2) = t.val ∧ win0_0.index t (1 : Fin 2) = 0 := by decide +kernel
/-- The second mixer's rows' block is at block row `t`, block column 0. -/
theorem index1 : ∀ t : Fin grid0.N, win0_1.index t (0 : Fin 2) = t.val ∧ win0_1.index t (1 : Fin 2) = 0 := by decide +kernel
/-- The recurrence's forward rows' block is at block row `t`, block column 0. -/
theorem index2 : ∀ t : Fin grid0.N, win0_2.index t (0 : Fin 2) = t.val ∧ win0_2.index t (1 : Fin 2) = 0 := by decide +kernel
/-- The recurrence's backward rows' block is at block row `t`, block column 0. -/
theorem index3 : ∀ t : Fin grid0.N, win0_3.index t (0 : Fin 2) = t.val ∧ win0_3.index t (1 : Fin 2) = 0 := by decide +kernel
/-- The output gate's block is at block row `t`, block column 11. -/
theorem index4 : ∀ t : Fin grid0.N, win0_4.index t (0 : Fin 2) = t.val ∧ win0_4.index t (1 : Fin 2) = 11 := by decide +kernel
/-- The mixers' gates' block is at block row `t`, block column 0. -/
theorem index5 : ∀ t : Fin grid0.N, win0_5.index t (0 : Fin 2) = t.val ∧ win0_5.index t (1 : Fin 2) = 0 := by decide +kernel
/-- The input rows' block is at block row `t`, block column 0. -/
theorem index6 : ∀ t : Fin grid0.N, win0_6.index t (0 : Fin 2) = t.val ∧ win0_6.index t (1 : Fin 2) = 0 := by decide +kernel
/-- The head norm weights' block is at block row 0, block column 0. -/
theorem index7 : ∀ t : Fin grid0.N, win0_7.index t (0 : Fin 2) = 0 ∧ win0_7.index t (1 : Fin 2) = 0 := by decide +kernel
/-- The modulation rows' block is the row block's group. -/
theorem index8 : ∀ t : Fin grid0.N, win0_8.index t (0 : Fin 3) = group t.val ∧ win0_8.index t (1 : Fin 3) = 0 ∧ win0_8.index t (2 : Fin 3) = 0 := by
  decide +kernel
/-- The first mixer's matrix is at block row 0, block column 0. -/
theorem index9 : ∀ t : Fin grid0.N, win0_9.index t (0 : Fin 2) = 0 ∧ win0_9.index t (1 : Fin 2) = 0 := by decide +kernel
/-- The second mixer's matrix is at block row 0, block column 0. -/
theorem index10 : ∀ t : Fin grid0.N, win0_10.index t (0 : Fin 2) = 0 ∧ win0_10.index t (1 : Fin 2) = 0 := by decide +kernel
/-- The third mixer's matrix is at block row 0, block column 0. -/
theorem index11 : ∀ t : Fin grid0.N, win0_11.index t (0 : Fin 2) = 0 ∧ win0_11.index t (1 : Fin 2) = 0 := by decide +kernel
/-- The output matrix is at block row 0, block column 0. -/
theorem index12 : ∀ t : Fin grid0.N, win0_12.index t (0 : Fin 2) = 0 ∧ win0_12.index t (1 : Fin 2) = 0 := by decide +kernel
/-- The results' block is at block row `t`, block column 0. -/
theorem index13 : ∀ t : Fin grid0.N, win0_13.index t (0 : Fin 2) = t.val ∧ win0_13.index t (1 : Fin 2) = 0 := by decide +kernel
/-- Every point writes its results back. -/
theorem flushes : ∀ t : Fin grid0.N, win0_13.flush t = true := by decide +kernel

/-- The first mixer's rows' block. -/
theorem blk0 (t : Fin cfg0.N) (r : Fin 256) (n : Fin 1024) (q : Fin 9216) (hq : q.val = t.val * 256 + r.val) :
    (iblk m c 0 t : Vec Ideal S256x1024 .bf16) (ix2 r n) = m ((c : Thread nD τ).loc main_arg0) (ix2 q n) := by
  unfold iblk
  rw [View.read_apply]
  show V m c main_arg0 _ = _
  rw [V_main_arg0]
  congr 1
  funext a
  apply Fin.ext
  match a with
  | ⟨0, _⟩ => show win0_0.index t 0 * 256 + 1 * r.val = q.val; rw [(index0 t).1]; omega
  | ⟨1, _⟩ => show win0_0.index t 1 * 1024 + 1 * n.val = n.val; rw [(index0 t).2]; omega

/-- The second mixer's rows' block. -/
theorem blk1 (t : Fin cfg0.N) (r : Fin 256) (n : Fin 1024) (q : Fin 9216) (hq : q.val = t.val * 256 + r.val) :
    (iblk m c 1 t : Vec Ideal S256x1024 .bf16) (ix2 r n) = m ((c : Thread nD τ).loc main_arg1) (ix2 q n) := by
  unfold iblk
  rw [View.read_apply]
  show V m c main_arg1 _ = _
  rw [V_main_arg1]
  congr 1
  funext a
  apply Fin.ext
  match a with
  | ⟨0, _⟩ => show win0_1.index t 0 * 256 + 1 * r.val = q.val; rw [(index1 t).1]; omega
  | ⟨1, _⟩ => show win0_1.index t 1 * 1024 + 1 * n.val = n.val; rw [(index1 t).2]; omega

/-- The recurrence's forward rows' block. -/
theorem blk2 (t : Fin cfg0.N) (r : Fin 256) (n : Fin 1024) (q : Fin 9216) (hq : q.val = t.val * 256 + r.val) :
    (iblk m c 2 t : Vec Ideal S256x1024 .f32) (ix2 r n) = m ((c : Thread nD τ).loc main_arg2) (ix2 q n) := by
  unfold iblk
  rw [View.read_apply]
  show V m c main_arg2 _ = _
  rw [V_main_arg2]
  congr 1
  funext a
  apply Fin.ext
  match a with
  | ⟨0, _⟩ => show win0_2.index t 0 * 256 + 1 * r.val = q.val; rw [(index2 t).1]; omega
  | ⟨1, _⟩ => show win0_2.index t 1 * 1024 + 1 * n.val = n.val; rw [(index2 t).2]; omega

/-- The recurrence's backward rows' block. -/
theorem blk3 (t : Fin cfg0.N) (r : Fin 256) (n : Fin 1024) (q : Fin 9216) (hq : q.val = t.val * 256 + r.val) :
    (iblk m c 3 t : Vec Ideal S256x1024 .f32) (ix2 r n) = m ((c : Thread nD τ).loc main_arg3) (ix2 q n) := by
  unfold iblk
  rw [View.read_apply]
  show V m c main_arg3 _ = _
  rw [V_main_arg3]
  congr 1
  funext a
  apply Fin.ext
  match a with
  | ⟨0, _⟩ => show win0_3.index t 0 * 256 + 1 * r.val = q.val; rw [(index3 t).1]; omega
  | ⟨1, _⟩ => show win0_3.index t 1 * 1024 + 1 * n.val = n.val; rw [(index3 t).2]; omega

/-- The output gate's block. -/
theorem blk4 (t : Fin cfg0.N) (r : Fin 256) (n : Fin 1024) (q : Fin 9216) (hq : q.val = t.val * 256 + r.val) (f : Fin 13312) (hf : f.val = 11264 + n.val) :
    (iblk m c 4 t : Vec Ideal S256x1024 .bf16) (ix2 r n) = m ((c : Thread nD τ).loc main_arg4) (ix2 q f) := by
  unfold iblk
  rw [View.read_apply]
  show V m c main_arg4 _ = _
  rw [V_main_arg4]
  congr 1
  funext a
  apply Fin.ext
  match a with
  | ⟨0, _⟩ => show win0_4.index t 0 * 256 + 1 * r.val = q.val; rw [(index4 t).1]; omega
  | ⟨1, _⟩ => show win0_4.index t 1 * 1024 + 1 * n.val = f.val; rw [(index4 t).2]; omega

/-- The mixers' gates' block: a point reads it whole. -/
theorem blk5 (t : Fin cfg0.N) (r : Fin 256) (n : Fin 6144) (q : Fin 9216) (hq : q.val = t.val * 256 + r.val) (f : Fin 13312) (hf : f.val = n.val) :
    (X0_5 m c t : Vec Ideal S256x6144 .bf16) (ix2 r n) = m ((c : Thread nD τ).loc main_arg4) (ix2 q f) := by
  unfold X0_5 Pipeline.Window.fill
  rw [dif_pos (moved0_5 t _)]
  unfold iblk
  rw [View.read_apply]
  show V m c main_arg4 _ = _
  rw [V_main_arg4]
  congr 1
  funext a
  apply Fin.ext
  match a with
  | ⟨0, _⟩ => show win0_5.index t 0 * 256 + 1 * r.val = q.val; rw [(index5 t).1]; omega
  | ⟨1, _⟩ => show win0_5.index t 1 * 6144 + 1 * n.val = f.val; rw [(index5 t).2]; omega

/-- The input rows' block. -/
theorem blk6 (t : Fin cfg0.N) (r : Fin 256) (n : Fin 2048) (q : Fin 9216) (hq : q.val = t.val * 256 + r.val) :
    (iblk m c 6 t : Vec Ideal S256x2048 .f32) (ix2 r n) = m ((c : Thread nD τ).loc main_arg5) (ix2 q n) := by
  unfold iblk
  rw [View.read_apply]
  show V m c main_arg5 _ = _
  rw [V_main_arg5]
  congr 1
  funext a
  apply Fin.ext
  match a with
  | ⟨0, _⟩ => show win0_6.index t 0 * 256 + 1 * r.val = q.val; rw [(index6 t).1]; omega
  | ⟨1, _⟩ => show win0_6.index t 1 * 2048 + 1 * n.val = n.val; rw [(index6 t).2]; omega

/-- The head norm weights as the call gets them. -/
theorem arr7 : V m c main_v4 = shapeCast S1x128 (m ((c : Thread nD τ).loc main_arg6)) shapeCasts_S128_S1x128 := by
  dsimp only [V, hostOps0]
  after_results
  rfl

/-- The head norm weights' block. -/
theorem blk7 (t : Fin cfg0.N) (n : Fin 128) :
    (iblk m c 7 t : Vec Ideal S1x128 .f32) (ix2 0 n) = m ((c : Thread nD τ).loc main_arg6) (ix1 n) := by
  unfold iblk
  rw [View.read_apply]
  show V m c main_v4 _ = _
  rw [arr7, show (((cfg0.win 7).blk t).view.emb (ix2 0 n)) = (ix2 0 n : S1x128.Idx) from by
    funext a
    apply Fin.ext
    match a with
    | ⟨0, _⟩ => show win0_7.index t 0 * 1 + 1 * 0 = 0; rw [(index7 t).1]
    | ⟨1, _⟩ => show win0_7.index t 1 * 128 + 1 * n.val = n.val; rw [(index7 t).2]; omega]
  pointwise

/-- The modulation rows' block. -/
theorem blk8 (t : Fin cfg0.N) (k : Fin 6) (n : Fin 2048) (g : Fin 8) (hg : g.val = group t.val) :
    (iblk m c 8 t : Vec Ideal S1x6x2048 .f32) (ix3 0 k n) = m ((c : Thread nD τ).loc main_arg7) (ix3 g k n) := by
  unfold iblk
  rw [View.read_apply]
  show V m c main_arg7 _ = _
  rw [V_main_arg7]
  congr 1
  funext a
  apply Fin.ext
  match a with
  | ⟨0, _⟩ => show win0_8.index t 0 * 1 + 1 * 0 = g.val; rw [(index8 t).1]; omega
  | ⟨1, _⟩ => show win0_8.index t 1 * 6 + 1 * k.val = k.val; rw [(index8 t).2.1]; omega
  | ⟨2, _⟩ => show win0_8.index t 2 * 2048 + 1 * n.val = n.val; rw [(index8 t).2.2]; omega

/-- The first mixer's matrix as the call gets it: a cast that changes nothing here. -/
theorem arr9 : V m c main_v0 = (m ((c : Thread nD τ).loc main_arg8) : S1024x2048.Idx → EReal) := by
  dsimp only [V, hostOps0]
  after_results
  rfl

/-- The first mixer's matrix's block: the whole. -/
theorem blk9 (t : Fin cfg0.N) (k : Fin 1024) (n : Fin 2048) :
    (iblk m c 9 t : Vec Ideal S1024x2048 .bf16) (ix2 k n) = m ((c : Thread nD τ).loc main_arg8) (ix2 k n) := by
  unfold iblk
  rw [View.read_apply]
  show V m c main_v0 _ = _
  rw [arr9]
  congr 1
  funext a
  apply Fin.ext
  match a with
  | ⟨0, _⟩ => show win0_9.index t 0 * 1024 + 1 * k.val = k.val; rw [(index9 t).1]; omega
  | ⟨1, _⟩ => show win0_9.index t 1 * 2048 + 1 * n.val = n.val; rw [(index9 t).2]; omega

/-- The second mixer's matrix as the call gets it: a cast that changes nothing here. -/
theorem arr10 : V m c main_v1 = (m ((c : Thread nD τ).loc main_arg9) : S1024x2048.Idx → EReal) := by
  dsimp only [V, hostOps0]
  after_results
  rfl

/-- The second mixer's matrix's block: the whole. -/
theorem blk10 (t : Fin cfg0.N) (k : Fin 1024) (n : Fin 2048) :
    (iblk m c 10 t : Vec Ideal S1024x2048 .bf16) (ix2 k n) = m ((c : Thread nD τ).loc main_arg9) (ix2 k n) := by
  unfold iblk
  rw [View.read_apply]
  show V m c main_v1 _ = _
  rw [arr10]
  congr 1
  funext a
  apply Fin.ext
  match a with
  | ⟨0, _⟩ => show win0_10.index t 0 * 1024 + 1 * k.val = k.val; rw [(index10 t).1]; omega
  | ⟨1, _⟩ => show win0_10.index t 1 * 2048 + 1 * n.val = n.val; rw [(index10 t).2]; omega

/-- The third mixer's matrix as the call gets it: a cast that changes nothing here. -/
theorem arr11 : V m c main_v2 = (m ((c : Thread nD τ).loc main_arg10) : S1024x2048.Idx → EReal) := by
  dsimp only [V, hostOps0]
  after_results
  rfl

/-- The third mixer's matrix's block: the whole. -/
theorem blk11 (t : Fin cfg0.N) (k : Fin 1024) (n : Fin 2048) :
    (iblk m c 11 t : Vec Ideal S1024x2048 .bf16) (ix2 k n) = m ((c : Thread nD τ).loc main_arg10) (ix2 k n) := by
  unfold iblk
  rw [View.read_apply]
  show V m c main_v2 _ = _
  rw [arr11]
  congr 1
  funext a
  apply Fin.ext
  match a with
  | ⟨0, _⟩ => show win0_11.index t 0 * 1024 + 1 * k.val = k.val; rw [(index11 t).1]; omega
  | ⟨1, _⟩ => show win0_11.index t 1 * 2048 + 1 * n.val = n.val; rw [(index11 t).2]; omega

/-- The output matrix as the call gets it: a cast that changes nothing here. -/
theorem arr12 : V m c main_v3 = (m ((c : Thread nD τ).loc main_arg11) : S2048x2048.Idx → EReal) := by
  dsimp only [V, hostOps0]
  after_results
  rfl

/-- The output matrix's block: the whole. -/
theorem blk12 (t : Fin cfg0.N) (k : Fin 2048) (n : Fin 2048) :
    (iblk m c 12 t : Vec Ideal S2048x2048 .bf16) (ix2 k n) = m ((c : Thread nD τ).loc main_arg11) (ix2 k n) := by
  unfold iblk
  rw [View.read_apply]
  show V m c main_v3 _ = _
  rw [arr12]
  congr 1
  funext a
  apply Fin.ext
  match a with
  | ⟨0, _⟩ => show win0_12.index t 0 * 2048 + 1 * k.val = k.val; rw [(index12 t).1]; omega
  | ⟨1, _⟩ => show win0_12.index t 1 * 2048 + 1 * n.val = n.val; rw [(index12 t).2]; omega

/-- The result array at an element. -/
theorem result_at (r : Fin 9216) (n : Fin 2048) : (dats m 0 c).arrAt 13 cfg0.N (ix2 r n) = result
      (fun r n => m ((c : Thread nD τ).loc main_arg0) (ix2 r n)) (fun r n => m ((c : Thread nD τ).loc main_arg1) (ix2 r n)) (fun r n => m ((c : Thread nD τ).loc main_arg2) (ix2 r n)) (fun r n => m ((c : Thread nD τ).loc main_arg3) (ix2 r n)) (fun r n => m ((c : Thread nD τ).loc main_arg4) (ix2 r n)) (fun r n => m ((c : Thread nD τ).loc main_arg5) (ix2 r n))
      (fun k => m ((c : Thread nD τ).loc main_arg6) (ix1 k)) (fun g k n => m ((c : Thread nD τ).loc main_arg7) (ix3 g k n))
      (fun r n => m ((c : Thread nD τ).loc main_arg8) (ix2 r n)) (fun r n => m ((c : Thread nD τ).loc main_arg9) (ix2 r n)) (fun r n => m ((c : Thread nD τ).loc main_arg10) (ix2 r n)) (fun r n => m ((c : Thread nD τ).loc main_arg11) (ix2 r n)) r n := by
  have hN : cfg0.N = 36 := N_0
  let t : Fin cfg0.N := ⟨r.val / 256, by rw [hN]; omega⟩
  let q : Fin 256 := ⟨r.val % 256, by omega⟩
  have hq : r.val = t.val * 256 + q.val := by show r.val = r.val / 256 * 256 + r.val % 256; omega
  have hg : (grp r).val = group t.val := by show min (r.val / 2048) 4 = min (r.val / 256 / 8) 4; omega
  have e := congrFun (blocks13 m c t (flushes t)) (ix2 q n)
  rw [flushed13_A, stored, View.read_apply, show (((cfg0.win 13).blk t).view.emb (ix2 q n)) = (ix2 r n : S9216x2048.Idx) from by
    funext a
    apply Fin.ext
    match a with
    | ⟨0, _⟩ => show win0_13.index t 0 * 256 + 1 * q.val = r.val; rw [(index13 t).1]; omega
    | ⟨1, _⟩ => show win0_13.index t 1 * 2048 + 1 * n.val = n.val; rw [(index13 t).2]; omega] at e
  refine e.trans ?_
  refine (out_apply _ _ _ _ _ _ _ q n).trans ?_
  simp only [two_apply, recBlock_apply, blk0 m c t q _ r hq, blk1 m c t q _ r hq, blk2 m c t q _ r hq, blk3 m c t q _ r hq,
    blk4 m c t q _ r hq (outCol _) rfl, blk6 m c t q _ r hq, blk7, blk8 m c t 2 n _ hg, blk9, blk10, blk11, blk12,
    fun k : Fin 2048 => blk5 m c t q ⟨0 + k.val, by omega⟩ r hq (gateCol 0 k) (by show 0 * 2048 + k.val = 0 + k.val; omega),
    fun k : Fin 2048 => blk5 m c t q ⟨2048 + k.val, by omega⟩ r hq (gateCol 1 k) (by show 1 * 2048 + k.val = 2048 + k.val; omega),
    fun k : Fin 2048 => blk5 m c t q ⟨4096 + k.val, by omega⟩ r hq (gateCol 2 k) (by show 2 * 2048 + k.val = 4096 + k.val; omega)]
  rfl

end Cert.MergeIdeal.MergeBlocks
end
-- ==== Proof.MergeTie.lean ====
/-
  The merge call and its reference compute the same results, whatever the arguments.
-/
module

public import proofs.«01_k».proof.Proof.MergeFold
public import proofs.«01_k».proof.Proof.Points
public import proofs.«01_k».proof.Proof.RefRows
public import proofs.«01_k».proof.Proof.Gen.MergeRefIdeal.Run
public import proofs.«01_k».proof.Proof.Gen.MergeRefIdeal.Read

@[expose] public section

set_option maxRecDepth 16384

noncomputable section

open Idealize.ShloMosaic Idealize.ShloMosaic.TcCoe Idealize.SL.Sem

namespace Cert.MergeRefIdeal.Rows

open Cert.MergeRefIdeal Cert.MergeRefIdeal.Read MoeSpec MergeSpec

variable (x0 x1 : Vec Ideal S9216x1024 .bf16) (x2 x3 : Vec Ideal S9216x1024 .f32) (x4 : Vec Ideal S9216x13312 .bf16) (x5 : Vec Ideal S9216x2048 .f32)
variable (x6 : Vec Ideal S128 .f32) (x7 : Vec Ideal S8x6x2048 .f32) (x8 x9 x10 : Vec Ideal S1024x2048 .f32) (x11 : Vec Ideal S2048x2048 .f32)

/-- The repeated modulation rows are those of the expert layer's reference. -/
theorem mods_same : val_main_v47 (F := Ideal) x7 = Cert.ReferenceIdeal.Read.val_main_v6 (F := Ideal) x7 := rfl

/-- The normalized heads at an element. -/
theorem heads_apply (r : Fin 9216) (p : Fin 8) (k : Fin 128) : val_main_v16 (F := Ideal) x2 x3 x6 (ix3 r p k)
    = headAt (fun j => x2 (ix2 r j) + x3 (ix2 r j)) (fun k => x6 (ix1 k)) p k := by
  have h3 : ∀ k, val_main_v3 (F := Ideal) x2 x3 (ix3 r p k) = x2 (ix2 r (headCol p k)) + x3 (ix2 r (headCol p k)) := fun k => by
    pointwise [val_main_v3, val_main_v2]
    rfl
  unfold headAt
  simp only [← h3]
  unfold val_main_v16 val_main_v13 val_main_v12 val_main_v11 val_main_v10 val_main_v8 val_main_v6 val_main_v5 val_main_v4
  generalize val_main_v3 (F := Ideal) x2 x3 = y
  pointwise [val_main_v15, val_main_v14, val_main_v9, val_main_v7, val_main_cst, val_main_cst_0, val_main_cst_1]

/-- The gated heads at an element. -/
theorem recur_apply (r : Fin 9216) (j : Fin 1024) : val_main_v19 (F := Ideal) x2 x3 x4 x6 (ix2 r j)
    = recur (fun r n => x2 (ix2 r n)) (fun r n => x3 (ix2 r n)) (fun r n => x4 (ix2 r n)) (fun k => x6 (ix1 k)) r j := by
  have h17 : val_main_v17 (F := Ideal) x2 x3 x6 (ix2 r j) = heads (fun j => x2 (ix2 r j) + x3 (ix2 r j)) (fun k => x6 (ix1 k)) j := by
    unfold heads
    rw [← heads_apply]
    unfold val_main_v17
    generalize val_main_v16 (F := Ideal) x2 x3 x6 = y
    pointwise
  unfold recur val_main_v19
  rw [← h17]
  generalize val_main_v17 (F := Ideal) x2 x3 x6 = y
  pointwise [val_main_v18, val_main_call0_v5, val_main_call0_v4, val_main_call0_v3, val_main_call0_v2, val_main_call0_v1, val_main_call0_v0,
    val_main_call0_cst, val_main_call0_cst_0, val_main_v1, val_main_v0]
  rfl

/-- The gated sum of the three products at an element. -/
theorem merged_apply (r : Fin 9216) (n : Fin 2048) : val_main_v40 (F := Ideal) x0 x1 x2 x3 x4 x6 x8 x9 x10 (ix2 r n)
    = merged (fun r n => x0 (ix2 r n)) (fun r n => x1 (ix2 r n)) (fun r n => x2 (ix2 r n)) (fun r n => x3 (ix2 r n)) (fun r n => x4 (ix2 r n)) (fun k => x6 (ix1 k)) (fun r n => x8 (ix2 r n)) (fun r n => x9 (ix2 r n)) (fun r n => x10 (ix2 r n)) r n := by
  unfold merged
  simp only [← recur_apply]
  unfold val_main_v40 val_main_v39 val_main_v38
  generalize val_main_v19 (F := Ideal) x2 x3 x4 x6 = y
  pointwise [val_main_v37, val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_cst_2, val_main_cst_3]
  rw [show gateCol 0 n = ⟨n.val, by omega⟩ from Fin.ext (by show 0 * 2048 + n.val = n.val; omega),
    show gateCol 1 n = ⟨2048 + n.val, by omega⟩ from Fin.ext (by show 1 * 2048 + n.val = 2048 + n.val; omega),
    show gateCol 2 n = ⟨4096 + n.val, by omega⟩ from Fin.ext (by show 2 * 2048 + n.val = 4096 + n.val; omega)]
  rfl

/-- The reference's results at an element. -/
theorem out_apply (r : Fin 9216) (n : Fin 2048) : val_main_v52 (F := Ideal) x0 x1 x2 x3 x4 x5 x6 x7 x8 x9 x10 x11 (ix2 r n)
    = MergeSpec.result (fun r n => x0 (ix2 r n)) (fun r n => x1 (ix2 r n)) (fun r n => x2 (ix2 r n)) (fun r n => x3 (ix2 r n)) (fun r n => x4 (ix2 r n)) (fun r n => x5 (ix2 r n)) (fun k => x6 (ix1 k)) (fun g k n => x7 (ix3 g k n))
      (fun r n => x8 (ix2 r n)) (fun r n => x9 (ix2 r n)) (fun r n => x10 (ix2 r n)) (fun r n => x11 (ix2 r n)) r n := by
  have h := Cert.ReferenceIdeal.Rows.mods_apply x7 r
  unfold MergeSpec.result
  simp only [← merged_apply]
  unfold val_main_v52 val_main_v51 val_main_v50 val_main_v49 val_main_v48
  rw [mods_same]
  generalize Cert.ReferenceIdeal.Read.val_main_v6 (F := Ideal) x7 = y at h
  generalize val_main_v40 (F := Ideal) x0 x1 x2 x3 x4 x6 x8 x9 x10 = z
  pointwise
  rw [h]

end Cert.MergeRefIdeal.Rows

namespace Cert.MergeTie

open Cert.MergeIdeal.MergeBlocks

variable (m : (ℓ : Loc Cert.MergeIdeal.nD Cert.MergeIdeal.τ Cert.MergeIdeal.sig) → Buf (Elt Ideal) ℓ) (c : Dev Cert.MergeIdeal.nD)

/-- The reference's results at the call's arguments are the call's. -/
theorem tie : Cert.MergeRefIdeal.Read.val_main_v52 (F := Ideal)
      (m ((c : Thread Cert.MergeIdeal.nD Cert.MergeIdeal.τ).loc Cert.MergeIdeal.main_arg0))
      (m ((c : Thread Cert.MergeIdeal.nD Cert.MergeIdeal.τ).loc Cert.MergeIdeal.main_arg1))
      (m ((c : Thread Cert.MergeIdeal.nD Cert.MergeIdeal.τ).loc Cert.MergeIdeal.main_arg2))
      (m ((c : Thread Cert.MergeIdeal.nD Cert.MergeIdeal.τ).loc Cert.MergeIdeal.main_arg3))
      (m ((c : Thread Cert.MergeIdeal.nD Cert.MergeIdeal.τ).loc Cert.MergeIdeal.main_arg4))
      (m ((c : Thread Cert.MergeIdeal.nD Cert.MergeIdeal.τ).loc Cert.MergeIdeal.main_arg5))
      (m ((c : Thread Cert.MergeIdeal.nD Cert.MergeIdeal.τ).loc Cert.MergeIdeal.main_arg6))
      (m ((c : Thread Cert.MergeIdeal.nD Cert.MergeIdeal.τ).loc Cert.MergeIdeal.main_arg7))
      (m ((c : Thread Cert.MergeIdeal.nD Cert.MergeIdeal.τ).loc Cert.MergeIdeal.main_arg8))
      (m ((c : Thread Cert.MergeIdeal.nD Cert.MergeIdeal.τ).loc Cert.MergeIdeal.main_arg9))
      (m ((c : Thread Cert.MergeIdeal.nD Cert.MergeIdeal.τ).loc Cert.MergeIdeal.main_arg10))
      (m ((c : Thread Cert.MergeIdeal.nD Cert.MergeIdeal.τ).loc Cert.MergeIdeal.main_arg11))
    = (Cert.MergeIdeal.Gen.dats m 0 c).arrAt 13 Cert.MergeIdeal.cfg0.N := by
  funext y
  obtain ⟨r, n, rfl⟩ := Points.exists_row_col y
  exact (Cert.MergeRefIdeal.Rows.out_apply _ _ _ _ _ _ _ _ _ _ _ _ r n).trans (result_at m c r n).symm

end Cert.MergeTie
end
-- ==== Proof.FnetAlgebra.lean ====
/-
  The plain mathematics of the two-way Fourier sums: a sum along the rows of sums along the lanes, and moving a
  nonnegative scale from the row table to the end.
-/
module

public import proofs.«01_k».proof.Proof.Points
public import proofs.«01_k».proof.Proof.MoeAlgebra

@[expose] public section

noncomputable section

open Idealize.ShloMosaic Idealize.ShloMosaic.TcCoe Idealize.SL.Sem

namespace FnetSpec

/-- A group of lanes turned by a lane table, then along its rows by a row table. -/
def turn {L : Nat} (C : Fin L → Fin L → EReal) (D : Fin 128 → Fin 128 → EReal) (X : Fin L → Fin 128 → EReal) (k : Fin L) (j : Fin 128) : EReal :=
  ∑ s : Fin L, C k s * ∑ w : Fin 128, X s w * D w j

/-- A nonnegative scale on the row table scales the turned group. -/
theorem turn_scale {L : Nat} (C : Fin L → Fin L → EReal) (D : Fin 128 → Fin 128 → EReal) (X : Fin L → Fin 128 → EReal) (k : Fin L) (j : Fin 128)
    (a : ℝ) (ha : 0 ≤ a) : turn (fun k s => C k s * (a : EReal)) D X k j = (a : EReal) * turn C D X k j := by
  unfold turn
  rw [← MoeSpec.mul_sum_coe _ _ a ha]
  exact Finset.sum_congr rfl fun s _ => by show C k s * (a : EReal) * _ = _; rw [mul_comm (C k s) (a : EReal), mul_assoc]

/-- The difference of two turned groups, the scale on the row tables or at the end. -/
theorem scaled_difference {L : Nat} (C S : Fin L → Fin L → EReal) (D E : Fin 128 → Fin 128 → EReal) (X : Fin L → Fin 128 → EReal) (k : Fin L) (j : Fin 128)
    (a : ℝ) (ha : 0 ≤ a) : turn (fun k s => C k s * (a : EReal)) D X k j - turn (fun k s => S k s * (a : EReal)) E X k j
      = (turn C D X k j - turn S E X k j) * (a : EReal) := by
  rw [turn_scale _ _ _ _ _ a ha, turn_scale _ _ _ _ _ a ha, mul_comm _ (a : EReal), sub_eq_add_neg, sub_eq_add_neg,
    EReal.left_distrib_of_nonneg_of_ne_top (EReal.coe_nonneg.2 ha) (EReal.coe_ne_top a), mul_neg]

/-- The scale 1/512 as a real number. -/
theorem bits_scale : Ideal.ofBits FTy.f32 0x3B000000#32 = ((1 / 512 : ℝ) : EReal) := by
  simp [Ideal.ofBits, Ideal.ieee]
  rw [← EReal.coe_mul]
  norm_num

/-- The context rows' scale as a real number. -/
theorem bits_scale_ctx : Ideal.ofBits FTy.f32 0x3BB504F3#32 = ((11863283 / 2147483648 : ℝ) : EReal) := by
  simp [Ideal.ofBits, Ideal.ieee]
  rw [← EReal.coe_mul]
  norm_num

/-- A place of a table from its two coordinates. -/
theorem place {a b : Nat} (y : (⟨2, ![a, b]⟩ : Shape).Idx) (r : Fin a) (n : Fin b) (h0 : (y 0).val = r.val) (h1 : (y 1).val = n.val) : y = ix2 r n := by
  funext q
  apply Fin.ext
  match q with
  | ⟨0, _⟩ => exact h0
  | ⟨1, _⟩ => exact h1

end FnetSpec
end
-- ==== Proof.ModulationTie.lean ====
/-
  The modulation rows' call and its reference compute the same results, whatever the arguments. Point `t` of the grid
  is layer `t / 6`, column block `t % 6`.
-/
module

public import proofs.«01_k».proof.Proof.FnetAlgebra
public import proofs.«01_k».proof.Proof.Gen.ModulationIdeal.Value
public import proofs.«01_k».proof.Proof.Gen.ModulationRefIdeal.Run
public import proofs.«01_k».proof.Proof.Gen.ModulationRefIdeal.Read
public import Idealize.ShloMosaic.Lib.Tactic
public import Idealize.ShloMosaic.Lib.Pointwise
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem

namespace ModulationSpec

/-- A layer's modulation row: the gated condition row times the layer's weights, plus its bias. -/
def row (C : Fin 8 → Fin 2048 → EReal) (W : Fin 4 → Fin 2048 → Fin 12288 → EReal) (B : Fin 4 → Fin 12288 → EReal) (l : Fin 4) (r : Fin 8) (n : Fin 12288) : EReal :=
  (∑ k : Fin 2048, C r k * Ideal.logistic (C r k) * W l k n) + B l n

/-- A place of a three-axis array from its coordinates. -/
theorem place3 {a b d : Nat} (y : (⟨3, ![a, b, d]⟩ : Shape).Idx) (l : Fin a) (r : Fin b) (n : Fin d) (h0 : (y 0).val = l.val) (h1 : (y 1).val = r.val)
    (h2 : (y 2).val = n.val) : y = ix3 l r n := by
  funext q
  apply Fin.ext
  match q with
  | ⟨0, _⟩ => exact h0
  | ⟨1, _⟩ => exact h1
  | ⟨2, _⟩ => exact h2

/-- The eight condition rows: four given ones, the context's, three of zeros. -/
def condRows (x0 : Fin 4 → Fin 2048 → EReal) (x1 : Fin 2048 → EReal) (r : Fin 8) (k : Fin 2048) : EReal :=
  if h : r.val < 4 then x0 ⟨r.val, h⟩ k else if r.val = 4 then x1 k else Ideal.ofBits FTy.f32 0x00000000#32

end ModulationSpec

namespace Cert.ModulationIdeal.ModulationBlocks

open Cert.ModulationIdeal Cert.ModulationIdeal.Gen Cert.ModulationIdeal.Value ModulationSpec FnetSpec

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl

/-- What a point stores, at an element of its blocks. -/
theorem out_apply (x0 : Vec Ideal S8x2048 .f32) (x1 : Vec Ideal S1x2048x2048 .f32) (x2 : Vec Ideal S1x1x2048 .f32) (r : Fin 8) (n : Fin 2048) :
    out0_3 (F := Ideal) x0 x1 x2 (ix3 0 r n) = (∑ k : Fin 2048, x0 (ix2 r k) * Ideal.logistic (x0 (ix2 r k)) * x1 (ix3 0 k n)) + x2 (ix3 0 0 n) := by
  unfold out0_3
  rw [View.canon_unit_zero hz3, View.ld_unit_zero (S := S8x2048) hz2, View.ld_unit_zero (S := S1x2048x2048) hz3, View.ld_unit_zero (S := S1x1x2048) hz3]
  pointwise [k0_pay1]
  done

variable (m : (ℓ : Loc nD τ sig) → Buf (Elt Ideal) ℓ) (c : Dev nD)

/-- The condition rows are one block. -/
theorem index0 : ∀ t : Fin grid0.N, win0_0.index t (0 : Fin 2) = 0 ∧ win0_0.index t (1 : Fin 2) = 0 := by decide +kernel
/-- The weights' block is the point's layer and column block. -/
theorem index1 : ∀ t : Fin grid0.N, win0_1.index t (0 : Fin 3) = t.val / 6 ∧ win0_1.index t (1 : Fin 3) = 0 ∧ win0_1.index t (2 : Fin 3) = t.val % 6 := by decide +kernel
/-- The bias' block is the point's layer and column block. -/
theorem index2 : ∀ t : Fin grid0.N, win0_2.index t (0 : Fin 3) = t.val / 6 ∧ win0_2.index t (1 : Fin 3) = 0 ∧ win0_2.index t (2 : Fin 3) = t.val % 6 := by decide +kernel
/-- The results' block is the point's layer and column block. -/
theorem index3 : ∀ t : Fin grid0.N, win0_3.index t (0 : Fin 3) = t.val / 6 ∧ win0_3.index t (1 : Fin 3) = 0 ∧ win0_3.index t (2 : Fin 3) = t.val % 6 := by decide +kernel
/-- Every point writes its results back. -/
theorem flushes : ∀ t : Fin grid0.N, win0_3.flush t = true := by decide +kernel

/-- Where an element of the given rows lands among the eight: at its own place. -/
theorem rows_land (idx : IVec S1 32) (hidx : ∀ j, idx j = 0#32) (k : S4x2048.Idx) (a : Fin 8) (b : Fin 2048) :
    scatter_S8x2048_S1_S4x2048_01_n_0_0.resultIdx? k idx = some (ix2 a b) ↔ (k 0).val = a.val ∧ (k 1).val = b.val := by
  have s0 : scatter_S8x2048_S1_S4x2048_01_n_0_0.start k idx 0 = 0 := by
    unfold ScatterDims.start
    rw [dif_pos (by decide), hidx]
    rfl
  have s1 : scatter_S8x2048_S1_S4x2048_01_n_0_0.start k idx 1 = 0 := by
    unfold ScatterDims.start
    rw [dif_neg (by decide)]
  have w0 : scatter_S8x2048_S1_S4x2048_01_n_0_0.window k 0 = (k 0).val := rfl
  have w1 : scatter_S8x2048_S1_S4x2048_01_n_0_0.window k 1 = (k 1).val := rfl
  rw [Routing.resultIdx?_eq_some]
  constructor
  · intro h
    have h0 := h 0
    have h1 := h 1
    rw [s0, w0] at h0
    rw [s1, w1] at h1
    have h0' : (0 : Int) + ((k 0).val : Int) = (a.val : Int) := h0
    have h1' : (0 : Int) + ((k 1).val : Int) = (b.val : Int) := h1
    exact ⟨by omega, by omega⟩
  · rintro ⟨h0, h1⟩ q
    match q with
    | ⟨0, _⟩ => show scatter_S8x2048_S1_S4x2048_01_n_0_0.start k idx 0 + _ = (a.val : Int); rw [s0]; show (0 : Int) + ((k 0).val : Int) = _; omega
    | ⟨1, _⟩ => show scatter_S8x2048_S1_S4x2048_01_n_0_0.start k idx 1 + _ = (b.val : Int); rw [s1]; show (0 : Int) + ((k 1).val : Int) = _; omega

/-- Where an element of the context's row lands among the eight: in row 4. -/
theorem ctx_lands (idx : IVec S1 32) (hidx : ∀ j, idx j = 4#32) (k : S2048.Idx) (a : Fin 8) (b : Fin 2048) :
    scatter_S8x2048_S1_S2048_0_0_0_0.resultIdx? k idx = some (ix2 a b) ↔ a.val = 4 ∧ (k 0).val = b.val := by
  have s0 : scatter_S8x2048_S1_S2048_0_0_0_0.start k idx 0 = 4 := by
    unfold ScatterDims.start
    rw [dif_pos (by decide), hidx]
    rfl
  have s1 : scatter_S8x2048_S1_S2048_0_0_0_0.start k idx 1 = 0 := by
    unfold ScatterDims.start
    rw [dif_neg (by decide)]
  have w0 : scatter_S8x2048_S1_S2048_0_0_0_0.window k 0 = 0 := rfl
  have w1 : scatter_S8x2048_S1_S2048_0_0_0_0.window k 1 = (k 0).val := rfl
  rw [Routing.resultIdx?_eq_some]
  constructor
  · intro h
    have h0 := h 0
    have h1 := h 1
    rw [s0, w0] at h0
    rw [s1, w1] at h1
    have h0' : (4 : Int) + ((0 : Nat) : Int) = (a.val : Int) := h0
    have h1' : (0 : Int) + ((k 0).val : Int) = (b.val : Int) := h1
    exact ⟨by omega, by omega⟩
  · rintro ⟨h0, h1⟩ q
    match q with
    | ⟨0, _⟩ => show scatter_S8x2048_S1_S2048_0_0_0_0.start k idx 0 + _ = (a.val : Int); rw [s0]; show (4 : Int) + ((0 : Nat) : Int) = _; omega
    | ⟨1, _⟩ => show scatter_S8x2048_S1_S2048_0_0_0_0.start k idx 1 + _ = (b.val : Int); rw [s1]; show (0 : Int) + ((k 0).val : Int) = _; omega

/-- The condition rows as the call gets them. -/
theorem arr0 : V m c main_v4 = Host.scatter scatter_S8x2048_S1_S2048_0_0_0_0 (fun _ b => b)
    (Host.scatter scatter_S8x2048_S1_S4x2048_01_n_0_0 (fun _ b => b) (broadcastInDim S8x2048 ![] bcast_S_S8x2048 (constant (F := Ideal) S_ .f32 0x00000000#32))
      (broadcastInDim S1 ![] bcast_S_S1 (constantI S_ 32 0#32)) (m ((c : Thread nD τ).loc main_arg0) : S4x2048.Idx → EReal))
    (broadcastInDim S1 ![] bcast_S_S1 (constantI S_ 32 4#32)) (m ((c : Thread nD τ).loc main_arg1) : S2048.Idx → EReal) := by
  dsimp only [V, hostOps0]
  after_results

/-- The condition rows at an element. -/
theorem arr0_apply (r : Fin 8) (k : Fin 2048) : (V m c main_v4 : Vec Ideal S8x2048 .f32) (ix2 r k)
    = condRows (fun r k => m ((c : Thread nD τ).loc main_arg0) (ix2 r k)) (fun k => m ((c : Thread nD τ).loc main_arg1) (ix1 k)) r k := by
  have h4 : ∀ j, (broadcastInDim S1 ![] bcast_S_S1 (constantI S_ 32 4#32) : IVec S1 32) j = 4#32 := fun _ => rfl
  have h0 : ∀ j, (broadcastInDim S1 ![] bcast_S_S1 (constantI S_ 32 0#32) : IVec S1 32) j = 0#32 := fun _ => rfl
  rw [arr0]
  unfold condRows
  by_cases hr : r.val = 4
  · rw [dif_neg (by omega), if_pos hr]
    refine Routing.scatter_set_hit _ _ _ _ _ _ (fun q hq => ?_) (ix1 k) ((ctx_lands _ h4 _ _ _).mpr ⟨hr, rfl⟩)
    have h := (ctx_lands _ h4 _ _ _).mp hq
    congr 1
    funext a
    apply Fin.ext
    match a with
    | ⟨0, _⟩ => exact h.2
  · rw [Routing.scatter_set_miss _ _ _ _ _ (fun q hq => hr ((ctx_lands _ h4 _ _ _).mp hq).1)]
    by_cases hl : r.val < 4
    · rw [dif_pos hl]
      refine Routing.scatter_set_hit _ _ _ _ _ _ (fun q hq => ?_) (ix2 ⟨r.val, hl⟩ k) ((rows_land _ h0 _ _ _).mpr ⟨rfl, rfl⟩)
      have h := (rows_land _ h0 _ _ _).mp hq
      exact congrArg _ (place q _ _ h.1 h.2)
    · rw [dif_neg hl, if_neg hr, Routing.scatter_set_miss _ _ _ _ _ (fun q hq => hl (by
        have h := ((rows_land _ h0 _ _ _).mp hq).1
        have hq0 : (q 0).val < 4 := (q 0).isLt
        omega))]
      rfl

/-- The condition rows' block. -/
theorem blk0 (t : Fin cfg0.N) (r : Fin 8) (k : Fin 2048) : (iblk m c 0 t : Vec Ideal S8x2048 .f32) (ix2 r k)
    = condRows (fun r k => m ((c : Thread nD τ).loc main_arg0) (ix2 r k)) (fun k => m ((c : Thread nD τ).loc main_arg1) (ix1 k)) r k := by
  unfold iblk
  rw [View.read_apply]
  show V m c main_v4 _ = _
  rw [place (((cfg0.win 0).blk t).view.emb (ix2 r k)) r k
    (by show win0_0.index t 0 * 8 + 1 * r.val = r.val; rw [(index0 t).1]; omega)
    (by show win0_0.index t 1 * 2048 + 1 * k.val = k.val; rw [(index0 t).2]; omega)]
  exact arr0_apply m c r k

/-- The weights' block. -/
theorem blk1 (t : Fin cfg0.N) (k : Fin 2048) (n : Fin 2048) (l : Fin 4) (f : Fin 12288) (hl : l.val = t.val / 6) (hf : f.val = t.val % 6 * 2048 + n.val) :
    (iblk m c 1 t : Vec Ideal S1x2048x2048 .f32) (ix3 0 k n) = m ((c : Thread nD τ).loc main_arg2) (ix3 l k f) := by
  unfold iblk
  rw [View.read_apply]
  show V m c main_arg2 _ = _
  rw [V_main_arg2]
  exact congrArg _ (place3 _ l k f (by show win0_1.index t 0 * 1 + 1 * 0 = l.val; rw [(index1 t).1]; omega)
    (by show win0_1.index t 1 * 2048 + 1 * k.val = k.val; rw [(index1 t).2.1]; omega)
    (by show win0_1.index t 2 * 2048 + 1 * n.val = f.val; rw [(index1 t).2.2]; omega))

/-- The biases as the call gets them. -/
theorem arr2 : V m c main_v5 = shapeCast S4x1x12288 (m ((c : Thread nD τ).loc main_arg3)) shapeCasts_S4x12288_S4x1x12288 := by
  dsimp only [V, hostOps0]
  after_results
  rfl

/-- The biases' place after the unit axis is put in. -/
theorem bias_cast (x : Vec Ideal S4x12288 .f32) (l : Fin 4) (f : Fin 12288) : shapeCast S4x1x12288 x shapeCasts_S4x12288_S4x1x12288 (ix3 l 0 f) = x (ix2 l f) := by
  pointwise
  done

/-- The biases' block. -/
theorem blk2 (t : Fin cfg0.N) (n : Fin 2048) (l : Fin 4) (f : Fin 12288) (hl : l.val = t.val / 6) (hf : f.val = t.val % 6 * 2048 + n.val) :
    (iblk m c 2 t : Vec Ideal S1x1x2048 .f32) (ix3 0 0 n) = m ((c : Thread nD τ).loc main_arg3) (ix2 l f) := by
  unfold iblk
  rw [View.read_apply]
  show V m c main_v5 _ = _
  rw [arr2, place3 (((cfg0.win 2).blk t).view.emb (ix3 0 0 n)) l 0 f (by show win0_2.index t 0 * 1 + 1 * 0 = l.val; rw [(index2 t).1]; omega)
    (by show win0_2.index t 1 * 1 + 1 * 0 = 0; rw [(index2 t).2.1])
    (by show win0_2.index t 2 * 2048 + 1 * n.val = f.val; rw [(index2 t).2.2]; omega)]
  exact bias_cast _ l f

/-- The result array at an element. -/
theorem result_at (l : Fin 4) (r : Fin 8) (f : Fin 12288) : (dats m 0 c).arrAt 3 cfg0.N (ix3 l r f)
    = row (condRows (fun r k => m ((c : Thread nD τ).loc main_arg0) (ix2 r k)) (fun k => m ((c : Thread nD τ).loc main_arg1) (ix1 k)))
      (fun l k n => m ((c : Thread nD τ).loc main_arg2) (ix3 l k n)) (fun l n => m ((c : Thread nD τ).loc main_arg3) (ix2 l n)) l r f := by
  have hN : cfg0.N = 24 := N_0
  have hl := l.isLt
  have hf := f.isLt
  let t : Fin cfg0.N := ⟨l.val * 6 + f.val / 2048, by rw [hN]; omega⟩
  let d : Fin 2048 := ⟨f.val % 2048, by omega⟩
  have ht : t.val = l.val * 6 + f.val / 2048 := rfl
  have hd : d.val = f.val % 2048 := rfl
  have e := congrFun (blocks3 m c t (flushes t)) (ix3 0 r d)
  rw [flushed3, View.read_apply, place3 (((cfg0.win 3).blk t).view.emb (ix3 0 r d)) l r f
    (by show win0_3.index t 0 * 1 + 1 * 0 = l.val; rw [(index3 t).1]; omega)
    (by show win0_3.index t 1 * 8 + 1 * r.val = r.val; rw [(index3 t).2.1]; omega)
    (by show win0_3.index t 2 * 2048 + 1 * d.val = f.val; rw [(index3 t).2.2]; omega)] at e
  refine e.trans ?_
  show out0_3 (F := Ideal) (iblk m c 0 t) (iblk m c 1 t) (iblk m c 2 t) (ix3 0 r d) = _
  rw [out_apply, blk2 m c t d l f (by omega) (by omega)]
  refine congrArg (· + _) (Finset.sum_congr rfl fun k _ => ?_)
  rw [blk0, blk1 m c t k d l f (by omega) (by omega)]

end Cert.ModulationIdeal.ModulationBlocks

namespace Cert.ModulationRefIdeal.Rows

open Cert.ModulationRefIdeal Cert.ModulationRefIdeal.Read ModulationSpec FnetSpec

/-- The reference's condition rows at an element. -/
theorem cond_apply (x0 : Vec Ideal S4x2048 .f32) (x1 : Vec Ideal S2048 .f32) (r : Fin 8) (k : Fin 2048) : val_main_v2 (F := Ideal) x0 x1 (ix2 r k)
    = condRows (fun r k => x0 (ix2 r k)) (fun k => x1 (ix1 k)) r k := by
  unfold condRows
  pointwise [val_main_v2, val_main_v1, val_main_v0, val_main_cst]
  by_cases h : r.val < 4
  · rw [dif_pos h, dif_pos h]
  · rw [dif_neg h, dif_neg h]
    by_cases h4 : r.val = 4
    · rw [dif_pos (by omega), if_pos h4]
    · rw [dif_neg (by omega), if_neg h4]

/-- The reference's gated condition rows at an element. -/
theorem gated_apply (x0 : Vec Ideal S4x2048 .f32) (x1 : Vec Ideal S2048 .f32) (r : Fin 8) (k : Fin 2048) : val_main_v3 (F := Ideal) x0 x1 (ix2 r k)
    = condRows (fun r k => x0 (ix2 r k)) (fun k => x1 (ix1 k)) r k * Ideal.logistic (condRows (fun r k => x0 (ix2 r k)) (fun k => x1 (ix1 k)) r k) := by
  rw [← cond_apply]
  unfold val_main_v3 val_main_call0_v5 val_main_call0_v3 val_main_call0_v1 val_main_call0_v0
  generalize val_main_v2 (F := Ideal) x0 x1 = z
  pointwise [val_main_call0_v4, val_main_call0_v2, val_main_call0_cst, val_main_call0_cst_0]
  rfl

/-- The reference's results at an element. -/
theorem out_apply (x0 : Vec Ideal S4x2048 .f32) (x1 : Vec Ideal S2048 .f32) (x2 : Vec Ideal S4x2048x12288 .f32) (x3 : Vec Ideal S4x12288 .f32)
    (l : Fin 4) (r : Fin 8) (n : Fin 12288) : val_main_v8 (F := Ideal) x0 x1 x2 x3 (ix3 l r n)
      = row (condRows (fun r k => x0 (ix2 r k)) (fun k => x1 (ix1 k))) (fun l k n => x2 (ix3 l k n)) (fun l n => x3 (ix2 l n)) l r n := by
  unfold row
  have e : val_main_v5 (F := Ideal) x0 x1 x2 (ix3 l r n) = ∑ k : Fin 2048, condRows (fun r k => x0 (ix2 r k)) (fun k => x1 (ix1 k)) r k
      * Ideal.logistic (condRows (fun r k => x0 (ix2 r k)) (fun k => x1 (ix1 k)) r k) * x2 (ix3 l k n) := by
    rw [val_main_v5_apply, val_main_v4_apply]
    refine Finset.sum_congr rfl fun k _ => ?_
    rw [mul_comm, place (ridx_main_v4 (idx_main_v5 (ix3 l r n)) k) r k rfl rfl, gated_apply, place3 (lidx_main_v4 (idx_main_v5 (ix3 l r n)) k) l k n rfl rfl rfl]
  have b : val_main_v7 (F := Ideal) x3 (ix3 l r n) = x3 (ix2 l n) := by
    pointwise [val_main_v7, val_main_v6]
  exact congrArg₂ (fun a b : EReal => a + b) e b

end Cert.ModulationRefIdeal.Rows

namespace Cert.ModulationTie

open Cert.ModulationIdeal.ModulationBlocks

variable (m : (ℓ : Loc Cert.ModulationIdeal.nD Cert.ModulationIdeal.τ Cert.ModulationIdeal.sig) → Buf (Elt Ideal) ℓ) (c : Dev Cert.ModulationIdeal.nD)

/-- The reference's results at the call's arguments are the call's. -/
theorem tie : Cert.ModulationRefIdeal.Read.val_main_v8 (F := Ideal)
      (m ((c : Thread Cert.ModulationIdeal.nD Cert.ModulationIdeal.τ).loc Cert.ModulationIdeal.main_arg0)) (m ((c : Thread Cert.ModulationIdeal.nD Cert.ModulationIdeal.τ).loc Cert.ModulationIdeal.main_arg1))
      (m ((c : Thread Cert.ModulationIdeal.nD Cert.ModulationIdeal.τ).loc Cert.ModulationIdeal.main_arg2)) (m ((c : Thread Cert.ModulationIdeal.nD Cert.ModulationIdeal.τ).loc Cert.ModulationIdeal.main_arg3))
    = (Cert.ModulationIdeal.Gen.dats m 0 c).arrAt 3 Cert.ModulationIdeal.cfg0.N := by
  funext y
  rw [ModulationSpec.place3 y (y 0) (y 1) (y 2) rfl rfl rfl]
  exact (Cert.ModulationRefIdeal.Rows.out_apply _ _ _ _ (y 0) (y 1) (y 2)).trans (result_at m c (y 0) (y 1) (y 2)).symm

end Cert.ModulationTie
end
-- ==== Proof.FnetTie.lean ====
/-
  The latents' Fourier call and its reference compute the same results, whatever the arguments. Point `t` of the grid is
  batch `t % 4`, column block `t / 4` of two groups of 128 lanes.
-/
module

public import proofs.«01_k».proof.Proof.Points
public import proofs.«01_k».proof.Proof.FnetAlgebra
public import proofs.«01_k».proof.Proof.Gen.FnetIdeal.Value
public import proofs.«01_k».proof.Proof.Gen.FnetRefIdeal.Run
public import proofs.«01_k».proof.Proof.Gen.FnetRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.FnetIdeal.FnetBlocks

open Cert.FnetIdeal Cert.FnetIdeal.Gen Cert.FnetIdeal.Value FnetSpec

section stored
variable {F : FTy → Type} [FloatOps F]

/-- Two zero offsets are the zero function. -/
theorem hz2 : (![0, 0] : Fin 2 → Nat) = fun _ => 0 := funext fun a => by fin_cases a <;> rfl

/-- What a point stores, as a function of its blocks. -/
theorem stored (c : Dev nD) (i : grid0.Coords) (arg2 : Memref sig .tc .vmem S2048x256 .bf16) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S2048x256 .bf16) (harg7 : arg7.IsWhole)
    (x0 : Vec F S2048x256 .bf16) (x1 : Vec F S2048x2048 .bf16) (x2 : Vec F S2048x2048 .bf16) (x3 : Vec F S128x128 .bf16) (x4 : Vec F S128x128 .bf16) :
    out0_A_5 c i arg2 harg2 arg3 harg3 arg4 harg4 arg5 harg5 arg6 harg6 arg7 harg7 x0 x1 x2 x3 x4 = k0_pay1 x0 x3 x4 x3 x4 x1 x2 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, View.ld_unit_zero (S := S2048x256) hz2, View.ld_unit_zero (S := S2048x2048) hz2, View.ld_unit_zero (S := S128x128) hz2]

end stored

/-- What a point stores, at lane `j` of group `p` of its block's two. -/
theorem pay_apply (v0 : Vec Ideal S2048x256 .bf16) (v2 v6 : Vec Ideal S128x128 .bf16) (v21 v24 : Vec Ideal S2048x2048 .bf16) (r : Fin 2048) (n : Fin 256)
    (j : Fin 128) (col : Fin 128 → Fin 256) (p : Nat) (hp : p < 2) (hn : n.val = p * 128 + j.val) (hcol : ∀ w, (col w).val = p * 128 + w.val) :
    k0_pay1 (F := Ideal) v0 v2 v6 v2 v6 v21 v24 (ix2 r n) =
      (∑ x : Fin 2048, v21 (ix2 r x) * ∑ w : Fin 128, v0 (ix2 x (col w)) * v2 (ix2 w j))
        - ∑ x : Fin 2048, v24 (ix2 r x) * ∑ w : Fin 128, v0 (ix2 x (col w)) * v6 (ix2 w j) := by
  pointwise [k0_pay1]
  have hj := j.isLt
  by_cases h : n.val < 128
  · simp only [dif_pos h]
    refine congrArg₂ (· - ·) (Finset.sum_congr rfl fun x _ => congrArg₂ (· * ·) rfl (Finset.sum_congr rfl fun w _ => congrArg₂ (· * ·)
        (congrArg v0 (congrArg (ix2 x) (Fin.ext ?_))) (congrArg v2 (congrArg (ix2 w) (Fin.ext ?_)))))
      (Finset.sum_congr rfl fun x _ => congrArg₂ (· * ·) rfl (Finset.sum_congr rfl fun w _ => congrArg₂ (· * ·)
        (congrArg v0 (congrArg (ix2 x) (Fin.ext ?_))) (congrArg v6 (congrArg (ix2 w) (Fin.ext ?_)))))
    · show w.val = (col w).val; rw [hcol]; omega
    · show n.val = j.val; omega
    · show w.val = (col w).val; rw [hcol]; omega
    · show n.val = j.val; omega
  · simp only [dif_neg h]
    refine congrArg₂ (· - ·) (Finset.sum_congr rfl fun x _ => congrArg₂ (· * ·) rfl (Finset.sum_congr rfl fun w _ => congrArg₂ (· * ·)
        (congrArg v0 (congrArg (ix2 x) (Fin.ext ?_))) (congrArg v2 (congrArg (ix2 w) (Fin.ext ?_)))))
      (Finset.sum_congr rfl fun x _ => congrArg₂ (· * ·) rfl (Finset.sum_congr rfl fun w _ => congrArg₂ (· * ·)
        (congrArg v0 (congrArg (ix2 x) (Fin.ext ?_))) (congrArg v6 (congrArg (ix2 w) (Fin.ext ?_)))))
    · show 128 + w.val = (col w).val; rw [hcol]; omega
    · show n.val - 128 = j.val; omega
    · show 128 + w.val = (col w).val; rw [hcol]; omega
    · show n.val - 128 = j.val; omega

variable (m : (ℓ : Loc nD τ sig) → Buf (Elt Ideal) ℓ) (c : Dev nD)

/-- The products of the row numbers, whichever way they are made. -/
theorem products : (muli (iotaInDim S2048x2048 32 0) (iotaInDim S2048x2048 32 1) : IVec S2048x2048 32) = (Cert.FnetRefIdeal.Read.val_main_v9 (F := Ideal) : IVec S2048x2048 32) := by
  funext y
  obtain ⟨r, n, rfl⟩ := Points.exists_row_col y
  rfl

/-- The products of the lane numbers, whichever way they are made. -/
theorem lane_products : (muli (iotaInDim S128x128 32 0) (iotaInDim S128x128 32 1) : IVec S128x128 32) = (Cert.FnetRefIdeal.Read.val_main_v18 (F := Ideal) : IVec S128x128 32) := by
  funext y
  obtain ⟨r, n, rfl⟩ := Points.exists_row_col y
  rfl

/-- The cosines along the rows, as the call gets them. -/
theorem arr1 : V m c main_v17 = mulf (Host.cos (Cert.FnetRefIdeal.Read.val_main_v13 (F := Ideal))) (broadcastInDim S2048x2048 ![] bcast_S_S2048x2048 (constant (F := Ideal) S_ .f32 0x3B000000#32)) := by
  dsimp only [V, hostOps0, hostOps0_1, hostOps0_2, hostOps0_3, hostOps0_4, List.flatten_cons, List.flatten_nil, List.append_nil, List.cons_append, List.nil_append]
  after_results
  rw [products]
  rfl

/-- The sines along the rows, as the call gets them. -/
theorem arr2 : V m c main_v21 = mulf (Host.sin (Cert.FnetRefIdeal.Read.val_main_v13 (F := Ideal))) (broadcastInDim S2048x2048 ![] bcast_S_S2048x2048 (constant (F := Ideal) S_ .f32 0x3B000000#32)) := by
  dsimp only [V, hostOps0, hostOps0_1, hostOps0_2, hostOps0_3, hostOps0_4, List.flatten_cons, List.flatten_nil, List.append_nil, List.cons_append, List.nil_append]
  after_results
  rw [products]
  rfl

/-- The cosines along the lanes, as the call gets them. -/
theorem arr3 : V m c main_v23 = Cert.FnetRefIdeal.Read.val_main_v24 (F := Ideal) := by
  dsimp only [V, hostOps0, hostOps0_1, hostOps0_2, hostOps0_3, hostOps0_4, List.flatten_cons, List.flatten_nil, List.append_nil, List.cons_append, List.nil_append]
  after_results
  rw [lane_products]
  rfl

/-- The sines along the lanes, as the call gets them. -/
theorem arr4 : V m c main_v25 = Cert.FnetRefIdeal.Read.val_main_v29 (F := Ideal) := by
  dsimp only [V, hostOps0, hostOps0_1, hostOps0_2, hostOps0_3, hostOps0_4, List.flatten_cons, List.flatten_nil, List.append_nil, List.cons_append, List.nil_append]
  after_results
  rw [lane_products]
  rfl

/-- The rows' block is the point's batch and column block. -/
theorem index0 : ∀ t : Fin grid0.N, win0_0.index t (0 : Fin 2) = t.val % 4 ∧ win0_0.index t (1 : Fin 2) = 36 + t.val / 4 := by decide +kernel
/-- The first row table is one block. -/
theorem index1 : ∀ t : Fin grid0.N, win0_1.index t (0 : Fin 2) = 0 ∧ win0_1.index t (1 : Fin 2) = 0 := by decide +kernel
/-- The second row table is one block. -/
theorem index2 : ∀ t : Fin grid0.N, win0_2.index t (0 : Fin 2) = 0 ∧ win0_2.index t (1 : Fin 2) = 0 := by decide +kernel
/-- The first lane table is one block. -/
theorem index3 : ∀ t : Fin grid0.N, win0_3.index t (0 : Fin 2) = 0 ∧ win0_3.index t (1 : Fin 2) = 0 := by decide +kernel
/-- The second lane table is one block. -/
theorem index4 : ∀ t : Fin grid0.N, win0_4.index t (0 : Fin 2) = 0 ∧ win0_4.index t (1 : Fin 2) = 0 := by decide +kernel
/-- The results' block is the point's batch and column block. -/
theorem index5 : ∀ t : Fin grid0.N, win0_5.index t (0 : Fin 2) = t.val % 4 ∧ win0_5.index t (1 : Fin 2) = t.val / 4 := by decide +kernel
/-- Every point writes its results back. -/
theorem flushes : ∀ t : Fin grid0.N, win0_5.flush t = true := by decide +kernel

/-- The rows' block: its two groups of lanes come after the first 9216 columns. -/
theorem blk0 (t : Fin cfg0.N) (r : Fin 2048) (n : Fin 256) (q : Fin 9216) (f : Fin 13312) (hq : q.val = (t.val % 4) * 2048 + r.val) (hf : f.val = (36 + t.val / 4) * 256 + n.val) :
    (X0_0 m c t : Vec Ideal S2048x256 .bf16) (ix2 r n) = m ((c : Thread nD τ).loc main_arg0) (ix2 q f) := by
  unfold X0_0 Pipeline.Window.fill
  rw [dif_pos (moved0_0 t _)]
  unfold iblk
  rw [View.read_apply]
  show V m c main_arg0 _ = _
  rw [V_main_arg0]
  exact congrArg _ (place _ q f (by show win0_0.index t 0 * 2048 + 1 * r.val = q.val; rw [(index0 t).1]; omega)
    (by show win0_0.index t 1 * 256 + 1 * n.val = f.val; rw [(index0 t).2]; omega))

/-- The row cosines' block is the whole table. -/
theorem blk1 (t : Fin cfg0.N) (k : Fin 2048) (s : Fin 2048) : (iblk m c 1 t : Vec Ideal S2048x2048 .bf16) (ix2 k s) = Cert.FnetRefIdeal.Read.val_main_v23 (F := Ideal) (ix2 k s) * Ideal.ofBits FTy.f32 0x3B000000#32 := by
  unfold iblk
  rw [View.read_apply]
  show V m c main_v17 _ = _
  rw [arr1, place (((cfg0.win 1).blk t).view.emb (ix2 k s)) k s
    (by show win0_1.index t 0 * 2048 + 1 * k.val = k.val; rw [(index1 t).1]; omega)
    (by show win0_1.index t 1 * 2048 + 1 * s.val = s.val; rw [(index1 t).2]; omega)]
  rfl

/-- The row sines' block is the whole table. -/
theorem blk2 (t : Fin cfg0.N) (k : Fin 2048) (s : Fin 2048) : (iblk m c 2 t : Vec Ideal S2048x2048 .bf16) (ix2 k s) = Cert.FnetRefIdeal.Read.val_main_v28 (F := Ideal) (ix2 k s) * Ideal.ofBits FTy.f32 0x3B000000#32 := by
  unfold iblk
  rw [View.read_apply]
  show V m c main_v21 _ = _
  rw [arr2, place (((cfg0.win 2).blk t).view.emb (ix2 k s)) k s
    (by show win0_2.index t 0 * 2048 + 1 * k.val = k.val; rw [(index2 t).1]; omega)
    (by show win0_2.index t 1 * 2048 + 1 * s.val = s.val; rw [(index2 t).2]; omega)]
  rfl

/-- The lane cosines' block is the whole table. -/
theorem blk3 (t : Fin cfg0.N) (k : Fin 128) (s : Fin 128) : (iblk m c 3 t : Vec Ideal S128x128 .bf16) (ix2 k s) = Cert.FnetRefIdeal.Read.val_main_v24 (F := Ideal) (ix2 k s) := by
  unfold iblk
  rw [View.read_apply]
  show V m c main_v23 _ = _
  rw [arr3, place (((cfg0.win 3).blk t).view.emb (ix2 k s)) k s
    (by show win0_3.index t 0 * 128 + 1 * k.val = k.val; rw [(index3 t).1]; omega)
    (by show win0_3.index t 1 * 128 + 1 * s.val = s.val; rw [(index3 t).2]; omega)]

/-- The lane sines' block is the whole table. -/
theorem blk4 (t : Fin cfg0.N) (k : Fin 128) (s : Fin 128) : (iblk m c 4 t : Vec Ideal S128x128 .bf16) (ix2 k s) = Cert.FnetRefIdeal.Read.val_main_v29 (F := Ideal) (ix2 k s) := by
  unfold iblk
  rw [View.read_apply]
  show V m c main_v25 _ = _
  rw [arr4, place (((cfg0.win 4).blk t).view.emb (ix2 k s)) k s
    (by show win0_4.index t 0 * 128 + 1 * k.val = k.val; rw [(index4 t).1]; omega)
    (by show win0_4.index t 1 * 128 + 1 * s.val = s.val; rw [(index4 t).2]; omega)]

end Cert.FnetIdeal.FnetBlocks

namespace Cert.FnetRefIdeal.Rows

open Cert.FnetRefIdeal Cert.FnetRefIdeal.Read FnetSpec

/-- Group `p` of batch `b`: rows by lanes. -/
def group (x0 : Vec Ideal S9216x13312 .bf16) (b : Fin 4) (p : Fin 8) (s : Fin 2048) (w : Fin 128) : EReal :=
  x0 (ix2 ⟨b.val * 2048 + s.val, by omega⟩ ⟨9216 + p.val * 128 + w.val, by omega⟩)

/-- The two-way Fourier sum's real part at row `k` and lane `j`, scaled. -/
def spectrum (x0 : Vec Ideal S9216x13312 .bf16) (b : Fin 4) (p : Fin 8) (k : Fin 2048) (j : Fin 128) : EReal :=
  (turn (fun k s => val_main_v23 (F := Ideal) (ix2 k s)) (fun w j => val_main_v24 (F := Ideal) (ix2 w j)) (group x0 b p) k j
    - turn (fun k s => val_main_v28 (F := Ideal) (ix2 k s)) (fun w j => val_main_v29 (F := Ideal) (ix2 w j)) (group x0 b p) k j) * Ideal.ofBits FTy.f32 0x3B000000#32

/-- The spectrum with its scale on the row tables. -/
theorem spectrum_scaled (x0 : Vec Ideal S9216x13312 .bf16) (b : Fin 4) (p : Fin 8) (k : Fin 2048) (j : Fin 128) :
    (∑ s : Fin 2048, val_main_v23 (F := Ideal) (ix2 k s) * Ideal.ofBits FTy.f32 0x3B000000#32 * ∑ w : Fin 128, group x0 b p s w * val_main_v24 (F := Ideal) (ix2 w j))
      - (∑ s : Fin 2048, val_main_v28 (F := Ideal) (ix2 k s) * Ideal.ofBits FTy.f32 0x3B000000#32 * ∑ w : Fin 128, group x0 b p s w * val_main_v29 (F := Ideal) (ix2 w j))
      = spectrum x0 b p k j := by
  have h := scaled_difference (fun k s => val_main_v23 (F := Ideal) (ix2 k s)) (fun k s => val_main_v28 (F := Ideal) (ix2 k s))
    (fun w j => val_main_v24 (F := Ideal) (ix2 w j)) (fun w j => val_main_v29 (F := Ideal) (ix2 w j)) (group x0 b p) k j (1 / 512) (by norm_num)
  rw [← bits_scale] at h
  exact h

/-- An element of the grouped rows. -/
theorem v2_at (x0 : Vec Ideal S9216x13312 .bf16) (i : S4x2048x8x128.Idx) (b : Fin 4) (s : Fin 2048) (p : Fin 8) (w : Fin 128)
    (h0 : (i 0).val = b.val) (h1 : (i 1).val = s.val) (h2 : (i 2).val = p.val) (h3 : (i 3).val = w.val) : val_main_v2 (F := Ideal) x0 i = group x0 b p s w := by
  have hb := b.isLt
  have hs := s.isLt
  have hp := p.isLt
  have hw := w.isLt
  rw [val_main_v2_apply, val_main_v1_apply, val_main_v0_apply]
  refine congrArg x0 (place _ _ _ ?_ ?_)
  · show ((((i 0).val * 2048 + (i 1).val) * 8 + (i 2).val) * 128 + (i 3).val) / 1024 = b.val * 2048 + s.val
    rw [h0, h1, h2, h3]
    omega
  · show 9216 + ((((i 0).val * 2048 + (i 1).val) * 8 + (i 2).val) * 128 + (i 3).val) % 1024 = 9216 + p.val * 128 + w.val
    rw [h0, h1, h2, h3]
    omega

/-- The reference's turned rows at an element. -/
theorem v37_at (x0 : Vec Ideal S9216x13312 .bf16) (r : Fin 8192) (n : Fin 1024) (b : Fin 4) (k : Fin 2048) (p : Fin 8) (j : Fin 128)
    (hr : r.val = b.val * 2048 + k.val) (hn : n.val = p.val * 128 + j.val) : val_main_v37 (F := Ideal) x0 (ix2 r n) = spectrum x0 b p k j := by
  have hb := b.isLt
  have hk := k.isLt
  have hp := p.isLt
  have hj := j.isLt
  have i0 : (r.val * 1024 + n.val) / 2097152 = b.val := by omega
  have i1 : (r.val * 1024 + n.val) / 1024 % 2048 = k.val := by omega
  have i2 : (r.val * 1024 + n.val) / 128 % 8 = p.val := by omega
  have i3 : (r.val * 1024 + n.val) % 128 = j.val := by omega
  rw [val_main_v37_apply, val_main_v36_apply, val_main_v35_apply, val_main_v33_apply, val_main_v27_apply, val_main_v32_apply, val_main_v26_apply, val_main_v31_apply]
  unfold spectrum turn
  refine congrArg₂ (· * ·) (congrArg₂ (· - ·) (Finset.sum_congr rfl fun s _ => ?_) (Finset.sum_congr rfl fun s _ => ?_)) rfl
  · rw [val_main_v25_apply, mul_comm]
    refine congrArg₂ (· * ·) (congrArg _ (place _ k s i1 rfl)) (Finset.sum_congr rfl fun w _ => congrArg₂ (· * ·) (v2_at x0 _ b s p w i0 rfl i2 rfl) (congrArg _ (place _ w j rfl i3)))
  · rw [val_main_v30_apply, mul_comm]
    refine congrArg₂ (· * ·) (congrArg _ (place _ k s i1 rfl)) (Finset.sum_congr rfl fun w _ => congrArg₂ (· * ·) (v2_at x0 _ b s p w i0 rfl i2 rfl) (congrArg _ (place _ w j rfl i3)))

end Cert.FnetRefIdeal.Rows

namespace Cert.FnetIdeal.FnetBlocks

open Cert.FnetIdeal Cert.FnetIdeal.Gen Cert.FnetIdeal.Value FnetSpec

variable (m : (ℓ : Loc nD τ sig) → Buf (Elt Ideal) ℓ) (c : Dev nD)

/-- The result array at an element. -/
theorem result_at (r : Fin 8192) (n : Fin 1024) (b : Fin 4) (k : Fin 2048) (p : Fin 8) (j : Fin 128)
    (hr : r.val = b.val * 2048 + k.val) (hn : n.val = p.val * 128 + j.val) : (dats m 0 c).arrAt 5 cfg0.N (ix2 r n)
      = Cert.FnetRefIdeal.Rows.spectrum (m ((c : Thread nD τ).loc main_arg0)) b p k j := by
  have hN : cfg0.N = 16 := N_0
  have hb := b.isLt
  have hk := k.isLt
  have hp := p.isLt
  have hj := j.isLt
  let t : Fin cfg0.N := ⟨p.val / 2 * 4 + b.val, by rw [hN]; omega⟩
  let d : Fin 256 := ⟨p.val % 2 * 128 + j.val, by omega⟩
  have ht : t.val = p.val / 2 * 4 + b.val := rfl
  have hd : d.val = p.val % 2 * 128 + j.val := rfl
  have e := congrFun (blocks5 m c t (flushes t)) (ix2 k d)
  rw [flushed5_A, View.read_apply, place (((cfg0.win 5).blk t).view.emb (ix2 k d)) r n
    (by show win0_5.index t 0 * 2048 + 1 * k.val = r.val; rw [(index5 t).1]; omega)
    (by show win0_5.index t 1 * 256 + 1 * d.val = n.val; rw [(index5 t).2]; omega)] at e
  refine e.trans ?_
  show out0_A_5 (F := Ideal) _ _ _ _ _ _ _ _ _ _ _ _ _ _ (X0_0 m c t) (iblk m c 1 t) (iblk m c 2 t) (iblk m c 3 t) (iblk m c 4 t) (ix2 k d) = _
  rw [stored, pay_apply _ _ _ _ _ k d j (fun w => ⟨p.val % 2 * 128 + w.val, by omega⟩) (p.val % 2) (by omega) hd (fun _ => rfl)]
  have h0 : ∀ (s : Fin 2048) (w : Fin 128), (X0_0 m c t : Vec Ideal S2048x256 .bf16) (ix2 s ⟨p.val % 2 * 128 + w.val, by omega⟩)
      = Cert.FnetRefIdeal.Rows.group (m ((c : Thread nD τ).loc main_arg0)) b p s w := fun s w =>
    blk0 m c t s ⟨p.val % 2 * 128 + w.val, by omega⟩ ⟨b.val * 2048 + s.val, by omega⟩ ⟨9216 + p.val * 128 + w.val, by omega⟩
      (by show b.val * 2048 + s.val = _; omega) (by show 9216 + p.val * 128 + w.val = (36 + t.val / 4) * 256 + (p.val % 2 * 128 + w.val); omega)
  simp only [h0, blk1, blk2, blk3, blk4]
  exact Cert.FnetRefIdeal.Rows.spectrum_scaled _ b p k j

end Cert.FnetIdeal.FnetBlocks

namespace Cert.FnetTie

open Cert.FnetIdeal.FnetBlocks

variable (m : (ℓ : Loc Cert.FnetIdeal.nD Cert.FnetIdeal.τ Cert.FnetIdeal.sig) → Buf (Elt Ideal) ℓ) (c : Dev Cert.FnetIdeal.nD)

/-- The reference's results at the call's arguments are the call's. -/
theorem tie : Cert.FnetRefIdeal.Read.val_main_v37 (F := Ideal) (m ((c : Thread Cert.FnetIdeal.nD Cert.FnetIdeal.τ).loc Cert.FnetIdeal.main_arg0)) = (Cert.FnetIdeal.Gen.dats m 0 c).arrAt 5 Cert.FnetIdeal.cfg0.N := by
  funext y
  obtain ⟨r, n, rfl⟩ := Points.exists_row_col y
  have hr := r.isLt
  have hn := n.isLt
  exact (Cert.FnetRefIdeal.Rows.v37_at _ r n ⟨r.val / 2048, by omega⟩ ⟨r.val % 2048, by omega⟩ ⟨n.val / 128, by omega⟩ ⟨n.val % 128, by omega⟩
    (by show r.val = r.val / 2048 * 2048 + r.val % 2048; omega) (by show n.val = n.val / 128 * 128 + n.val % 128; omega)).trans
    (result_at m c r n _ _ _ _ (by show r.val = r.val / 2048 * 2048 + r.val % 2048; omega) (by show n.val = n.val / 128 * 128 + n.val % 128; omega)).symm

end Cert.FnetTie
end
-- ==== Proof.FnetCtxTie.lean ====
/-
  The context rows' Fourier call and its reference compute the same results, whatever the arguments. Point `t` of the grid is
  batch `t % 4`, column block `t / 4` of two groups of 128 lanes.
-/
module

public import proofs.«01_k».proof.Proof.Points
public import proofs.«01_k».proof.Proof.FnetAlgebra
public import proofs.«01_k».proof.Proof.Gen.FnetCtxIdeal.Value
public import proofs.«01_k».proof.Proof.Gen.FnetCtxRefIdeal.Run
public import proofs.«01_k».proof.Proof.Gen.FnetCtxRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.FnetCtxIdeal.FnetBlocks

open Cert.FnetCtxIdeal Cert.FnetCtxIdeal.Gen Cert.FnetCtxIdeal.Value FnetSpec

section stored
variable {F : FTy → Type} [FloatOps F]

/-- Two zero offsets are the zero function. -/
theorem hz2 : (![0, 0] : Fin 2 → Nat) = fun _ => 0 := funext fun a => by fin_cases a <;> rfl

/-- What a point stores, as a function of its blocks. -/
theorem stored (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S128x128 .bf16) (harg5 : arg5.IsWhole) (arg6 : Memref sig .tc .vmem S128x128 .bf16) (harg6 : arg6.IsWhole) (arg8 : Memref sig .tc .vmem S256x256 .bf16) (harg8 : arg8.IsWhole)
    (x0 : Vec F S256x256 .bf16) (x1 : Vec F S256x256 .bf16) (x2 : Vec F S256x256 .bf16) (x3 : Vec F S128x128 .bf16) (x4 : Vec F S128x128 .bf16) :
    out0_A_5 c i arg2 harg2 arg3 harg3 arg4 harg4 arg5 harg5 arg6 harg6 arg8 harg8 x0 x1 x2 x3 x4 = k0_pay1 x0 x3 x4 x3 x4 x1 x2 := by
  unfold out0_A_5
  rw [View.read_writes_eq_canon _ _ _ (cover0_A_5 c i arg2 harg2 arg3 harg3 arg4 harg4 arg5 harg5 arg6 harg6 arg8 harg8 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, View.ld_unit_zero (S := S256x256) hz2, View.ld_unit_zero (S := S128x128) hz2]

end stored

/-- What a point stores, at lane `j` of group `p` of its block's two. -/
theorem pay_apply (v0 : Vec Ideal S256x256 .bf16) (v2 v6 : Vec Ideal S128x128 .bf16) (v21 v24 : Vec Ideal S256x256 .bf16) (r : Fin 256) (n : Fin 256)
    (j : Fin 128) (col : Fin 128 → Fin 256) (p : Nat) (hp : p < 2) (hn : n.val = p * 128 + j.val) (hcol : ∀ w, (col w).val = p * 128 + w.val) :
    k0_pay1 (F := Ideal) v0 v2 v6 v2 v6 v21 v24 (ix2 r n) =
      (∑ x : Fin 256, v21 (ix2 r x) * ∑ w : Fin 128, v0 (ix2 x (col w)) * v2 (ix2 w j))
        - ∑ x : Fin 256, v24 (ix2 r x) * ∑ w : Fin 128, v0 (ix2 x (col w)) * v6 (ix2 w j) := by
  pointwise [k0_pay1]
  have hj := j.isLt
  by_cases h : n.val < 128
  · simp only [dif_pos h]
    refine congrArg₂ (· - ·) (Finset.sum_congr rfl fun x _ => congrArg₂ (· * ·) rfl (Finset.sum_congr rfl fun w _ => congrArg₂ (· * ·)
        (congrArg v0 (congrArg (ix2 x) (Fin.ext ?_))) (congrArg v2 (congrArg (ix2 w) (Fin.ext ?_)))))
      (Finset.sum_congr rfl fun x _ => congrArg₂ (· * ·) rfl (Finset.sum_congr rfl fun w _ => congrArg₂ (· * ·)
        (congrArg v0 (congrArg (ix2 x) (Fin.ext ?_))) (congrArg v6 (congrArg (ix2 w) (Fin.ext ?_)))))
    · show w.val = (col w).val; rw [hcol]; omega
    · show n.val = j.val; omega
    · show w.val = (col w).val; rw [hcol]; omega
    · show n.val = j.val; omega
  · simp only [dif_neg h]
    refine congrArg₂ (· - ·) (Finset.sum_congr rfl fun x _ => congrArg₂ (· * ·) rfl (Finset.sum_congr rfl fun w _ => congrArg₂ (· * ·)
        (congrArg v0 (congrArg (ix2 x) (Fin.ext ?_))) (congrArg v2 (congrArg (ix2 w) (Fin.ext ?_)))))
      (Finset.sum_congr rfl fun x _ => congrArg₂ (· * ·) rfl (Finset.sum_congr rfl fun w _ => congrArg₂ (· * ·)
        (congrArg v0 (congrArg (ix2 x) (Fin.ext ?_))) (congrArg v6 (congrArg (ix2 w) (Fin.ext ?_)))))
    · show 128 + w.val = (col w).val; rw [hcol]; omega
    · show n.val - 128 = j.val; omega
    · show 128 + w.val = (col w).val; rw [hcol]; omega
    · show n.val - 128 = j.val; omega

variable (m : (ℓ : Loc nD τ sig) → Buf (Elt Ideal) ℓ) (c : Dev nD)

/-- The products of the row numbers, whichever way they are made. -/
theorem products : (muli (iotaInDim S256x256 32 0) (iotaInDim S256x256 32 1) : IVec S256x256 32) = (Cert.FnetCtxRefIdeal.Read.val_main_v9 (F := Ideal) : IVec S256x256 32) := by
  funext y
  obtain ⟨r, n, rfl⟩ := Points.exists_row_col y
  rfl

/-- The products of the lane numbers, whichever way they are made. -/
theorem lane_products : (muli (iotaInDim S128x128 32 0) (iotaInDim S128x128 32 1) : IVec S128x128 32) = (Cert.FnetCtxRefIdeal.Read.val_main_v18 (F := Ideal) : IVec S128x128 32) := by
  funext y
  obtain ⟨r, n, rfl⟩ := Points.exists_row_col y
  rfl

/-- The cosines along the rows, as the call gets them. -/
theorem arr1 : V m c main_v17 = mulf (Host.cos (Cert.FnetCtxRefIdeal.Read.val_main_v13 (F := Ideal))) (broadcastInDim S256x256 ![] bcast_S_S256x256 (constant (F := Ideal) S_ .f32 0x3BB504F3#32)) := by
  dsimp only [V, hostOps0, hostOps0_1, hostOps0_2, hostOps0_3, hostOps0_4, List.flatten_cons, List.flatten_nil, List.append_nil, List.cons_append, List.nil_append]
  after_results
  rw [products]
  rfl

/-- The sines along the rows, as the call gets them. -/
theorem arr2 : V m c main_v21 = mulf (Host.sin (Cert.FnetCtxRefIdeal.Read.val_main_v13 (F := Ideal))) (broadcastInDim S256x256 ![] bcast_S_S256x256 (constant (F := Ideal) S_ .f32 0x3BB504F3#32)) := by
  dsimp only [V, hostOps0, hostOps0_1, hostOps0_2, hostOps0_3, hostOps0_4, List.flatten_cons, List.flatten_nil, List.append_nil, List.cons_append, List.nil_append]
  after_results
  rw [products]
  rfl

/-- The cosines along the lanes, as the call gets them. -/
theorem arr3 : V m c main_v23 = Cert.FnetCtxRefIdeal.Read.val_main_v24 (F := Ideal) := by
  dsimp only [V, hostOps0, hostOps0_1, hostOps0_2, hostOps0_3, hostOps0_4, List.flatten_cons, List.flatten_nil, List.append_nil, List.cons_append, List.nil_append]
  after_results
  rw [lane_products]
  rfl

/-- The sines along the lanes, as the call gets them. -/
theorem arr4 : V m c main_v25 = Cert.FnetCtxRefIdeal.Read.val_main_v29 (F := Ideal) := by
  dsimp only [V, hostOps0, hostOps0_1, hostOps0_2, hostOps0_3, hostOps0_4, List.flatten_cons, List.flatten_nil, List.append_nil, List.cons_append, List.nil_append]
  after_results
  rw [lane_products]
  rfl

/-- The earlier results, as the call gets them. -/
theorem arr5 : V m c main_v26 = m ((c : Thread nD τ).loc main_arg1) := by
  dsimp only [V, hostOps0, hostOps0_1, hostOps0_2, hostOps0_3, hostOps0_4, List.flatten_cons, List.flatten_nil, List.append_nil, List.cons_append, List.nil_append]
  after_results
  rfl

/-- The rows' block is the point's batch and column block. -/
theorem index0 : ∀ t : Fin grid0.N, win0_0.index t (0 : Fin 2) = t.val % 4 + 32 ∧ win0_0.index t (1 : Fin 2) = 36 + t.val / 4 := by decide +kernel
/-- The first row table is one block. -/
theorem index1 : ∀ t : Fin grid0.N, win0_1.index t (0 : Fin 2) = 0 ∧ win0_1.index t (1 : Fin 2) = 0 := by decide +kernel
/-- The second row table is one block. -/
theorem index2 : ∀ t : Fin grid0.N, win0_2.index t (0 : Fin 2) = 0 ∧ win0_2.index t (1 : Fin 2) = 0 := by decide +kernel
/-- The first lane table is one block. -/
theorem index3 : ∀ t : Fin grid0.N, win0_3.index t (0 : Fin 2) = 0 ∧ win0_3.index t (1 : Fin 2) = 0 := by decide +kernel
/-- The second lane table is one block. -/
theorem index4 : ∀ t : Fin grid0.N, win0_4.index t (0 : Fin 2) = 0 ∧ win0_4.index t (1 : Fin 2) = 0 := by decide +kernel
/-- The results' block is the point's batch and column block. -/
theorem index5 : ∀ t : Fin grid0.N, win0_5.index t (0 : Fin 2) = t.val % 4 + 32 ∧ win0_5.index t (1 : Fin 2) = t.val / 4 := by decide +kernel
/-- Every point writes its results back. -/
theorem flushes : ∀ t : Fin grid0.N, win0_5.flush t = true := by decide +kernel

/-- The rows' block: its two groups of lanes come after the first 9216 columns. -/
theorem blk0 (t : Fin cfg0.N) (r : Fin 256) (n : Fin 256) (q : Fin 9216) (f : Fin 13312) (hq : q.val = (t.val % 4 + 32) * 256 + r.val) (hf : f.val = (36 + t.val / 4) * 256 + n.val) :
    (iblk m c 0 t : Vec Ideal S256x256 .bf16) (ix2 r n) = m ((c : Thread nD τ).loc main_arg0) (ix2 q f) := by
  unfold iblk
  rw [View.read_apply]
  show V m c main_arg0 _ = _
  rw [V_main_arg0]
  exact congrArg _ (place _ q f (by show win0_0.index t 0 * 256 + 1 * r.val = q.val; rw [(index0 t).1]; omega)
    (by show win0_0.index t 1 * 256 + 1 * n.val = f.val; rw [(index0 t).2]; omega))

/-- The row cosines' block is the whole table. -/
theorem blk1 (t : Fin cfg0.N) (k : Fin 256) (s : Fin 256) : (iblk m c 1 t : Vec Ideal S256x256 .bf16) (ix2 k s) = Cert.FnetCtxRefIdeal.Read.val_main_v23 (F := Ideal) (ix2 k s) * Ideal.ofBits FTy.f32 0x3BB504F3#32 := by
  unfold iblk
  rw [View.read_apply]
  show V m c main_v17 _ = _
  rw [arr1, place (((cfg0.win 1).blk t).view.emb (ix2 k s)) k s
    (by show win0_1.index t 0 * 256 + 1 * k.val = k.val; rw [(index1 t).1]; omega)
    (by show win0_1.index t 1 * 256 + 1 * s.val = s.val; rw [(index1 t).2]; omega)]
  rfl

/-- The row sines' block is the whole table. -/
theorem blk2 (t : Fin cfg0.N) (k : Fin 256) (s : Fin 256) : (iblk m c 2 t : Vec Ideal S256x256 .bf16) (ix2 k s) = Cert.FnetCtxRefIdeal.Read.val_main_v28 (F := Ideal) (ix2 k s) * Ideal.ofBits FTy.f32 0x3BB504F3#32 := by
  unfold iblk
  rw [View.read_apply]
  show V m c main_v21 _ = _
  rw [arr2, place (((cfg0.win 2).blk t).view.emb (ix2 k s)) k s
    (by show win0_2.index t 0 * 256 + 1 * k.val = k.val; rw [(index2 t).1]; omega)
    (by show win0_2.index t 1 * 256 + 1 * s.val = s.val; rw [(index2 t).2]; omega)]
  rfl

/-- The lane cosines' block is the whole table. -/
theorem blk3 (t : Fin cfg0.N) (k : Fin 128) (s : Fin 128) : (iblk m c 3 t : Vec Ideal S128x128 .bf16) (ix2 k s) = Cert.FnetCtxRefIdeal.Read.val_main_v24 (F := Ideal) (ix2 k s) := by
  unfold iblk
  rw [View.read_apply]
  show V m c main_v23 _ = _
  rw [arr3, place (((cfg0.win 3).blk t).view.emb (ix2 k s)) k s
    (by show win0_3.index t 0 * 128 + 1 * k.val = k.val; rw [(index3 t).1]; omega)
    (by show win0_3.index t 1 * 128 + 1 * s.val = s.val; rw [(index3 t).2]; omega)]

/-- The lane sines' block is the whole table. -/
theorem blk4 (t : Fin cfg0.N) (k : Fin 128) (s : Fin 128) : (iblk m c 4 t : Vec Ideal S128x128 .bf16) (ix2 k s) = Cert.FnetCtxRefIdeal.Read.val_main_v29 (F := Ideal) (ix2 k s) := by
  unfold iblk
  rw [View.read_apply]
  show V m c main_v25 _ = _
  rw [arr4, place (((cfg0.win 4).blk t).view.emb (ix2 k s)) k s
    (by show win0_4.index t 0 * 128 + 1 * k.val = k.val; rw [(index4 t).1]; omega)
    (by show win0_4.index t 1 * 128 + 1 * s.val = s.val; rw [(index4 t).2]; omega)]

end Cert.FnetCtxIdeal.FnetBlocks

namespace Cert.FnetCtxRefIdeal.Rows

open Cert.FnetCtxRefIdeal Cert.FnetCtxRefIdeal.Read FnetSpec

/-- Group `p` of batch `b`: rows by lanes. -/
def group (x0 : Vec Ideal S9216x13312 .bf16) (b : Fin 4) (p : Fin 8) (s : Fin 256) (w : Fin 128) : EReal :=
  x0 (ix2 ⟨8192 + b.val * 256 + s.val, by omega⟩ ⟨9216 + p.val * 128 + w.val, by omega⟩)

/-- The two-way Fourier sum's real part at row `k` and lane `j`, scaled. -/
def spectrum (x0 : Vec Ideal S9216x13312 .bf16) (b : Fin 4) (p : Fin 8) (k : Fin 256) (j : Fin 128) : EReal :=
  (turn (fun k s => val_main_v23 (F := Ideal) (ix2 k s)) (fun w j => val_main_v24 (F := Ideal) (ix2 w j)) (group x0 b p) k j
    - turn (fun k s => val_main_v28 (F := Ideal) (ix2 k s)) (fun w j => val_main_v29 (F := Ideal) (ix2 w j)) (group x0 b p) k j) * Ideal.ofBits FTy.f32 0x3BB504F3#32

/-- The spectrum with its scale on the row tables. -/
theorem spectrum_scaled (x0 : Vec Ideal S9216x13312 .bf16) (b : Fin 4) (p : Fin 8) (k : Fin 256) (j : Fin 128) :
    (∑ s : Fin 256, val_main_v23 (F := Ideal) (ix2 k s) * Ideal.ofBits FTy.f32 0x3BB504F3#32 * ∑ w : Fin 128, group x0 b p s w * val_main_v24 (F := Ideal) (ix2 w j))
      - (∑ s : Fin 256, val_main_v28 (F := Ideal) (ix2 k s) * Ideal.ofBits FTy.f32 0x3BB504F3#32 * ∑ w : Fin 128, group x0 b p s w * val_main_v29 (F := Ideal) (ix2 w j))
      = spectrum x0 b p k j := by
  have h := scaled_difference (fun k s => val_main_v23 (F := Ideal) (ix2 k s)) (fun k s => val_main_v28 (F := Ideal) (ix2 k s))
    (fun w j => val_main_v24 (F := Ideal) (ix2 w j)) (fun w j => val_main_v29 (F := Ideal) (ix2 w j)) (group x0 b p) k j (11863283 / 2147483648) (by norm_num)
  rw [← bits_scale_ctx] at h
  exact h

/-- An element of the grouped rows. -/
theorem v2_at (x0 : Vec Ideal S9216x13312 .bf16) (i : S4x256x8x128.Idx) (b : Fin 4) (s : Fin 256) (p : Fin 8) (w : Fin 128)
    (h0 : (i 0).val = b.val) (h1 : (i 1).val = s.val) (h2 : (i 2).val = p.val) (h3 : (i 3).val = w.val) : val_main_v2 (F := Ideal) x0 i = group x0 b p s w := by
  have hb := b.isLt
  have hs := s.isLt
  have hp := p.isLt
  have hw := w.isLt
  rw [val_main_v2_apply, val_main_v1_apply, val_main_v0_apply]
  refine congrArg x0 (place _ _ _ ?_ ?_)
  · show 8192 + ((((i 0).val * 256 + (i 1).val) * 8 + (i 2).val) * 128 + (i 3).val) / 1024 = 8192 + b.val * 256 + s.val
    rw [h0, h1, h2, h3]
    omega
  · show 9216 + ((((i 0).val * 256 + (i 1).val) * 8 + (i 2).val) * 128 + (i 3).val) % 1024 = 9216 + p.val * 128 + w.val
    rw [h0, h1, h2, h3]
    omega

/-- The reference's turned rows at an element. -/
theorem v37_at (x0 : Vec Ideal S9216x13312 .bf16) (r : Fin 1024) (n : Fin 1024) (b : Fin 4) (k : Fin 256) (p : Fin 8) (j : Fin 128)
    (hr : r.val = b.val * 256 + k.val) (hn : n.val = p.val * 128 + j.val) : val_main_v37 (F := Ideal) x0 (ix2 r n) = spectrum x0 b p k j := by
  have hb := b.isLt
  have hk := k.isLt
  have hp := p.isLt
  have hj := j.isLt
  have i0 : (r.val * 1024 + n.val) / 262144 = b.val := by omega
  have i1 : (r.val * 1024 + n.val) / 1024 % 256 = k.val := by omega
  have i2 : (r.val * 1024 + n.val) / 128 % 8 = p.val := by omega
  have i3 : (r.val * 1024 + n.val) % 128 = j.val := by omega
  rw [val_main_v37_apply, val_main_v36_apply, val_main_v35_apply, val_main_v33_apply, val_main_v27_apply, val_main_v32_apply, val_main_v26_apply, val_main_v31_apply]
  unfold spectrum turn
  refine congrArg₂ (· * ·) (congrArg₂ (· - ·) (Finset.sum_congr rfl fun s _ => ?_) (Finset.sum_congr rfl fun s _ => ?_)) rfl
  · rw [val_main_v25_apply, mul_comm]
    refine congrArg₂ (· * ·) (congrArg _ (place _ k s i1 rfl)) (Finset.sum_congr rfl fun w _ => congrArg₂ (· * ·) (v2_at x0 _ b s p w i0 rfl i2 rfl) (congrArg _ (place _ w j rfl i3)))
  · rw [val_main_v30_apply, mul_comm]
    refine congrArg₂ (· * ·) (congrArg _ (place _ k s i1 rfl)) (Finset.sum_congr rfl fun w _ => congrArg₂ (· * ·) (v2_at x0 _ b s p w i0 rfl i2 rfl) (congrArg _ (place _ w j rfl i3)))

end Cert.FnetCtxRefIdeal.Rows

namespace Cert.FnetCtxIdeal.FnetBlocks

open Cert.FnetCtxIdeal Cert.FnetCtxIdeal.Gen Cert.FnetCtxIdeal.Value FnetSpec

variable (m : (ℓ : Loc nD τ sig) → Buf (Elt Ideal) ℓ) (c : Dev nD)

/-- The result array at an element of the context rows. -/
theorem result_at (r : Fin 9216) (n : Fin 1024) (b : Fin 4) (k : Fin 256) (p : Fin 8) (j : Fin 128)
    (hr : r.val = 8192 + b.val * 256 + k.val) (hn : n.val = p.val * 128 + j.val) : (dats m 0 c).arrAt 5 cfg0.N (ix2 r n)
      = Cert.FnetCtxRefIdeal.Rows.spectrum (m ((c : Thread nD τ).loc main_arg0)) b p k j := by
  have hN : cfg0.N = 16 := N_0
  have hb := b.isLt
  have hk := k.isLt
  have hp := p.isLt
  have hj := j.isLt
  let t : Fin cfg0.N := ⟨p.val / 2 * 4 + b.val, by rw [hN]; omega⟩
  let d : Fin 256 := ⟨p.val % 2 * 128 + j.val, by omega⟩
  have ht : t.val = p.val / 2 * 4 + b.val := rfl
  have hd : d.val = p.val % 2 * 128 + j.val := rfl
  have e := congrFun (blocks5 m c t (flushes t)) (ix2 k d)
  rw [flushed5_A, View.read_apply, place (((cfg0.win 5).blk t).view.emb (ix2 k d)) r n
    (by show win0_5.index t 0 * 256 + 1 * k.val = r.val; rw [(index5 t).1]; omega)
    (by show win0_5.index t 1 * 256 + 1 * d.val = n.val; rw [(index5 t).2]; omega)] at e
  refine e.trans ?_
  show out0_A_5 (F := Ideal) _ _ _ _ _ _ _ _ _ _ _ _ _ _ (iblk m c 0 t) (iblk m c 1 t) (iblk m c 2 t) (iblk m c 3 t) (iblk m c 4 t) (ix2 k d) = _
  rw [stored, pay_apply _ _ _ _ _ k d j (fun w => ⟨p.val % 2 * 128 + w.val, by omega⟩) (p.val % 2) (by omega) hd (fun _ => rfl)]
  have h0 : ∀ (s : Fin 256) (w : Fin 128), (iblk m c 0 t : Vec Ideal S256x256 .bf16) (ix2 s ⟨p.val % 2 * 128 + w.val, by omega⟩)
      = Cert.FnetCtxRefIdeal.Rows.group (m ((c : Thread nD τ).loc main_arg0)) b p s w := fun s w =>
    blk0 m c t s ⟨p.val % 2 * 128 + w.val, by omega⟩ ⟨8192 + b.val * 256 + s.val, by omega⟩ ⟨9216 + p.val * 128 + w.val, by omega⟩
      (by show 8192 + b.val * 256 + s.val = _; omega) (by show 9216 + p.val * 128 + w.val = (36 + t.val / 4) * 256 + (p.val % 2 * 128 + w.val); omega)
  simp only [h0, blk1, blk2, blk3, blk4]
  exact Cert.FnetCtxRefIdeal.Rows.spectrum_scaled _ b p k j

/-- The rows before the context's keep what the array held: the earlier results handed to the call. -/
theorem kept_at (r : Fin 9216) (n : Fin 1024) (hr : r.val < 8192) : (dats m 0 c).arrAt 5 cfg0.N (ix2 r n) = m ((c : Thread nD τ).loc main_arg1) (ix2 r n) := by
  refine (entry5 m c (ix2 r n) fun t _ h => ?_).trans ?_
  · obtain ⟨y, hy⟩ := View.exists_emb_of_mem_set _ h
    have h0 : win0_5.index t 0 * 256 + 1 * (y 0).val = r.val := congrArg (fun z : S9216x1024.Idx => (z 0).val) hy
    rw [(index5 t).1] at h0
    omega
  · show V m c main_v26 _ = _
    rw [arr5]

end Cert.FnetCtxIdeal.FnetBlocks

namespace Cert.FnetCtxRefIdeal.Rows

open Cert.FnetCtxRefIdeal Cert.FnetCtxRefIdeal.Read FnetSpec

/-- The reference's results before the context rows are the earlier ones. -/
theorem kept_apply (x0 : Vec Ideal S9216x13312 .bf16) (x1 : Vec Ideal S9216x1024 .bf16) (r : Fin 9216) (n : Fin 1024) (hr : r.val < 8192) :
    val_main_v39 (F := Ideal) x0 x1 (ix2 r n) = x1 (ix2 r n) := by
  unfold val_main_v39
  generalize val_main_v37 (F := Ideal) x0 = z
  pointwise [val_main_v38]
  rw [dif_pos hr]

/-- The reference's results at the context rows are the turned ones. -/
theorem turned_apply (x0 : Vec Ideal S9216x13312 .bf16) (x1 : Vec Ideal S9216x1024 .bf16) (r : Fin 9216) (n : Fin 1024) (hr : ¬ r.val < 8192) :
    val_main_v39 (F := Ideal) x0 x1 (ix2 r n) = val_main_v37 (F := Ideal) x0 (ix2 ⟨r.val - 8192, by omega⟩ n) := by
  unfold val_main_v39
  generalize val_main_v37 (F := Ideal) x0 = z
  pointwise [val_main_v38]
  rw [dif_neg hr]

end Cert.FnetCtxRefIdeal.Rows

namespace Cert.FnetCtxTie

open Cert.FnetCtxIdeal.FnetBlocks

variable (m : (ℓ : Loc Cert.FnetCtxIdeal.nD Cert.FnetCtxIdeal.τ Cert.FnetCtxIdeal.sig) → Buf (Elt Ideal) ℓ) (c : Dev Cert.FnetCtxIdeal.nD)

/-- The reference's results at the call's arguments are the call's. -/
theorem tie : Cert.FnetCtxRefIdeal.Read.val_main_v39 (F := Ideal) (m ((c : Thread Cert.FnetCtxIdeal.nD Cert.FnetCtxIdeal.τ).loc Cert.FnetCtxIdeal.main_arg0)) (m ((c : Thread Cert.FnetCtxIdeal.nD Cert.FnetCtxIdeal.τ).loc Cert.FnetCtxIdeal.main_arg1)) = (Cert.FnetCtxIdeal.Gen.dats m 0 c).arrAt 5 Cert.FnetCtxIdeal.cfg0.N := by
  funext y
  obtain ⟨r, n, rfl⟩ := Points.exists_row_col y
  have hr := r.isLt
  have hn := n.isLt
  by_cases h : r.val < 8192
  · exact (Cert.FnetCtxRefIdeal.Rows.kept_apply _ _ r n h).trans (kept_at m c r n h).symm
  · refine (Cert.FnetCtxRefIdeal.Rows.turned_apply _ _ r n h).trans ?_
    exact (Cert.FnetCtxRefIdeal.Rows.v37_at _ ⟨r.val - 8192, by omega⟩ n ⟨(r.val - 8192) / 256, by omega⟩ ⟨(r.val - 8192) % 256, by omega⟩ ⟨n.val / 128, by omega⟩ ⟨n.val % 128, by omega⟩
      (by show r.val - 8192 = (r.val - 8192) / 256 * 256 + (r.val - 8192) % 256; omega) (by show n.val = n.val / 128 * 128 + n.val % 128; omega)).trans
      (result_at m c r n _ _ _ _ (by show r.val = 8192 + (r.val - 8192) / 256 * 256 + (r.val - 8192) % 256; omega) (by show n.val = n.val / 128 * 128 + n.val % 128; omega)).symm

end Cert.FnetCtxTie
end
-- ==== Proof.HyenaSpec.lean ====
/-
  The plain mathematics of a long convolution by cosine and sine sums: the last frequency stored in the place of the
  first sine, against all frequencies in a row.
-/
module

public import proofs.«01_k».proof.Proof.FnetAlgebra

@[expose] public section

noncomputable section

open Idealize.ShloMosaic Idealize.ShloMosaic.TcCoe Idealize.SL.Sem

namespace HyenaSpec

/-- The sums with the last frequency in the first sine's place. -/
def packed (FC FS IC IS : Fin 256 → Fin 256 → EReal) (a kc ks : Fin 256 → EReal) (t : Fin 256) : EReal :=
  (∑ f : Fin 256, IC t f * (if f.val = 0 then (∑ s, FC f s * a s) * kc f else (∑ s, FC f s * a s) * kc f - (∑ s, FS f s * a s) * ks f))
    + ∑ f : Fin 256, IS t f * (if f.val = 0 then (∑ s, FS f s * a s) * ks f else (∑ s, FC f s * a s) * ks f + (∑ s, FS f s * a s) * kc f)

/-- The sums over all frequencies. -/
def plain (C S : Fin 257 → Fin 256 → EReal) (share kc ks : Fin 257 → EReal) (a : Fin 256 → EReal) (t : Fin 256) : EReal :=
  (∑ f : Fin 257, C f t * (share f * ((∑ s, C f s * a s) * kc f - (∑ s, S f s * a s) * ks f)))
    + ∑ f : Fin 257, S f t * (share f * ((∑ s, C f s * a s) * ks f + (∑ s, S f s * a s) * kc f))

/-- A sum of zero multiples is zero. -/
theorem zero_sum (g a : Fin 256 → EReal) (h : ∀ s, g s = 0) : ∑ s, g s * a s = 0 :=
  Finset.sum_eq_zero fun s _ => by rw [h, zero_mul]

/-- Both ways of the sums agree. -/
theorem packed_eq_plain (FC FS IC IS : Fin 256 → Fin 256 → EReal) (C S : Fin 257 → Fin 256 → EReal) (share kc ks : Fin 257 → EReal)
    (a lc ls : Fin 256 → EReal) (t : Fin 256)
    (hC : ∀ f s, FC f s = C f.castSucc s) (hS : ∀ f s, f.val ≠ 0 → FS f s = S f.castSucc s) (hL : ∀ s, FS 0 s = C (Fin.last 256) s)
    (hS0 : ∀ s, S (Fin.castSucc 0) s = 0) (hSL : ∀ s, S (Fin.last 256) s = 0)
    (hIC : ∀ f, IC t f = share f.castSucc * C f.castSucc t) (hIS : ∀ f, f.val ≠ 0 → IS t f = share f.castSucc * S f.castSucc t)
    (hI0 : IS t 0 = share (Fin.last 256) * C (Fin.last 256) t)
    (hkc : ∀ f, lc f = kc f.castSucc) (hks : ∀ f, f.val ≠ 0 → ls f = ks f.castSucc) (hkl : ls 0 = kc (Fin.last 256))
    (hk0 : ks (Fin.castSucc 0) = 0) (hkL : ks (Fin.last 256) = 0) :
    packed FC FS IC IS a lc ls t = plain C S share kc ks a t := by
  have z0 := zero_sum (S (Fin.castSucc 0)) a hS0
  have zL := zero_sum (S (Fin.last 256)) a hSL
  unfold packed plain
  rw [Fin.sum_univ_castSucc (n := 256), Fin.sum_univ_castSucc (n := 256) (f := fun f => S f t * _)]
  have e1 : (∑ f : Fin 256, IC t f * (if f.val = 0 then (∑ s, FC f s * a s) * lc f else (∑ s, FC f s * a s) * lc f - (∑ s, FS f s * a s) * ls f))
      = ∑ f : Fin 256, C f.castSucc t * (share f.castSucc * ((∑ s, C f.castSucc s * a s) * kc f.castSucc - (∑ s, S f.castSucc s * a s) * ks f.castSucc)) := by
    refine Finset.sum_congr rfl fun f _ => ?_
    rw [hIC, mul_comm (share _), mul_assoc]
    refine congrArg (fun z => C f.castSucc t * (share f.castSucc * z)) ?_
    simp only [hC, hkc]
    by_cases h : f.val = 0
    · obtain rfl : f = 0 := Fin.ext h
      rw [if_pos h, z0, zero_mul, sub_zero]
    · rw [if_neg h, hks f h]
      simp only [hS f _ h]
  have e2 : (∑ f : Fin 256, IS t f * (if f.val = 0 then (∑ s, FS f s * a s) * ls f else (∑ s, FC f s * a s) * ls f + (∑ s, FS f s * a s) * lc f))
      = C (Fin.last 256) t * (share (Fin.last 256) * ((∑ s, C (Fin.last 256) s * a s) * kc (Fin.last 256)))
        + ∑ f : Fin 256, S f.castSucc t * (share f.castSucc * ((∑ s, C f.castSucc s * a s) * ks f.castSucc + (∑ s, S f.castSucc s * a s) * kc f.castSucc)) := by
    rw [Fin.sum_univ_succ, Fin.sum_univ_succ (n := 255) (f := fun f => S f.castSucc t * _)]
    have first : IS t 0 * (if (0 : Fin 256).val = 0 then (∑ s, FS 0 s * a s) * ls 0 else (∑ s, FC 0 s * a s) * ls 0 + (∑ s, FS 0 s * a s) * lc 0)
        = C (Fin.last 256) t * (share (Fin.last 256) * ((∑ s, C (Fin.last 256) s * a s) * kc (Fin.last 256))) := by
      have hz : (0 : Fin 256).val = 0 := rfl
      rw [if_pos hz, hI0, hkl, mul_comm (share _), mul_assoc]
      simp only [hL]
    rw [first, hS0, zero_mul, zero_add]
    refine congrArg _ (Finset.sum_congr rfl fun f _ => ?_)
    have h : (Fin.succ f).val ≠ 0 := Nat.succ_ne_zero _
    rw [if_neg h, hIS _ h, hks _ h, hkc, mul_comm (share _), mul_assoc]
    simp only [hC, hS _ _ h]
  rw [e1, e2, zL, hSL, hkL, zero_mul, mul_zero, sub_zero, zero_mul, add_zero, ← add_assoc]

/-- A choice by the equality of two numbers. -/
theorem sel {α : Type} (i k : Nat) (hi : i < 2 ^ 32) (hk : k < 2 ^ 32) (a b : α) :
    Scalar.select (IntOp.cmpi CmpIPredicate.eq (BitVec.ofNat 32 i) (BitVec.ofNat 32 k)) a b = if i = k then a else b := by
  by_cases h : i = k
  · subst h
    simp [Scalar.select, IntOp.cmpi]
  · have hb : ¬ BitVec.ofNat 32 i = BitVec.ofNat 32 k := fun e => h (by
      have e' := congrArg BitVec.toNat e
      rw [BitVec.toNat_ofNat, BitVec.toNat_ofNat, Nat.mod_eq_of_lt hi, Nat.mod_eq_of_lt hk] at e'
      exact e')
    have hb' : (BitVec.ofNat 32 i == BitVec.ofNat 32 k) = false := beq_eq_false_iff_ne.2 hb
    simp [Scalar.select, IntOp.cmpi, h, hb']

/-- A centred convolution of width three along the rows, with zeros outside. -/
def conv (Z : Fin 256 → EReal) (w0 w1 w2 b : EReal) (t : Fin 256) : EReal :=
  (if h : t.val = 0 then 0 else Z ⟨t.val - 1, by omega⟩) * w0 + Z t * w1 + (if h : t.val = 255 then 0 else Z ⟨t.val + 1, by omega⟩) * w2 + b

/-- A place of a block of tables from its three coordinates. -/
theorem place3 {a b d : Nat} (y : (⟨3, ![a, b, d]⟩ : Shape).Idx) (l : Fin a) (r : Fin b) (n : Fin d) (h0 : (y 0).val = l.val) (h1 : (y 1).val = r.val)
    (h2 : (y 2).val = n.val) : y = ix3 l r n := by
  funext q
  apply Fin.ext
  match q with
  | ⟨0, _⟩ => exact h0
  | ⟨1, _⟩ => exact h1
  | ⟨2, _⟩ => exact h2

/-- A place of an array of four axes from its four coordinates. -/
theorem place4 {a b d e : Nat} (y : (⟨4, ![a, b, d, e]⟩ : Shape).Idx) (l : Fin a) (r : Fin b) (n : Fin d) (k : Fin e) (h0 : (y 0).val = l.val)
    (h1 : (y 1).val = r.val) (h2 : (y 2).val = n.val) (h3 : (y 3).val = k.val) : y = ix4 l r n k := by
  funext q
  apply Fin.ext
  match q with
  | ⟨0, _⟩ => exact h0
  | ⟨1, _⟩ => exact h1
  | ⟨2, _⟩ => exact h2
  | ⟨3, _⟩ => exact h3

end HyenaSpec
end
-- ==== Proof.HyenaFirstBlocks.lean ====
/-
  What a point of the first long convolution's call over the context rows stores, as the mathematics of its blocks.
-/
module

public import proofs.«01_k».proof.Proof.HyenaSpec
public import proofs.«01_k».proof.Proof.Gen.HyenaFirstIdeal.Value
public import proofs.«01_k».proof.Proof.Points
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaFirstIdeal.HyenaBlocks

open Cert.HyenaFirstIdeal Cert.HyenaFirstIdeal.Gen Cert.HyenaFirstIdeal.Value FnetSpec HyenaSpec

section stored
variable {F : FTy → Type} [FloatOps F]

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl

/-- What a point stores, as a function of its blocks. -/
theorem stored (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S3x256 .f32) (harg4 : arg4.IsWhole) (arg5 : Memref sig .tc .vmem S1x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x2x256x256 .f32) (harg8 : arg8.IsWhole) (arg9 : Memref sig .tc .vmem S1x1x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg15 : Memref sig .tc .vmem S256x256 .bf16) (harg15 : arg15.IsWhole) (arg16 : Memref sig .tc .vmem S256x256 .f32) (harg16 : arg16.IsWhole)
    (x0 : Vec F S256x256 .bf16) (x1 : Vec F S256x256 .bf16) (x2 : Vec F S3x256 .f32) (x3 : Vec F S1x256 .f32) (x4 : Vec F S3x256 .f32) (x5 : Vec F S1x256 .f32) (x6 : Vec F S1x2x256x256 .f32) (x7 : Vec F S1x1x256 .f32) (x8 : Vec F S256x256 .bf16) (x9 : Vec F S256x256 .bf16) (x10 : Vec F S256x256 .bf16) (x11 : Vec F S256x256 .bf16) :
    out0_A_12 c i arg2 harg2 arg3 harg3 arg4 harg4 arg5 harg5 arg6 harg6 arg7 harg7 arg8 harg8 arg9 harg9 arg10 harg10 arg11 harg11 arg12 harg12 arg13 harg13 arg15 harg15 arg16 harg16 x0 x1 x2 x3 x4 x5 x6 x7 x8 x9 x10 x11 = k0_pay1 (k0_pay2 x0 (View.ld x2 (Rect.unit ![0, 0] ![1, 256] inb_S3x256_S1x256_0_0)) (View.ld x2 (Rect.unit ![1, 0] ![1, 256] inb_S3x256_S1x256_1_0)) (View.ld x2 (Rect.unit ![2, 0] ![1, 256] inb_S3x256_S1x256_2_0)) x3) (k0_pay7 x1) (iota .tc S256x256 32 [0] iota_S256x256_d0_w32) k0_pay8 (k0_pay9 x1) k0_pay10
      (View.ld x4 (Rect.unit ![0, 0] ![1, 256] inb_S3x256_S1x256_0_0)) (View.ld x4 (Rect.unit ![1, 0] ![1, 256] inb_S3x256_S1x256_1_0)) (View.ld x4 (Rect.unit ![2, 0] ![1, 256] inb_S3x256_S1x256_2_0)) x5
      (k0_pay6 (k0_pay4 x0 (View.ld x2 (Rect.unit ![0, 0] ![1, 256] inb_S3x256_S1x256_0_0)) (View.ld x2 (Rect.unit ![1, 0] ![1, 256] inb_S3x256_S1x256_1_0)) (View.ld x2 (Rect.unit ![2, 0] ![1, 256] inb_S3x256_S1x256_2_0)) x3 x8)
        (k0_pay5 x0 (View.ld x2 (Rect.unit ![0, 0] ![1, 256] inb_S3x256_S1x256_0_0)) (View.ld x2 (Rect.unit ![1, 0] ![1, 256] inb_S3x256_S1x256_1_0)) (View.ld x2 (Rect.unit ![2, 0] ![1, 256] inb_S3x256_S1x256_2_0)) x3 x9)
        (View.ld x6 (Rect.unit ![0, 0, 0, 0] ![1, 1, 256, 256] inb_S1x2x256x256_S1x1x256x256_0_0_0_0))
        (View.ld x6 (Rect.unit ![0, 1, 0, 0] ![1, 1, 256, 256] inb_S1x2x256x256_S1x1x256x256_0_1_0_0)) x10 x11) x7 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg15 harg15 arg16 harg16 x0 x1 x2 x3 x4 x5 x6 x7 x8 x9 x10 x11)]
  unfold kernelRun0_A
  dsimp only
  sl_unfold_words
  rw [View.canon_unit_zero hz2]
  simp only [View.readCov_unit_zero (S := S256x256) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x256) hz2, View.ld_unit_zero (S := S1x256) hz2, View.ld_unit_zero (S := S1x1x256) hz3, shapeCast_self]

end stored

/-- The rows' convolution of width three, at a row and lane. -/
theorem conv_apply (x : Vec Ideal S256x256 .bf16) (w0 w1 w2 b : Vec Ideal S1x256 .f32) (r n : Fin 256) :
    k0_pay2 (F := Ideal) x w0 w1 w2 b (ix2 r n) = conv (fun s => x (ix2 s n)) (w0 (ix2 0 n)) (w1 (ix2 0 n)) (w2 (ix2 0 n)) (b (ix2 0 n)) r := by
  pointwise [k0_pay2]
  have hr := r.isLt
  rw [sel r.val 0 (by omega) (by omega), sel r.val 255 (by omega) (by omega)]
  unfold conv
  refine congrArg₂ (· + ·) (congrArg₂ (· + ·) (congrArg₂ (· + ·) ?_ rfl) ?_) rfl
  · by_cases h : r.val = 0
    · rw [if_pos h, dif_pos h, zero_mul]
    · rw [if_neg h, dif_neg h]
      exact congrArg (fun z => x (ix2 z n) * _) (Fin.ext (by show (r.val + 256 - 1) % 256 = r.val - 1; omega))
  · by_cases h : r.val = 255
    · rw [if_pos h, dif_pos h, zero_mul]
    · rw [if_neg h, dif_neg h]
      exact congrArg (fun z => x (ix2 z n) * _) (Fin.ext (by show (r.val + 256 - 255) % 256 = r.val + 1; omega))

/-- The long convolution's sums, at a row and lane. -/
theorem sum_apply (x0 x8 x9 x10 x11 : Vec Ideal S256x256 .bf16) (w0 w1 w2 b : Vec Ideal S1x256 .f32) (kc ks : Vec Ideal S1x1x256x256 .f32) (r n : Fin 256) :
    k0_pay6 (F := Ideal) (k0_pay4 x0 w0 w1 w2 b x8) (k0_pay5 x0 w0 w1 w2 b x9) kc ks x10 x11 (ix2 r n)
      = packed (fun f s => x8 (ix2 f s)) (fun f s => x9 (ix2 f s)) (fun f s => x10 (ix2 f s)) (fun f s => x11 (ix2 f s))
          (fun s => k0_pay2 (F := Ideal) x0 w0 w1 w2 b (ix2 s n)) (fun f => kc (ix4 0 0 f n)) (fun f => ks (ix4 0 0 f n)) r := by
  unfold k0_pay4 k0_pay5 k0_pay3
  generalize k0_pay2 (F := Ideal) x0 w0 w1 w2 b = a
  pointwise [k0_pay6]
  unfold packed
  refine congrArg₂ (· + ·) (Finset.sum_congr rfl fun f _ => congrArg _ ?_) (Finset.sum_congr rfl fun f _ => congrArg _ ?_)
  · exact sel f.val 0 (by omega) (by omega) _ _
  · exact sel f.val 0 (by omega) (by omega) _ _

/-- A point's last steps: the gate's convolution times the long convolution and the rows' own part. -/
theorem last_apply (a z : FVec Ideal S256x256 .f32) (x : Vec Ideal S256x256 .bf16) (w0 w1 w2 b : Vec Ideal S1x256 .f32) (x7 : Vec Ideal S1x1x256 .f32) (r n : Fin 256) :
    k0_pay1 (F := Ideal) a (k0_pay7 x) (iota .tc S256x256 32 [0] iota_S256x256_d0_w32) k0_pay8 (k0_pay9 x) k0_pay10 w0 w1 w2 b z x7 (ix2 r n)
      = conv (fun s => x (ix2 s n)) (w0 (ix2 0 n)) (w1 (ix2 0 n)) (w2 (ix2 0 n)) (b (ix2 0 n)) r * (z (ix2 r n) + a (ix2 r n) * x7 (ix3 0 0 n)) := by
  pointwise [k0_pay1, k0_pay7, k0_pay8, k0_pay9, k0_pay10]
  refine congrArg₂ (· * ·) ?_ rfl
  have hr := r.isLt
  rw [sel r.val 0 (by omega) (by omega), sel r.val 255 (by omega) (by omega)]
  unfold conv
  refine congrArg₂ (· + ·) (congrArg₂ (· + ·) (congrArg₂ (· + ·) ?_ rfl) ?_) rfl
  · by_cases h : r.val = 0
    · rw [if_pos h, dif_pos h, zero_mul]
    · rw [if_neg h, dif_neg h]
      exact congrArg (fun z => x (ix2 z n) * _) (Fin.ext (by show (r.val + 256 - 1) % 256 = r.val - 1; omega))
  · by_cases h : r.val = 255
    · rw [if_pos h, dif_pos h, zero_mul]
    · rw [if_neg h, dif_neg h]
      exact congrArg (fun z => x (ix2 z n) * _) (Fin.ext (by show (r.val + 256 - 255) % 256 = r.val + 1; omega))

/-- What a point stores, at a row and lane. -/
theorem pay_apply (x0 x1 x8 x9 x10 x11 : Vec Ideal S256x256 .bf16) (v0 v1 v2 d w0 w1 w2 b : Vec Ideal S1x256 .f32) (x7 : Vec Ideal S1x1x256 .f32) (kc ks : Vec Ideal S1x1x256x256 .f32) (r n : Fin 256) :
    k0_pay1 (F := Ideal) (k0_pay2 x0 v0 v1 v2 d) (k0_pay7 x1) (iota .tc S256x256 32 [0] iota_S256x256_d0_w32) k0_pay8 (k0_pay9 x1) k0_pay10
      w0 w1 w2 b
      (k0_pay6 (k0_pay4 x0 v0 v1 v2 d x8)
        (k0_pay5 x0 v0 v1 v2 d x9)
        kc
        ks x10 x11) x7 (ix2 r n)
      = conv (fun s => x1 (ix2 s n)) (w0 (ix2 0 n)) (w1 (ix2 0 n)) (w2 (ix2 0 n)) (b (ix2 0 n)) r
        * (packed (fun f s => x8 (ix2 f s)) (fun f s => x9 (ix2 f s)) (fun f s => x10 (ix2 f s)) (fun f s => x11 (ix2 f s))
          (fun s => conv (fun s => x0 (ix2 s n)) (v0 (ix2 0 n)) (v1 (ix2 0 n)) (v2 (ix2 0 n)) (d (ix2 0 n)) s) (fun f => kc (ix4 0 0 f n)) (fun f => ks (ix4 0 0 f n)) r
          + conv (fun s => x0 (ix2 s n)) (v0 (ix2 0 n)) (v1 (ix2 0 n)) (v2 (ix2 0 n)) (d (ix2 0 n)) r * x7 (ix3 0 0 n)) := by
  rw [last_apply, sum_apply]
  simp only [conv_apply]

end Cert.HyenaFirstIdeal.HyenaBlocks
end
-- ==== Proof.HyenaSecondTables.lean ====
/-
  The tables of cosines and sines the second long convolution's call gets, against its reference's.
-/
module

public import proofs.«01_k».proof.Proof.Points
public import proofs.«01_k».proof.Proof.Top2
public import proofs.«01_k».proof.Proof.HyenaSpec
public import proofs.«01_k».proof.Proof.Gen.HyenaSecondIdeal.Value
public import proofs.«01_k».proof.Proof.Gen.HyenaSecondRefIdeal.Run
public import proofs.«01_k».proof.Proof.Gen.HyenaSecondRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaSecondRefIdeal.Rows

open Cert.HyenaSecondRefIdeal Cert.HyenaSecondRefIdeal.Read FnetSpec HyenaSpec

/-- The angle of frequency `f` at step `s`. -/
def angle (f : Fin 257) (s : Fin 256) : EReal := val_main_v53 (F := Ideal) (ix2 f s)

/-- The last frequency's cosine at step `s`: one at even steps, minus one at odd steps. -/
def sign (s : Fin 256) : EReal := val_main_v59 (F := Ideal) (ix2 0 s)

/-- The cosine table. -/
def cosT (f : Fin 257) (s : Fin 256) : EReal := if f.val = 256 then sign s else Ideal.cos (angle f s)

/-- The sine table. -/
def sinT (f : Fin 257) (s : Fin 256) : EReal := if f.val = 256 then 0 else Ideal.sin (angle f s)

/-- The share of a frequency. -/
def share (f : Fin 257) : EReal := if f.val = 0 ∨ f.val = 256 then Ideal.ofBits FTy.f32 0x3B000000#32 else Ideal.ofBits FTy.f32 0x3B800000#32

/-- The reference's cosines. -/
theorem cos_table (f : Fin 257) (s : Fin 256) : val_main_v61 (F := Ideal) (ix2 f s) = cosT f s :=
  sel f.val 256 (by omega) (by omega) _ _

/-- The reference's sines. -/
theorem sin_table (f : Fin 257) (s : Fin 256) : val_main_v65 (F := Ideal) (ix2 f s) = sinT f s := by
  refine (sel f.val 256 (by omega) (by omega) _ _).trans ?_
  unfold sinT
  refine congrArg (fun z => if f.val = 256 then z else _) ?_
  show Ideal.ofBits FTy.f32 0#32 = 0
  simp [Ideal.ofBits, Ideal.ieee]

/-- The reference's shares. -/
theorem share_table (f : Fin 257) : val_main_v71 (F := Ideal) (ix2 f 0) = share f := by
  have e : ∀ f : Fin 257, IntOp.ori (IntOp.cmpi CmpIPredicate.eq (BitVec.ofNat 32 f.val) 0#32) (IntOp.cmpi CmpIPredicate.eq (BitVec.ofNat 32 f.val) 256#32) = if f.val = 0 ∨ f.val = 256 then 1#1 else 0#1 := by decide +kernel
  show Scalar.select (IntOp.ori (IntOp.cmpi CmpIPredicate.eq (BitVec.ofNat 32 f.val) 0#32) (IntOp.cmpi CmpIPredicate.eq (BitVec.ofNat 32 f.val) 256#32)) (Ideal.ofBits FTy.f32 0x3B000000#32) (Ideal.ofBits FTy.f32 0x3B800000#32) = _
  rw [e]
  unfold share
  by_cases h : f.val = 0 ∨ f.val = 256
  · rw [if_pos h, if_pos h]
    rfl
  · rw [if_neg h, if_neg h]
    rfl

/-- Reduced products that start equal end equal. -/
theorem reduced (i j : S257x256.Idx) (h : val_main_v49 (F := Ideal) i = val_main_v49 (F := Ideal) j) : val_main_v50 (F := Ideal) i = val_main_v50 (F := Ideal) j := by
  simp only [val_main_v50_apply, val_main_call1_c_0_apply, val_main_call1_c_1_apply, val_main_call1_c_2_apply, val_main_call1_c_3_apply, val_main_call1_c_apply, val_main_call1_v0_apply, val_main_call1_v10_apply, val_main_call1_v11_apply, val_main_call1_v12_apply, val_main_call1_v13_apply, val_main_call1_v14_apply, val_main_call1_v1_apply, val_main_call1_v2_apply, val_main_call1_v3_apply, val_main_call1_v4_apply, val_main_call1_v5_apply, val_main_call1_v6_apply, val_main_call1_v7_apply, val_main_call1_v8_apply, val_main_call1_v9_apply, val_main_c_0_apply, h]

/-- The angles are symmetric. -/
theorem angle_symm (f s : Fin 256) : angle f.castSucc s = angle s.castSucc f := by
  have h : val_main_v49 (F := Ideal) (ix2 f.castSucc s) = val_main_v49 (F := Ideal) (ix2 s.castSucc f) :=
    BitVec.mul_comm (BitVec.ofNat 32 f.val) (BitVec.ofNat 32 s.val)
  unfold angle
  rw [val_main_v53_apply, val_main_v53_apply, val_main_v51_apply, val_main_v51_apply, reduced _ _ h]
  rfl

/-- The first frequency's products reduce to zero. -/
theorem reduced_zero : ∀ s : Fin 256, val_main_v50 (F := Ideal) (ix2 0 s) = 0#32 := by
  intro s
  have h : val_main_v49 (F := Ideal) (ix2 0 s) = val_main_v49 (F := Ideal) (ix2 0 0) :=
    (BitVec.zero_mul (x := BitVec.ofNat 32 s.val)).trans (BitVec.zero_mul (x := BitVec.ofNat 32 0)).symm
  rw [reduced _ _ h]
  decide +kernel

/-- The first frequency's angles are zero. -/
theorem angle_zero (s : Fin 256) : angle 0 s = 0 := by
  unfold angle
  rw [val_main_v53_apply, val_main_v51_apply, reduced_zero]
  show (((0#32 : BitVec 32).toInt : ℝ) : EReal) * _ = 0
  simp

/-- The signs are one or minus one. -/
theorem sign_cases (s : Fin 256) : sign s = 1 ∨ sign s = -1 := by
  unfold sign
  rw [val_main_v59_apply]
  have one : Ideal.ofBits FTy.f32 0x3F800000#32 = 1 := by
    simp [Ideal.ofBits, Ideal.ieee]
    rw [← EReal.coe_mul, ← EReal.coe_one, EReal.coe_eq_coe_iff]
    norm_num
  have minus : Ideal.ofBits FTy.f32 0xBF800000#32 = -1 := by
    simp [Ideal.ofBits, Ideal.ieee]
    rw [← EReal.coe_mul, ← EReal.coe_one, EReal.coe_eq_coe_iff]
    norm_num
  show Scalar.select _ (Ideal.ofBits FTy.f32 0x3F800000#32) (Ideal.ofBits FTy.f32 0xBF800000#32) = 1 ∨ Scalar.select _ (Ideal.ofBits FTy.f32 0x3F800000#32) (Ideal.ofBits FTy.f32 0xBF800000#32) = -1
  rw [one, minus]
  unfold Scalar.select
  split
  · exact Or.inl rfl
  · exact Or.inr rfl

/-- A sign over 512 is its 512th. -/
theorem sign_div (s : Fin 256) : Ideal.div (sign s) (Ideal.ofBits FTy.f32 0x44000000#32) = Ideal.ofBits FTy.f32 0x3B000000#32 * sign s := by
  have h512 : Ideal.ofBits FTy.f32 0x44000000#32 = ((512 : ℝ) : EReal) := by
    simp [Ideal.ofBits, Ideal.ieee]
    rw [← EReal.coe_mul]
    norm_num
  rw [bits_scale, h512]
  rcases sign_cases s with h | h
  · rw [h, mul_one, ← EReal.coe_one, Top2.div_coe _ _ (by norm_num)]
  · rw [h, ← EReal.coe_one, ← EReal.coe_neg, Top2.div_coe _ _ (by norm_num), ← EReal.coe_mul]
    norm_num

end Cert.HyenaSecondRefIdeal.Rows

namespace Cert.HyenaSecondIdeal.HyenaBlocks

open Cert.HyenaSecondIdeal Cert.HyenaSecondIdeal.Gen Cert.HyenaSecondIdeal.Value FnetSpec HyenaSpec
open Cert.HyenaSecondRefIdeal.Rows (angle sign cosT sinT share)

variable (m : (ℓ : Loc nD τ sig) → Buf (Elt Ideal) ℓ) (c : Dev nD)

/-- The cosines, as the call gets them. -/
theorem fc_at (f s : Fin 256) : V m c main_v34 (ix2 f s) = Ideal.cos (angle f.castSucc s) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The sines, as the call gets them: the last frequency's signs in the first row. -/
theorem fs_at (f s : Fin 256) : V m c main_v35 (ix2 f s) = if f.val = 0 then sign s else Ideal.sin (angle f.castSucc s) := by
  refine Eq.trans ?_ (sel f.val 0 (by omega) (by omega) _ _)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The scaled cosines, as the call gets them. -/
theorem ic_at (t f : Fin 256) : V m c main_v36 (ix2 t f) = if f.val = 0 then Ideal.ofBits FTy.f32 0x3B000000#32 else Ideal.ofBits FTy.f32 0x3B800000#32 * Ideal.cos (angle t.castSucc f) := by
  refine Eq.trans ?_ (sel f.val 0 (by omega) (by omega) _ _)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The scaled sines, as the call gets them: the last frequency's signs in the first column. -/
theorem is_at (t f : Fin 256) : V m c main_v37 (ix2 t f) = if f.val = 0 then Ideal.div (sign t) (Ideal.ofBits FTy.f32 0x44000000#32) else Ideal.ofBits FTy.f32 0x3B800000#32 * Ideal.sin (angle t.castSucc f) := by
  refine Eq.trans ?_ (sel f.val 0 (by omega) (by omega) _ _)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The call's sums with its tables are the reference's sums over all frequencies. -/
theorem sums (a lc ls : Fin 256 → EReal) (kc ks : Fin 257 → EReal) (t : Fin 256)
    (hkc : ∀ f, lc f = kc f.castSucc) (hks : ∀ f, f.val ≠ 0 → ls f = ks f.castSucc) (hkl : ls 0 = kc (Fin.last 256))
    (hk0 : ks (Fin.castSucc 0) = 0) (hkL : ks (Fin.last 256) = 0) :
    packed (fun f s => V m c main_v34 (ix2 f s)) (fun f s => V m c main_v35 (ix2 f s)) (fun f s => V m c main_v36 (ix2 f s)) (fun f s => V m c main_v37 (ix2 f s)) a lc ls t
      = plain cosT sinT share kc ks a t := by
  have hlt : ∀ f : Fin 256, f.castSucc.val ≠ 256 := fun f => by show f.val ≠ 256; omega
  have hl : (Fin.last 256).val = 256 := rfl
  have hz : (Fin.castSucc (0 : Fin 256)).val = 0 := rfl
  have hz' : (0 : Fin 256).val = 0 := rfl
  have cos0 : Ideal.cos 0 = 1 := by show ((Real.cos 0 : ℝ) : EReal) = 1; simp
  have sin0 : Ideal.sin 0 = 0 := by show ((Real.sin 0 : ℝ) : EReal) = 0; simp
  refine packed_eq_plain _ _ _ _ _ _ _ _ _ _ _ _ t ?_ ?_ ?_ ?_ ?_ ?_ ?_ ?_ hkc hks hkl hk0 hkL
  · intro f s
    rw [fc_at]
    unfold cosT
    rw [if_neg (hlt f)]
  · intro f s h
    rw [fs_at, if_neg h]
    unfold sinT
    rw [if_neg (hlt f)]
  · intro s
    rw [fs_at, if_pos hz']
    unfold cosT
    rw [if_pos hl]
  · intro s
    unfold sinT
    rw [if_neg (hlt 0)]
    exact (congrArg Ideal.sin (Cert.HyenaSecondRefIdeal.Rows.angle_zero s)).trans sin0
  · intro s
    unfold sinT
    rw [if_pos hl]
  · intro f
    rw [ic_at]
    unfold cosT share
    rw [if_neg (hlt f)]
    by_cases h : f.val = 0
    · obtain rfl : f = 0 := Fin.ext h
      rw [if_pos h, if_pos (Or.inl hz)]
      refine (mul_one _).symm.trans (congrArg _ ?_)
      exact ((congrArg Ideal.cos (Cert.HyenaSecondRefIdeal.Rows.angle_zero t)).trans cos0).symm
    · rw [if_neg h, if_neg (fun e => e.elim h (hlt f)), Cert.HyenaSecondRefIdeal.Rows.angle_symm]
  · intro f h
    rw [is_at, if_neg h]
    unfold sinT share
    rw [if_neg (hlt f), if_neg (fun e => e.elim h (hlt f)), Cert.HyenaSecondRefIdeal.Rows.angle_symm]
  · rw [is_at, if_pos hz', Cert.HyenaSecondRefIdeal.Rows.sign_div]
    unfold cosT share
    rw [if_pos hl, if_pos (Or.inr hl)]

end Cert.HyenaSecondIdeal.HyenaBlocks
end
-- ==== Proof.HyenaFirstTables.lean ====
/-
  The tables of cosines and sines the first long convolution's call gets, against its reference's.
-/
module

public import proofs.«01_k».proof.Proof.Points
public import proofs.«01_k».proof.Proof.Top2
public import proofs.«01_k».proof.Proof.HyenaSecondTables
public import proofs.«01_k».proof.Proof.HyenaSpec
public import proofs.«01_k».proof.Proof.Gen.HyenaFirstIdeal.Value
public import proofs.«01_k».proof.Proof.Gen.HyenaFirstRefIdeal.Run
public import proofs.«01_k».proof.Proof.Gen.HyenaFirstRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaFirstRefIdeal.Rows

open Cert.HyenaFirstRefIdeal Cert.HyenaFirstRefIdeal.Read FnetSpec HyenaSpec
open Cert.HyenaSecondRefIdeal.Rows (angle sign cosT sinT share)

/-- The reference's cosines. -/
theorem cos_table (f : Fin 257) (s : Fin 256) : val_main_v87 (F := Ideal) (ix2 f s) = cosT f s :=
  sel f.val 256 (by omega) (by omega) _ _

/-- The reference's sines. -/
theorem sin_table (f : Fin 257) (s : Fin 256) : val_main_v91 (F := Ideal) (ix2 f s) = sinT f s := by
  refine (sel f.val 256 (by omega) (by omega) _ _).trans ?_
  unfold sinT
  refine congrArg (fun z => if f.val = 256 then z else _) ?_
  show Ideal.ofBits FTy.f32 0#32 = 0
  simp [Ideal.ofBits, Ideal.ieee]

/-- The reference's shares. -/
theorem share_table (f : Fin 257) : val_main_v97 (F := Ideal) (ix2 f 0) = share f := by
  have e : ∀ f : Fin 257, IntOp.ori (IntOp.cmpi CmpIPredicate.eq (BitVec.ofNat 32 f.val) 0#32) (IntOp.cmpi CmpIPredicate.eq (BitVec.ofNat 32 f.val) 256#32) = if f.val = 0 ∨ f.val = 256 then 1#1 else 0#1 := by decide +kernel
  show Scalar.select (IntOp.ori (IntOp.cmpi CmpIPredicate.eq (BitVec.ofNat 32 f.val) 0#32) (IntOp.cmpi CmpIPredicate.eq (BitVec.ofNat 32 f.val) 256#32)) (Ideal.ofBits FTy.f32 0x3B000000#32) (Ideal.ofBits FTy.f32 0x3B800000#32) = _
  rw [e]
  unfold share
  by_cases h : f.val = 0 ∨ f.val = 256
  · rw [if_pos h, if_pos h]
    rfl
  · rw [if_neg h, if_neg h]
    rfl

end Cert.HyenaFirstRefIdeal.Rows

namespace Cert.HyenaFirstIdeal.HyenaBlocks

open Cert.HyenaFirstIdeal Cert.HyenaFirstIdeal.Gen Cert.HyenaFirstIdeal.Value FnetSpec HyenaSpec
open Cert.HyenaSecondRefIdeal.Rows (angle sign cosT sinT share)

variable (m : (ℓ : Loc nD τ sig) → Buf (Elt Ideal) ℓ) (c : Dev nD)

/-- The cosines, as the call gets them. -/
theorem fc_at (f s : Fin 256) : V m c main_v34 (ix2 f s) = Ideal.cos (angle f.castSucc s) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The sines, as the call gets them: the last frequency's signs in the first row. -/
theorem fs_at (f s : Fin 256) : V m c main_v35 (ix2 f s) = if f.val = 0 then sign s else Ideal.sin (angle f.castSucc s) := by
  refine Eq.trans ?_ (sel f.val 0 (by omega) (by omega) _ _)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The scaled cosines, as the call gets them. -/
theorem ic_at (t f : Fin 256) : V m c main_v36 (ix2 t f) = if f.val = 0 then Ideal.ofBits FTy.f32 0x3B000000#32 else Ideal.ofBits FTy.f32 0x3B800000#32 * Ideal.cos (angle t.castSucc f) := by
  refine Eq.trans ?_ (sel f.val 0 (by omega) (by omega) _ _)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The scaled sines, as the call gets them: the last frequency's signs in the first column. -/
theorem is_at (t f : Fin 256) : V m c main_v37 (ix2 t f) = if f.val = 0 then Ideal.div (sign t) (Ideal.ofBits FTy.f32 0x44000000#32) else Ideal.ofBits FTy.f32 0x3B800000#32 * Ideal.sin (angle t.castSucc f) := by
  refine Eq.trans ?_ (sel f.val 0 (by omega) (by omega) _ _)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The call's sums with its tables are the reference's sums over all frequencies. -/
theorem sums (a lc ls : Fin 256 → EReal) (kc ks : Fin 257 → EReal) (t : Fin 256)
    (hkc : ∀ f, lc f = kc f.castSucc) (hks : ∀ f, f.val ≠ 0 → ls f = ks f.castSucc) (hkl : ls 0 = kc (Fin.last 256))
    (hk0 : ks (Fin.castSucc 0) = 0) (hkL : ks (Fin.last 256) = 0) :
    packed (fun f s => V m c main_v34 (ix2 f s)) (fun f s => V m c main_v35 (ix2 f s)) (fun f s => V m c main_v36 (ix2 f s)) (fun f s => V m c main_v37 (ix2 f s)) a lc ls t
      = plain cosT sinT share kc ks a t := by
  have hlt : ∀ f : Fin 256, f.castSucc.val ≠ 256 := fun f => by show f.val ≠ 256; omega
  have hl : (Fin.last 256).val = 256 := rfl
  have hz : (Fin.castSucc (0 : Fin 256)).val = 0 := rfl
  have hz' : (0 : Fin 256).val = 0 := rfl
  have cos0 : Ideal.cos 0 = 1 := by show ((Real.cos 0 : ℝ) : EReal) = 1; simp
  have sin0 : Ideal.sin 0 = 0 := by show ((Real.sin 0 : ℝ) : EReal) = 0; simp
  refine packed_eq_plain _ _ _ _ _ _ _ _ _ _ _ _ t ?_ ?_ ?_ ?_ ?_ ?_ ?_ ?_ hkc hks hkl hk0 hkL
  · intro f s
    rw [fc_at]
    unfold cosT
    rw [if_neg (hlt f)]
  · intro f s h
    rw [fs_at, if_neg h]
    unfold sinT
    rw [if_neg (hlt f)]
  · intro s
    rw [fs_at, if_pos hz']
    unfold cosT
    rw [if_pos hl]
  · intro s
    unfold sinT
    rw [if_neg (hlt 0)]
    exact (congrArg Ideal.sin (Cert.HyenaSecondRefIdeal.Rows.angle_zero s)).trans sin0
  · intro s
    unfold sinT
    rw [if_pos hl]
  · intro f
    rw [ic_at]
    unfold cosT share
    rw [if_neg (hlt f)]
    by_cases h : f.val = 0
    · obtain rfl : f = 0 := Fin.ext h
      rw [if_pos h, if_pos (Or.inl hz)]
      refine (mul_one _).symm.trans (congrArg _ ?_)
      exact ((congrArg Ideal.cos (Cert.HyenaSecondRefIdeal.Rows.angle_zero t)).trans cos0).symm
    · rw [if_neg h, if_neg (fun e => e.elim h (hlt f)), Cert.HyenaSecondRefIdeal.Rows.angle_symm]
  · intro f h
    rw [is_at, if_neg h]
    unfold sinT share
    rw [if_neg (hlt f), if_neg (fun e => e.elim h (hlt f)), Cert.HyenaSecondRefIdeal.Rows.angle_symm]
  · rw [is_at, if_pos hz', Cert.HyenaSecondRefIdeal.Rows.sign_div]
    unfold cosT share
    rw [if_pos hl, if_pos (Or.inr hl)]

end Cert.HyenaFirstIdeal.HyenaBlocks
end
-- ==== Proof.HyenaFirstRows.lean ====
/-
  The results of the first long convolution's reference at the context rows, as plain sums.
-/
module

public import proofs.«01_k».proof.Proof.Points
public import proofs.«01_k».proof.Proof.Top2
public import proofs.«01_k».proof.Proof.HyenaSpec
public import proofs.«01_k».proof.Proof.HyenaFirstTables
public import proofs.«01_k».proof.Proof.Gen.HyenaFirstIdeal.Value
public import proofs.«01_k».proof.Proof.Gen.HyenaFirstRefIdeal.Run
public import proofs.«01_k».proof.Proof.Gen.HyenaFirstRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaFirstRefIdeal.Rows

open Cert.HyenaFirstRefIdeal Cert.HyenaFirstRefIdeal.Read FnetSpec HyenaSpec
open Cert.HyenaSecondRefIdeal.Rows (angle sign cosT sinT share)

/-- A lane's cosine spectrum: the last frequency comes from the first sine's place. -/
def kcT (x3 : Vec Ideal S4x2x256x2048 .f32) (n : Fin 1024) (f : Fin 257) : EReal :=
  if h : f.val < 256 then x3 (ix4 0 0 ⟨f.val, h⟩ ⟨n.val, by omega⟩) else x3 (ix4 0 1 0 ⟨n.val, by omega⟩)

/-- A lane's sine spectrum: nothing at the first and the last frequency. -/
def ksT (x3 : Vec Ideal S4x2x256x2048 .f32) (n : Fin 1024) (f : Fin 257) : EReal :=
  if h : 0 < f.val ∧ f.val < 256 then x3 (ix4 0 1 ⟨f.val, h.2⟩ ⟨n.val, by omega⟩) else 0

/-- Below the last frequency the cosine spectrum is the first part. -/
theorem kcT_low (x3 : Vec Ideal S4x2x256x2048 .f32) (n : Fin 1024) (f : Fin 256) : kcT x3 n f.castSucc = x3 (ix4 0 0 f ⟨n.val, by omega⟩) := by
  unfold kcT
  rw [dif_pos (show f.castSucc.val < 256 from f.isLt)]
  rfl

/-- At the last frequency it is the second part's first element. -/
theorem kcT_last (x3 : Vec Ideal S4x2x256x2048 .f32) (n : Fin 1024) : kcT x3 n (Fin.last 256) = x3 (ix4 0 1 0 ⟨n.val, by omega⟩) := by
  unfold kcT
  rw [dif_neg (show ¬(Fin.last 256).val < 256 by decide)]

/-- Between the first and the last frequency the sine spectrum is the second part. -/
theorem ksT_low (x3 : Vec Ideal S4x2x256x2048 .f32) (n : Fin 1024) (f : Fin 256) (h : f.val ≠ 0) : ksT x3 n f.castSucc = x3 (ix4 0 1 f ⟨n.val, by omega⟩) := by
  unfold ksT
  rw [dif_pos (show 0 < f.castSucc.val ∧ f.castSucc.val < 256 from ⟨Nat.pos_of_ne_zero h, f.isLt⟩)]
  rfl

/-- The sine spectrum is nothing at the first frequency. -/
theorem ksT_zero (x3 : Vec Ideal S4x2x256x2048 .f32) (n : Fin 1024) : ksT x3 n (Fin.castSucc 0) = 0 := by
  unfold ksT
  rw [dif_neg (show ¬(0 < (Fin.castSucc (0 : Fin 256)).val ∧ (Fin.castSucc (0 : Fin 256)).val < 256) by decide)]

/-- The sine spectrum is nothing at the last frequency. -/
theorem ksT_last (x3 : Vec Ideal S4x2x256x2048 .f32) (n : Fin 1024) : ksT x3 n (Fin.last 256) = 0 := by
  unfold ksT
  rw [dif_neg (show ¬(0 < (Fin.last 256).val ∧ (Fin.last 256).val < 256) by decide)]

/-- The reference's cosine spectrum. -/
theorem kc_table (x3 : Vec Ideal S4x2x256x2048 .f32) (n : Fin 1024) (f : Fin 257) : val_main_v65 (F := Ideal) x3 (ix2 f n) = kcT x3 n f := by
  pointwise [val_main_v65, val_main_v64, val_main_v63, val_main_v62, val_main_v61, val_main_v59, val_main_v58]
  rfl

/-- The reference's sine spectrum. -/
theorem ks_table (x3 : Vec Ideal S4x2x256x2048 .f32) (n : Fin 1024) (f : Fin 257) : val_main_v68 (F := Ideal) x3 (ix2 f n) = ksT x3 n f := by
  pointwise [val_main_v68, val_main_v67, val_main_v66, val_main_v60, val_main_v59, val_main_v58, val_main_cst]
  unfold ksT
  by_cases h : 0 < f.val ∧ f.val < 256
  · rw [dif_neg (by omega), dif_pos (show f.val - 1 < 255 by omega), dif_pos h]
    exact congrArg x3 (place4 _ _ _ _ _ rfl rfl (by show 1 + (f.val - 1) = f.val; omega) rfl)
  · rw [dif_neg h]
    by_cases h1 : f.val < 1
    · rw [dif_pos h1]
    · rw [dif_neg h1, dif_neg (show ¬ f.val - 1 < 255 by omega)]

/-- The raw rows of a batch's lane. -/
def rawLane (x0 : Vec Ideal S9216x13312 .bf16) (b : Fin 4) (n : Fin 1024) (s : Fin 256) : EReal := x0 (ix2 ⟨8192 + b.val * 256 + s.val, by omega⟩ ⟨6144 + n.val, by omega⟩)

/-- The rows of a batch's lane: the raw rows' convolution. -/
def lane (x0 : Vec Ideal S9216x13312 .bf16) (x1 : Vec Ideal S3x3072 .f32) (x2 : Vec Ideal S3072 .f32) (b : Fin 4) (n : Fin 1024) (s : Fin 256) : EReal :=
  conv (rawLane x0 b n) (x1 (ix2 0 ⟨n.val, by omega⟩)) (x1 (ix2 1 ⟨n.val, by omega⟩)) (x1 (ix2 2 ⟨n.val, by omega⟩)) (x2 (ix1 ⟨n.val, by omega⟩)) s

/-- The gate's rows of a batch's lane. -/
def gateLane (x0 : Vec Ideal S9216x13312 .bf16) (b : Fin 4) (n : Fin 1024) (s : Fin 256) : EReal := x0 (ix2 ⟨8192 + b.val * 256 + s.val, by omega⟩ ⟨7168 + n.val, by omega⟩)

/-- The result at a batch's row and lane. -/
def result (x0 : Vec Ideal S9216x13312 .bf16) (x1 : Vec Ideal S3x3072 .f32) (x2 : Vec Ideal S3072 .f32) (x3 : Vec Ideal S4x2x256x2048 .f32) (x4 : Vec Ideal S2x1024 .f32) (b : Fin 4) (k : Fin 256) (n : Fin 1024) : EReal :=
  conv (gateLane x0 b n) (x1 (ix2 0 ⟨1024 + n.val, by omega⟩)) (x1 (ix2 1 ⟨1024 + n.val, by omega⟩)) (x1 (ix2 2 ⟨1024 + n.val, by omega⟩)) (x2 (ix1 ⟨1024 + n.val, by omega⟩)) k
    * (plain cosT sinT share (kcT x3 n) (ksT x3 n) (lane x0 x1 x2 b n) k + lane x0 x1 x2 b n k * x4 (ix2 0 n))

/-- The gate's grouped rows. -/
theorem v31_at (x0 : Vec Ideal S9216x13312 .bf16) (b : Fin 4) (s : Fin 256) (n : Fin 1024) : val_main_v31 (F := Ideal) x0 (ix3 b s n) = gateLane x0 b n s := by
  have hb := b.isLt
  have hs := s.isLt
  have hn := n.isLt
  rw [val_main_v31_apply, val_main_v30_apply, val_main_v29_apply]
  refine congrArg x0 (place _ _ _ ?_ ?_)
  · show 8192 + ((b.val * 256 + s.val) * 1024 + n.val) / 1024 = 8192 + b.val * 256 + s.val
    omega
  · show 7168 + ((b.val * 256 + s.val) * 1024 + n.val) % 1024 = 7168 + n.val
    omega

/-- The grouped raw rows. -/
theorem v2_at (x0 : Vec Ideal S9216x13312 .bf16) (b : Fin 4) (s : Fin 256) (n : Fin 1024) : val_main_v2 (F := Ideal) x0 (ix3 b s n) = rawLane x0 b n s := by
  have hb := b.isLt
  have hs := s.isLt
  have hn := n.isLt
  rw [val_main_v2_apply, val_main_v1_apply, val_main_v0_apply]
  refine congrArg x0 (place _ _ _ ?_ ?_)
  · show 8192 + ((b.val * 256 + s.val) * 1024 + n.val) / 1024 = 8192 + b.val * 256 + s.val
    omega
  · show 6144 + ((b.val * 256 + s.val) * 1024 + n.val) % 1024 = 6144 + n.val
    omega

/-- The rows' convolution in the reference. -/
theorem v28_at (x0 : Vec Ideal S9216x13312 .bf16) (x1 : Vec Ideal S3x3072 .f32) (x2 : Vec Ideal S3072 .f32) (b : Fin 4) (k : Fin 256) (n : Fin 1024) :
    val_main_v28 (F := Ideal) x0 x1 x2 (ix3 b k n) = lane x0 x1 x2 b n k := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_call0_v0, val_main_c]
  have hk := k.isLt
  have zero : (FloatOps.sitofp (F := Ideal) FTy.f32 (0#32 : BitVec 32) : EReal) = 0 := by
    show (((0#32 : BitVec 32).toInt : ℝ) : EReal) = 0
    simp
  simp only [v2_at, zero]
  unfold lane conv
  refine congrArg₂ (· + ·) (congrArg₂ (· + ·) (congrArg₂ (· + ·) (congrArg (· * _) ?_) rfl) (congrArg (· * _) ?_)) rfl
  · by_cases h : k.val = 0
    · rw [dif_neg (by omega), dif_pos h]
    · rw [dif_pos (by omega), dif_neg h]
  · by_cases h : k.val = 255
    · rw [dif_neg (by omega), dif_pos h]
    · rw [dif_pos (by omega), dif_neg h]
      exact congrArg (rawLane x0 b n) (Fin.ext (by show 2 + k.val - 1 = k.val + 1; omega))

/-- The gate's convolution in the reference. -/
theorem gate_at (x0 : Vec Ideal S9216x13312 .bf16) (x1 : Vec Ideal S3x3072 .f32) (x2 : Vec Ideal S3072 .f32) (b : Fin 4) (k : Fin 256) (n : Fin 1024) :
    val_main_v57 (F := Ideal) x0 x1 x2 (ix3 b k n) = conv (gateLane x0 b n) (x1 (ix2 0 ⟨1024 + n.val, by omega⟩)) (x1 (ix2 1 ⟨1024 + n.val, by omega⟩)) (x1 (ix2 2 ⟨1024 + n.val, by omega⟩)) (x2 (ix1 ⟨1024 + n.val, by omega⟩)) k := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_call1_v0, val_main_c_0]
  have hk := k.isLt
  have zero : (FloatOps.sitofp (F := Ideal) FTy.f32 (0#32 : BitVec 32) : EReal) = 0 := by
    show (((0#32 : BitVec 32).toInt : ℝ) : EReal) = 0
    simp
  simp only [v31_at, zero]
  unfold conv
  refine congrArg₂ (· + ·) (congrArg₂ (· + ·) (congrArg₂ (· + ·) (congrArg (· * _) ?_) rfl) (congrArg (· * _) ?_)) rfl
  · by_cases h : k.val = 0
    · rw [dif_neg (by omega), dif_pos h]
    · rw [dif_pos (by omega), dif_neg h]
  · by_cases h : k.val = 255
    · rw [dif_neg (by omega), dif_pos h]
    · rw [dif_pos (by omega), dif_neg h]
      exact congrArg (gateLane x0 b n) (Fin.ext (by show 2 + k.val - 1 = k.val + 1; omega))

/-- The forward cosine sums in the reference. -/
theorem v99_at (x0 : Vec Ideal S9216x13312 .bf16) (x1 : Vec Ideal S3x3072 .f32) (x2 : Vec Ideal S3072 .f32) (b : Fin 4) (f : Fin 257) (n : Fin 1024) : val_main_v99 (F := Ideal) x0 x1 x2 (ix3 b f n) = ∑ s : Fin 256, cosT f s * lane x0 x1 x2 b n s := by
  rw [val_main_v99_apply, val_main_v98_apply]
  refine Finset.sum_congr rfl fun s _ => (mul_comm _ _).trans (congrArg₂ (· * ·) ?_ ?_)
  · exact (congrArg _ (place _ f s rfl rfl)).trans (cos_table f s)
  · exact (congrArg _ (place3 _ b s n rfl rfl rfl)).trans (v28_at x0 x1 x2 b s n)

/-- The forward sine sums in the reference. -/
theorem v101_at (x0 : Vec Ideal S9216x13312 .bf16) (x1 : Vec Ideal S3x3072 .f32) (x2 : Vec Ideal S3072 .f32) (b : Fin 4) (f : Fin 257) (n : Fin 1024) : val_main_v101 (F := Ideal) x0 x1 x2 (ix3 b f n) = ∑ s : Fin 256, sinT f s * lane x0 x1 x2 b n s := by
  rw [val_main_v101_apply, val_main_v100_apply]
  refine Finset.sum_congr rfl fun s _ => (mul_comm _ _).trans (congrArg₂ (· * ·) ?_ ?_)
  · exact (congrArg _ (place _ f s rfl rfl)).trans (sin_table f s)
  · exact (congrArg _ (place3 _ b s n rfl rfl rfl)).trans (v28_at x0 x1 x2 b s n)

/-- The cosine spectrum, spread over the batches. -/
theorem v103_at (x3 : Vec Ideal S4x2x256x2048 .f32) (b : Fin 4) (f : Fin 257) (n : Fin 1024) : val_main_v103 (F := Ideal) x3 (ix3 b f n) = kcT x3 n f := by
  rw [val_main_v103_apply, val_main_v102_apply]
  exact (congrArg _ (place _ f n rfl rfl)).trans (kc_table x3 n f)

/-- The cosine spectrum, spread over the batches once more. -/
theorem v117_at (x3 : Vec Ideal S4x2x256x2048 .f32) (b : Fin 4) (f : Fin 257) (n : Fin 1024) : val_main_v117 (F := Ideal) x3 (ix3 b f n) = kcT x3 n f := by
  rw [val_main_v117_apply, val_main_v116_apply]
  exact (congrArg _ (place _ f n rfl rfl)).trans (kc_table x3 n f)

/-- The sine spectrum, spread over the batches. -/
theorem v106_at (x3 : Vec Ideal S4x2x256x2048 .f32) (b : Fin 4) (f : Fin 257) (n : Fin 1024) : val_main_v106 (F := Ideal) x3 (ix3 b f n) = ksT x3 n f := by
  rw [val_main_v106_apply, val_main_v105_apply]
  exact (congrArg _ (place _ f n rfl rfl)).trans (ks_table x3 n f)

/-- The sine spectrum, spread over the batches once more. -/
theorem v114_at (x3 : Vec Ideal S4x2x256x2048 .f32) (b : Fin 4) (f : Fin 257) (n : Fin 1024) : val_main_v114 (F := Ideal) x3 (ix3 b f n) = ksT x3 n f := by
  rw [val_main_v114_apply, val_main_v113_apply]
  exact (congrArg _ (place _ f n rfl rfl)).trans (ks_table x3 n f)

/-- The shares, spread over the batches and lanes. -/
theorem v111_at (b : Fin 4) (f : Fin 257) (n : Fin 1024) : val_main_v111 (F := Ideal) (ix3 b f n) = share f := by
  rw [val_main_v111_apply, val_main_v110_apply, val_main_v109_apply]
  exact (congrArg _ (place _ f 0 rfl rfl)).trans (share_table f)

/-- The shares, spread over the batches and lanes once more. -/
theorem v122_at (b : Fin 4) (f : Fin 257) (n : Fin 1024) : val_main_v122 (F := Ideal) (ix3 b f n) = share f := by
  rw [val_main_v122_apply, val_main_v121_apply, val_main_v120_apply]
  exact (congrArg _ (place _ f 0 rfl rfl)).trans (share_table f)

/-- The long convolution in the reference. -/
theorem v128_at (x0 : Vec Ideal S9216x13312 .bf16) (x1 : Vec Ideal S3x3072 .f32) (x2 : Vec Ideal S3072 .f32) (x3 : Vec Ideal S4x2x256x2048 .f32) (b : Fin 4) (k : Fin 256) (n : Fin 1024) :
    val_main_v128 (F := Ideal) x0 x1 x2 x3 (ix3 b k n) = plain cosT sinT share (kcT x3 n) (ksT x3 n) (lane x0 x1 x2 b n) k := by
  rw [val_main_v128_apply, val_main_v125_apply, val_main_v127_apply, val_main_v124_apply, val_main_v126_apply]
  unfold plain
  refine congrArg₂ (· + ·) (Finset.sum_congr rfl fun f _ => (mul_comm _ _).trans (congrArg₂ (· * ·) ?_ ?_)) (Finset.sum_congr rfl fun f _ => (mul_comm _ _).trans (congrArg₂ (· * ·) ?_ ?_))
  · exact (congrArg _ (place _ f k rfl rfl)).trans (cos_table f k)
  · refine (congrArg _ (place3 _ b f n rfl rfl rfl)).trans ?_
    rw [val_main_v112_apply, val_main_v108_apply, val_main_v104_apply, val_main_v107_apply, v111_at, v99_at, v101_at, v103_at, v106_at]
    rfl
  · exact (congrArg _ (place _ f k rfl rfl)).trans (sin_table f k)
  · refine (congrArg _ (place3 _ b f n rfl rfl rfl)).trans ?_
    rw [val_main_v123_apply, val_main_v119_apply, val_main_v115_apply, val_main_v118_apply, v122_at, v99_at, v101_at, v117_at, v114_at]
    rfl

/-- The reference's results before they are joined to the earlier ones. -/
theorem v138_at (x0 : Vec Ideal S9216x13312 .bf16) (x1 : Vec Ideal S3x3072 .f32) (x2 : Vec Ideal S3072 .f32) (x3 : Vec Ideal S4x2x256x2048 .f32) (x4 : Vec Ideal S2x1024 .f32) (r n : Fin 1024) (b : Fin 4) (k : Fin 256) (hr : r.val = b.val * 256 + k.val) :
    val_main_v138 (F := Ideal) x0 x1 x2 x3 x4 (ix2 r n) = result x0 x1 x2 x3 x4 b k n := by
  have hb := b.isLt
  have hk := k.isLt
  have hn := n.isLt
  rw [val_main_v138_apply, val_main_v137_apply, place3 (idx_main_v137 (ix2 r n)) b k n (by show (r.val * 1024 + n.val) / 262144 = b.val; omega)
    (by show (r.val * 1024 + n.val) / 1024 % 256 = k.val; omega) (by show (r.val * 1024 + n.val) % 1024 = n.val; omega)]
  show val_main_v135 (F := Ideal) x0 x1 x2 x3 x4 (ix3 b k n) = _
  rw [val_main_v135_apply, val_main_v134_apply, val_main_v133_apply, gate_at, v128_at, v28_at, val_main_v132_apply, val_main_v131_apply, val_main_v130_apply, val_main_v129_apply]
  refine congrArg₂ (· * ·) rfl (congrArg₂ (· + ·) rfl (congrArg₂ (· * ·) rfl (congrArg x4 (place _ 0 n rfl ?_))))
  show n.val % 1024 = n.val
  omega

/-- The reference's results before the context rows are the earlier ones. -/
theorem kept_apply (x0 : Vec Ideal S9216x13312 .bf16) (x1 : Vec Ideal S3x3072 .f32) (x2 : Vec Ideal S3072 .f32) (x3 : Vec Ideal S4x2x256x2048 .f32) (x4 : Vec Ideal S2x1024 .f32) (x5 : Vec Ideal S9216x1024 .bf16) (r : Fin 9216) (n : Fin 1024) (hr : r.val < 8192) :
    val_main_v139 (F := Ideal) x0 x1 x2 x3 x4 x5 (ix2 r n) = x5 (ix2 r n) := by
  unfold val_main_v139
  generalize val_main_v138 (F := Ideal) x0 x1 x2 x3 x4 = z
  pointwise [val_main_v136]
  rw [dif_pos hr]

/-- The reference's results at the context rows are the new ones. -/
theorem new_apply (x0 : Vec Ideal S9216x13312 .bf16) (x1 : Vec Ideal S3x3072 .f32) (x2 : Vec Ideal S3072 .f32) (x3 : Vec Ideal S4x2x256x2048 .f32) (x4 : Vec Ideal S2x1024 .f32) (x5 : Vec Ideal S9216x1024 .bf16) (r : Fin 9216) (n : Fin 1024) (hr : ¬ r.val < 8192) :
    val_main_v139 (F := Ideal) x0 x1 x2 x3 x4 x5 (ix2 r n) = val_main_v138 (F := Ideal) x0 x1 x2 x3 x4 (ix2 ⟨r.val - 8192, by omega⟩ n) := by
  unfold val_main_v139
  generalize val_main_v138 (F := Ideal) x0 x1 x2 x3 x4 = z
  pointwise [val_main_v136]
  rw [dif_neg hr]

end Cert.HyenaFirstRefIdeal.Rows
end
-- ==== Proof.HyenaFirstTie.lean ====
/-
  The first long convolution's call over the context rows and its reference compute the same results, whatever the
  arguments. Point `t` of the grid is batch `t % 4`, column block `t / 4`.
-/
module

public import proofs.«01_k».proof.Proof.Points
public import proofs.«01_k».proof.Proof.Top2
public import proofs.«01_k».proof.Proof.HyenaSpec
public import proofs.«01_k».proof.Proof.HyenaFirstBlocks
public import proofs.«01_k».proof.Proof.HyenaFirstRows
public import proofs.«01_k».proof.Proof.Gen.HyenaFirstIdeal.Value
public import proofs.«01_k».proof.Proof.Gen.HyenaFirstRefIdeal.Run
public import proofs.«01_k».proof.Proof.Gen.HyenaFirstRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaFirstIdeal.HyenaBlocks

open Cert.HyenaFirstIdeal Cert.HyenaFirstIdeal.Gen Cert.HyenaFirstIdeal.Value FnetSpec HyenaSpec

/-- One row of a vector laid out as a table. -/
theorem row_cast (x : Vec Ideal S3072 .f32) (f : Fin 3072) : shapeCast S1x3072 x shapeCasts_S3072_S1x3072 (ix2 0 f) = x (ix1 f) := by
  pointwise []

/-- A table's rows laid out one by one. -/
theorem skip_cast (x : Vec Ideal S2x1024 .f32) (l : Fin 2) (f : Fin 1024) : shapeCast S2x1x1024 x shapeCasts_S2x1024_S2x1x1024 (ix3 l 0 f) = x (ix2 l f) := by
  pointwise []

variable (m : (ℓ : Loc nD τ sig) → Buf (Elt Ideal) ℓ) (c : Dev nD)

/-- The rows' convolution's offsets, as the call gets them. -/
theorem row_bias_at (f : Fin 3072) : V m c main_v38 (ix2 0 f) = m ((c : Thread nD τ).loc main_arg2) (ix1 f) := by
  refine Eq.trans ?_ (row_cast _ f)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The gate's convolution's offsets, as the call gets them. -/
theorem bias_at (f : Fin 3072) : V m c main_v39 (ix2 0 f) = m ((c : Thread nD τ).loc main_arg2) (ix1 f) := by
  refine Eq.trans ?_ (row_cast _ f)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The factors of the rows themselves, as the call gets them. -/
theorem skip_at (l : Fin 2) (f : Fin 1024) : V m c main_v40 (ix3 l 0 f) = m ((c : Thread nD τ).loc main_arg4) (ix2 l f) := by
  refine Eq.trans ?_ (skip_cast _ l f)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The earlier results, as the call gets them. -/
theorem earlier : V m c main_v41 = m ((c : Thread nD τ).loc main_arg5) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The raw rows' block is the point's batch and column block, after their offset. -/
theorem index0 : ∀ t : Fin grid0.N, win0_0.index t (0 : Fin 2) = t.val % 4 + 32 ∧ win0_0.index t (1 : Fin 2) = 24 + t.val / 4 := by decide +kernel
/-- The gate's block is the point's batch and column block, after its offset. -/
theorem index1 : ∀ t : Fin grid0.N, win0_1.index t (0 : Fin 2) = t.val % 4 + 32 ∧ win0_1.index t (1 : Fin 2) = 28 + t.val / 4 := by decide +kernel
/-- The rows' convolution's factors' block is the point's column block. -/
theorem index2 : ∀ t : Fin grid0.N, win0_2.index t (0 : Fin 2) = 0 ∧ win0_2.index t (1 : Fin 2) = t.val / 4 := by decide +kernel
/-- The rows' convolution's offsets' block is the point's column block. -/
theorem index3 : ∀ t : Fin grid0.N, win0_3.index t (0 : Fin 2) = 0 ∧ win0_3.index t (1 : Fin 2) = t.val / 4 := by decide +kernel
/-- The convolution's factors' block is the point's column block, after the gate's offset. -/
theorem index4 : ∀ t : Fin grid0.N, win0_4.index t (0 : Fin 2) = 0 ∧ win0_4.index t (1 : Fin 2) = 4 + t.val / 4 := by decide +kernel
/-- The convolution's offsets' block is the point's column block, after the gate's offset. -/
theorem index5 : ∀ t : Fin grid0.N, win0_5.index t (0 : Fin 2) = 0 ∧ win0_5.index t (1 : Fin 2) = 4 + t.val / 4 := by decide +kernel
/-- The spectrum's block is the point's column block of the first order. -/
theorem index6 : ∀ t : Fin grid0.N, win0_6.index t (0 : Fin 4) = 0 ∧ win0_6.index t (1 : Fin 4) = 0 ∧ win0_6.index t (2 : Fin 4) = 0 ∧ win0_6.index t (3 : Fin 4) = t.val / 4 := by decide +kernel
/-- The block of the rows' own factors is the point's column block of the first row. -/
theorem index7 : ∀ t : Fin grid0.N, win0_7.index t (0 : Fin 3) = 0 ∧ win0_7.index t (1 : Fin 3) = 0 ∧ win0_7.index t (2 : Fin 3) = t.val / 4 := by decide +kernel
/-- The first table is one block. -/
theorem index8 : ∀ t : Fin grid0.N, win0_8.index t (0 : Fin 2) = 0 ∧ win0_8.index t (1 : Fin 2) = 0 := by decide +kernel
/-- The second table is one block. -/
theorem index9 : ∀ t : Fin grid0.N, win0_9.index t (0 : Fin 2) = 0 ∧ win0_9.index t (1 : Fin 2) = 0 := by decide +kernel
/-- The third table is one block. -/
theorem index10 : ∀ t : Fin grid0.N, win0_10.index t (0 : Fin 2) = 0 ∧ win0_10.index t (1 : Fin 2) = 0 := by decide +kernel
/-- The fourth table is one block. -/
theorem index11 : ∀ t : Fin grid0.N, win0_11.index t (0 : Fin 2) = 0 ∧ win0_11.index t (1 : Fin 2) = 0 := by decide +kernel
/-- The results' block is the point's batch and column block. -/
theorem index12 : ∀ t : Fin grid0.N, win0_12.index t (0 : Fin 2) = t.val % 4 + 32 ∧ win0_12.index t (1 : Fin 2) = t.val / 4 := by decide +kernel
/-- Every point writes its results back. -/
theorem flushes : ∀ t : Fin grid0.N, win0_12.flush t = true := by decide +kernel

/-- The raw rows' block. -/
theorem blk0 (t : Fin cfg0.N) (r n : Fin 256) (q : Fin 9216) (f : Fin 13312) (hq : q.val = (t.val % 4 + 32) * 256 + r.val) (hf : f.val = (24 + t.val / 4) * 256 + n.val) :
    (iblk m c 0 t : Vec Ideal S256x256 .bf16) (ix2 r n) = m ((c : Thread nD τ).loc main_arg0) (ix2 q f) := by
  unfold iblk
  rw [View.read_apply]
  show V m c main_arg0 _ = _
  rw [V_main_arg0]
  exact congrArg _ (place _ q f (by show win0_0.index t 0 * 256 + 1 * r.val = q.val; rw [(index0 t).1]; omega)
    (by show win0_0.index t 1 * 256 + 1 * n.val = f.val; rw [(index0 t).2]; omega))

/-- The gate's block. -/
theorem blk1 (t : Fin cfg0.N) (r n : Fin 256) (q : Fin 9216) (f : Fin 13312) (hq : q.val = (t.val % 4 + 32) * 256 + r.val) (hf : f.val = (28 + t.val / 4) * 256 + n.val) :
    (iblk m c 1 t : Vec Ideal S256x256 .bf16) (ix2 r n) = m ((c : Thread nD τ).loc main_arg0) (ix2 q f) := by
  unfold iblk
  rw [View.read_apply]
  show V m c main_arg0 _ = _
  rw [V_main_arg0]
  exact congrArg _ (place _ q f (by show win0_1.index t 0 * 256 + 1 * r.val = q.val; rw [(index1 t).1]; omega)
    (by show win0_1.index t 1 * 256 + 1 * n.val = f.val; rw [(index1 t).2]; omega))

/-- The rows' convolution's factors' block. -/
theorem blk2 (t : Fin cfg0.N) (a : Fin 3) (n : Fin 256) (f : Fin 3072) (hf : f.val = t.val / 4 * 256 + n.val) :
    (iblk m c 2 t : Vec Ideal S3x256 .f32) (ix2 a n) = m ((c : Thread nD τ).loc main_arg1) (ix2 a f) := by
  unfold iblk
  rw [View.read_apply]
  show V m c main_arg1 _ = _
  rw [V_main_arg1]
  exact congrArg _ (place _ a f (by show win0_2.index t 0 * 3 + 1 * a.val = a.val; rw [(index2 t).1]; omega)
    (by show win0_2.index t 1 * 256 + 1 * n.val = f.val; rw [(index2 t).2]; omega))

/-- The rows' convolution's offsets' block. -/
theorem blk3 (t : Fin cfg0.N) (n : Fin 256) (f : Fin 3072) (hf : f.val = t.val / 4 * 256 + n.val) :
    (iblk m c 3 t : Vec Ideal S1x256 .f32) (ix2 0 n) = m ((c : Thread nD τ).loc main_arg2) (ix1 f) := by
  unfold iblk
  rw [View.read_apply]
  show V m c main_v38 _ = _
  rw [place (((cfg0.win 3).blk t).view.emb (ix2 0 n)) 0 f (by show win0_3.index t 0 * 1 + 1 * 0 = 0; rw [(index3 t).1])
    (by show win0_3.index t 1 * 256 + 1 * n.val = f.val; rw [(index3 t).2]; omega)]
  exact row_bias_at m c f

/-- The gate's convolution's factors' block. -/
theorem blk4 (t : Fin cfg0.N) (a : Fin 3) (n : Fin 256) (f : Fin 3072) (hf : f.val = (4 + t.val / 4) * 256 + n.val) :
    (iblk m c 4 t : Vec Ideal S3x256 .f32) (ix2 a n) = m ((c : Thread nD τ).loc main_arg1) (ix2 a f) := by
  unfold iblk
  rw [View.read_apply]
  show V m c main_arg1 _ = _
  rw [V_main_arg1]
  exact congrArg _ (place _ a f (by show win0_4.index t 0 * 3 + 1 * a.val = a.val; rw [(index4 t).1]; omega)
    (by show win0_4.index t 1 * 256 + 1 * n.val = f.val; rw [(index4 t).2]; omega))

/-- The gate's convolution's offsets' block. -/
theorem blk5 (t : Fin cfg0.N) (n : Fin 256) (f : Fin 3072) (hf : f.val = (4 + t.val / 4) * 256 + n.val) :
    (iblk m c 5 t : Vec Ideal S1x256 .f32) (ix2 0 n) = m ((c : Thread nD τ).loc main_arg2) (ix1 f) := by
  unfold iblk
  rw [View.read_apply]
  show V m c main_v39 _ = _
  rw [place (((cfg0.win 5).blk t).view.emb (ix2 0 n)) 0 f (by show win0_5.index t 0 * 1 + 1 * 0 = 0; rw [(index5 t).1])
    (by show win0_5.index t 1 * 256 + 1 * n.val = f.val; rw [(index5 t).2]; omega)]
  exact bias_at m c f

/-- The spectrum's block. -/
theorem blk6 (t : Fin cfg0.N) (p : Fin 2) (r n : Fin 256) (f : Fin 2048) (hf : f.val = t.val / 4 * 256 + n.val) :
    (iblk m c 6 t : Vec Ideal S1x2x256x256 .f32) (ix4 0 p r n) = m ((c : Thread nD τ).loc main_arg3) (ix4 0 p r f) := by
  unfold iblk
  rw [View.read_apply]
  show V m c main_arg3 _ = _
  rw [V_main_arg3]
  exact congrArg _ (place4 _ 0 p r f (by show win0_6.index t 0 * 1 + 1 * 0 = 0; rw [(index6 t).1]) (by show win0_6.index t 1 * 2 + 1 * p.val = p.val; rw [(index6 t).2.1]; omega)
    (by show win0_6.index t 2 * 256 + 1 * r.val = r.val; rw [(index6 t).2.2.1]; omega) (by show win0_6.index t 3 * 256 + 1 * n.val = f.val; rw [(index6 t).2.2.2]; omega))

/-- The factors' block of the rows themselves. -/
theorem blk7 (t : Fin cfg0.N) (n : Fin 256) (f : Fin 1024) (hf : f.val = t.val / 4 * 256 + n.val) :
    (iblk m c 7 t : Vec Ideal S1x1x256 .f32) (ix3 0 0 n) = m ((c : Thread nD τ).loc main_arg4) (ix2 0 f) := by
  unfold iblk
  rw [View.read_apply]
  show V m c main_v40 _ = _
  rw [place3 (((cfg0.win 7).blk t).view.emb (ix3 0 0 n)) 0 0 f (by show win0_7.index t 0 * 1 + 1 * 0 = 0; rw [(index7 t).1])
    (by show win0_7.index t 1 * 1 + 1 * 0 = 0; rw [(index7 t).2.1]) (by show win0_7.index t 2 * 256 + 1 * n.val = f.val; rw [(index7 t).2.2]; omega)]
  exact skip_at m c 0 f

/-- The first table's block is the whole table. -/
theorem blk8 (t : Fin cfg0.N) (k s : Fin 256) : (iblk m c 8 t : Vec Ideal S256x256 .bf16) (ix2 k s) = V m c main_v34 (ix2 k s) := by
  unfold iblk
  rw [View.read_apply]
  show V m c main_v34 _ = _
  exact congrArg _ (place _ k s (by show win0_8.index t 0 * 256 + 1 * k.val = k.val; rw [(index8 t).1]; omega)
    (by show win0_8.index t 1 * 256 + 1 * s.val = s.val; rw [(index8 t).2]; omega))

/-- The second table's block is the whole table. -/
theorem blk9 (t : Fin cfg0.N) (k s : Fin 256) : (iblk m c 9 t : Vec Ideal S256x256 .bf16) (ix2 k s) = V m c main_v35 (ix2 k s) := by
  unfold iblk
  rw [View.read_apply]
  show V m c main_v35 _ = _
  exact congrArg _ (place _ k s (by show win0_9.index t 0 * 256 + 1 * k.val = k.val; rw [(index9 t).1]; omega)
    (by show win0_9.index t 1 * 256 + 1 * s.val = s.val; rw [(index9 t).2]; omega))

/-- The third table's block is the whole table. -/
theorem blk10 (t : Fin cfg0.N) (k s : Fin 256) : (iblk m c 10 t : Vec Ideal S256x256 .bf16) (ix2 k s) = V m c main_v36 (ix2 k s) := by
  unfold iblk
  rw [View.read_apply]
  show V m c main_v36 _ = _
  exact congrArg _ (place _ k s (by show win0_10.index t 0 * 256 + 1 * k.val = k.val; rw [(index10 t).1]; omega)
    (by show win0_10.index t 1 * 256 + 1 * s.val = s.val; rw [(index10 t).2]; omega))

/-- The fourth table's block is the whole table. -/
theorem blk11 (t : Fin cfg0.N) (k s : Fin 256) : (iblk m c 11 t : Vec Ideal S256x256 .bf16) (ix2 k s) = V m c main_v37 (ix2 k s) := by
  unfold iblk
  rw [View.read_apply]
  show V m c main_v37 _ = _
  exact congrArg _ (place _ k s (by show win0_11.index t 0 * 256 + 1 * k.val = k.val; rw [(index11 t).1]; omega)
    (by show win0_11.index t 1 * 256 + 1 * s.val = s.val; rw [(index11 t).2]; omega))

/-- The first or second part of the spectrum's block, as a point reads it. -/
theorem part_at (x : Vec Ideal S1x2x256x256 .f32) (r n : Fin 256) :
    View.ld x (Rect.unit ![0, 0, 0, 0] ![1, 1, 256, 256] inb_S1x2x256x256_S1x1x256x256_0_0_0_0) (ix4 0 0 r n) = x (ix4 0 0 r n)
      ∧ View.ld x (Rect.unit ![0, 1, 0, 0] ![1, 1, 256, 256] inb_S1x2x256x256_S1x1x256x256_0_1_0_0) (ix4 0 0 r n) = x (ix4 0 1 r n) :=
  ⟨congrArg x (place4 _ 0 0 r n rfl rfl (by show 0 + 1 * r.val = r.val; omega) (by show 0 + 1 * n.val = n.val; omega)),
    congrArg x (place4 _ 0 1 r n rfl rfl (by show 0 + 1 * r.val = r.val; omega) (by show 0 + 1 * n.val = n.val; omega))⟩

/-- The three rows of the convolution's factors, as a point reads them. -/
theorem factor_at (x : Vec Ideal S3x256 .f32) (n : Fin 256) :
    View.ld x (Rect.unit ![0, 0] ![1, 256] inb_S3x256_S1x256_0_0) (ix2 0 n) = x (ix2 0 n)
      ∧ View.ld x (Rect.unit ![1, 0] ![1, 256] inb_S3x256_S1x256_1_0) (ix2 0 n) = x (ix2 1 n)
      ∧ View.ld x (Rect.unit ![2, 0] ![1, 256] inb_S3x256_S1x256_2_0) (ix2 0 n) = x (ix2 2 n) :=
  ⟨congrArg x (place _ 0 n rfl (by show 0 + 1 * n.val = n.val; omega)), congrArg x (place _ 1 n rfl (by show 0 + 1 * n.val = n.val; omega)),
    congrArg x (place _ 2 n rfl (by show 0 + 1 * n.val = n.val; omega))⟩

/-- A convolution of equal rows by equal factors. -/
theorem convs {g g' : Fin 256 → EReal} {w0 w0' w1 w1' w2 w2' o o' : EReal} (k : Fin 256) (hg : g = g') (h0 : w0 = w0') (h1 : w1 = w1') (h2 : w2 = w2') (ho : o = o') :
    conv g w0 w1 w2 o k = conv g' w0' w1' w2' o' k := by
  rw [hg, h0, h1, h2, ho]

/-- The formula of a stored element at equal parts. -/
theorem parts (C S I J : Fin 256 → Fin 256 → EReal) {g g' a a' p p' q q' : Fin 256 → EReal} {w0 w0' w1 w1' w2 w2' o o' u u' sk sk' : EReal} (k : Fin 256)
    (hg : g = g') (h0 : w0 = w0') (h1 : w1 = w1') (h2 : w2 = w2') (ho : o = o') (ha : a = a') (hp : p = p') (hq : q = q') (hu : u = u') (hs : sk = sk') :
    conv g w0 w1 w2 o k * (packed C S I J a p q k + u * sk) = conv g' w0' w1' w2' o' k * (packed C S I J a' p' q' k + u' * sk') := by
  rw [hg, h0, h1, h2, ho, ha, hp, hq, hu, hs]

/-- A point's stored element, given what its blocks hold. -/
theorem computed (x0 x1 x8 x9 x10 x11 : Vec Ideal S256x256 .bf16) (x2 x4 : Vec Ideal S3x256 .f32) (x3 x5 : Vec Ideal S1x256 .f32) (x6 : Vec Ideal S1x2x256x256 .f32) (x7 : Vec Ideal S1x1x256 .f32) (k d : Fin 256)
    (a g : Fin 256 → EReal) (w w' : Fin 3 → EReal) (o o' sk : EReal) (K : Fin 2 → Fin 256 → EReal)
    (h0 : ∀ s, x0 (ix2 s d) = a s) (h1 : ∀ s, x1 (ix2 s d) = g s) (h2 : ∀ i, x2 (ix2 i d) = w' i) (h3 : x3 (ix2 0 d) = o') (h4 : ∀ i, x4 (ix2 i d) = w i) (h5 : x5 (ix2 0 d) = o) (h6 : ∀ p f, x6 (ix4 0 p f d) = K p f) (h7 : x7 (ix3 0 0 d) = sk) :
    k0_pay1 (F := Ideal) (k0_pay2 x0 (View.ld x2 (Rect.unit ![0, 0] ![1, 256] inb_S3x256_S1x256_0_0)) (View.ld x2 (Rect.unit ![1, 0] ![1, 256] inb_S3x256_S1x256_1_0)) (View.ld x2 (Rect.unit ![2, 0] ![1, 256] inb_S3x256_S1x256_2_0)) x3) (k0_pay7 x1) (iota .tc S256x256 32 [0] iota_S256x256_d0_w32) k0_pay8 (k0_pay9 x1) k0_pay10
      (View.ld x4 (Rect.unit ![0, 0] ![1, 256] inb_S3x256_S1x256_0_0)) (View.ld x4 (Rect.unit ![1, 0] ![1, 256] inb_S3x256_S1x256_1_0)) (View.ld x4 (Rect.unit ![2, 0] ![1, 256] inb_S3x256_S1x256_2_0)) x5
      (k0_pay6 (k0_pay4 x0 (View.ld x2 (Rect.unit ![0, 0] ![1, 256] inb_S3x256_S1x256_0_0)) (View.ld x2 (Rect.unit ![1, 0] ![1, 256] inb_S3x256_S1x256_1_0)) (View.ld x2 (Rect.unit ![2, 0] ![1, 256] inb_S3x256_S1x256_2_0)) x3 x8)
        (k0_pay5 x0 (View.ld x2 (Rect.unit ![0, 0] ![1, 256] inb_S3x256_S1x256_0_0)) (View.ld x2 (Rect.unit ![1, 0] ![1, 256] inb_S3x256_S1x256_1_0)) (View.ld x2 (Rect.unit ![2, 0] ![1, 256] inb_S3x256_S1x256_2_0)) x3 x9)
        (View.ld x6 (Rect.unit ![0, 0, 0, 0] ![1, 1, 256, 256] inb_S1x2x256x256_S1x1x256x256_0_0_0_0))
        (View.ld x6 (Rect.unit ![0, 1, 0, 0] ![1, 1, 256, 256] inb_S1x2x256x256_S1x1x256x256_0_1_0_0)) x10 x11) x7 (ix2 k d)
      = conv g (w 0) (w 1) (w 2) o k * (packed (fun f s => x8 (ix2 f s)) (fun f s => x9 (ix2 f s)) (fun f s => x10 (ix2 f s)) (fun f s => x11 (ix2 f s)) (fun s => conv a (w' 0) (w' 1) (w' 2) o' s) (K 0) (K 1) k
        + conv a (w' 0) (w' 1) (w' 2) o' k * sk) := by
  refine (pay_apply x0 x1 x8 x9 x10 x11 _ _ _ x3 _ _ _ x5 x7 _ _ k d).trans ?_
  have h (s : Fin 256) := convs s (funext h0) ((factor_at x2 d).1.trans (h2 0)) ((factor_at x2 d).2.1.trans (h2 1)) ((factor_at x2 d).2.2.trans (h2 2)) h3
  exact parts _ _ _ _ k (funext h1) ((factor_at x4 d).1.trans (h4 0)) ((factor_at x4 d).2.1.trans (h4 1)) ((factor_at x4 d).2.2.trans (h4 2)) h5 (funext h)
    (funext fun f => (part_at x6 f d).1.trans (h6 0 f)) (funext fun f => (part_at x6 f d).2.trans (h6 1 f)) (h k) h7

/-- The result array at an element of the context rows. -/
theorem result_at (r : Fin 9216) (n : Fin 1024) (b : Fin 4) (k : Fin 256) (hr : r.val = 8192 + b.val * 256 + k.val) : (dats m 0 c).arrAt 12 cfg0.N (ix2 r n)
      = Cert.HyenaFirstRefIdeal.Rows.result (m ((c : Thread nD τ).loc main_arg0)) (m ((c : Thread nD τ).loc main_arg1)) (m ((c : Thread nD τ).loc main_arg2)) (m ((c : Thread nD τ).loc main_arg3)) (m ((c : Thread nD τ).loc main_arg4)) b k n := by
  have hN : cfg0.N = 16 := N_0
  have hb := b.isLt
  have hk := k.isLt
  have hn := n.isLt
  obtain ⟨t, ht⟩ : ∃ t : Fin cfg0.N, t.val = n.val / 256 * 4 + b.val := ⟨⟨_, by rw [hN]; omega⟩, rfl⟩
  obtain ⟨d, hd⟩ : ∃ d : Fin 256, d.val = n.val % 256 := ⟨⟨_, by omega⟩, rfl⟩
  have e := congrFun (blocks12 m c t (flushes t)) (ix2 k d)
  rw [flushed12_A, View.read_apply, place (((cfg0.win 12).blk t).view.emb (ix2 k d)) r n
    (by show win0_12.index t 0 * 256 + 1 * k.val = r.val; rw [(index12 t).1]; omega)
    (by show win0_12.index t 1 * 256 + 1 * d.val = n.val; rw [(index12 t).2]; omega)] at e
  refine e.trans ?_
  show out0_A_12 (F := Ideal) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k d) = _
  have h0 : ∀ s : Fin 256, (iblk m c 0 t : Vec Ideal S256x256 .bf16) (ix2 s d) = Cert.HyenaFirstRefIdeal.Rows.rawLane (m ((c : Thread nD τ).loc main_arg0)) b n s := fun s =>
    blk0 m c t s d ⟨8192 + b.val * 256 + s.val, by omega⟩ ⟨6144 + n.val, by omega⟩ (by show 8192 + b.val * 256 + s.val = _; omega) (by show 6144 + n.val = _; omega)
  have h1 : ∀ s : Fin 256, (iblk m c 1 t : Vec Ideal S256x256 .bf16) (ix2 s d) = Cert.HyenaFirstRefIdeal.Rows.gateLane (m ((c : Thread nD τ).loc main_arg0)) b n s := fun s =>
    blk1 m c t s d ⟨8192 + b.val * 256 + s.val, by omega⟩ ⟨7168 + n.val, by omega⟩ (by show 8192 + b.val * 256 + s.val = _; omega) (by show 7168 + n.val = _; omega)
  have h2 : ∀ a : Fin 3, (iblk m c 2 t : Vec Ideal S3x256 .f32) (ix2 a d) = m ((c : Thread nD τ).loc main_arg1) (ix2 a ⟨n.val, by omega⟩) := fun a =>
    blk2 m c t a d _ (by show n.val = _; omega)
  have h3 := blk3 m c t d ⟨n.val, by omega⟩ (by show n.val = _; omega)
  have h4 : ∀ a : Fin 3, (iblk m c 4 t : Vec Ideal S3x256 .f32) (ix2 a d) = m ((c : Thread nD τ).loc main_arg1) (ix2 a ⟨1024 + n.val, by omega⟩) := fun a =>
    blk4 m c t a d _ (by show 1024 + n.val = _; omega)
  have h5 := blk5 m c t d ⟨1024 + n.val, by omega⟩ (by show 1024 + n.val = _; omega)
  have h6 : ∀ (p : Fin 2) (f : Fin 256), (iblk m c 6 t : Vec Ideal S1x2x256x256 .f32) (ix4 0 p f d) = m ((c : Thread nD τ).loc main_arg3) (ix4 0 p f ⟨n.val, by omega⟩) := fun p f =>
    blk6 m c t p f d _ (by show n.val = _; omega)
  have h7 := blk7 m c t d n (by omega)
  refine (congrFun (stored c _ _ _ _ _ _ _ _ _ _ _ _ _ _ _ _ _ _ _ _ _ _ _ _ _ _ _ _ _ _ _ _ _ _ _ _ _ _ _ _ _) (ix2 k d)).trans ?_
  refine (computed _ _ _ _ _ _ _ _ _ _ _ _ k d _ _ _ _ _ _ _ _ h0 h1 h2 h3 h4 h5 h6 h7).trans ?_
  unfold Cert.HyenaFirstRefIdeal.Rows.result
  refine congrArg (_ * ·) (congrArg (· + _) ?_)
  simp only [blk8, blk9, blk10, blk11]
  refine sums m c _ _ _ _ _ k ?_ ?_ ?_ ?_ ?_
  · intro f
    exact (Cert.HyenaFirstRefIdeal.Rows.kcT_low _ n f).symm
  · intro f h
    exact (Cert.HyenaFirstRefIdeal.Rows.ksT_low _ n f h).symm
  · exact (Cert.HyenaFirstRefIdeal.Rows.kcT_last _ n).symm
  · exact Cert.HyenaFirstRefIdeal.Rows.ksT_zero _ n
  · exact Cert.HyenaFirstRefIdeal.Rows.ksT_last _ n

/-- The rows before the context's keep what the array held: the earlier results handed to the call. -/
theorem kept_at (r : Fin 9216) (n : Fin 1024) (hr : r.val < 8192) : (dats m 0 c).arrAt 12 cfg0.N (ix2 r n) = m ((c : Thread nD τ).loc main_arg5) (ix2 r n) := by
  refine (entry12 m c (ix2 r n) fun t _ h => ?_).trans ?_
  · obtain ⟨y, hy⟩ := View.exists_emb_of_mem_set _ h
    have h0 : win0_12.index t 0 * 256 + 1 * (y 0).val = r.val := congrArg (fun z : S9216x1024.Idx => (z 0).val) hy
    rw [(index12 t).1] at h0
    omega
  · show V m c main_v41 _ = _
    rw [earlier]

end Cert.HyenaFirstIdeal.HyenaBlocks

namespace Cert.HyenaFirstTie

open Cert.HyenaFirstIdeal.HyenaBlocks

variable (m : (ℓ : Loc Cert.HyenaFirstIdeal.nD Cert.HyenaFirstIdeal.τ Cert.HyenaFirstIdeal.sig) → Buf (Elt Ideal) ℓ) (c : Dev Cert.HyenaFirstIdeal.nD)

/-- The reference's results at the call's arguments are the call's. -/
theorem tie : Cert.HyenaFirstRefIdeal.Read.val_main_v139 (F := Ideal) (m ((c : Thread Cert.HyenaFirstIdeal.nD Cert.HyenaFirstIdeal.τ).loc Cert.HyenaFirstIdeal.main_arg0)) (m ((c : Thread Cert.HyenaFirstIdeal.nD Cert.HyenaFirstIdeal.τ).loc Cert.HyenaFirstIdeal.main_arg1)) (m ((c : Thread Cert.HyenaFirstIdeal.nD Cert.HyenaFirstIdeal.τ).loc Cert.HyenaFirstIdeal.main_arg2)) (m ((c : Thread Cert.HyenaFirstIdeal.nD Cert.HyenaFirstIdeal.τ).loc Cert.HyenaFirstIdeal.main_arg3)) (m ((c : Thread Cert.HyenaFirstIdeal.nD Cert.HyenaFirstIdeal.τ).loc Cert.HyenaFirstIdeal.main_arg4)) (m ((c : Thread Cert.HyenaFirstIdeal.nD Cert.HyenaFirstIdeal.τ).loc Cert.HyenaFirstIdeal.main_arg5)) = (Cert.HyenaFirstIdeal.Gen.dats m 0 c).arrAt 12 Cert.HyenaFirstIdeal.cfg0.N := by
  funext y
  obtain ⟨r, n, rfl⟩ := Points.exists_row_col y
  have hr := r.isLt
  have hn := n.isLt
  by_cases h : r.val < 8192
  · exact (Cert.HyenaFirstRefIdeal.Rows.kept_apply _ _ _ _ _ _ r n h).trans (kept_at m c r n h).symm
  · refine (Cert.HyenaFirstRefIdeal.Rows.new_apply _ _ _ _ _ _ r n h).trans ?_
    exact (Cert.HyenaFirstRefIdeal.Rows.v138_at _ _ _ _ _ ⟨r.val - 8192, by omega⟩ n ⟨(r.val - 8192) / 256, by omega⟩ ⟨(r.val - 8192) % 256, by omega⟩
      (by show r.val - 8192 = (r.val - 8192) / 256 * 256 + (r.val - 8192) % 256; omega)).trans
      (result_at m c r n _ _ (by show r.val = 8192 + (r.val - 8192) / 256 * 256 + (r.val - 8192) % 256; omega)).symm

end Cert.HyenaFirstTie
end
-- ==== Proof.HyenaSecondBlocks.lean ====
/-
  What a point of the second long convolution's call over the context rows stores, as the mathematics of its blocks.
-/
module

public import proofs.«01_k».proof.Proof.HyenaSpec
public import proofs.«01_k».proof.Proof.Gen.HyenaSecondIdeal.Value
public import proofs.«01_k».proof.Proof.Points
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaSecondIdeal.HyenaBlocks

open Cert.HyenaSecondIdeal Cert.HyenaSecondIdeal.Gen Cert.HyenaSecondIdeal.Value FnetSpec HyenaSpec

section stored
variable {F : FTy → Type} [FloatOps F]

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl

/-- What a point stores, as a function of its blocks. -/
theorem stored (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S3x256 .f32) (harg4 : arg4.IsWhole) (arg5 : Memref sig .tc .vmem S1x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x2x256x256 .f32) (harg8 : arg8.IsWhole) (arg9 : Memref sig .tc .vmem S1x1x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg15 : Memref sig .tc .vmem S256x256 .bf16) (harg15 : arg15.IsWhole) (arg16 : Memref sig .tc .vmem S256x256 .f32) (harg16 : arg16.IsWhole)
    (x0 : Vec F S256x256 .bf16) (x1 : Vec F S256x256 .bf16) (x2 : Vec F S3x256 .f32) (x3 : Vec F S1x256 .f32) (x4 : Vec F S3x256 .f32) (x5 : Vec F S1x256 .f32) (x6 : Vec F S1x2x256x256 .f32) (x7 : Vec F S1x1x256 .f32) (x8 : Vec F S256x256 .bf16) (x9 : Vec F S256x256 .bf16) (x10 : Vec F S256x256 .bf16) (x11 : Vec F S256x256 .bf16) :
    out0_A_12 c i arg2 harg2 arg3 harg3 arg4 harg4 arg5 harg5 arg6 harg6 arg7 harg7 arg8 harg8 arg9 harg9 arg10 harg10 arg11 harg11 arg12 harg12 arg13 harg13 arg15 harg15 arg16 harg16 x0 x1 x2 x3 x4 x5 x6 x7 x8 x9 x10 x11 = k0_pay1 (k0_pay2 x0)
      (k0_pay13 x1 (View.ld x4 (Rect.unit ![0, 0] ![1, 256] inb_S3x256_S1x256_0_0)) (View.ld x4 (Rect.unit ![1, 0] ![1, 256] inb_S3x256_S1x256_1_0))
        (View.ld x4 (Rect.unit ![2, 0] ![1, 256] inb_S3x256_S1x256_2_0)) x5)
      (k0_pay12
        (k0_pay9 x0 x8 x9 (View.ld x6 (Rect.unit ![0, 0, 0, 0] ![1, 1, 256, 256] inb_S1x2x256x256_S1x1x256x256_0_0_0_0))
          (View.ld x6 (Rect.unit ![0, 1, 0, 0] ![1, 1, 256, 256] inb_S1x2x256x256_S1x1x256x256_0_1_0_0)) x10)
        (k0_pay10 x11)
        (k0_pay11 x0 x8 x9 (View.ld x6 (Rect.unit ![0, 0, 0, 0] ![1, 1, 256, 256] inb_S1x2x256x256_S1x1x256x256_0_0_0_0))
          (View.ld x6 (Rect.unit ![0, 1, 0, 0] ![1, 1, 256, 256] inb_S1x2x256x256_S1x1x256x256_0_1_0_0)))
        (constant S256x256 FTy.f32 0#32))
      (k0_pay14 x7) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg15 harg15 arg16 harg16 x0 x1 x2 x3 x4 x5 x6 x7 x8 x9 x10 x11)]
  unfold kernelRun0_A
  dsimp only
  sl_unfold_words
  rw [View.canon_unit_zero hz2]
  simp only [View.readCov_unit_zero (S := S256x256) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x256) hz2, View.ld_unit_zero (S := S1x256) hz2, View.ld_unit_zero (S := S1x1x256) hz3, shapeCast_self]

end stored

/-- The gate's convolution of width three, at a row and lane. -/
theorem conv_apply (x : Vec Ideal S256x256 .bf16) (w0 w1 w2 b : Vec Ideal S1x256 .f32) (r n : Fin 256) :
    k0_pay13 (F := Ideal) x w0 w1 w2 b (ix2 r n) = conv (fun s => x (ix2 s n)) (w0 (ix2 0 n)) (w1 (ix2 0 n)) (w2 (ix2 0 n)) (b (ix2 0 n)) r := by
  pointwise [k0_pay13]
  have hr := r.isLt
  rw [sel r.val 0 (by omega) (by omega), sel r.val 255 (by omega) (by omega)]
  unfold conv
  refine congrArg₂ (· + ·) (congrArg₂ (· + ·) (congrArg₂ (· + ·) ?_ rfl) ?_) rfl
  · by_cases h : r.val = 0
    · rw [if_pos h, dif_pos h, zero_mul]
    · rw [if_neg h, dif_neg h]
      exact congrArg (fun z => x (ix2 z n) * _) (Fin.ext (by show (r.val + 256 - 1) % 256 = r.val - 1; omega))
  · by_cases h : r.val = 255
    · rw [if_pos h, dif_pos h, zero_mul]
    · rw [if_neg h, dif_neg h]
      exact congrArg (fun z => x (ix2 z n) * _) (Fin.ext (by show (r.val + 256 - 255) % 256 = r.val + 1; omega))

/-- The long convolution's sums, at a row and lane. -/
theorem sum_apply (x0 x8 x9 x10 x11 : Vec Ideal S256x256 .bf16) (kc ks : Vec Ideal S1x1x256x256 .f32) (r n : Fin 256) :
    k0_pay12 (F := Ideal) (k0_pay9 x0 x8 x9 kc ks x10) (k0_pay10 x11) (k0_pay11 x0 x8 x9 kc ks) (constant S256x256 FTy.f32 0#32) (ix2 r n)
      = packed (fun f s => x8 (ix2 f s)) (fun f s => x9 (ix2 f s)) (fun f s => x10 (ix2 f s)) (fun f s => x11 (ix2 f s))
          (fun s => x0 (ix2 s n)) (fun f => kc (ix4 0 0 f n)) (fun f => ks (ix4 0 0 f n)) r := by
  pointwise [k0_pay12, k0_pay11, k0_pay10, k0_pay9, k0_pay8, k0_pay7, k0_pay6, k0_pay5, k0_pay4, k0_pay3, k0_pay2]
  unfold packed
  refine congrArg₂ (· + ·) (Finset.sum_congr rfl fun f _ => congrArg _ ?_) (Finset.sum_congr rfl fun f _ => congrArg _ ?_)
  · exact sel f.val 0 (by omega) (by omega) _ _
  · exact sel f.val 0 (by omega) (by omega) _ _

/-- What a point stores, at a row and lane. -/
theorem pay_apply (x0 x1 x8 x9 x10 x11 : Vec Ideal S256x256 .bf16) (w0 w1 w2 b : Vec Ideal S1x256 .f32) (x7 : Vec Ideal S1x1x256 .f32) (kc ks : Vec Ideal S1x1x256x256 .f32) (r n : Fin 256) :
    k0_pay1 (F := Ideal) (k0_pay2 x0) (k0_pay13 x1 w0 w1 w2 b)
      (k0_pay12 (k0_pay9 x0 x8 x9 kc ks x10) (k0_pay10 x11) (k0_pay11 x0 x8 x9 kc ks) (constant S256x256 FTy.f32 0#32)) (k0_pay14 x7) (ix2 r n)
      = conv (fun s => x1 (ix2 s n)) (w0 (ix2 0 n)) (w1 (ix2 0 n)) (w2 (ix2 0 n)) (b (ix2 0 n)) r
        * (packed (fun f s => x8 (ix2 f s)) (fun f s => x9 (ix2 f s)) (fun f s => x10 (ix2 f s)) (fun f s => x11 (ix2 f s))
          (fun s => x0 (ix2 s n)) (fun f => kc (ix4 0 0 f n)) (fun f => ks (ix4 0 0 f n)) r + x0 (ix2 r n) * x7 (ix3 0 0 n)) := by
  rw [← conv_apply x1 w0 w1 w2 b r n, ← sum_apply]
  generalize k0_pay13 (F := Ideal) x1 w0 w1 w2 b = g
  generalize k0_pay12 (F := Ideal) (k0_pay9 x0 x8 x9 kc ks x10) (k0_pay10 x11) (k0_pay11 x0 x8 x9 kc ks) (constant S256x256 FTy.f32 0#32) = z
  pointwise [k0_pay1, k0_pay2, k0_pay14]

end Cert.HyenaSecondIdeal.HyenaBlocks
end
-- ==== Proof.HyenaSecondRows.lean ====
/-
  The results of the second long convolution's reference at the context rows, as plain sums.
-/
module

public import proofs.«01_k».proof.Proof.Points
public import proofs.«01_k».proof.Proof.Top2
public import proofs.«01_k».proof.Proof.HyenaSpec
public import proofs.«01_k».proof.Proof.HyenaSecondTables
public import proofs.«01_k».proof.Proof.Gen.HyenaSecondIdeal.Value
public import proofs.«01_k».proof.Proof.Gen.HyenaSecondRefIdeal.Run
public import proofs.«01_k».proof.Proof.Gen.HyenaSecondRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaSecondRefIdeal.Rows

open Cert.HyenaSecondRefIdeal Cert.HyenaSecondRefIdeal.Read FnetSpec HyenaSpec

/-- A lane's cosine spectrum: the last frequency comes from the first sine's place. -/
def kcT (x4 : Vec Ideal S4x2x256x2048 .f32) (n : Fin 1024) (f : Fin 257) : EReal :=
  if h : f.val < 256 then x4 (ix4 0 0 ⟨f.val, h⟩ ⟨1024 + n.val, by omega⟩) else x4 (ix4 0 1 0 ⟨1024 + n.val, by omega⟩)

/-- A lane's sine spectrum: nothing at the first and the last frequency. -/
def ksT (x4 : Vec Ideal S4x2x256x2048 .f32) (n : Fin 1024) (f : Fin 257) : EReal :=
  if h : 0 < f.val ∧ f.val < 256 then x4 (ix4 0 1 ⟨f.val, h.2⟩ ⟨1024 + n.val, by omega⟩) else 0

/-- Below the last frequency the cosine spectrum is the first part. -/
theorem kcT_low (x4 : Vec Ideal S4x2x256x2048 .f32) (n : Fin 1024) (f : Fin 256) : kcT x4 n f.castSucc = x4 (ix4 0 0 f ⟨1024 + n.val, by omega⟩) := by
  unfold kcT
  rw [dif_pos (show f.castSucc.val < 256 from f.isLt)]
  rfl

/-- At the last frequency it is the second part's first element. -/
theorem kcT_last (x4 : Vec Ideal S4x2x256x2048 .f32) (n : Fin 1024) : kcT x4 n (Fin.last 256) = x4 (ix4 0 1 0 ⟨1024 + n.val, by omega⟩) := by
  unfold kcT
  rw [dif_neg (show ¬(Fin.last 256).val < 256 by decide)]

/-- Between the first and the last frequency the sine spectrum is the second part. -/
theorem ksT_low (x4 : Vec Ideal S4x2x256x2048 .f32) (n : Fin 1024) (f : Fin 256) (h : f.val ≠ 0) : ksT x4 n f.castSucc = x4 (ix4 0 1 f ⟨1024 + n.val, by omega⟩) := by
  unfold ksT
  rw [dif_pos (show 0 < f.castSucc.val ∧ f.castSucc.val < 256 from ⟨Nat.pos_of_ne_zero h, f.isLt⟩)]
  rfl

/-- The sine spectrum is nothing at the first frequency. -/
theorem ksT_zero (x4 : Vec Ideal S4x2x256x2048 .f32) (n : Fin 1024) : ksT x4 n (Fin.castSucc 0) = 0 := by
  unfold ksT
  rw [dif_neg (show ¬(0 < (Fin.castSucc (0 : Fin 256)).val ∧ (Fin.castSucc (0 : Fin 256)).val < 256) by decide)]

/-- The sine spectrum is nothing at the last frequency. -/
theorem ksT_last (x4 : Vec Ideal S4x2x256x2048 .f32) (n : Fin 1024) : ksT x4 n (Fin.last 256) = 0 := by
  unfold ksT
  rw [dif_neg (show ¬(0 < (Fin.last 256).val ∧ (Fin.last 256).val < 256) by decide)]

/-- The reference's cosine spectrum. -/
theorem kc_table (x4 : Vec Ideal S4x2x256x2048 .f32) (n : Fin 1024) (f : Fin 257) : val_main_v39 (F := Ideal) x4 (ix2 f n) = kcT x4 n f := by
  pointwise [val_main_v39, val_main_v38, val_main_v37, val_main_v36, val_main_v35, val_main_v33, val_main_v32]
  rfl

/-- The reference's sine spectrum. -/
theorem ks_table (x4 : Vec Ideal S4x2x256x2048 .f32) (n : Fin 1024) (f : Fin 257) : val_main_v42 (F := Ideal) x4 (ix2 f n) = ksT x4 n f := by
  pointwise [val_main_v42, val_main_v41, val_main_v40, val_main_v34, val_main_v33, val_main_v32, val_main_cst]
  unfold ksT
  by_cases h : 0 < f.val ∧ f.val < 256
  · rw [dif_neg (by omega), dif_pos (show f.val - 1 < 255 by omega), dif_pos h]
    exact congrArg x4 (place4 _ _ _ _ _ rfl rfl (by show 1 + (f.val - 1) = f.val; omega) rfl)
  · rw [dif_neg h]
    by_cases h1 : f.val < 1
    · rw [dif_pos h1]
    · rw [dif_neg h1, dif_neg (show ¬ f.val - 1 < 255 by omega)]

/-- The rows of a batch's lane. -/
def lane (x0 : Vec Ideal S9216x1024 .bf16) (b : Fin 4) (n : Fin 1024) (s : Fin 256) : EReal := x0 (ix2 ⟨8192 + b.val * 256 + s.val, by omega⟩ n)

/-- The gate's rows of a batch's lane. -/
def gateLane (x1 : Vec Ideal S9216x13312 .bf16) (b : Fin 4) (n : Fin 1024) (s : Fin 256) : EReal := x1 (ix2 ⟨8192 + b.val * 256 + s.val, by omega⟩ ⟨8192 + n.val, by omega⟩)

/-- The result at a batch's row and lane. -/
def result (x0 : Vec Ideal S9216x1024 .bf16) (x1 : Vec Ideal S9216x13312 .bf16) (x2 : Vec Ideal S3x3072 .f32) (x3 : Vec Ideal S3072 .f32) (x4 : Vec Ideal S4x2x256x2048 .f32) (x5 : Vec Ideal S2x1024 .f32) (b : Fin 4) (k : Fin 256) (n : Fin 1024) : EReal :=
  conv (gateLane x1 b n) (x2 (ix2 0 ⟨2048 + n.val, by omega⟩)) (x2 (ix2 1 ⟨2048 + n.val, by omega⟩)) (x2 (ix2 2 ⟨2048 + n.val, by omega⟩)) (x3 (ix1 ⟨2048 + n.val, by omega⟩)) k
    * (plain cosT sinT share (kcT x4 n) (ksT x4 n) (lane x0 b n) k + lane x0 b n k * x5 (ix2 1 n))

/-- The grouped rows. -/
theorem v2_at (x0 : Vec Ideal S9216x1024 .bf16) (b : Fin 4) (s : Fin 256) (n : Fin 1024) : val_main_v2 (F := Ideal) x0 (ix3 b s n) = lane x0 b n s := by
  have hb := b.isLt
  have hs := s.isLt
  have hn := n.isLt
  rw [val_main_v2_apply, val_main_v1_apply, val_main_v0_apply]
  refine congrArg x0 (place _ _ _ ?_ ?_)
  · show 8192 + ((b.val * 256 + s.val) * 1024 + n.val) / 1024 = 8192 + b.val * 256 + s.val
    omega
  · show ((b.val * 256 + s.val) * 1024 + n.val) % 1024 = n.val
    omega

/-- The gate's grouped rows. -/
theorem v5_at (x1 : Vec Ideal S9216x13312 .bf16) (b : Fin 4) (s : Fin 256) (n : Fin 1024) : val_main_v5 (F := Ideal) x1 (ix3 b s n) = gateLane x1 b n s := by
  have hb := b.isLt
  have hs := s.isLt
  have hn := n.isLt
  rw [val_main_v5_apply, val_main_v4_apply, val_main_v3_apply]
  refine congrArg x1 (place _ _ _ ?_ ?_)
  · show 8192 + ((b.val * 256 + s.val) * 1024 + n.val) / 1024 = 8192 + b.val * 256 + s.val
    omega
  · show 8192 + ((b.val * 256 + s.val) * 1024 + n.val) % 1024 = 8192 + n.val
    omega

/-- The gate's convolution in the reference. -/
theorem gate_at (x1 : Vec Ideal S9216x13312 .bf16) (x2 : Vec Ideal S3x3072 .f32) (x3 : Vec Ideal S3072 .f32) (b : Fin 4) (k : Fin 256) (n : Fin 1024) :
    val_main_v31 (F := Ideal) x1 x2 x3 (ix3 b k n) = conv (gateLane x1 b n) (x2 (ix2 0 ⟨2048 + n.val, by omega⟩)) (x2 (ix2 1 ⟨2048 + n.val, by omega⟩)) (x2 (ix2 2 ⟨2048 + n.val, by omega⟩)) (x3 (ix1 ⟨2048 + n.val, by omega⟩)) k := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_call0_v0, val_main_c]
  have hk := k.isLt
  have zero : (FloatOps.sitofp (F := Ideal) FTy.f32 (0#32 : BitVec 32) : EReal) = 0 := by
    show (((0#32 : BitVec 32).toInt : ℝ) : EReal) = 0
    simp
  simp only [v5_at, zero]
  unfold conv
  refine congrArg₂ (· + ·) (congrArg₂ (· + ·) (congrArg₂ (· + ·) (congrArg (· * _) ?_) rfl) (congrArg (· * _) ?_)) rfl
  · by_cases h : k.val = 0
    · rw [dif_neg (by omega), dif_pos h]
    · rw [dif_pos (by omega), dif_neg h]
  · by_cases h : k.val = 255
    · rw [dif_neg (by omega), dif_pos h]
    · rw [dif_pos (by omega), dif_neg h]
      exact congrArg (gateLane x1 b n) (Fin.ext (by show 2 + k.val - 1 = k.val + 1; omega))

/-- The forward cosine sums in the reference. -/
theorem v73_at (x0 : Vec Ideal S9216x1024 .bf16) (b : Fin 4) (f : Fin 257) (n : Fin 1024) : val_main_v73 (F := Ideal) x0 (ix3 b f n) = ∑ s : Fin 256, cosT f s * lane x0 b n s := by
  rw [val_main_v73_apply, val_main_v72_apply]
  refine Finset.sum_congr rfl fun s _ => (mul_comm _ _).trans (congrArg₂ (· * ·) ?_ ?_)
  · exact (congrArg _ (place _ f s rfl rfl)).trans (cos_table f s)
  · exact (congrArg _ (place3 _ b s n rfl rfl rfl)).trans (v2_at x0 b s n)

/-- The forward sine sums in the reference. -/
theorem v75_at (x0 : Vec Ideal S9216x1024 .bf16) (b : Fin 4) (f : Fin 257) (n : Fin 1024) : val_main_v75 (F := Ideal) x0 (ix3 b f n) = ∑ s : Fin 256, sinT f s * lane x0 b n s := by
  rw [val_main_v75_apply, val_main_v74_apply]
  refine Finset.sum_congr rfl fun s _ => (mul_comm _ _).trans (congrArg₂ (· * ·) ?_ ?_)
  · exact (congrArg _ (place _ f s rfl rfl)).trans (sin_table f s)
  · exact (congrArg _ (place3 _ b s n rfl rfl rfl)).trans (v2_at x0 b s n)

/-- The cosine spectrum, spread over the batches. -/
theorem v77_at (x4 : Vec Ideal S4x2x256x2048 .f32) (b : Fin 4) (f : Fin 257) (n : Fin 1024) : val_main_v77 (F := Ideal) x4 (ix3 b f n) = kcT x4 n f := by
  rw [val_main_v77_apply, val_main_v76_apply]
  exact (congrArg _ (place _ f n rfl rfl)).trans (kc_table x4 n f)

/-- The cosine spectrum, spread over the batches once more. -/
theorem v91_at (x4 : Vec Ideal S4x2x256x2048 .f32) (b : Fin 4) (f : Fin 257) (n : Fin 1024) : val_main_v91 (F := Ideal) x4 (ix3 b f n) = kcT x4 n f := by
  rw [val_main_v91_apply, val_main_v90_apply]
  exact (congrArg _ (place _ f n rfl rfl)).trans (kc_table x4 n f)

/-- The sine spectrum, spread over the batches. -/
theorem v80_at (x4 : Vec Ideal S4x2x256x2048 .f32) (b : Fin 4) (f : Fin 257) (n : Fin 1024) : val_main_v80 (F := Ideal) x4 (ix3 b f n) = ksT x4 n f := by
  rw [val_main_v80_apply, val_main_v79_apply]
  exact (congrArg _ (place _ f n rfl rfl)).trans (ks_table x4 n f)

/-- The sine spectrum, spread over the batches once more. -/
theorem v88_at (x4 : Vec Ideal S4x2x256x2048 .f32) (b : Fin 4) (f : Fin 257) (n : Fin 1024) : val_main_v88 (F := Ideal) x4 (ix3 b f n) = ksT x4 n f := by
  rw [val_main_v88_apply, val_main_v87_apply]
  exact (congrArg _ (place _ f n rfl rfl)).trans (ks_table x4 n f)

/-- The shares, spread over the batches and lanes. -/
theorem v85_at (b : Fin 4) (f : Fin 257) (n : Fin 1024) : val_main_v85 (F := Ideal) (ix3 b f n) = share f := by
  rw [val_main_v85_apply, val_main_v84_apply, val_main_v83_apply]
  exact (congrArg _ (place _ f 0 rfl rfl)).trans (share_table f)

/-- The shares, spread over the batches and lanes once more. -/
theorem v96_at (b : Fin 4) (f : Fin 257) (n : Fin 1024) : val_main_v96 (F := Ideal) (ix3 b f n) = share f := by
  rw [val_main_v96_apply, val_main_v95_apply, val_main_v94_apply]
  exact (congrArg _ (place _ f 0 rfl rfl)).trans (share_table f)

/-- The long convolution in the reference. -/
theorem v102_at (x0 : Vec Ideal S9216x1024 .bf16) (x4 : Vec Ideal S4x2x256x2048 .f32) (b : Fin 4) (k : Fin 256) (n : Fin 1024) :
    val_main_v102 (F := Ideal) x0 x4 (ix3 b k n) = plain cosT sinT share (kcT x4 n) (ksT x4 n) (lane x0 b n) k := by
  rw [val_main_v102_apply, val_main_v99_apply, val_main_v101_apply, val_main_v98_apply, val_main_v100_apply]
  unfold plain
  refine congrArg₂ (· + ·) (Finset.sum_congr rfl fun f _ => (mul_comm _ _).trans (congrArg₂ (· * ·) ?_ ?_)) (Finset.sum_congr rfl fun f _ => (mul_comm _ _).trans (congrArg₂ (· * ·) ?_ ?_))
  · exact (congrArg _ (place _ f k rfl rfl)).trans (cos_table f k)
  · refine (congrArg _ (place3 _ b f n rfl rfl rfl)).trans ?_
    rw [val_main_v86_apply, val_main_v82_apply, val_main_v78_apply, val_main_v81_apply, v85_at, v73_at, v75_at, v77_at, v80_at]
    rfl
  · exact (congrArg _ (place _ f k rfl rfl)).trans (sin_table f k)
  · refine (congrArg _ (place3 _ b f n rfl rfl rfl)).trans ?_
    rw [val_main_v97_apply, val_main_v93_apply, val_main_v89_apply, val_main_v92_apply, v96_at, v73_at, v75_at, v91_at, v88_at]
    rfl

/-- The reference's results before they are joined to the earlier ones. -/
theorem v112_at (x0 : Vec Ideal S9216x1024 .bf16) (x1 : Vec Ideal S9216x13312 .bf16) (x2 : Vec Ideal S3x3072 .f32) (x3 : Vec Ideal S3072 .f32) (x4 : Vec Ideal S4x2x256x2048 .f32) (x5 : Vec Ideal S2x1024 .f32) (r n : Fin 1024) (b : Fin 4) (k : Fin 256) (hr : r.val = b.val * 256 + k.val) :
    val_main_v112 (F := Ideal) x0 x1 x2 x3 x4 x5 (ix2 r n) = result x0 x1 x2 x3 x4 x5 b k n := by
  have hb := b.isLt
  have hk := k.isLt
  have hn := n.isLt
  rw [val_main_v112_apply, val_main_v111_apply, place3 (idx_main_v111 (ix2 r n)) b k n (by show (r.val * 1024 + n.val) / 262144 = b.val; omega)
    (by show (r.val * 1024 + n.val) / 1024 % 256 = k.val; omega) (by show (r.val * 1024 + n.val) % 1024 = n.val; omega)]
  show val_main_v109 (F := Ideal) x0 x1 x2 x3 x4 x5 (ix3 b k n) = _
  rw [val_main_v109_apply, val_main_v108_apply, val_main_v107_apply, gate_at, v102_at, v2_at, val_main_v106_apply, val_main_v105_apply, val_main_v104_apply, val_main_v103_apply]
  refine congrArg₂ (· * ·) rfl (congrArg₂ (· + ·) rfl (congrArg₂ (· * ·) rfl (congrArg x5 (place _ 1 n rfl ?_))))
  show n.val % 1024 = n.val
  omega

/-- The reference's results before the context rows are the earlier ones. -/
theorem kept_apply (x0 : Vec Ideal S9216x1024 .bf16) (x1 : Vec Ideal S9216x13312 .bf16) (x2 : Vec Ideal S3x3072 .f32) (x3 : Vec Ideal S3072 .f32) (x4 : Vec Ideal S4x2x256x2048 .f32) (x5 : Vec Ideal S2x1024 .f32) (x6 : Vec Ideal S9216x1024 .bf16) (r : Fin 9216) (n : Fin 1024) (hr : r.val < 8192) :
    val_main_v113 (F := Ideal) x0 x1 x2 x3 x4 x5 x6 (ix2 r n) = x6 (ix2 r n) := by
  unfold val_main_v113
  generalize val_main_v112 (F := Ideal) x0 x1 x2 x3 x4 x5 = z
  pointwise [val_main_v110]
  rw [dif_pos hr]

/-- The reference's results at the context rows are the new ones. -/
theorem new_apply (x0 : Vec Ideal S9216x1024 .bf16) (x1 : Vec Ideal S9216x13312 .bf16) (x2 : Vec Ideal S3x3072 .f32) (x3 : Vec Ideal S3072 .f32) (x4 : Vec Ideal S4x2x256x2048 .f32) (x5 : Vec Ideal S2x1024 .f32) (x6 : Vec Ideal S9216x1024 .bf16) (r : Fin 9216) (n : Fin 1024) (hr : ¬ r.val < 8192) :
    val_main_v113 (F := Ideal) x0 x1 x2 x3 x4 x5 x6 (ix2 r n) = val_main_v112 (F := Ideal) x0 x1 x2 x3 x4 x5 (ix2 ⟨r.val - 8192, by omega⟩ n) := by
  unfold val_main_v113
  generalize val_main_v112 (F := Ideal) x0 x1 x2 x3 x4 x5 = z
  pointwise [val_main_v110]
  rw [dif_neg hr]

end Cert.HyenaSecondRefIdeal.Rows
end
-- ==== Proof.HyenaSecondTie.lean ====
/-
  The second long convolution's call over the context rows and its reference compute the same results, whatever the
  arguments. Point `t` of the grid is batch `t % 4`, column block `t / 4`.
-/
module

public import proofs.«01_k».proof.Proof.Points
public import proofs.«01_k».proof.Proof.Top2
public import proofs.«01_k».proof.Proof.HyenaSpec
public import proofs.«01_k».proof.Proof.HyenaSecondBlocks
public import proofs.«01_k».proof.Proof.HyenaSecondRows
public import proofs.«01_k».proof.Proof.Gen.HyenaSecondIdeal.Value
public import proofs.«01_k».proof.Proof.Gen.HyenaSecondRefIdeal.Run
public import proofs.«01_k».proof.Proof.Gen.HyenaSecondRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.HyenaSecondIdeal.HyenaBlocks

open Cert.HyenaSecondIdeal Cert.HyenaSecondIdeal.Gen Cert.HyenaSecondIdeal.Value FnetSpec HyenaSpec

/-- One row of a vector laid out as a table. -/
theorem row_cast (x : Vec Ideal S3072 .f32) (f : Fin 3072) : shapeCast S1x3072 x shapeCasts_S3072_S1x3072 (ix2 0 f) = x (ix1 f) := by
  pointwise []

/-- A table's rows laid out one by one. -/
theorem skip_cast (x : Vec Ideal S2x1024 .f32) (l : Fin 2) (f : Fin 1024) : shapeCast S2x1x1024 x shapeCasts_S2x1024_S2x1x1024 (ix3 l 0 f) = x (ix2 l f) := by
  pointwise []

variable (m : (ℓ : Loc nD τ sig) → Buf (Elt Ideal) ℓ) (c : Dev nD)

/-- The convolution's offsets, as the call gets them. -/
theorem bias_at (f : Fin 3072) : V m c main_v39 (ix2 0 f) = m ((c : Thread nD τ).loc main_arg3) (ix1 f) := by
  refine Eq.trans ?_ (row_cast _ f)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The factors of the rows themselves, as the call gets them. -/
theorem skip_at (l : Fin 2) (f : Fin 1024) : V m c main_v40 (ix3 l 0 f) = m ((c : Thread nD τ).loc main_arg5) (ix2 l f) := by
  refine Eq.trans ?_ (skip_cast _ l f)
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The earlier results, as the call gets them. -/
theorem earlier : V m c main_v41 = m ((c : Thread nD τ).loc main_arg6) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

/-- The rows' block is the point's batch and column block. -/
theorem index0 : ∀ t : Fin grid0.N, win0_0.index t (0 : Fin 2) = t.val % 4 + 32 ∧ win0_0.index t (1 : Fin 2) = t.val / 4 := by decide +kernel
/-- The gate's block is the point's batch and column block, after its offset. -/
theorem index1 : ∀ t : Fin grid0.N, win0_1.index t (0 : Fin 2) = t.val % 4 + 32 ∧ win0_1.index t (1 : Fin 2) = 32 + t.val / 4 := by decide +kernel
/-- The convolution's factors' block is the point's column block, after the gate's offset. -/
theorem index4 : ∀ t : Fin grid0.N, win0_4.index t (0 : Fin 2) = 0 ∧ win0_4.index t (1 : Fin 2) = 8 + t.val / 4 := by decide +kernel
/-- The convolution's offsets' block is the point's column block, after the gate's offset. -/
theorem index5 : ∀ t : Fin grid0.N, win0_5.index t (0 : Fin 2) = 0 ∧ win0_5.index t (1 : Fin 2) = 8 + t.val / 4 := by decide +kernel
/-- The spectrum's block is the point's column block of the second order. -/
theorem index6 : ∀ t : Fin grid0.N, win0_6.index t (0 : Fin 4) = 0 ∧ win0_6.index t (1 : Fin 4) = 0 ∧ win0_6.index t (2 : Fin 4) = 0 ∧ win0_6.index t (3 : Fin 4) = 4 + t.val / 4 := by decide +kernel
/-- The block of the rows' own factors is the point's column block of the second row. -/
theorem index7 : ∀ t : Fin grid0.N, win0_7.index t (0 : Fin 3) = 1 ∧ win0_7.index t (1 : Fin 3) = 0 ∧ win0_7.index t (2 : Fin 3) = t.val / 4 := by decide +kernel
/-- The first table is one block. -/
theorem index8 : ∀ t : Fin grid0.N, win0_8.index t (0 : Fin 2) = 0 ∧ win0_8.index t (1 : Fin 2) = 0 := by decide +kernel
/-- The second table is one block. -/
theorem index9 : ∀ t : Fin grid0.N, win0_9.index t (0 : Fin 2) = 0 ∧ win0_9.index t (1 : Fin 2) = 0 := by decide +kernel
/-- The third table is one block. -/
theorem index10 : ∀ t : Fin grid0.N, win0_10.index t (0 : Fin 2) = 0 ∧ win0_10.index t (1 : Fin 2) = 0 := by decide +kernel
/-- The fourth table is one block. -/
theorem index11 : ∀ t : Fin grid0.N, win0_11.index t (0 : Fin 2) = 0 ∧ win0_11.index t (1 : Fin 2) = 0 := by decide +kernel
/-- The results' block is the point's batch and column block. -/
theorem index12 : ∀ t : Fin grid0.N, win0_12.index t (0 : Fin 2) = t.val % 4 + 32 ∧ win0_12.index t (1 : Fin 2) = t.val / 4 := by decide +kernel
/-- Every point writes its results back. -/
theorem flushes : ∀ t : Fin grid0.N, win0_12.flush t = true := by decide +kernel

/-- The rows' block. -/
theorem blk0 (t : Fin cfg0.N) (r n : Fin 256) (q : Fin 9216) (f : Fin 1024) (hq : q.val = (t.val % 4 + 32) * 256 + r.val) (hf : f.val = t.val / 4 * 256 + n.val) :
    (iblk m c 0 t : Vec Ideal S256x256 .bf16) (ix2 r n) = m ((c : Thread nD τ).loc main_arg0) (ix2 q f) := by
  unfold iblk
  rw [View.read_apply]
  show V m c main_arg0 _ = _
  rw [V_main_arg0]
  exact congrArg _ (place _ q f (by show win0_0.index t 0 * 256 + 1 * r.val = q.val; rw [(index0 t).1]; omega)
    (by show win0_0.index t 1 * 256 + 1 * n.val = f.val; rw [(index0 t).2]; omega))

/-- The gate's block. -/
theorem blk1 (t : Fin cfg0.N) (r n : Fin 256) (q : Fin 9216) (f : Fin 13312) (hq : q.val = (t.val % 4 + 32) * 256 + r.val) (hf : f.val = (32 + t.val / 4) * 256 + n.val) :
    (iblk m c 1 t : Vec Ideal S256x256 .bf16) (ix2 r n) = m ((c : Thread nD τ).loc main_arg1) (ix2 q f) := by
  unfold iblk
  rw [View.read_apply]
  show V m c main_arg1 _ = _
  rw [V_main_arg1]
  exact congrArg _ (place _ q f (by show win0_1.index t 0 * 256 + 1 * r.val = q.val; rw [(index1 t).1]; omega)
    (by show win0_1.index t 1 * 256 + 1 * n.val = f.val; rw [(index1 t).2]; omega))

/-- The convolution's factors' block. -/
theorem blk4 (t : Fin cfg0.N) (a : Fin 3) (n : Fin 256) (f : Fin 3072) (hf : f.val = (8 + t.val / 4) * 256 + n.val) :
    (iblk m c 4 t : Vec Ideal S3x256 .f32) (ix2 a n) = m ((c : Thread nD τ).loc main_arg2) (ix2 a f) := by
  unfold iblk
  rw [View.read_apply]
  show V m c main_arg2 _ = _
  rw [V_main_arg2]
  exact congrArg _ (place _ a f (by show win0_4.index t 0 * 3 + 1 * a.val = a.val; rw [(index4 t).1]; omega)
    (by show win0_4.index t 1 * 256 + 1 * n.val = f.val; rw [(index4 t).2]; omega))

/-- The convolution's offsets' block. -/
theorem blk5 (t : Fin cfg0.N) (n : Fin 256) (f : Fin 3072) (hf : f.val = (8 + t.val / 4) * 256 + n.val) :
    (iblk m c 5 t : Vec Ideal S1x256 .f32) (ix2 0 n) = m ((c : Thread nD τ).loc main_arg3) (ix1 f) := by
  unfold iblk
  rw [View.read_apply]
  show V m c main_v39 _ = _
  rw [place (((cfg0.win 5).blk t).view.emb (ix2 0 n)) 0 f (by show win0_5.index t 0 * 1 + 1 * 0 = 0; rw [(index5 t).1])
    (by show win0_5.index t 1 * 256 + 1 * n.val = f.val; rw [(index5 t).2]; omega)]
  exact bias_at m c f

/-- The spectrum's block. -/
theorem blk6 (t : Fin cfg0.N) (p : Fin 2) (r n : Fin 256) (f : Fin 2048) (hf : f.val = (4 + t.val / 4) * 256 + n.val) :
    (iblk m c 6 t : Vec Ideal S1x2x256x256 .f32) (ix4 0 p r n) = m ((c : Thread nD τ).loc main_arg4) (ix4 0 p r f) := by
  unfold iblk
  rw [View.read_apply]
  show V m c main_arg4 _ = _
  rw [V_main_arg4]
  exact congrArg _ (place4 _ 0 p r f (by show win0_6.index t 0 * 1 + 1 * 0 = 0; rw [(index6 t).1]) (by show win0_6.index t 1 * 2 + 1 * p.val = p.val; rw [(index6 t).2.1]; omega)
    (by show win0_6.index t 2 * 256 + 1 * r.val = r.val; rw [(index6 t).2.2.1]; omega) (by show win0_6.index t 3 * 256 + 1 * n.val = f.val; rw [(index6 t).2.2.2]; omega))

/-- The factors' block of the rows themselves. -/
theorem blk7 (t : Fin cfg0.N) (n : Fin 256) (f : Fin 1024) (hf : f.val = t.val / 4 * 256 + n.val) :
    (iblk m c 7 t : Vec Ideal S1x1x256 .f32) (ix3 0 0 n) = m ((c : Thread nD τ).loc main_arg5) (ix2 1 f) := by
  unfold iblk
  rw [View.read_apply]
  show V m c main_v40 _ = _
  rw [place3 (((cfg0.win 7).blk t).view.emb (ix3 0 0 n)) 1 0 f (by show win0_7.index t 0 * 1 + 1 * 0 = 1; rw [(index7 t).1])
    (by show win0_7.index t 1 * 1 + 1 * 0 = 0; rw [(index7 t).2.1]) (by show win0_7.index t 2 * 256 + 1 * n.val = f.val; rw [(index7 t).2.2]; omega)]
  exact skip_at m c 1 f

/-- The first table's block is the whole table. -/
theorem blk8 (t : Fin cfg0.N) (k s : Fin 256) : (iblk m c 8 t : Vec Ideal S256x256 .bf16) (ix2 k s) = V m c main_v34 (ix2 k s) := by
  unfold iblk
  rw [View.read_apply]
  show V m c main_v34 _ = _
  exact congrArg _ (place _ k s (by show win0_8.index t 0 * 256 + 1 * k.val = k.val; rw [(index8 t).1]; omega)
    (by show win0_8.index t 1 * 256 + 1 * s.val = s.val; rw [(index8 t).2]; omega))

/-- The second table's block is the whole table. -/
theorem blk9 (t : Fin cfg0.N) (k s : Fin 256) : (iblk m c 9 t : Vec Ideal S256x256 .bf16) (ix2 k s) = V m c main_v35 (ix2 k s) := by
  unfold iblk
  rw [View.read_apply]
  show V m c main_v35 _ = _
  exact congrArg _ (place _ k s (by show win0_9.index t 0 * 256 + 1 * k.val = k.val; rw [(index9 t).1]; omega)
    (by show win0_9.index t 1 * 256 + 1 * s.val = s.val; rw [(index9 t).2]; omega))

/-- The third table's block is the whole table. -/
theorem blk10 (t : Fin cfg0.N) (k s : Fin 256) : (iblk m c 10 t : Vec Ideal S256x256 .bf16) (ix2 k s) = V m c main_v36 (ix2 k s) := by
  unfold iblk
  rw [View.read_apply]
  show V m c main_v36 _ = _
  exact congrArg _ (place _ k s (by show win0_10.index t 0 * 256 + 1 * k.val = k.val; rw [(index10 t).1]; omega)
    (by show win0_10.index t 1 * 256 + 1 * s.val = s.val; rw [(index10 t).2]; omega))

/-- The fourth table's block is the whole table. -/
theorem blk11 (t : Fin cfg0.N) (k s : Fin 256) : (iblk m c 11 t : Vec Ideal S256x256 .bf16) (ix2 k s) = V m c main_v37 (ix2 k s) := by
  unfold iblk
  rw [View.read_apply]
  show V m c main_v37 _ = _
  exact congrArg _ (place _ k s (by show win0_11.index t 0 * 256 + 1 * k.val = k.val; rw [(index11 t).1]; omega)
    (by show win0_11.index t 1 * 256 + 1 * s.val = s.val; rw [(index11 t).2]; omega))

/-- The first or second part of the spectrum's block, as a point reads it. -/
theorem part_at (x : Vec Ideal S1x2x256x256 .f32) (r n : Fin 256) :
    View.ld x (Rect.unit ![0, 0, 0, 0] ![1, 1, 256, 256] inb_S1x2x256x256_S1x1x256x256_0_0_0_0) (ix4 0 0 r n) = x (ix4 0 0 r n)
      ∧ View.ld x (Rect.unit ![0, 1, 0, 0] ![1, 1, 256, 256] inb_S1x2x256x256_S1x1x256x256_0_1_0_0) (ix4 0 0 r n) = x (ix4 0 1 r n) :=
  ⟨congrArg x (place4 _ 0 0 r n rfl rfl (by show 0 + 1 * r.val = r.val; omega) (by show 0 + 1 * n.val = n.val; omega)),
    congrArg x (place4 _ 0 1 r n rfl rfl (by show 0 + 1 * r.val = r.val; omega) (by show 0 + 1 * n.val = n.val; omega))⟩

/-- The three rows of the convolution's factors, as a point reads them. -/
theorem factor_at (x : Vec Ideal S3x256 .f32) (n : Fin 256) :
    View.ld x (Rect.unit ![0, 0] ![1, 256] inb_S3x256_S1x256_0_0) (ix2 0 n) = x (ix2 0 n)
      ∧ View.ld x (Rect.unit ![1, 0] ![1, 256] inb_S3x256_S1x256_1_0) (ix2 0 n) = x (ix2 1 n)
      ∧ View.ld x (Rect.unit ![2, 0] ![1, 256] inb_S3x256_S1x256_2_0) (ix2 0 n) = x (ix2 2 n) :=
  ⟨congrArg x (place _ 0 n rfl (by show 0 + 1 * n.val = n.val; omega)), congrArg x (place _ 1 n rfl (by show 0 + 1 * n.val = n.val; omega)),
    congrArg x (place _ 2 n rfl (by show 0 + 1 * n.val = n.val; omega))⟩

/-- The formula of a stored element at equal parts. -/
theorem parts (C S I J : Fin 256 → Fin 256 → EReal) {g g' a a' p p' q q' : Fin 256 → EReal} {w0 w0' w1 w1' w2 w2' o o' u u' sk sk' : EReal} (k : Fin 256)
    (hg : g = g') (h0 : w0 = w0') (h1 : w1 = w1') (h2 : w2 = w2') (ho : o = o') (ha : a = a') (hp : p = p') (hq : q = q') (hu : u = u') (hs : sk = sk') :
    conv g w0 w1 w2 o k * (packed C S I J a p q k + u * sk) = conv g' w0' w1' w2' o' k * (packed C S I J a' p' q' k + u' * sk') := by
  rw [hg, h0, h1, h2, ho, ha, hp, hq, hu, hs]

/-- A point's stored element, given what its blocks hold. -/
theorem computed (x0 x1 x8 x9 x10 x11 : Vec Ideal S256x256 .bf16) (x4 : Vec Ideal S3x256 .f32) (x5 : Vec Ideal S1x256 .f32) (x6 : Vec Ideal S1x2x256x256 .f32) (x7 : Vec Ideal S1x1x256 .f32) (k d : Fin 256)
    (a g : Fin 256 → EReal) (w : Fin 3 → EReal) (o sk : EReal) (K : Fin 2 → Fin 256 → EReal)
    (h0 : ∀ s, x0 (ix2 s d) = a s) (h1 : ∀ s, x1 (ix2 s d) = g s) (h4 : ∀ i, x4 (ix2 i d) = w i) (h5 : x5 (ix2 0 d) = o) (h6 : ∀ p f, x6 (ix4 0 p f d) = K p f) (h7 : x7 (ix3 0 0 d) = sk) :
    k0_pay1 (F := Ideal) (k0_pay2 x0)
      (k0_pay13 x1 (View.ld x4 (Rect.unit ![0, 0] ![1, 256] inb_S3x256_S1x256_0_0)) (View.ld x4 (Rect.unit ![1, 0] ![1, 256] inb_S3x256_S1x256_1_0))
        (View.ld x4 (Rect.unit ![2, 0] ![1, 256] inb_S3x256_S1x256_2_0)) x5)
      (k0_pay12
        (k0_pay9 x0 x8 x9 (View.ld x6 (Rect.unit ![0, 0, 0, 0] ![1, 1, 256, 256] inb_S1x2x256x256_S1x1x256x256_0_0_0_0))
          (View.ld x6 (Rect.unit ![0, 1, 0, 0] ![1, 1, 256, 256] inb_S1x2x256x256_S1x1x256x256_0_1_0_0)) x10)
        (k0_pay10 x11)
        (k0_pay11 x0 x8 x9 (View.ld x6 (Rect.unit ![0, 0, 0, 0] ![1, 1, 256, 256] inb_S1x2x256x256_S1x1x256x256_0_0_0_0))
          (View.ld x6 (Rect.unit ![0, 1, 0, 0] ![1, 1, 256, 256] inb_S1x2x256x256_S1x1x256x256_0_1_0_0)))
        (constant S256x256 FTy.f32 0#32)) (k0_pay14 x7) (ix2 k d)
      = conv g (w 0) (w 1) (w 2) o k * (packed (fun f s => x8 (ix2 f s)) (fun f s => x9 (ix2 f s)) (fun f s => x10 (ix2 f s)) (fun f s => x11 (ix2 f s)) a (K 0) (K 1) k + a k * sk) := by
  refine (pay_apply x0 x1 x8 x9 x10 x11 _ _ _ x5 x7 _ _ k d).trans ?_
  exact parts _ _ _ _ k (funext h1) ((factor_at x4 d).1.trans (h4 0)) ((factor_at x4 d).2.1.trans (h4 1)) ((factor_at x4 d).2.2.trans (h4 2)) h5 (funext h0)
    (funext fun f => (part_at x6 f d).1.trans (h6 0 f)) (funext fun f => (part_at x6 f d).2.trans (h6 1 f)) (h0 k) h7

/-- The result array at an element of the context rows. -/
theorem result_at (r : Fin 9216) (n : Fin 1024) (b : Fin 4) (k : Fin 256) (hr : r.val = 8192 + b.val * 256 + k.val) : (dats m 0 c).arrAt 12 cfg0.N (ix2 r n)
      = Cert.HyenaSecondRefIdeal.Rows.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b k n := by
  have hN : cfg0.N = 16 := N_0
  have hb := b.isLt
  have hk := k.isLt
  have hn := n.isLt
  obtain ⟨t, ht⟩ : ∃ t : Fin cfg0.N, t.val = n.val / 256 * 4 + b.val := ⟨⟨_, by rw [hN]; omega⟩, rfl⟩
  obtain ⟨d, hd⟩ : ∃ d : Fin 256, d.val = n.val % 256 := ⟨⟨_, by omega⟩, rfl⟩
  have e := congrFun (blocks12 m c t (flushes t)) (ix2 k d)
  rw [flushed12_A, View.read_apply, place (((cfg0.win 12).blk t).view.emb (ix2 k d)) r n
    (by show win0_12.index t 0 * 256 + 1 * k.val = r.val; rw [(index12 t).1]; omega)
    (by show win0_12.index t 1 * 256 + 1 * d.val = n.val; rw [(index12 t).2]; omega)] at e
  refine e.trans ?_
  show out0_A_12 (F := Ideal) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k d) = _
  have h0 : ∀ s : Fin 256, (iblk m c 0 t : Vec Ideal S256x256 .bf16) (ix2 s d) = Cert.HyenaSecondRefIdeal.Rows.lane (m ((c : Thread nD τ).loc main_arg0)) b n s := fun s =>
    blk0 m c t s d ⟨8192 + b.val * 256 + s.val, by omega⟩ n (by show 8192 + b.val * 256 + s.val = _; omega) (by omega)
  have h1 : ∀ s : Fin 256, (iblk m c 1 t : Vec Ideal S256x256 .bf16) (ix2 s d) = Cert.HyenaSecondRefIdeal.Rows.gateLane (m ((c : Thread nD τ).loc main_arg1)) b n s := fun s =>
    blk1 m c t s d ⟨8192 + b.val * 256 + s.val, by omega⟩ ⟨8192 + n.val, by omega⟩ (by show 8192 + b.val * 256 + s.val = _; omega) (by show 8192 + n.val = _; omega)
  have h4 : ∀ a : Fin 3, (iblk m c 4 t : Vec Ideal S3x256 .f32) (ix2 a d) = m ((c : Thread nD τ).loc main_arg2) (ix2 a ⟨2048 + n.val, by omega⟩) := fun a =>
    blk4 m c t a d _ (by show 2048 + n.val = _; omega)
  have h5 := blk5 m c t d ⟨2048 + n.val, by omega⟩ (by show 2048 + n.val = _; omega)
  have h6 : ∀ (p : Fin 2) (f : Fin 256), (iblk m c 6 t : Vec Ideal S1x2x256x256 .f32) (ix4 0 p f d) = m ((c : Thread nD τ).loc main_arg4) (ix4 0 p f ⟨1024 + n.val, by omega⟩) := fun p f =>
    blk6 m c t p f d _ (by show 1024 + n.val = _; omega)
  have h7 := blk7 m c t d n (by omega)
  refine (congrFun (stored c _ _ _ _ _ _ _ _ _ _ _ _ _ _ _ _ _ _ _ _ _ _ _ _ _ _ _ _ _ _ _ _ _ _ _ _ _ _ _ _ _) (ix2 k d)).trans ?_
  refine (computed _ _ _ _ _ _ _ _ _ _ k d _ _ _ _ _ _ h0 h1 h4 h5 h6 h7).trans ?_
  unfold Cert.HyenaSecondRefIdeal.Rows.result
  refine congrArg (_ * ·) (congrArg (· + _) ?_)
  simp only [blk8, blk9, blk10, blk11]
  refine sums m c _ _ _ _ _ k ?_ ?_ ?_ ?_ ?_
  · intro f
    exact (Cert.HyenaSecondRefIdeal.Rows.kcT_low _ n f).symm
  · intro f h
    exact (Cert.HyenaSecondRefIdeal.Rows.ksT_low _ n f h).symm
  · exact (Cert.HyenaSecondRefIdeal.Rows.kcT_last _ n).symm
  · exact Cert.HyenaSecondRefIdeal.Rows.ksT_zero _ n
  · exact Cert.HyenaSecondRefIdeal.Rows.ksT_last _ n

/-- The rows before the context's keep what the array held: the earlier results handed to the call. -/
theorem kept_at (r : Fin 9216) (n : Fin 1024) (hr : r.val < 8192) : (dats m 0 c).arrAt 12 cfg0.N (ix2 r n) = m ((c : Thread nD τ).loc main_arg6) (ix2 r n) := by
  refine (entry12 m c (ix2 r n) fun t _ h => ?_).trans ?_
  · obtain ⟨y, hy⟩ := View.exists_emb_of_mem_set _ h
    have h0 : win0_12.index t 0 * 256 + 1 * (y 0).val = r.val := congrArg (fun z : S9216x1024.Idx => (z 0).val) hy
    rw [(index12 t).1] at h0
    omega
  · show V m c main_v41 _ = _
    rw [earlier]

end Cert.HyenaSecondIdeal.HyenaBlocks

namespace Cert.HyenaSecondTie

open Cert.HyenaSecondIdeal.HyenaBlocks

variable (m : (ℓ : Loc Cert.HyenaSecondIdeal.nD Cert.HyenaSecondIdeal.τ Cert.HyenaSecondIdeal.sig) → Buf (Elt Ideal) ℓ) (c : Dev Cert.HyenaSecondIdeal.nD)

/-- The reference's results at the call's arguments are the call's. -/
theorem tie : Cert.HyenaSecondRefIdeal.Read.val_main_v113 (F := Ideal) (m ((c : Thread Cert.HyenaSecondIdeal.nD Cert.HyenaSecondIdeal.τ).loc Cert.HyenaSecondIdeal.main_arg0)) (m ((c : Thread Cert.HyenaSecondIdeal.nD Cert.HyenaSecondIdeal.τ).loc Cert.HyenaSecondIdeal.main_arg1)) (m ((c : Thread Cert.HyenaSecondIdeal.nD Cert.HyenaSecondIdeal.τ).loc Cert.HyenaSecondIdeal.main_arg2)) (m ((c : Thread Cert.HyenaSecondIdeal.nD Cert.HyenaSecondIdeal.τ).loc Cert.HyenaSecondIdeal.main_arg3)) (m ((c : Thread Cert.HyenaSecondIdeal.nD Cert.HyenaSecondIdeal.τ).loc Cert.HyenaSecondIdeal.main_arg4)) (m ((c : Thread Cert.HyenaSecondIdeal.nD Cert.HyenaSecondIdeal.τ).loc Cert.HyenaSecondIdeal.main_arg5)) (m ((c : Thread Cert.HyenaSecondIdeal.nD Cert.HyenaSecondIdeal.τ).loc Cert.HyenaSecondIdeal.main_arg6)) = (Cert.HyenaSecondIdeal.Gen.dats m 0 c).arrAt 12 Cert.HyenaSecondIdeal.cfg0.N := by
  funext y
  obtain ⟨r, n, rfl⟩ := Points.exists_row_col y
  have hr := r.isLt
  have hn := n.isLt
  by_cases h : r.val < 8192
  · exact (Cert.HyenaSecondRefIdeal.Rows.kept_apply _ _ _ _ _ _ _ r n h).trans (kept_at m c r n h).symm
  · refine (Cert.HyenaSecondRefIdeal.Rows.new_apply _ _ _ _ _ _ _ r n h).trans ?_
    exact (Cert.HyenaSecondRefIdeal.Rows.v112_at _ _ _ _ _ _ ⟨r.val - 8192, by omega⟩ n ⟨(r.val - 8192) / 256, by omega⟩ ⟨(r.val - 8192) % 256, by omega⟩
      (by show r.val - 8192 = (r.val - 8192) / 256 * 256 + (r.val - 8192) % 256; omega)).trans
      (result_at m c r n _ _ (by show r.val = 8192 + (r.val - 8192) / 256 * 256 + (r.val - 8192) % 256; omega)).symm

end Cert.HyenaSecondTie
end
-- ==== Proof.FinalTie.lean ====
/-
  The final norm's call and its reference compute the same results, whatever the arguments. Point `t` of the grid is
  row block `t`.
-/
module

public import proofs.«01_k».proof.Proof.Points
public import proofs.«01_k».proof.Proof.Gen.FinalIdeal.Value
public import proofs.«01_k».proof.Proof.Gen.FinalRefIdeal.Run
public import proofs.«01_k».proof.Proof.Gen.FinalRefIdeal.Read
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace FinalSpec

/-- A normalized row: over the root of its mean square plus a small number, times the weights. -/
def normed (X : Fin 8192 → Fin 2048 → EReal) (NW : Fin 2048 → EReal) (r : Fin 8192) (n : Fin 2048) : EReal :=
  X r n * Ideal.rsqrt (Ideal.div (∑ x : Fin 2048, X r x * X r x) (Ideal.ofBits FTy.f32 1157627904#32) + Ideal.ofBits FTy.f32 897988541#32) * NW n

end FinalSpec

namespace Cert.FinalIdeal.FinalBlocks

open Cert.FinalIdeal Cert.FinalIdeal.Gen Cert.FinalIdeal.Value FinalSpec

/-- Two zero offsets are the zero function. -/
theorem hz2 : (![0, 0] : Fin 2 → Nat) = fun _ => 0 := funext fun a => by fin_cases a <;> rfl

/-- What a point stores, at an element of its blocks. -/
theorem out_apply (x0 : Vec Ideal S512x2048 .f32) (x1 : Vec Ideal S1x2048 .f32) (r : Fin 512) (n : Fin 2048) :
    out0_2 (F := Ideal) x0 x1 (ix2 r n) =
      x0 (ix2 r n) * Ideal.rsqrt (Ideal.div (∑ x : Fin 2048, x0 (ix2 r x) * x0 (ix2 r x)) (Ideal.ofBits FTy.f32 1157627904#32) + Ideal.ofBits FTy.f32 897988541#32)
        * x1 (ix2 0 n) := by
  unfold out0_2
  rw [View.canon_unit_zero hz2, View.ld_unit_zero (S := S512x2048) hz2, View.ld_unit_zero (S := S1x2048) hz2]
  pointwise [k0_pay1]

variable (m : (ℓ : Loc nD τ sig) → Buf (Elt Ideal) ℓ) (c : Dev nD)

/-- The rows' block is the point's. -/
theorem index0 : ∀ t : Fin grid0.N, win0_0.index t (0 : Fin 2) = t.val ∧ win0_0.index t (1 : Fin 2) = 0 := by decide +kernel
/-- The weights are one block. -/
theorem index1 : ∀ t : Fin grid0.N, win0_1.index t (0 : Fin 2) = 0 ∧ win0_1.index t (1 : Fin 2) = 0 := by decide +kernel
/-- The results' block is the point's. -/
theorem index2 : ∀ t : Fin grid0.N, win0_2.index t (0 : Fin 2) = t.val ∧ win0_2.index t (1 : Fin 2) = 0 := by decide +kernel
/-- Every point writes its results back. -/
theorem flushes : ∀ t : Fin grid0.N, win0_2.flush t = true := by decide +kernel

/-- The input rows' block. -/
theorem blk0 (t : Fin cfg0.N) (r : Fin 512) (n : Fin 2048) (q : Fin 8192) (hq : q.val = t.val * 512 + r.val) :
    (iblk m c 0 t : Vec Ideal S512x2048 .f32) (ix2 r n) = m ((c : Thread nD τ).loc main_arg0) (ix2 q n) := by
  unfold iblk
  rw [View.read_apply]
  show V m c main_arg0 _ = _
  rw [V_main_arg0]
  congr 1
  funext a
  apply Fin.ext
  match a with
  | ⟨0, _⟩ => show win0_0.index t 0 * 512 + 1 * r.val = q.val; rw [(index0 t).1]; omega
  | ⟨1, _⟩ => show win0_0.index t 1 * 2048 + 1 * n.val = n.val; rw [(index0 t).2]; omega

/-- The weights as the call gets them. -/
theorem arr1 : V m c main_v0 = shapeCast S1x2048 (m ((c : Thread nD τ).loc main_arg1)) shapeCasts_S2048_S1x2048 := by
  dsimp only [V, hostOps0]
  after_results
  rfl

/-- The weights' block. -/
theorem blk1 (t : Fin cfg0.N) (n : Fin 2048) :
    (iblk m c 1 t : Vec Ideal S1x2048 .f32) (ix2 0 n) = m ((c : Thread nD τ).loc main_arg1) (ix1 n) := by
  unfold iblk
  rw [View.read_apply]
  show V m c main_v0 _ = _
  rw [arr1, show (((cfg0.win 1).blk t).view.emb (ix2 0 n)) = (ix2 0 n : S1x2048.Idx) from by
    funext a
    apply Fin.ext
    match a with
    | ⟨0, _⟩ => show win0_1.index t 0 * 1 + 1 * 0 = 0; rw [(index1 t).1]
    | ⟨1, _⟩ => show win0_1.index t 1 * 2048 + 1 * n.val = n.val; rw [(index1 t).2]; omega]
  pointwise

/-- The result array at an element. -/
theorem result_at (r : Fin 8192) (n : Fin 2048) : (dats m 0 c).arrAt 2 cfg0.N (ix2 r n)
    = normed (fun r n => m ((c : Thread nD τ).loc main_arg0) (ix2 r n)) (fun n => m ((c : Thread nD τ).loc main_arg1) (ix1 n)) r n := by
  have hN : cfg0.N = 16 := N_0
  let t : Fin cfg0.N := ⟨r.val / 512, by rw [hN]; omega⟩
  let q : Fin 512 := ⟨r.val % 512, by omega⟩
  have hq : r.val = t.val * 512 + q.val := by show r.val = r.val / 512 * 512 + r.val % 512; omega
  have e := congrFun (blocks2 m c t (flushes t)) (ix2 q n)
  rw [flushed2, View.read_apply, show (((cfg0.win 2).blk t).view.emb (ix2 q n)) = (ix2 r n : S8192x2048.Idx) from by
    funext a
    apply Fin.ext
    match a with
    | ⟨0, _⟩ => show win0_2.index t 0 * 512 + 1 * q.val = r.val; rw [(index2 t).1]; omega
    | ⟨1, _⟩ => show win0_2.index t 1 * 2048 + 1 * n.val = n.val; rw [(index2 t).2]; omega] at e
  refine e.trans ?_
  show out0_2 (F := Ideal) (iblk m c 0 t) (iblk m c 1 t) (ix2 q n) = _
  rw [out_apply]
  simp only [blk0 m c t q _ r hq, blk1]
  rfl

end Cert.FinalIdeal.FinalBlocks

namespace Cert.FinalRefIdeal.Rows

open Cert.FinalRefIdeal Cert.FinalRefIdeal.Read FinalSpec

/-- The reference's results at an element. -/
theorem out_apply (x0 : Vec Ideal S8192x2048 .f32) (x1 : Vec Ideal S2048 .f32) (r : Fin 8192) (n : Fin 2048) : val_main_v12 (F := Ideal) x0 x1 (ix2 r n)
    = normed (fun r n => x0 (ix2 r n)) (fun n => x1 (ix1 n)) r n := by
  unfold normed
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  done

end Cert.FinalRefIdeal.Rows

namespace Cert.FinalTie

open Cert.FinalIdeal.FinalBlocks

variable (m : (ℓ : Loc Cert.FinalIdeal.nD Cert.FinalIdeal.τ Cert.FinalIdeal.sig) → Buf (Elt Ideal) ℓ) (c : Dev Cert.FinalIdeal.nD)

/-- The reference's results at the call's arguments are the call's. -/
theorem tie : Cert.FinalRefIdeal.Read.val_main_v12 (F := Ideal)
      (m ((c : Thread Cert.FinalIdeal.nD Cert.FinalIdeal.τ).loc Cert.FinalIdeal.main_arg0)) (m ((c : Thread Cert.FinalIdeal.nD Cert.FinalIdeal.τ).loc Cert.FinalIdeal.main_arg1))
    = (Cert.FinalIdeal.Gen.dats m 0 c).arrAt 2 Cert.FinalIdeal.cfg0.N := by
  funext y
  obtain ⟨r, n, rfl⟩ := Points.exists_row_col y
  exact (Cert.FinalRefIdeal.Rows.out_apply _ _ r n).trans (result_at m c r n).symm

end Cert.FinalTie
end
-- ==== Proof.lean ====
/- The claims: each program's frame, and the values of each call against its reference. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.MoeTie
public import proofs.«01_k».proof.Proof.FfnTie
public import proofs.«01_k».proof.Proof.Gen.Ffn.Frame
public import proofs.«01_k».proof.Proof.InProjTie
public import proofs.«01_k».proof.Proof.Gen.InProj.Frame
public import proofs.«01_k».proof.Proof.ForgetTie
public import proofs.«01_k».proof.Proof.Gen.Forget.Frame
public import proofs.«01_k».proof.Proof.MergeTie
public import proofs.«01_k».proof.Proof.Gen.Merge.Frame
public import proofs.«01_k».proof.Proof.ModulationTie
public import proofs.«01_k».proof.Proof.Gen.Modulation.Frame
public import proofs.«01_k».proof.Proof.FnetTie
public import proofs.«01_k».proof.Proof.Gen.Fnet.Frame
public import proofs.«01_k».proof.Proof.FnetCtxTie
public import proofs.«01_k».proof.Proof.Gen.FnetCtx.Frame
public import proofs.«01_k».proof.Proof.HyenaFirstTie
public import proofs.«01_k».proof.Proof.Gen.HyenaFirst.Frame
public import proofs.«01_k».proof.Proof.HyenaSecondTie
public import proofs.«01_k».proof.Proof.Gen.HyenaSecond.Frame
public import proofs.«01_k».proof.Proof.FinalTie
public import proofs.«01_k».proof.Proof.Gen.Final.Frame
public import Idealize.ShloMosaic.Adequacy
public import Idealize.ShloMosaic.Init
public import Idealize.ShloMosaic.Lib.Quiescent

@[expose] public section

noncomputable section

namespace Cert.Proof

open Idealize.ShloMosaic Idealize.SL.Sem

/-- The side conditions of the precondition's operations. -/
theorem pre_facts : Cert.Pre_router_inputs_finite.Facts := by
  constructor <;> decide

/-- The expert call's reference ends with its arguments unchanged and every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The expert call's results are the reference's. -/
theorem experts [Cert.Pre_router_inputs_finite.Facts] : algebraic_KernelIdeal_ReferenceIdeal_pre_router_inputs_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  refine ((h c).1.trans (Cert.ReferenceIdeal.Read.val_main_v169_eq (F := Ideal) (StableHlo.launchContents m' c))).trans ?_
  refine Eq.trans ?_ (Cert.MoeTie.tie m hpre c)
  rw [← h0, ← h1, ← h2, ← h3, ← h4, ← h5, ← h6]

/-- The dense feed-forward call's reference ends with its arguments unchanged and every counter at zero. -/
theorem ffnRef_frame : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The dense feed-forward call's results are its reference's. -/
theorem ffn_results : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  obtain ⟨h0, h1, h2, h3, h4, h5⟩ := hagree c
  refine ((h c).1.trans (Cert.FfnRefIdeal.Read.val_main_v36_eq (F := Ideal) _ _)).trans ?_
  refine Eq.trans ?_ (Cert.FfnTie.tie m c)
  rw [← h0, ← h1, ← h2, ← h3, ← h4, ← h5]

/-- The input projection's main call's reference ends with its arguments unchanged and every counter at zero. -/
theorem inProjRef_frame : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The input projection's main call's results are its reference's. -/
theorem inProj_results : algebraic_InProjIdeal_InProjRefIdeal := by
  intro m ρ m' ρ' _ hagree
  refine ⟨_, Cert.InProjIdeal.Value.run (F := Ideal) m ρ, ?_⟩
  refine (θ_run Cert.InProjRefIdeal.defs _ _).mono (fun _ h c => ⟨?_, (h c).2⟩) (Cert.InProjRefIdeal.Value.run (F := Ideal) m' ρ')
  obtain ⟨h0, h1, h2, h3⟩ := hagree c
  refine ((h c).1.trans (Cert.InProjRefIdeal.Read.val_main_v33_eq (F := Ideal) _ _)).trans ?_
  refine Eq.trans ?_ (Cert.InProjTie.tie m c)
  rw [← h0, ← h1, ← h2, ← h3]

/-- The input projection's call for the forget gates's reference ends with its arguments unchanged and every counter at zero. -/
theorem forgetRef_frame : quiescent_ForgetRefIdeal := fun m ρ _ =>
  (θ_run Cert.ForgetRefIdeal.defs _ _).mono (fun r h => ⟨fun c => (h c).2, sem_eq_zero_of_no_sems (by decide) r.2⟩)
    (Cert.ForgetRefIdeal.Value.run (F := Ideal) m ρ)

/-- The input projection's call for the forget gates's results are its reference's. -/
theorem forget_results : algebraic_ForgetIdeal_ForgetRefIdeal := by
  intro m ρ m' ρ' _ hagree
  refine ⟨_, Cert.ForgetIdeal.Value.run (F := Ideal) m ρ, ?_⟩
  refine (θ_run Cert.ForgetRefIdeal.defs _ _).mono (fun _ h c => ⟨?_, (h c).2⟩) (Cert.ForgetRefIdeal.Value.run (F := Ideal) m' ρ')
  obtain ⟨h0, h1, h2, h3⟩ := hagree c
  refine ((h c).1.trans (Cert.ForgetRefIdeal.Read.val_main_v29_eq (F := Ideal) _ _ _ _)).trans ?_
  refine Eq.trans ?_ (Cert.ForgetTie.tie m c)
  rw [← h0, ← h1, ← h2, ← h3]

/-- The merge call's reference ends with its arguments unchanged and every counter at zero. -/
theorem mergeRef_frame : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge call's results are its reference's. -/
theorem merge_results : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  obtain ⟨h0, h1, h2, h3, h4, h5, h6, h7, h8, h9, h10, h11⟩ := hagree c
  refine ((h c).1.trans (Cert.MergeRefIdeal.Read.val_main_v52_eq (F := Ideal) _ _)).trans ?_
  refine Eq.trans ?_ (Cert.MergeTie.tie m c)
  rw [← h0, ← h1, ← h2, ← h3, ← h4, ← h5, ← h6, ← h7, ← h8, ← h9, ← h10, ← h11]

/-- The modulation call's reference ends with its arguments unchanged and every counter at zero. -/
theorem modulationRef_frame : quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

/-- The modulation call's results are its reference's. -/
theorem modulation_results : algebraic_ModulationIdeal_ModulationRefIdeal := by
  intro m ρ m' ρ' _ hagree
  refine ⟨_, Cert.ModulationIdeal.Value.run_blocks (F := Ideal) m ρ, ?_⟩
  refine (θ_run Cert.ModulationRefIdeal.defs _ _).mono (fun _ h c => ⟨?_, (h c).2⟩) (Cert.ModulationRefIdeal.Value.run (F := Ideal) m' ρ')
  obtain ⟨h0, h1, h2, h3⟩ := hagree c
  refine ((h c).1.trans (Cert.ModulationRefIdeal.Read.val_main_v8_eq (F := Ideal) _ _ _ _)).trans ?_
  refine Eq.trans ?_ (Cert.ModulationTie.tie m c)
  rw [← h0, ← h1, ← h2, ← h3]

/-- The latents' Fourier call's reference ends with its arguments unchanged and every counter at zero. -/
theorem fnetRef_frame : quiescent_FnetRefIdeal := fun m ρ _ =>
  (θ_run Cert.FnetRefIdeal.defs _ _).mono (fun r h => ⟨fun c => (h c).2, sem_eq_zero_of_no_sems (by decide) r.2⟩)
    (Cert.FnetRefIdeal.Value.run (F := Ideal) m ρ)

/-- The latents' Fourier call's results are its reference's. -/
theorem fnet_results : algebraic_FnetIdeal_FnetRefIdeal := by
  intro m ρ m' ρ' _ hagree
  refine ⟨_, Cert.FnetIdeal.Value.run_blocks (F := Ideal) m ρ, ?_⟩
  refine (θ_run Cert.FnetRefIdeal.defs _ _).mono (fun _ h c => ⟨?_, (h c).2⟩) (Cert.FnetRefIdeal.Value.run (F := Ideal) m' ρ')
  have h0 := hagree c
  refine ((h c).1.trans (Cert.FnetRefIdeal.Read.val_main_v37_eq (F := Ideal) _ _)).trans ?_
  refine Eq.trans ?_ (Cert.FnetTie.tie m c)
  rw [← h0]

/-- The context's Fourier call's reference ends with its arguments unchanged and every counter at zero. -/
theorem fnetCtxRef_frame : quiescent_FnetCtxRefIdeal := fun m ρ _ =>
  (θ_run Cert.FnetCtxRefIdeal.defs _ _).mono (fun r h => ⟨fun c => (h c).2, sem_eq_zero_of_no_sems (by decide) r.2⟩)
    (Cert.FnetCtxRefIdeal.Value.run (F := Ideal) m ρ)

/-- The context's Fourier call's results are its reference's. -/
theorem fnetCtx_results : algebraic_FnetCtxIdeal_FnetCtxRefIdeal := by
  intro m ρ m' ρ' _ hagree
  refine ⟨_, Cert.FnetCtxIdeal.Value.run_blocks (F := Ideal) m ρ, ?_⟩
  refine (θ_run Cert.FnetCtxRefIdeal.defs _ _).mono (fun _ h c => ⟨?_, (h c).2⟩) (Cert.FnetCtxRefIdeal.Value.run (F := Ideal) m' ρ')
  obtain ⟨h0, h1⟩ := hagree c
  refine ((h c).1.trans (Cert.FnetCtxRefIdeal.Read.val_main_v39_eq (F := Ideal) _ _)).trans ?_
  refine Eq.trans ?_ (Cert.FnetCtxTie.tie m c)
  rw [← h0, ← h1]

/-- The first long convolution's call over the context rows's reference ends with its arguments unchanged and every counter at zero. -/
theorem hyenaFirstRef_frame : quiescent_HyenaFirstRefIdeal := fun m ρ _ =>
  (θ_run Cert.HyenaFirstRefIdeal.defs _ _).mono (fun r h => ⟨fun c => (h c).2, sem_eq_zero_of_no_sems (by decide) r.2⟩)
    (Cert.HyenaFirstRefIdeal.Value.run (F := Ideal) m ρ)

/-- The first long convolution's call over the context rows's results are its reference's. -/
theorem hyenaFirst_results : algebraic_HyenaFirstIdeal_HyenaFirstRefIdeal := by
  intro m ρ m' ρ' _ hagree
  refine ⟨_, Cert.HyenaFirstIdeal.Value.run_blocks (F := Ideal) m ρ, ?_⟩
  refine (θ_run Cert.HyenaFirstRefIdeal.defs _ _).mono (fun _ h c => ⟨?_, (h c).2⟩) (Cert.HyenaFirstRefIdeal.Value.run (F := Ideal) m' ρ')
  obtain ⟨h0, h1, h2, h3, h4, h5⟩ := hagree c
  refine ((h c).1.trans (Cert.HyenaFirstRefIdeal.Read.val_main_v139_eq (F := Ideal) (StableHlo.launchContents m' c))).trans ?_
  refine Eq.trans ?_ (Cert.HyenaFirstTie.tie m c)
  rw [← h0, ← h1, ← h2, ← h3, ← h4, ← h5]

/-- The second long convolution's call over the context rows's reference ends with its arguments unchanged and every counter at zero. -/
theorem hyenaSecondRef_frame : quiescent_HyenaSecondRefIdeal := fun m ρ _ =>
  (θ_run Cert.HyenaSecondRefIdeal.defs _ _).mono (fun r h => ⟨fun c => (h c).2, sem_eq_zero_of_no_sems (by decide) r.2⟩)
    (Cert.HyenaSecondRefIdeal.Value.run (F := Ideal) m ρ)

/-- The second long convolution's call over the context rows's results are its reference's. -/
theorem hyenaSecond_results : algebraic_HyenaSecondIdeal_HyenaSecondRefIdeal := by
  intro m ρ m' ρ' _ hagree
  refine ⟨_, Cert.HyenaSecondIdeal.Value.run_blocks (F := Ideal) m ρ, ?_⟩
  refine (θ_run Cert.HyenaSecondRefIdeal.defs _ _).mono (fun _ h c => ⟨?_, (h c).2⟩) (Cert.HyenaSecondRefIdeal.Value.run (F := Ideal) m' ρ')
  obtain ⟨h0, h1, h2, h3, h4, h5, h6⟩ := hagree c
  refine ((h c).1.trans (Cert.HyenaSecondRefIdeal.Read.val_main_v113_eq (F := Ideal) _ _)).trans ?_
  refine Eq.trans ?_ (Cert.HyenaSecondTie.tie m c)
  rw [← h0, ← h1, ← h2, ← h3, ← h4, ← h5, ← h6]

/-- The final norm's call's reference ends with its arguments unchanged and every counter at zero. -/
theorem finalRef_frame : quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- The final norm's call's results are its reference's. -/
theorem final_results : algebraic_FinalIdeal_FinalRefIdeal := by
  intro m ρ m' ρ' _ hagree
  refine ⟨_, Cert.FinalIdeal.Value.run_blocks (F := Ideal) m ρ, ?_⟩
  refine (θ_run Cert.FinalRefIdeal.defs _ _).mono (fun _ h c => ⟨?_, (h c).2⟩) (Cert.FinalRefIdeal.Value.run (F := Ideal) m' ρ')
  obtain ⟨h0, h1⟩ := hagree c
  refine ((h c).1.trans (Cert.FinalRefIdeal.Read.val_main_v12_eq (F := Ideal) _ _)).trans ?_
  refine Eq.trans ?_ (Cert.FinalTie.tie m c)
  rw [← h0, ← h1]

/-- All the claims. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.InProj.Gen.facts, Cert.InProjIdeal.Gen.facts, Cert.InProjRefIdeal.Gen.facts,
  Cert.Forget.Gen.facts, Cert.ForgetIdeal.Gen.facts, Cert.ForgetRefIdeal.Gen.facts,
  Cert.Merge.Gen.facts, Cert.MergeIdeal.Gen.facts, Cert.MergeRefIdeal.Gen.facts,
  Cert.Modulation.Gen.facts, Cert.ModulationIdeal.Gen.facts, Cert.ModulationRefIdeal.Gen.facts,
  Cert.Fnet.Gen.facts, Cert.FnetIdeal.Gen.facts, Cert.FnetRefIdeal.Gen.facts,
  Cert.FnetCtx.Gen.facts, Cert.FnetCtxIdeal.Gen.facts, Cert.FnetCtxRefIdeal.Gen.facts,
  Cert.HyenaFirst.Gen.facts, Cert.HyenaFirstIdeal.Gen.facts, Cert.HyenaFirstRefIdeal.Gen.facts,
  Cert.HyenaSecond.Gen.facts, Cert.HyenaSecondIdeal.Gen.facts, Cert.HyenaSecondRefIdeal.Gen.facts,
  Cert.Final.Gen.facts, Cert.FinalIdeal.Gen.facts, Cert.FinalRefIdeal.Gen.facts,
  pre_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Ffn.Gen.frame m ρ, fun m ρ _ => Cert.FfnIdeal.Gen.frame m ρ, ffnRef_frame,
  fun m ρ _ => Cert.InProj.Gen.frame m ρ, fun m ρ _ => Cert.InProjIdeal.Gen.frame m ρ, inProjRef_frame,
  fun m ρ _ => Cert.Forget.Gen.frame m ρ, fun m ρ _ => Cert.ForgetIdeal.Gen.frame m ρ, forgetRef_frame,
  fun m ρ _ => Cert.Merge.Gen.frame m ρ, fun m ρ _ => Cert.MergeIdeal.Gen.frame m ρ, mergeRef_frame,
  fun m ρ _ => Cert.Modulation.Gen.frame m ρ, fun m ρ _ => Cert.ModulationIdeal.Gen.frame m ρ, modulationRef_frame,
  fun m ρ _ => Cert.Fnet.Gen.frame m ρ, fun m ρ _ => Cert.FnetIdeal.Gen.frame m ρ, fnetRef_frame,
  fun m ρ _ => Cert.FnetCtx.Gen.frame m ρ, fun m ρ _ => Cert.FnetCtxIdeal.Gen.frame m ρ, fnetCtxRef_frame,
  fun m ρ _ => Cert.HyenaFirst.Gen.frame m ρ, fun m ρ _ => Cert.HyenaFirstIdeal.Gen.frame m ρ, hyenaFirstRef_frame,
  fun m ρ _ => Cert.HyenaSecond.Gen.frame m ρ, fun m ρ _ => Cert.HyenaSecondIdeal.Gen.frame m ρ, hyenaSecondRef_frame,
  fun m ρ _ => Cert.Final.Gen.frame m ρ, fun m ρ _ => Cert.FinalIdeal.Gen.frame m ρ, finalRef_frame,
  (trivial : preserves_Kernel_KernelIdeal), @experts pre_facts,
  (trivial : preserves_Ffn_FfnIdeal), ffn_results,
  (trivial : preserves_InProj_InProjIdeal), inProj_results,
  (trivial : preserves_Forget_ForgetIdeal), forget_results,
  (trivial : preserves_Merge_MergeIdeal), merge_results,
  (trivial : preserves_Modulation_ModulationIdeal), modulation_results,
  (trivial : preserves_Fnet_FnetIdeal), fnet_results,
  (trivial : preserves_FnetCtx_FnetCtxIdeal), fnetCtx_results,
  (trivial : preserves_HyenaFirst_HyenaFirstIdeal), hyenaFirst_results,
  (trivial : preserves_HyenaSecond_HyenaSecondIdeal), hyenaSecond_results,
  (trivial : preserves_Final_FinalIdeal), final_results⟩

end Cert.Proof

end
